-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_ProjAB (m : (ℓ : Loc Cert.ProjAB.nD Cert.ProjAB.τ Cert.ProjAB.sig) → Buf (Elt Bits) ℓ) : Prop :=
  True

def Pre_ProjABIdeal (m : (ℓ : Loc Cert.ProjABIdeal.nD Cert.ProjABIdeal.τ Cert.ProjABIdeal.sig) → Buf (Elt Ideal) ℓ) : Prop :=
  True

def Pre_ProjABRefIdeal (m : (ℓ : Loc Cert.ProjABRefIdeal.nD Cert.ProjABRefIdeal.τ Cert.ProjABRefIdeal.sig) → Buf (Elt Ideal) ℓ) : Prop :=
  True

def Pre_ProjCD (m : (ℓ : Loc Cert.ProjCD.nD Cert.ProjCD.τ Cert.ProjCD.sig) → Buf (Elt Bits) ℓ) : Prop :=
  True

def Pre_ProjCDIdeal (m : (ℓ : Loc Cert.ProjCDIdeal.nD Cert.ProjCDIdeal.τ Cert.ProjCDIdeal.sig) → Buf (Elt Ideal) ℓ) : Prop :=
  True

def Pre_ProjCDRefIdeal (m : (ℓ : Loc Cert.ProjCDRefIdeal.nD Cert.ProjCDRefIdeal.τ Cert.ProjCDRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_ProjAB [hProjAB : Cert.ProjAB.Facts] : Prop :=
  ∀ (m : (ℓ : Loc Cert.ProjAB.nD Cert.ProjAB.τ Cert.ProjAB.sig) → Buf (Elt Bits) ℓ) (g : Dev Cert.ProjAB.nD → PrngReg), Pre_ProjAB m →
    θ_run (Cert.ProjAB.defs (F := Bits)) (onTc (τ := Cert.ProjAB.τ) (Cert.ProjAB.main (F := Bits))) ⟨m, fun _ => 0, g⟩ (fun r => (∀ c : Dev Cert.ProjAB.nD,
      r.2.mem ((c.tc : Thread Cert.ProjAB.nD Cert.ProjAB.τ).loc Cert.ProjAB.main_arg0) = m ((c.tc : Thread Cert.ProjAB.nD Cert.ProjAB.τ).loc Cert.ProjAB.main_arg0)
      ∧ r.2.mem ((c.tc : Thread Cert.ProjAB.nD Cert.ProjAB.τ).loc Cert.ProjAB.main_arg1) = m ((c.tc : Thread Cert.ProjAB.nD Cert.ProjAB.τ).loc Cert.ProjAB.main_arg1))
      ∧ r.2.sem = fun _ => 0)

def quiescent_ProjABIdeal [hProjABIdeal : Cert.ProjABIdeal.Facts] : Prop :=
  ∀ (m : (ℓ : Loc Cert.ProjABIdeal.nD Cert.ProjABIdeal.τ Cert.ProjABIdeal.sig) → Buf (Elt Ideal) ℓ) (g : Dev Cert.ProjABIdeal.nD → PrngReg), Pre_ProjABIdeal m →
    θ_run (Cert.ProjABIdeal.defs (F := Ideal)) (onTc (τ := Cert.ProjABIdeal.τ) (Cert.ProjABIdeal.main (F := Ideal))) ⟨m, fun _ => 0, g⟩ (fun r => (∀ c : Dev Cert.ProjABIdeal.nD,
      r.2.mem ((c.tc : Thread Cert.ProjABIdeal.nD Cert.ProjABIdeal.τ).loc Cert.ProjABIdeal.main_arg0) = m ((c.tc : Thread Cert.ProjABIdeal.nD Cert.ProjABIdeal.τ).loc Cert.ProjABIdeal.main_arg0)
      ∧ r.2.mem ((c.tc : Thread Cert.ProjABIdeal.nD Cert.ProjABIdeal.τ).loc Cert.ProjABIdeal.main_arg1) = m ((c.tc : Thread Cert.ProjABIdeal.nD Cert.ProjABIdeal.τ).loc Cert.ProjABIdeal.main_arg1))
      ∧ r.2.sem = fun _ => 0)

def quiescent_ProjABRefIdeal [hProjABRefIdeal : Cert.ProjABRefIdeal.Facts] : Prop :=
  ∀ (m : (ℓ : Loc Cert.ProjABRefIdeal.nD Cert.ProjABRefIdeal.τ Cert.ProjABRefIdeal.sig) → Buf (Elt Ideal) ℓ) (g : Dev Cert.ProjABRefIdeal.nD → PrngReg), Pre_ProjABRefIdeal m →
    θ_run (Cert.ProjABRefIdeal.defs (F := Ideal)) (onTc (τ := Cert.ProjABRefIdeal.τ) (Cert.ProjABRefIdeal.main (F := Ideal))) ⟨m, fun _ => 0, g⟩ (fun r => (∀ c : Dev Cert.ProjABRefIdeal.nD,
      r.2.mem ((c.tc : Thread Cert.ProjABRefIdeal.nD Cert.ProjABRefIdeal.τ).loc Cert.ProjABRefIdeal.main_arg0) = m ((c.tc : Thread Cert.ProjABRefIdeal.nD Cert.ProjABRefIdeal.τ).loc Cert.ProjABRefIdeal.main_arg0)
      ∧ r.2.mem ((c.tc : Thread Cert.ProjABRefIdeal.nD Cert.ProjABRefIdeal.τ).loc Cert.ProjABRefIdeal.main_arg1) = m ((c.tc : Thread Cert.ProjABRefIdeal.nD Cert.ProjABRefIdeal.τ).loc Cert.ProjABRefIdeal.main_arg1))
      ∧ r.2.sem = fun _ => 0)

def quiescent_ProjCD [hProjCD : Cert.ProjCD.Facts] : Prop :=
  ∀ (m : (ℓ : Loc Cert.ProjCD.nD Cert.ProjCD.τ Cert.ProjCD.sig) → Buf (Elt Bits) ℓ) (g : Dev Cert.ProjCD.nD → PrngReg), Pre_ProjCD m →
    θ_run (Cert.ProjCD.defs (F := Bits)) (onTc (τ := Cert.ProjCD.τ) (Cert.ProjCD.main (F := Bits))) ⟨m, fun _ => 0, g⟩ (fun r => (∀ c : Dev Cert.ProjCD.nD,
      r.2.mem ((c.tc : Thread Cert.ProjCD.nD Cert.ProjCD.τ).loc Cert.ProjCD.main_arg0) = m ((c.tc : Thread Cert.ProjCD.nD Cert.ProjCD.τ).loc Cert.ProjCD.main_arg0)
      ∧ r.2.mem ((c.tc : Thread Cert.ProjCD.nD Cert.ProjCD.τ).loc Cert.ProjCD.main_arg1) = m ((c.tc : Thread Cert.ProjCD.nD Cert.ProjCD.τ).loc Cert.ProjCD.main_arg1))
      ∧ r.2.sem = fun _ => 0)

def quiescent_ProjCDIdeal [hProjCDIdeal : Cert.ProjCDIdeal.Facts] : Prop :=
  ∀ (m : (ℓ : Loc Cert.ProjCDIdeal.nD Cert.ProjCDIdeal.τ Cert.ProjCDIdeal.sig) → Buf (Elt Ideal) ℓ) (g : Dev Cert.ProjCDIdeal.nD → PrngReg), Pre_ProjCDIdeal m →
    θ_run (Cert.ProjCDIdeal.defs (F := Ideal)) (onTc (τ := Cert.ProjCDIdeal.τ) (Cert.ProjCDIdeal.main (F := Ideal))) ⟨m, fun _ => 0, g⟩ (fun r => (∀ c : Dev Cert.ProjCDIdeal.nD,
      r.2.mem ((c.tc : Thread Cert.ProjCDIdeal.nD Cert.ProjCDIdeal.τ).loc Cert.ProjCDIdeal.main_arg0) = m ((c.tc : Thread Cert.ProjCDIdeal.nD Cert.ProjCDIdeal.τ).loc Cert.ProjCDIdeal.main_arg0)
      ∧ r.2.mem ((c.tc : Thread Cert.ProjCDIdeal.nD Cert.ProjCDIdeal.τ).loc Cert.ProjCDIdeal.main_arg1) = m ((c.tc : Thread Cert.ProjCDIdeal.nD Cert.ProjCDIdeal.τ).loc Cert.ProjCDIdeal.main_arg1))
      ∧ r.2.sem = fun _ => 0)

def quiescent_ProjCDRefIdeal [hProjCDRefIdeal : Cert.ProjCDRefIdeal.Facts] : Prop :=
  ∀ (m : (ℓ : Loc Cert.ProjCDRefIdeal.nD Cert.ProjCDRefIdeal.τ Cert.ProjCDRefIdeal.sig) → Buf (Elt Ideal) ℓ) (g : Dev Cert.ProjCDRefIdeal.nD → PrngReg), Pre_ProjCDRefIdeal m →
    θ_run (Cert.ProjCDRefIdeal.defs (F := Ideal)) (onTc (τ := Cert.ProjCDRefIdeal.τ) (Cert.ProjCDRefIdeal.main (F := Ideal))) ⟨m, fun _ => 0, g⟩ (fun r => (∀ c : Dev Cert.ProjCDRefIdeal.nD,
      r.2.mem ((c.tc : Thread Cert.ProjCDRefIdeal.nD Cert.ProjCDRefIdeal.τ).loc Cert.ProjCDRefIdeal.main_arg0) = m ((c.tc : Thread Cert.ProjCDRefIdeal.nD Cert.ProjCDRefIdeal.τ).loc Cert.ProjCDRefIdeal.main_arg0)
      ∧ r.2.mem ((c.tc : Thread Cert.ProjCDRefIdeal.nD Cert.ProjCDRefIdeal.τ).loc Cert.ProjCDRefIdeal.main_arg1) = m ((c.tc : Thread Cert.ProjCDRefIdeal.nD Cert.ProjCDRefIdeal.τ).loc Cert.ProjCDRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7)
      ∧ r.2.mem ((c.tc : Thread Cert.Route.nD Cert.Route.τ).loc Cert.Route.main_arg8) = m ((c.tc : Thread Cert.Route.nD Cert.Route.τ).loc Cert.Route.main_arg8)
      ∧ r.2.mem ((c.tc : Thread Cert.Route.nD Cert.Route.τ).loc Cert.Route.main_arg9) = m ((c.tc : Thread Cert.Route.nD Cert.Route.τ).loc Cert.Route.main_arg9))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7)
      ∧ r.2.mem ((c.tc : Thread Cert.RouteRefIdeal.nD Cert.RouteRefIdeal.τ).loc Cert.RouteRefIdeal.main_arg8) = m ((c.tc : Thread Cert.RouteRefIdeal.nD Cert.RouteRefIdeal.τ).loc Cert.RouteRefIdeal.main_arg8)
      ∧ r.2.mem ((c.tc : Thread Cert.RouteRefIdeal.nD Cert.RouteRefIdeal.τ).loc Cert.RouteRefIdeal.main_arg9) = m ((c.tc : Thread Cert.RouteRefIdeal.nD Cert.RouteRefIdeal.τ).loc Cert.RouteRefIdeal.main_arg9))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v109) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_ProjAB_ProjABIdeal : Prop :=
  True

def algebraic_ProjABIdeal_ProjABRefIdeal [hProjABIdeal : Cert.ProjABIdeal.Facts] [hProjABRefIdeal : Cert.ProjABRefIdeal.Facts] : Prop :=
  ∀ (m : (ℓ : Loc Cert.ProjABIdeal.nD Cert.ProjABIdeal.τ Cert.ProjABIdeal.sig) → Buf (Elt Ideal) ℓ) (g : Dev Cert.ProjABIdeal.nD → PrngReg)
    (m' : (ℓ : Loc Cert.ProjABRefIdeal.nD Cert.ProjABRefIdeal.τ Cert.ProjABRefIdeal.sig) → Buf (Elt Ideal) ℓ) (g' : Dev Cert.ProjABRefIdeal.nD → PrngReg), Pre_ProjABIdeal m →
    (∀ c : Dev Cert.ProjABIdeal.nD,
      m' ((c.tc : Thread Cert.ProjABRefIdeal.nD Cert.ProjABRefIdeal.τ).loc Cert.ProjABRefIdeal.main_arg0) = m ((c.tc : Thread Cert.ProjABIdeal.nD Cert.ProjABIdeal.τ).loc Cert.ProjABIdeal.main_arg0)
      ∧ m' ((c.tc : Thread Cert.ProjABRefIdeal.nD Cert.ProjABRefIdeal.τ).loc Cert.ProjABRefIdeal.main_arg1) = m ((c.tc : Thread Cert.ProjABIdeal.nD Cert.ProjABIdeal.τ).loc Cert.ProjABIdeal.main_arg1)) →
    ∃ (v0 : (c : Dev Cert.ProjABIdeal.nD) → Buf (Elt Ideal) ((c.tc : Thread Cert.ProjABIdeal.nD Cert.ProjABIdeal.τ).loc Cert.ProjABIdeal.main_v1)),
      θ_run (Cert.ProjABIdeal.defs (F := Ideal)) (onTc (τ := Cert.ProjABIdeal.τ) (Cert.ProjABIdeal.main (F := Ideal))) ⟨m, fun _ => 0, g⟩ (fun r => ∀ c : Dev Cert.ProjABIdeal.nD,
          r.2.mem ((c.tc : Thread Cert.ProjABIdeal.nD Cert.ProjABIdeal.τ).loc Cert.ProjABIdeal.main_v1) = v0 c
          ∧ r.2.mem ((c.tc : Thread Cert.ProjABIdeal.nD Cert.ProjABIdeal.τ).loc Cert.ProjABIdeal.main_arg0) = m ((c.tc : Thread Cert.ProjABIdeal.nD Cert.ProjABIdeal.τ).loc Cert.ProjABIdeal.main_arg0)
          ∧ r.2.mem ((c.tc : Thread Cert.ProjABIdeal.nD Cert.ProjABIdeal.τ).loc Cert.ProjABIdeal.main_arg1) = m ((c.tc : Thread Cert.ProjABIdeal.nD Cert.ProjABIdeal.τ).loc Cert.ProjABIdeal.main_arg1))
      ∧ θ_run (Cert.ProjABRefIdeal.defs (F := Ideal)) (onTc (τ := Cert.ProjABRefIdeal.τ) (Cert.ProjABRefIdeal.main (F := Ideal))) ⟨m', fun _ => 0, g'⟩ (fun r => ∀ c : Dev Cert.ProjABRefIdeal.nD,
          r.2.mem ((c.tc : Thread Cert.ProjABRefIdeal.nD Cert.ProjABRefIdeal.τ).loc Cert.ProjABRefIdeal.main_v0) = v0 c
          ∧ r.2.mem ((c.tc : Thread Cert.ProjABRefIdeal.nD Cert.ProjABRefIdeal.τ).loc Cert.ProjABRefIdeal.main_arg0) = m' ((c.tc : Thread Cert.ProjABRefIdeal.nD Cert.ProjABRefIdeal.τ).loc Cert.ProjABRefIdeal.main_arg0)
          ∧ r.2.mem ((c.tc : Thread Cert.ProjABRefIdeal.nD Cert.ProjABRefIdeal.τ).loc Cert.ProjABRefIdeal.main_arg1) = m' ((c.tc : Thread Cert.ProjABRefIdeal.nD Cert.ProjABRefIdeal.τ).loc Cert.ProjABRefIdeal.main_arg1))

def preserves_ProjCD_ProjCDIdeal : Prop :=
  True

def algebraic_ProjCDIdeal_ProjCDRefIdeal [hProjCDIdeal : Cert.ProjCDIdeal.Facts] [hProjCDRefIdeal : Cert.ProjCDRefIdeal.Facts] : Prop :=
  ∀ (m : (ℓ : Loc Cert.ProjCDIdeal.nD Cert.ProjCDIdeal.τ Cert.ProjCDIdeal.sig) → Buf (Elt Ideal) ℓ) (g : Dev Cert.ProjCDIdeal.nD → PrngReg)
    (m' : (ℓ : Loc Cert.ProjCDRefIdeal.nD Cert.ProjCDRefIdeal.τ Cert.ProjCDRefIdeal.sig) → Buf (Elt Ideal) ℓ) (g' : Dev Cert.ProjCDRefIdeal.nD → PrngReg), Pre_ProjCDIdeal m →
    (∀ c : Dev Cert.ProjCDIdeal.nD,
      m' ((c.tc : Thread Cert.ProjCDRefIdeal.nD Cert.ProjCDRefIdeal.τ).loc Cert.ProjCDRefIdeal.main_arg0) = m ((c.tc : Thread Cert.ProjCDIdeal.nD Cert.ProjCDIdeal.τ).loc Cert.ProjCDIdeal.main_arg0)
      ∧ m' ((c.tc : Thread Cert.ProjCDRefIdeal.nD Cert.ProjCDRefIdeal.τ).loc Cert.ProjCDRefIdeal.main_arg1) = m ((c.tc : Thread Cert.ProjCDIdeal.nD Cert.ProjCDIdeal.τ).loc Cert.ProjCDIdeal.main_arg1)) →
    ∃ (v0 : (c : Dev Cert.ProjCDIdeal.nD) → Buf (Elt Ideal) ((c.tc : Thread Cert.ProjCDIdeal.nD Cert.ProjCDIdeal.τ).loc Cert.ProjCDIdeal.main_v1)),
      θ_run (Cert.ProjCDIdeal.defs (F := Ideal)) (onTc (τ := Cert.ProjCDIdeal.τ) (Cert.ProjCDIdeal.main (F := Ideal))) ⟨m, fun _ => 0, g⟩ (fun r => ∀ c : Dev Cert.ProjCDIdeal.nD,
          r.2.mem ((c.tc : Thread Cert.ProjCDIdeal.nD Cert.ProjCDIdeal.τ).loc Cert.ProjCDIdeal.main_v1) = v0 c
          ∧ r.2.mem ((c.tc : Thread Cert.ProjCDIdeal.nD Cert.ProjCDIdeal.τ).loc Cert.ProjCDIdeal.main_arg0) = m ((c.tc : Thread Cert.ProjCDIdeal.nD Cert.ProjCDIdeal.τ).loc Cert.ProjCDIdeal.main_arg0)
          ∧ r.2.mem ((c.tc : Thread Cert.ProjCDIdeal.nD Cert.ProjCDIdeal.τ).loc Cert.ProjCDIdeal.main_arg1) = m ((c.tc : Thread Cert.ProjCDIdeal.nD Cert.ProjCDIdeal.τ).loc Cert.ProjCDIdeal.main_arg1))
      ∧ θ_run (Cert.ProjCDRefIdeal.defs (F := Ideal)) (onTc (τ := Cert.ProjCDRefIdeal.τ) (Cert.ProjCDRefIdeal.main (F := Ideal))) ⟨m', fun _ => 0, g'⟩ (fun r => ∀ c : Dev Cert.ProjCDRefIdeal.nD,
          r.2.mem ((c.tc : Thread Cert.ProjCDRefIdeal.nD Cert.ProjCDRefIdeal.τ).loc Cert.ProjCDRefIdeal.main_v0) = v0 c
          ∧ r.2.mem ((c.tc : Thread Cert.ProjCDRefIdeal.nD Cert.ProjCDRefIdeal.τ).loc Cert.ProjCDRefIdeal.main_arg0) = m' ((c.tc : Thread Cert.ProjCDRefIdeal.nD Cert.ProjCDRefIdeal.τ).loc Cert.ProjCDRefIdeal.main_arg0)
          ∧ r.2.mem ((c.tc : Thread Cert.ProjCDRefIdeal.nD Cert.ProjCDRefIdeal.τ).loc Cert.ProjCDRefIdeal.main_arg1) = m' ((c.tc : Thread Cert.ProjCDRefIdeal.nD Cert.ProjCDRefIdeal.τ).loc Cert.ProjCDRefIdeal.main_arg1))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)
      ∧ m' ((c.tc : Thread Cert.RouteRefIdeal.nD Cert.RouteRefIdeal.τ).loc Cert.RouteRefIdeal.main_arg6) = m ((c.tc : Thread Cert.RouteIdeal.nD Cert.RouteIdeal.τ).loc Cert.RouteIdeal.main_arg6)
      ∧ m' ((c.tc : Thread Cert.RouteRefIdeal.nD Cert.RouteRefIdeal.τ).loc Cert.RouteRefIdeal.main_arg7) = m ((c.tc : Thread Cert.RouteIdeal.nD Cert.RouteIdeal.τ).loc Cert.RouteIdeal.main_arg7)
      ∧ m' ((c.tc : Thread Cert.RouteRefIdeal.nD Cert.RouteRefIdeal.τ).loc Cert.RouteRefIdeal.main_arg8) = m ((c.tc : Thread Cert.RouteIdeal.nD Cert.RouteIdeal.τ).loc Cert.RouteIdeal.main_arg8)
      ∧ m' ((c.tc : Thread Cert.RouteRefIdeal.nD Cert.RouteRefIdeal.τ).loc Cert.RouteRefIdeal.main_arg9) = m ((c.tc : Thread Cert.RouteIdeal.nD Cert.RouteIdeal.τ).loc Cert.RouteIdeal.main_arg9)) →
    ∃ (v0 : (c : Dev Cert.RouteIdeal.nD) → Buf (Elt Ideal) ((c.tc : Thread Cert.RouteIdeal.nD Cert.RouteIdeal.τ).loc Cert.RouteIdeal.main_v9_0)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v9_0) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
          ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
          ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v30) = v0 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5)
          ∧ r.2.mem ((c.tc : Thread Cert.RouteRefIdeal.nD Cert.RouteRefIdeal.τ).loc Cert.RouteRefIdeal.main_arg6) = m' ((c.tc : Thread Cert.RouteRefIdeal.nD Cert.RouteRefIdeal.τ).loc Cert.RouteRefIdeal.main_arg6)
          ∧ r.2.mem ((c.tc : Thread Cert.RouteRefIdeal.nD Cert.RouteRefIdeal.τ).loc Cert.RouteRefIdeal.main_arg7) = m' ((c.tc : Thread Cert.RouteRefIdeal.nD Cert.RouteRefIdeal.τ).loc Cert.RouteRefIdeal.main_arg7)
          ∧ r.2.mem ((c.tc : Thread Cert.RouteRefIdeal.nD Cert.RouteRefIdeal.τ).loc Cert.RouteRefIdeal.main_arg8) = m' ((c.tc : Thread Cert.RouteRefIdeal.nD Cert.RouteRefIdeal.τ).loc Cert.RouteRefIdeal.main_arg8)
          ∧ r.2.mem ((c.tc : Thread Cert.RouteRefIdeal.nD Cert.RouteRefIdeal.τ).loc Cert.RouteRefIdeal.main_arg9) = m' ((c.tc : Thread Cert.RouteRefIdeal.nD Cert.RouteRefIdeal.τ).loc Cert.RouteRefIdeal.main_arg9))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v73) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def Claim : Prop :=
  ∃ (hAttn : Cert.Attn.Facts) (hAttnIdeal : Cert.AttnIdeal.Facts) (hAttnRefIdeal : Cert.AttnRefIdeal.Facts) (hProjAB : Cert.ProjAB.Facts) (hProjABIdeal : Cert.ProjABIdeal.Facts) (hProjABRefIdeal : Cert.ProjABRefIdeal.Facts) (hProjCD : Cert.ProjCD.Facts) (hProjCDIdeal : Cert.ProjCDIdeal.Facts) (hProjCDRefIdeal : Cert.ProjCDRefIdeal.Facts) (hRoute : Cert.Route.Facts) (hRouteIdeal : Cert.RouteIdeal.Facts) (hRouteRefIdeal : Cert.RouteRefIdeal.Facts) (hExperts : Cert.Experts.Facts) (hExpertsIdeal : Cert.ExpertsIdeal.Facts) (hExpertsRefIdeal : Cert.ExpertsRefIdeal.Facts) (hPre_finite_attn : Cert.Pre_finite_attn.Facts) (hPre_experts_in_range : Cert.Pre_experts_in_range.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_ProjAB (hProjAB := hProjAB)
    ∧ quiescent_ProjABIdeal (hProjABIdeal := hProjABIdeal)
    ∧ quiescent_ProjABRefIdeal (hProjABRefIdeal := hProjABRefIdeal)
    ∧ quiescent_ProjCD (hProjCD := hProjCD)
    ∧ quiescent_ProjCDIdeal (hProjCDIdeal := hProjCDIdeal)
    ∧ quiescent_ProjCDRefIdeal (hProjCDRefIdeal := hProjCDRefIdeal)
    ∧ quiescent_Route (hRoute := hRoute)
    ∧ quiescent_RouteIdeal (hRouteIdeal := hRouteIdeal)
    ∧ quiescent_RouteRefIdeal (hRouteRefIdeal := hRouteRefIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_ProjAB_ProjABIdeal
    ∧ algebraic_ProjABIdeal_ProjABRefIdeal (hProjABIdeal := hProjABIdeal) (hProjABRefIdeal := hProjABRefIdeal)
    ∧ preserves_ProjCD_ProjCDIdeal
    ∧ algebraic_ProjCDIdeal_ProjCDRefIdeal (hProjCDIdeal := hProjCDIdeal) (hProjCDRefIdeal := hProjCDRefIdeal)
    ∧ preserves_Route_RouteIdeal
    ∧ algebraic_RouteIdeal_RouteRefIdeal (hRouteIdeal := hRouteIdeal) (hRouteRefIdeal := hRouteRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
-- ==== Pre_experts_in_range.lean ====
abbrev S349 : Shape := ⟨1, ![349]⟩
abbrev S1 : Shape := ⟨1, ![1]⟩
abbrev S89344x1024 : Shape := ⟨2, ![89344, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S349 : S_.BroadcastsInDim S349 (![] : Fin 0 → Fin S349.rank)
  reducesTo_S349_S_d0 : S349.ReducesTo [0] S_
  h_S_ : 0 < S_.numel

variable [Facts]

def fn {F : FTy → Type} [FloatOps F] (main_arg0 : IVec S349 32) (main_arg1 : IVec S1 32) (main_arg2 : FVec F S89344x1024 .f32) (main_arg3 : FVec F S32x1024x1024 .f32) (main_arg4 : FVec F S32x1x1024 .f32) (main_arg5 : FVec F S32x1024x1024 .f32) (main_arg6 : FVec F S32x1x1024 .f32) (main_arg7 : FVec F S32x1024x1024 .f32) (main_arg8 : FVec F S32x1x1024 .f32) : IVec S_ 1 :=
  let main_c : IVec S_ 32 := constantI S_ 32 0#32
  let main_v0 : IVec S349 32 := broadcastInDim S349 ![] bcast_S_S349 main_c
  let main_v1 : IVec S349 1 := cmpi .sge main_arg0 main_v0
  let main_c_0 : IVec S_ 32 := constantI S_ 32 32#32
  let main_v2 : IVec S349 32 := broadcastInDim S349 ![] bcast_S_S349 main_c_0
  let main_v3 : IVec S349 1 := cmpi .slt main_arg0 main_v2
  let main_v4 : IVec S349 1 := andi main_v1 main_v3
  let main_c_1 : IVec S_ 1 := constantI S_ 1 1#1
  let main_v5 : IVec S_ 1 := (fun x v => Host.reduce IntOp.andi x v reducesTo_S349_S_d0 h_S_) main_v4 main_c_1
  main_v5
-- ==== Pre_finite_attn.lean ====
abbrev S16384x512 : Shape := ⟨2, ![16384, 512]⟩
abbrev S64x512 : Shape := ⟨2, ![64, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S16384x512 .f32) (main_arg1 : FVec F S16384x512 .bf16) (main_arg2 : FVec F S16384x512 .bf16) (main_arg3 : FVec F S16384x512 .bf16) (main_arg4 : FVec F S64x512 .f32) : IVec S_ 1 :=
  let main_v0 : FVec F S16384x512 .f32 := (extf .f32 · bitsLt_bf16_f32) main_arg1
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg2
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S64x512 .f32 := Host.absf main_arg4
  let main_cst_2 : FVec F S_ .f32 := constant S_ .f32 0x7F800000#32
  let main_v12 : FVec F S64x512 .f32 := broadcastInDim S64x512 ![] bcast_S_S64x512 main_cst_2
  let main_v13 : IVec S64x512 1 := cmpf .olt main_v11 main_v12
  let main_c_3 : IVec S_ 1 := constantI S_ 1 1#1
  let main_v14 : IVec S_ 1 := (fun x v => Host.reduce IntOp.andi x v reducesTo_S64x512_S_d0_1 h_S_) main_v13 main_c_3
  let main_v15 : IVec S_ 1 := andi main_v10 main_v14
  main_v15
-- ==== Attn.lean ====
abbrev S16384x512 : Shape := ⟨2, ![16384, 512]⟩
abbrev S64x512 : Shape := ⟨2, ![64, 512]⟩
abbrev S256x512 : Shape := ⟨2, ![256, 512]⟩
abbrev S4096x512 : Shape := ⟨2, ![4096, 512]⟩
abbrev S16x512 : Shape := ⟨2, ![16, 512]⟩
abbrev S4x512x128 : Shape := ⟨3, ![4, 512, 128]⟩
abbrev S4x16x512 : Shape := ⟨3, ![4, 16, 512]⟩
abbrev S4x1x512 : Shape := ⟨3, ![4, 1, 512]⟩
abbrev S4x2x64x256 : Shape := ⟨4, ![4, 2, 64, 256]⟩
abbrev S256x128 : Shape := ⟨2, ![256, 128]⟩
abbrev S512x128 : Shape := ⟨2, ![512, 128]⟩
abbrev S1x512x128 : Shape := ⟨3, ![1, 512, 128]⟩
abbrev S16x128 : Shape := ⟨2, ![16, 128]⟩
abbrev S512 : Shape := ⟨1, ![512]⟩
abbrev S1x512 : Shape := ⟨2, ![1, 512]⟩
abbrev S1x16x512 : Shape := ⟨3, ![1, 16, 512]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S64x128 : Shape := ⟨2, ![64, 128]⟩
abbrev S1x1x128 : Shape := ⟨3, ![1, 1, 128]⟩
abbrev S1x1x64x128 : Shape := ⟨4, ![1, 1, 64, 128]⟩
abbrev S1x1x512 : Shape := ⟨3, ![1, 1, 512]⟩
abbrev S1x1x64x256 : Shape := ⟨4, ![1, 1, 64, 256]⟩
abbrev S64x256 : Shape := ⟨2, ![64, 256]⟩
abbrev S1x256 : Shape := ⟨2, ![1, 256]⟩
abbrev S128x256 : Shape := ⟨2, ![128, 256]⟩

abbrev nBuf : Space → Nat
  | .hbm => 6
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S64x512, .f32⟩
  | .hbm, ⟨5, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S16x512, .f32⟩
  | .local _ .vmem, ⟨9, _⟩ => ⟨S16x512, .f32⟩
  | .local _ .vmem, ⟨10, _⟩ => ⟨S256x512, .f32⟩
  | .local _ .vmem, ⟨11, _⟩ => ⟨S256x512, .f32⟩
  | .local _ .vmem, ⟨12, _⟩ => ⟨S4x512x128, .bf16⟩
  | .local _ .vmem, ⟨13, _⟩ => ⟨S4x16x512, .f32⟩
  | .local _ .vmem, ⟨14, _⟩ => ⟨S4x1x512, .f32⟩
  | .local _ .vmem, ⟨15, _⟩ => ⟨S4x1x512, .f32⟩
  | .local _ .vmem, ⟨16, _⟩ => ⟨S4x2x64x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32_3 : BitVec 32 := 256#32
  let v20 : BitVec 32 := Scalar.muli arg1 c256_i32_3
  v20
def k0_off1 (i : grid0.Coords) : Fin 2 → Nat :=
  let arg1 : BitVec 32 := BitVec.ofNat 32 (i 1).val
  let c256_i32_3 : BitVec 32 := 256#32
  let v20 : BitVec 32 := Scalar.muli arg1 c256_i32_3
  let v21 : BitVec 32 := v20
  let v116 : Index := Scalar.indexCast v21
  let c0_41 : Index := 0#32
  ![v116.toNat, 0]
def k0_off2 (i : grid0.Coords) : Fin 2 → Nat :=
  let arg1 : BitVec 32 := BitVec.ofNat 32 (i 1).val
  let c256_i32_3 : BitVec 32 := 256#32
  let v20 : BitVec 32 := Scalar.muli arg1 c256_i32_3
  let v21 : BitVec 32 := v20
  let v314 : Index := Scalar.indexCast v21
  let c128_153 : Index := 128#32
  ![v314.toNat, 128]
def k0_off3 (i : grid0.Coords) : Fin 2 → Nat :=
  let arg1 : BitVec 32 := BitVec.ofNat 32 (i 1).val
  let c256_i32_3 : BitVec 32 := 256#32
  let v20 : BitVec 32 := Scalar.muli arg1 c256_i32_3
  let v21 : BitVec 32 := v20
  let v512 : Index := Scalar.indexCast v21
  let c256_268 : Index := 256#32
  ![v512.toNat, 256]
def k0_off4 (i : grid0.Coords) : Fin 2 → Nat :=
  let arg1 : BitVec 32 := BitVec.ofNat 32 (i 1).val
  let c256_i32_3 : BitVec 32 := 256#32
  let v20 : BitVec 32 := Scalar.muli arg1 c256_i32_3
  let v21 : BitVec 32 := v20
  let v710 : Index := Scalar.indexCast v21
  let c384_383 : Index := 384#32
  ![v710.toNat, 384]
@[reducible] def k0_t1_loop (i : grid0.Coords) : Scf.Loop 32 :=
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_460 : BitVec 32 := 1#32
  ⟨c0_i32_457, v818, c1_i32_460⟩
def k0_mult2 (i : grid0.Coords) (k0_t1 : Fin (k0_t1_loop i).trips) : BitVec 32 :=
  let c0_i32_457 : BitVec 32 := 0#32
  let c1_i32_460 : BitVec 32 := 1#32
  let arg13 : BitVec 32 := Scf.iv c0_i32_457 c1_i32_460 k0_t1
  let c256_i32_514 : BitVec 32 := 256#32
  let v881 : BitVec 32 := Scalar.muli arg13 c256_i32_514
  v881
def k0_off5 (i : grid0.Coords) (k0_t1 : Fin (k0_t1_loop i).trips) : Fin 3 → Nat :=
  let c0_515 : Index := 0#32
  let c0_i32_457 : BitVec 32 := 0#32
  let c1_i32_460 : BitVec 32 := 1#32
  let arg13 : BitVec 32 := Scf.iv c0_i32_457 c1_i32_460 k0_t1
  let v883 : Index := Scalar.indexCast arg13
  let c0_516 : Index := 0#32
  ![0, v883.toNat, 0]
def k0_off6 (i : grid0.Coords) (k0_t1 : Fin (k0_t1_loop i).trips) : Fin 2 → Nat :=
  let c0_i32_457 : BitVec 32 := 0#32
  let c1_i32_460 : BitVec 32 := 1#32
  let arg13 : BitVec 32 := Scf.iv c0_i32_457 c1_i32_460 k0_t1
  let c256_i32_514 : BitVec 32 := 256#32
  let v881 : BitVec 32 := Scalar.muli arg13 c256_i32_514
  let v882 : BitVec 32 := v881
  let v888 : Index := Scalar.indexCast v882
  let c0_518 : Index := 0#32
  ![v888.toNat, 0]
def k0_off7 (i : grid0.Coords) (k0_t1 : Fin (k0_t1_loop i).trips) : Fin 3 → Nat :=
  let c1_632 : Index := 1#32
  let c0_i32_457 : BitVec 32 := 0#32
  let c1_i32_460 : BitVec 32 := 1#32
  let arg13 : BitVec 32 := Scf.iv c0_i32_457 c1_i32_460 k0_t1
  let v1056 : Index := Scalar.indexCast arg13
  let c0_633 : Index := 0#32
  ![1, v1056.toNat, 0]
def k0_off8 (i : grid0.Coords) (k0_t1 : Fin (k0_t1_loop i).trips) : Fin 2 → Nat :=
  let c0_i32_457 : BitVec 32 := 0#32
  let c1_i32_460 : BitVec 32 := 1#32
  let arg13 : BitVec 32 := Scf.iv c0_i32_457 c1_i32_460 k0_t1
  let c256_i32_514 : BitVec 32 := 256#32
  let v881 : BitVec 32 := Scalar.muli arg13 c256_i32_514
  let v882 : BitVec 32 := v881
  let v1061 : Index := Scalar.indexCast v882
  let c128_635 : Index := 128#32
  ![v1061.toNat, 128]
def k0_off9 (i : grid0.Coords) (k0_t1 : Fin (k0_t1_loop i).trips) : Fin 3 → Nat :=
  let c2_749 : Index := 2#32
  let c0_i32_457 : BitVec 32 := 0#32
  let c1_i32_460 : BitVec 32 := 1#32
  let arg13 : BitVec 32 := Scf.iv c0_i32_457 c1_i32_460 k0_t1
  let v1229 : Index := Scalar.indexCast arg13
  let c0_750 : Index := 0#32
  ![2, v1229.toNat, 0]
def k0_off10 (i : grid0.Coords) (k0_t1 : Fin (k0_t1_loop i).trips) : Fin 2 → Nat :=
  let c0_i32_457 : BitVec 32 := 0#32
  let c1_i32_460 : BitVec 32 := 1#32
  let arg13 : BitVec 32 := Scf.iv c0_i32_457 c1_i32_460 k0_t1
  let c256_i32_514 : BitVec 32 := 256#32
  let v881 : BitVec 32 := Scalar.muli arg13 c256_i32_514
  let v882 : BitVec 32 := v881
  let v1234 : Index := Scalar.indexCast v882
  let c256_752 : Index := 256#32
  ![v1234.toNat, 256]
def k0_off11 (i : grid0.Coords) (k0_t1 : Fin (k0_t1_loop i).trips) : Fin 3 → Nat :=
  let c3_866 : Index := 3#32
  let c0_i32_457 : BitVec 32 := 0#32
  let c1_i32_460 : BitVec 32 := 1#32
  let arg13 : BitVec 32 := Scf.iv c0_i32_457 c1_i32_460 k0_t1
  let v1402 : Index := Scalar.indexCast arg13
  let c0_867 : Index := 0#32
  ![3, v1402.toNat, 0]
def k0_off12 (i : grid0.Coords) (k0_t1 : Fin (k0_t1_loop i).trips) : Fin 2 → Nat :=
  let c0_i32_457 : BitVec 32 := 0#32
  let c1_i32_460 : BitVec 32 := 1#32
  let arg13 : BitVec 32 := Scf.iv c0_i32_457 c1_i32_460 k0_t1
  let c256_i32_514 : BitVec 32 := 256#32
  let v881 : BitVec 32 := Scalar.muli arg13 c256_i32_514
  let v882 : BitVec 32 := v881
  let v1407 : Index := Scalar.indexCast v882
  let c384_869 : Index := 384#32
  ![v1407.toNat, 384]
@[reducible] def k0_t2_loop (i : grid0.Coords) : Scf.Loop 32 :=
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let v815 : BitVec 32 := Scalar.addi c0_i32_457 v814
  let c1_i32_461 : BitVec 32 := 1#32
  ⟨v818, v815, c1_i32_461⟩
def k0_mult3 (i : grid0.Coords) (k0_t2 : Fin (k0_t2_loop i).trips) : BitVec 32 :=
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let c256_i32_514 : BitVec 32 := 256#32
  let v881 : BitVec 32 := Scalar.muli arg13 c256_i32_514
  v881
def k0_off13 (i : grid0.Coords) (k0_t2 : Fin (k0_t2_loop i).trips) : Fin 3 → Nat :=
  let c0_515 : Index := 0#32
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let v883 : Index := Scalar.indexCast arg13
  let c0_516 : Index := 0#32
  ![0, v883.toNat, 0]
def k0_off14 (i : grid0.Coords) (k0_t2 : Fin (k0_t2_loop i).trips) : Fin 2 → Nat :=
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let c256_i32_514 : BitVec 32 := 256#32
  let v881 : BitVec 32 := Scalar.muli arg13 c256_i32_514
  let v882 : BitVec 32 := v881
  let v888 : Index := Scalar.indexCast v882
  let c0_518 : Index := 0#32
  ![v888.toNat, 0]
def k0_off15 (i : grid0.Coords) (k0_t2 : Fin (k0_t2_loop i).trips) : Fin 3 → Nat :=
  let c1_632 : Index := 1#32
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let v1056 : Index := Scalar.indexCast arg13
  let c0_633 : Index := 0#32
  ![1, v1056.toNat, 0]
def k0_off16 (i : grid0.Coords) (k0_t2 : Fin (k0_t2_loop i).trips) : Fin 2 → Nat :=
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let c256_i32_514 : BitVec 32 := 256#32
  let v881 : BitVec 32 := Scalar.muli arg13 c256_i32_514
  let v882 : BitVec 32 := v881
  let v1061 : Index := Scalar.indexCast v882
  let c128_635 : Index := 128#32
  ![v1061.toNat, 128]
def k0_off17 (i : grid0.Coords) (k0_t2 : Fin (k0_t2_loop i).trips) : Fin 3 → Nat :=
  let c2_749 : Index := 2#32
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let v1229 : Index := Scalar.indexCast arg13
  let c0_750 : Index := 0#32
  ![2, v1229.toNat, 0]
def k0_off18 (i : grid0.Coords) (k0_t2 : Fin (k0_t2_loop i).trips) : Fin 2 → Nat :=
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let c256_i32_514 : BitVec 32 := 256#32
  let v881 : BitVec 32 := Scalar.muli arg13 c256_i32_514
  let v882 : BitVec 32 := v881
  let v1234 : Index := Scalar.indexCast v882
  let c256_752 : Index := 256#32
  ![v1234.toNat, 256]
def k0_off19 (i : grid0.Coords) (k0_t2 : Fin (k0_t2_loop i).trips) : Fin 3 → Nat :=
  let c3_866 : Index := 3#32
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let v1402 : Index := Scalar.indexCast arg13
  let c0_867 : Index := 0#32
  ![3, v1402.toNat, 0]
def k0_off20 (i : grid0.Coords) (k0_t2 : Fin (k0_t2_loop i).trips) : Fin 2 → Nat :=
  let c0_i32_457 : BitVec 32 := 0#32
  let arg1 : BitVec 32 := BitVec.ofNat 32 (i 1).val
  let v814 : BitVec 32 := Scalar.subi arg1 c0_i32_457
  let c1_i32_459 : BitVec 32 := 1#32
  let v816 : BitVec 32 := Scalar.divsi v814 c1_i32_459
  let v817 : BitVec 32 := Scalar.muli v816 c1_i32_459
  let v818 : BitVec 32 := Scalar.addi c0_i32_457 v817
  let c1_i32_461 : BitVec 32 := 1#32
  let arg13 : BitVec 32 := Scf.iv v818 c1_i32_461 k0_t2
  let c256_i32_514 : BitVec 32 := 256#32
  let v881 : BitVec 32 := Scalar.muli arg13 c256_i32_514
  let v882 : BitVec 32 := v881
  let v1407 : Index := Scalar.indexCast v882
  let c384_869 : Index := 384#32
  ![v1407.toNat, 384]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S16384x512 : Shape := ⟨2, ![16384, 512]⟩
abbrev S64x512 : Shape := ⟨2, ![64, 512]⟩
abbrev S4x16x256x8x64 : Shape := ⟨5, ![4, 16, 256, 8, 64]⟩
abbrev S4x8x16x256x64 : Shape := ⟨5, ![4, 8, 16, 256, 64]⟩
abbrev S_ : Shape := ⟨0, ![]⟩
abbrev S4x16x8x64 : Shape := ⟨4, ![4, 16, 8, 64]⟩
abbrev S4x8x16x64 : Shape := ⟨4, ![4, 8, 16, 64]⟩
abbrev S16 : Shape := ⟨1, ![16]⟩
abbrev S4x8x16x256x16 : Shape := ⟨5, ![4, 8, 16, 256, 16]⟩
abbrev S16x1x1 : Shape := ⟨3, ![16, 1, 1]⟩
abbrev S1x1x16 : Shape := ⟨3, ![1, 1, 16]⟩
abbrev S16x1x16 : Shape := ⟨3, ![16, 1, 16]⟩
abbrev S4x8x16x256x3 : Shape := ⟨5, ![4, 8, 16, 256, 3]⟩
abbrev S3 : Shape := ⟨1, ![3]⟩
abbrev S16x1 : Shape := ⟨2, ![16, 1]⟩
abbrev S1x3 : Shape := ⟨2, ![1, 3]⟩
abbrev S16x3 : Shape := ⟨2, ![16, 3]⟩
abbrev S4 : Shape := ⟨1, ![4]⟩
abbrev S4x1x1x1x1 : Shape := ⟨5, ![4, 1, 1, 1, 1]⟩
abbrev S8 : Shape := ⟨1, ![8]⟩
abbrev S1x8x1x1x1 : Shape := ⟨5, ![1, 8, 1, 1, 1]⟩
abbrev S4x8x16x256x3x1 : Shape := ⟨6, ![4, 8, 16, 256, 3, 1]⟩
abbrev S4x8x16x256x3x3 : Shape := ⟨6, ![4, 8, 16, 256, 3, 3]⟩
abbrev S4x8x16x256x3x256x64 : Shape := ⟨7, ![4, 8, 16, 256, 3, 256, 64]⟩
abbrev S4x8x16x256x3x256 : Shape := ⟨6, ![4, 8, 16, 256, 3, 256]⟩
abbrev S16x1x3x1 : Shape := ⟨4, ![16, 1, 3, 1]⟩
abbrev S4x8x16x256x256 : Shape := ⟨5, ![4, 8, 16, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4x8x16x256x768 : Shape := ⟨5, ![4, 8, 16, 256, 768]⟩
abbrev S4x8x16x256x1024 : Shape := ⟨5, ![4, 8, 16, 256, 1024]⟩
abbrev S4x8x16x256 : Shape := ⟨4, ![4, 8, 16, 256]⟩
abbrev S4x8x16x256x1 : Shape := ⟨5, ![4, 8, 16, 256, 1]⟩

abbrev nBuf : Space → Nat
  | .hbm => 145
  | .vmem => 0
  | .smem => 0
  | _ => 0

abbrev hbmTy0_0 (i : Nat) : BufTy := match i % 128 with
  | 0 => ⟨S16384x512, .f32⟩
  | 1 => ⟨S16384x512, .bf16⟩
  | 2 => ⟨S16384x512, .bf16⟩
  | 3 => ⟨S16384x512, .bf16⟩
  | 4 => ⟨S64x512, .f32⟩
  | 5 => ⟨S4x16x256x8x64, .f32⟩
  | 6 => ⟨S4x8x16x256x64, .f32⟩
  | 7 => ⟨S_, .f32⟩
  | 8 => ⟨S4x8x16x256x64, .f32⟩
  | 9 => ⟨S4x8x16x256x64, .f32⟩
  | 10 => ⟨S16384x512, .f32⟩
  | 11 => ⟨S4x16x256x8x64, .f32⟩
  | 12 => ⟨S4x8x16x256x64, .f32⟩
  | 13 => ⟨S16384x512, .f32⟩
  | 14 => ⟨S4x16x256x8x64, .f32⟩
  | 15 => ⟨S4x8x16x256x64, .f32⟩
  | 16 => ⟨S16384x512, .f32⟩
  | 17 => ⟨S4x16x256x8x64, .f32⟩
  | 18 => ⟨S4x8x16x256x64, .f32⟩
  | 19 => ⟨S4x16x8x64, .f32⟩
  | 20 => ⟨S4x8x16x64, .f32⟩
  | 21 => ⟨S16, .i32⟩
  | 22 => ⟨S4x8x16x256x16, .f32⟩
  | 23 => ⟨S16, .i32⟩
  | 24 => ⟨S16x1x1, .i32⟩
  | 25 => ⟨S1x1x16, .i32⟩
  | 26 => ⟨S16x1x16, .i32⟩
  | 27 => ⟨S16x1x16, .i32⟩
  | 28 => ⟨S16x1x16, .i1⟩
  | 29 => ⟨S_, .f32⟩
  | 30 => ⟨S_, .f32⟩
  | 31 => ⟨S4x8x16x256x16, .i1⟩
  | 32 => ⟨S4x8x16x256x16, .f32⟩
  | 33 => ⟨S4x8x16x256x16, .f32⟩
  | 34 => ⟨S4x8x16x256x3, .f32⟩
  | 35 => ⟨S4x8x16x256x3, .i32⟩
  | 36 => ⟨S3, .i32⟩
  | 37 => ⟨S16x1, .i32⟩
  | 38 => ⟨S1x3, .i32⟩
  | 39 => ⟨S16x3, .i32⟩
  | 40 => ⟨S16x3, .i32⟩
  | 41 => ⟨S16x3, .i1⟩
  | 42 => ⟨S4, .i32⟩
  | 43 => ⟨S4x1x1x1x1, .i32⟩
  | 44 => ⟨S8, .i32⟩
  | 45 => ⟨S1x8x1x1x1, .i32⟩
  | 46 => ⟨S_, .i32⟩
  | 47 => ⟨S4x1x1x1x1, .i32⟩
  | 48 => ⟨S4x1x1x1x1, .i1⟩
  | 49 => ⟨S_, .i32⟩
  | 50 => ⟨S4x1x1x1x1, .i32⟩
  | 51 => ⟨S4x1x1x1x1, .i32⟩
  | 52 => ⟨S4x1x1x1x1, .i32⟩
  | 53 => ⟨S_, .i32⟩
  | 54 => ⟨S1x8x1x1x1, .i32⟩
  | 55 => ⟨S1x8x1x1x1, .i1⟩
  | 56 => ⟨S_, .i32⟩
  | 57 => ⟨S1x8x1x1x1, .i32⟩
  | 58 => ⟨S1x8x1x1x1, .i32⟩
  | 59 => ⟨S1x8x1x1x1, .i32⟩
  | 60 => ⟨S_, .i32⟩
  | 61 => ⟨S4x8x16x256x3, .i32⟩
  | 62 => ⟨S4x8x16x256x3, .i1⟩
  | 63 => ⟨S_, .i32⟩
  | 64 => ⟨S4x8x16x256x3, .i32⟩
  | 65 => ⟨S4x8x16x256x3, .i32⟩
  | 66 => ⟨S4x8x16x256x3, .i32⟩
  | 67 => ⟨S4x8x16x256x3, .i32⟩
  | 68 => ⟨S4x8x16x256x3, .i32⟩
  | 69 => ⟨S4x8x16x256x3x1, .i32⟩
  | 70 => ⟨S4x8x16x256x3x1, .i32⟩
  | 71 => ⟨S4x8x16x256x3x1, .i32⟩
  | 72 => ⟨S4x8x16x256x3x3, .i32⟩
  | 73 => ⟨S4x8x16x256x3x256x64, .f32⟩
  | 74 => ⟨S_, .i32⟩
  | 75 => ⟨S4x1x1x1x1, .i32⟩
  | 76 => ⟨S4x1x1x1x1, .i1⟩
  | 77 => ⟨S_, .i32⟩
  | 78 => ⟨S4x1x1x1x1, .i32⟩
  | 79 => ⟨S4x1x1x1x1, .i32⟩
  | 80 => ⟨S4x1x1x1x1, .i32⟩
  | 81 => ⟨S_, .i32⟩
  | 82 => ⟨S1x8x1x1x1, .i32⟩
  | 83 => ⟨S1x8x1x1x1, .i1⟩
  | 84 => ⟨S_, .i32⟩
  | 85 => ⟨S1x8x1x1x1, .i32⟩
  | 86 => ⟨S1x8x1x1x1, .i32⟩
  | 87 => ⟨S1x8x1x1x1, .i32⟩
  | 88 => ⟨S_, .i32⟩
  | 89 => ⟨S4x8x16x256x3, .i32⟩
  | 90 => ⟨S4x8x16x256x3, .i1⟩
  | 91 => ⟨S_, .i32⟩
  | 92 => ⟨S4x8x16x256x3, .i32⟩
  | 93 => ⟨S4x8x16x256x3, .i32⟩
  | 94 => ⟨S4x8x16x256x3, .i32⟩
  | 95 => ⟨S4x8x16x256x3, .i32⟩
  | 96 => ⟨S4x8x16x256x3, .i32⟩
  | 97 => ⟨S4x8x16x256x3x1, .i32⟩
  | 98 => ⟨S4x8x16x256x3x1, .i32⟩
  | 99 => ⟨S4x8x16x256x3x1, .i32⟩
  | 100 => ⟨S4x8x16x256x3x3, .i32⟩
  | 101 => ⟨S4x8x16x256x3x256x64, .f32⟩
  | 102 => ⟨S4x8x16x256x3x256, .f32⟩
  | 103 => ⟨S16x1x3x1, .i1⟩
  | 104 => ⟨S_, .f32⟩
  | 105 => ⟨S_, .f32⟩
  | 106 => ⟨S4x8x16x256x3x256, .i1⟩
  | 107 => ⟨S4x8x16x256x3x256, .f32⟩
  | 108 => ⟨S4x8x16x256x3x256, .f32⟩
  | 109 => ⟨S4x8x16x256x256, .f32⟩
  | 110 => ⟨S256, .i32⟩
  | 111 => ⟨S1x256, .i32⟩
  | 112 => ⟨S256x1, .i32⟩
  | 113 => ⟨S256x256, .i32⟩
  | 114 => ⟨S256x256, .i32⟩
  | 115 => ⟨S256x256, .i1⟩
  | 116 => ⟨S_, .f32⟩
  | 117 => ⟨S_, .f32⟩
  | 118 => ⟨S4x8x16x256x256, .i1⟩
  | 119 => ⟨S4x8x16x256x256, .f32⟩
  | 120 => ⟨S4x8x16x256x256, .f32⟩
  | 121 => ⟨S4x8x16x256x768, .f32⟩
  | 122 => ⟨S4x8x16x256x1024, .f32⟩
  | 123 => ⟨S_, .f32⟩
  | 124 => ⟨S4x8x16x256, .f32⟩
  | 125 => ⟨S_, .f32⟩
  | 126 => ⟨S4x8x16x256, .f32⟩
  | 127 => ⟨S4x8x16x256, .f32⟩
  | _ => ⟨S16384x512, .f32⟩

abbrev hbmTy0_1 (i : Nat) : BufTy := match i % 128 with
  | 0 => ⟨S4x8x16x256x1, .f32⟩
  | 1 => ⟨S4x8x16x256x1024, .f32⟩
  | 2 => ⟨S4x8x16x256x1024, .f32⟩
  | 3 => ⟨S4x8x16x256x1024, .f32⟩
  | 4 => ⟨S_, .f32⟩
  | 5 => ⟨S4x8x16x256, .f32⟩
  | 6 => ⟨S4x8x16x256x1, .f32⟩
  | 7 => ⟨S4x8x16x256x1024, .f32⟩
  | 8 => ⟨S4x8x16x256x1024, .f32⟩
  | 9 => ⟨S4x8x16x256x768, .f32⟩
  | 10 => ⟨S4x8x16x256x3x256, .f32⟩
  | 11 => ⟨S4x8x16x256x256, .f32⟩
  | 12 => ⟨S4x8x16x256x64, .f32⟩
  | 13 => ⟨S4x8x16x256x64, .f32⟩
  | 14 => ⟨S4x8x16x256x64, .f32⟩
  | 15 => ⟨S4x16x256x8x64, .f32⟩
  | 16 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_values : Ref sig .tc := ⟨.hbm, 34, rfl⟩
abbrev main_indices : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_c_1 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_2 : Ref sig .tc := ⟨.hbm, 53, rfl⟩
abbrev main_v39 : Ref sig .tc := ⟨.hbm, 54, rfl⟩
abbrev main_v40 : Ref sig .tc := ⟨.hbm, 55, rfl⟩
abbrev main_c_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_4 : Ref sig .tc := ⟨.hbm, 60, rfl⟩
abbrev main_v44 : Ref sig .tc := ⟨.hbm, 61, rfl⟩
abbrev main_v45 : Ref sig .tc := ⟨.hbm, 62, rfl⟩
abbrev main_c_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_6 : Ref sig .tc := ⟨.hbm, 74, rfl⟩
abbrev main_v56 : Ref sig .tc := ⟨.hbm, 75, rfl⟩
abbrev main_v57 : Ref sig .tc := ⟨.hbm, 76, rfl⟩
abbrev main_c_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_8 : Ref sig .tc := ⟨.hbm, 81, rfl⟩
abbrev main_v61 : Ref sig .tc := ⟨.hbm, 82, rfl⟩
abbrev main_v62 : Ref sig .tc := ⟨.hbm, 83, rfl⟩
abbrev main_c_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_10 : Ref sig .tc := ⟨.hbm, 88, rfl⟩
abbrev main_v66 : Ref sig .tc := ⟨.hbm, 89, rfl⟩
abbrev main_v67 : Ref sig .tc := ⟨.hbm, 90, rfl⟩
abbrev main_c_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_13 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_14 : Ref sig .tc := ⟨.hbm, 123, rfl⟩
abbrev main_v91 : Ref sig .tc := ⟨.hbm, 124, rfl⟩
abbrev main_cst_15 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_16 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩

abbrev nD : Nat := 1
abbrev τ : Topo := Topo.v7x

variable {F : FTy → Type} [FloatOps F]
-- ==== ProjAB.lean ====
abbrev S16640x1024 : Shape := ⟨2, ![16640, 1024]⟩
abbrev S1024x1536 : Shape := ⟨2, ![1024, 1536]⟩
abbrev S16640x1536 : Shape := ⟨2, ![16640, 1536]⟩
abbrev S640x1024 : Shape := ⟨2, ![640, 1024]⟩
abbrev S640x1536 : Shape := ⟨2, ![640, 1536]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .f32⟩
  | .hbm, ⟨1, _⟩ => ⟨S1024x1536, .f32⟩
  | .hbm, ⟨2, _⟩ => ⟨S1024x1536, .bf16⟩
  | .hbm, ⟨3, _⟩ => ⟨S16640x1536, .f32⟩
  | .local _ .vmem, ⟨0, _⟩ => ⟨S640x1024, .f32⟩
  | .local _ .vmem, ⟨1, _⟩ => ⟨S640x1024, .f32⟩
  | .local _ .vmem, ⟨2, _⟩ => ⟨S1024x1536, .bf16⟩
  | .local _ .vmem, ⟨3, _⟩ => ⟨S640x1536, .f32⟩
  | .local _ .vmem, ⟨4, _⟩ => ⟨S640x1536, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjABRefIdeal.lean ====
abbrev S16640x1024 : Shape := ⟨2, ![16640, 1024]⟩
abbrev S1024x1536 : Shape := ⟨2, ![1024, 1536]⟩
abbrev S16640x1536 : Shape := ⟨2, ![16640, 1536]⟩

abbrev nBuf : Space → Nat
  | .hbm => 3
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x1536, .f32⟩
  | .hbm, ⟨2, _⟩ => ⟨S16640x1536, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjCD.lean ====
abbrev S16640x1024 : Shape := ⟨2, ![16640, 1024]⟩
abbrev S1024x2048 : Shape := ⟨2, ![1024, 2048]⟩
abbrev S16640x2048 : Shape := ⟨2, ![16640, 2048]⟩
abbrev S640x1024 : Shape := ⟨2, ![640, 1024]⟩
abbrev S640x2048 : Shape := ⟨2, ![640, 2048]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .f32⟩
  | .hbm, ⟨1, _⟩ => ⟨S1024x2048, .f32⟩
  | .hbm, ⟨2, _⟩ => ⟨S1024x2048, .bf16⟩
  | .hbm, ⟨3, _⟩ => ⟨S16640x2048, .f32⟩
  | .local _ .vmem, ⟨0, _⟩ => ⟨S640x1024, .f32⟩
  | .local _ .vmem, ⟨1, _⟩ => ⟨S640x1024, .f32⟩
  | .local _ .vmem, ⟨2, _⟩ => ⟨S1024x2048, .bf16⟩
  | .local _ .vmem, ⟨3, _⟩ => ⟨S640x2048, .f32⟩
  | .local _ .vmem, ⟨4, _⟩ => ⟨S640x2048, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjCDRefIdeal.lean ====
abbrev S16640x1024 : Shape := ⟨2, ![16640, 1024]⟩
abbrev S1024x2048 : Shape := ⟨2, ![1024, 2048]⟩
abbrev S16640x2048 : Shape := ⟨2, ![16640, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x2048, .f32⟩
  | .hbm, ⟨2, _⟩ => ⟨S16640x2048, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Route.lean ====
abbrev S16640x1024 : Shape := ⟨2, ![16640, 1024]⟩
abbrev S16384x512 : Shape := ⟨2, ![16384, 512]⟩
abbrev S256x512 : Shape := ⟨2, ![256, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S32x1024 : Shape := ⟨2, ![32, 1024]⟩
abbrev S32x1 : Shape := ⟨2, ![32, 1]⟩
abbrev S83200x1024 : Shape := ⟨2, ![83200, 1024]⟩
abbrev S65x8x256 : Shape := ⟨3, ![65, 8, 256]⟩
abbrev S65x32x128 : Shape := ⟨3, ![65, 32, 128]⟩
abbrev S256x1024 : Shape := ⟨2, ![256, 1024]⟩
abbrev S1280x1024 : Shape := ⟨2, ![1280, 1024]⟩
abbrev S1x8x256 : Shape := ⟨3, ![1, 8, 256]⟩
abbrev S1x32x128 : Shape := ⟨3, ![1, 32, 128]⟩
abbrev S512x1024 : Shape := ⟨2, ![512, 1024]⟩
abbrev S256 : Shape := ⟨1, ![256]⟩
abbrev S256x1 : Shape := ⟨2, ![256, 1]⟩
abbrev S32x256 : Shape := ⟨2, ![32, 256]⟩
abbrev S1x256 : Shape := ⟨2, ![1, 256]⟩
abbrev S256x256 : Shape := ⟨2, ![256, 256]⟩
abbrev S32x32 : Shape := ⟨2, ![32, 32]⟩
abbrev S1280x256 : Shape := ⟨2, ![1280, 256]⟩
abbrev S8x256 : Shape := ⟨2, ![8, 256]⟩
abbrev S32x128 : Shape := ⟨2, ![32, 128]⟩

abbrev nBuf : Space → Nat
  | .hbm => 23
  | .vmem => 24
  | .smem => 0
  | _ => 0

abbrev bufTy : (tb : Table) → Fin (tcTables nBuf tb) → BufTy
  | .hbm, ⟨0, _⟩ => ⟨S16640x1024, .f32⟩
  | .hbm, ⟨1, _⟩ => ⟨S16384x512, .f32⟩
  | .hbm, ⟨2, _⟩ => ⟨S256x512, .f32⟩
  | .hbm, ⟨3, _⟩ => ⟨S16384x512, .f32⟩
  | .hbm, ⟨4, _⟩ => ⟨S256x512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S32x1024, .f32⟩
  | .hbm, ⟨14, _⟩ => ⟨S32x1, .f32⟩
  | .hbm, ⟨15, _⟩ => ⟨S32x1024, .bf16⟩
  | .hbm, ⟨16, _⟩ => ⟨S32x1024, .f32⟩
  | .hbm, ⟨17, _⟩ => ⟨S32x1024, .f32⟩
  | .hbm, ⟨18, _⟩ => ⟨S32x1024, .bf16⟩
  | .hbm, ⟨19, _⟩ => ⟨S16640x1024, .f32⟩
  | .hbm, ⟨20, _⟩ => ⟨S83200x1024, .f32⟩
  | .hbm, ⟨21, _⟩ => ⟨S65x8x256, .f32⟩
  | .hbm, ⟨22, _⟩ => ⟨S65x32x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S32x1024, .bf16⟩
  | .local _ .vmem, ⟨14, _⟩ => ⟨S32x1024, .bf16⟩
  | .local _ .vmem, ⟨15, _⟩ => ⟨S32x1, .f32⟩
  | .local _ .vmem, ⟨16, _⟩ => ⟨S256x1024, .f32⟩
  | .local _ .vmem, ⟨17, _⟩ => ⟨S256x1024, .f32⟩
  | .local _ .vmem, ⟨18, _⟩ => ⟨S1280x1024, .f32⟩
  | .local _ .vmem, ⟨19, _⟩ => ⟨S1280x1024, .f32⟩
  | .local _ .vmem, ⟨20, _⟩ => ⟨S1x8x256, .f32⟩
  | .local _ .vmem, ⟨21, _⟩ => ⟨S1x8x256, .f32⟩
  | .local _ .vmem, ⟨22, _⟩ => ⟨S1x32x128, .f32⟩
  | .local _ .vmem, ⟨23, _⟩ => ⟨S1x32x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1280x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RouteRefIdeal.lean ====
abbrev S16640x1024 : Shape := ⟨2, ![16640, 1024]⟩
abbrev S16384x512 : Shape := ⟨2, ![16384, 512]⟩
abbrev S256x512 : Shape := ⟨2, ![256, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16640x512 : Shape := ⟨2, ![16640, 512]⟩
abbrev S_ : Shape := ⟨0, ![]⟩
abbrev S16640 : Shape := ⟨1, ![16640]⟩
abbrev S16640x1 : Shape := ⟨2, ![16640, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16384x512, .f32⟩
  | .hbm, ⟨2, _⟩ => ⟨S256x512, .f32⟩
  | .hbm, ⟨3, _⟩ => ⟨S16384x512, .f32⟩
  | .hbm, ⟨4, _⟩ => ⟨S256x512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S16640x512, .f32⟩
  | .hbm, ⟨11, _⟩ => ⟨S16640x512, .f32⟩
  | .hbm, ⟨12, _⟩ => ⟨S16640x1024, .f32⟩
  | .hbm, ⟨13, _⟩ => ⟨S_, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16640x1024, .f32⟩
  | .hbm, ⟨18, _⟩ => ⟨S_, .f32⟩
  | .hbm, ⟨19, _⟩ => ⟨S16640, .f32⟩
  | .hbm, ⟨20, _⟩ => ⟨S16640x1, .f32⟩
  | .hbm, ⟨21, _⟩ => ⟨S_, .f32⟩
  | .hbm, ⟨22, _⟩ => ⟨S16640x1, .f32⟩
  | .hbm, ⟨23, _⟩ => ⟨S16640x1, .f32⟩
  | .hbm, ⟨24, _⟩ => ⟨S16640x1024, .f32⟩
  | .hbm, ⟨25, _⟩ => ⟨S16640x1024, .f32⟩
  | .hbm, ⟨26, _⟩ => ⟨S16640x1024, .f32⟩
  | .hbm, ⟨27, _⟩ => ⟨S_, .f32⟩
  | .hbm, ⟨28, _⟩ => ⟨S16640, .f32⟩
  | .hbm, ⟨29, _⟩ => ⟨S16640x1, .f32⟩
  | .hbm, ⟨30, _⟩ => ⟨S_, .f32⟩
  | .hbm, ⟨31, _⟩ => ⟨S16640x1, .f32⟩
  | .hbm, ⟨32, _⟩ => ⟨S16640x1, .f32⟩
  | .hbm, ⟨33, _⟩ => ⟨S16640x1024, .f32⟩
  | .hbm, ⟨34, _⟩ => ⟨S16640x1024, .f32⟩
  | .hbm, ⟨35, _⟩ => ⟨S_, .f32⟩
  | .hbm, ⟨36, _⟩ => ⟨S16640x1, .f32⟩
  | .hbm, ⟨37, _⟩ => ⟨S16640x1, .f32⟩
  | .hbm, ⟨38, _⟩ => ⟨S16640x1, .f32⟩
  | .hbm, ⟨39, _⟩ => ⟨S16640x1024, .f32⟩
  | .hbm, ⟨40, _⟩ => ⟨S16640x1024, .f32⟩
  | .hbm, ⟨41, _⟩ => ⟨S1x1024, .f32⟩
  | .hbm, ⟨42, _⟩ => ⟨S16640x1024, .f32⟩
  | .hbm, ⟨43, _⟩ => ⟨S16640x1024, .f32⟩
  | .hbm, ⟨44, _⟩ => ⟨S1x1024, .f32⟩
  | .hbm, ⟨45, _⟩ => ⟨S16640x1024, .f32⟩
  | .hbm, ⟨46, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Experts.lean ====
abbrev S349 : Shape := ⟨1, ![349]⟩
abbrev S1 : Shape := ⟨1, ![1]⟩
abbrev S89344x1024 : Shape := ⟨2, ![89344, 1024]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 19
  | .smem => 2
  | _ => 0

abbrev bufTy : (tb : Table) → Fin (tcTables nBuf tb) → BufTy
  | .hbm, ⟨0, _⟩ => ⟨S89344x1024, .f32⟩
  | .hbm, ⟨1, _⟩ => ⟨S32x1024x1024, .f32⟩
  | .hbm, ⟨2, _⟩ => ⟨S32x1x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S89344x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S349, .i32⟩
  | .local _ .smem, ⟨1, _⟩ => ⟨S1, .i32⟩
  | _, _ => ⟨S89344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![349], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S349.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S349) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S349.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S349) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S349.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S349) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S349.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S349) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S349.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S349) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S349.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S349) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S349 : Shape := ⟨1, ![349]⟩
abbrev S1 : Shape := ⟨1, ![1]⟩
abbrev S89344x1024 : Shape := ⟨2, ![89344, 1024]⟩
abbrev S32x1024x1024 : Shape := ⟨3, ![32, 1024, 1024]⟩
abbrev S32x1x1024 : Shape := ⟨3, ![32, 1, 1024]⟩
abbrev S349x256x1024 : Shape := ⟨3, ![349, 256, 1024]⟩
abbrev S_ : Shape := ⟨0, ![]⟩
abbrev S349x1 : Shape := ⟨2, ![349, 1]⟩
abbrev S349x1024x1024 : Shape := ⟨3, ![349, 1024, 1024]⟩
abbrev S349x1x1024 : Shape := ⟨3, ![349, 1, 1024]⟩
abbrev S349x1x1 : Shape := ⟨3, ![349, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S349, .i32⟩
  | .hbm, ⟨1, _⟩ => ⟨S1, .i32⟩
  | .hbm, ⟨2, _⟩ => ⟨S89344x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S32x1024x1024, .f32⟩
  | .hbm, ⟨8, _⟩ => ⟨S32x1x1024, .f32⟩
  | .hbm, ⟨9, _⟩ => ⟨S349x256x1024, .f32⟩
  | .hbm, ⟨10, _⟩ => ⟨S_, .i32⟩
  | .hbm, ⟨11, _⟩ => ⟨S349, .i32⟩
  | .hbm, ⟨12, _⟩ => ⟨S349, .i1⟩
  | .hbm, ⟨13, _⟩ => ⟨S_, .i32⟩
  | .hbm, ⟨14, _⟩ => ⟨S349, .i32⟩
  | .hbm, ⟨15, _⟩ => ⟨S349, .i32⟩
  | .hbm, ⟨16, _⟩ => ⟨S349, .i32⟩
  | .hbm, ⟨17, _⟩ => ⟨S349x1, .i32⟩
  | .hbm, ⟨18, _⟩ => ⟨S349x1024x1024, .f32⟩
  | .hbm, ⟨19, _⟩ => ⟨S349x256x1024, .f32⟩
  | .hbm, ⟨20, _⟩ => ⟨S_, .i32⟩
  | .hbm, ⟨21, _⟩ => ⟨S349, .i32⟩
  | .hbm, ⟨22, _⟩ => ⟨S349, .i1⟩
  | .hbm, ⟨23, _⟩ => ⟨S_, .i32⟩
  | .hbm, ⟨24, _⟩ => ⟨S349, .i32⟩
  | .hbm, ⟨25, _⟩ => ⟨S349, .i32⟩
  | .hbm, ⟨26, _⟩ => ⟨S349, .i32⟩
  | .hbm, ⟨27, _⟩ => ⟨S349x1, .i32⟩
  | .hbm, ⟨28, _⟩ => ⟨S349x1x1024, .f32⟩
  | .hbm, ⟨29, _⟩ => ⟨S349x256x1024, .f32⟩
  | .hbm, ⟨30, _⟩ => ⟨S349x256x1024, .f32⟩
  | .hbm, ⟨31, _⟩ => ⟨S_, .f32⟩
  | .hbm, ⟨32, _⟩ => ⟨S349x256x1024, .f32⟩
  | .hbm, ⟨33, _⟩ => ⟨S349x256x1024, .f32⟩
  | .hbm, ⟨34, _⟩ => ⟨S_, .i32⟩
  | .hbm, ⟨35, _⟩ => ⟨S349, .i32⟩
  | .hbm, ⟨36, _⟩ => ⟨S349, .i1⟩
  | .hbm, ⟨37, _⟩ => ⟨S_, .i32⟩
  | .hbm, ⟨38, _⟩ => ⟨S349, .i32⟩
  | .hbm, ⟨39, _⟩ => ⟨S349, .i32⟩
  | .hbm, ⟨40, _⟩ => ⟨S349, .i32⟩
  | .hbm, ⟨41, _⟩ => ⟨S349x1, .i32⟩
  | .hbm, ⟨42, _⟩ => ⟨S349x1024x1024, .f32⟩
  | .hbm, ⟨43, _⟩ => ⟨S349x256x1024, .f32⟩
  | .hbm, ⟨44, _⟩ => ⟨S_, .i32⟩
  | .hbm, ⟨45, _⟩ => ⟨S349, .i32⟩
  | .hbm, ⟨46, _⟩ => ⟨S349, .i1⟩
  | .hbm, ⟨47, _⟩ => ⟨S_, .i32⟩
  | .hbm, ⟨48, _⟩ => ⟨S349, .i32⟩
  | .hbm, ⟨49, _⟩ => ⟨S349, .i32⟩
  | .hbm, ⟨50, _⟩ => ⟨S349, .i32⟩
  | .hbm, ⟨51, _⟩ => ⟨S349x1, .i32⟩
  | .hbm, ⟨52, _⟩ => ⟨S349x1x1024, .f32⟩
  | .hbm, ⟨53, _⟩ => ⟨S349x256x1024, .f32⟩
  | .hbm, ⟨54, _⟩ => ⟨S349x256x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S349x256x1024, .f32⟩
  | .hbm, ⟨59, _⟩ => ⟨S349x256x1024, .f32⟩
  | .hbm, ⟨60, _⟩ => ⟨S_, .f32⟩
  | .hbm, ⟨61, _⟩ => ⟨S349x256x1024, .f32⟩
  | .hbm, ⟨62, _⟩ => ⟨S349x256x1024, .f32⟩
  | .hbm, ⟨63, _⟩ => ⟨S_, .f32⟩
  | .hbm, ⟨64, _⟩ => ⟨S349x256x1024, .f32⟩
  | .hbm, ⟨65, _⟩ => ⟨S349x256x1024, .f32⟩
  | .hbm, ⟨66, _⟩ => ⟨S349x256x1024, .f32⟩
  | .hbm, ⟨67, _⟩ => ⟨S349x256x1024, .f32⟩
  | .hbm, ⟨68, _⟩ => ⟨S_, .f32⟩
  | .hbm, ⟨69, _⟩ => ⟨S349x256x1024, .f32⟩
  | .hbm, ⟨70, _⟩ => ⟨S349x256x1024, .f32⟩
  | .hbm, ⟨71, _⟩ => ⟨S_, .f32⟩
  | .hbm, ⟨72, _⟩ => ⟨S349x256x1024, .f32⟩
  | .hbm, ⟨73, _⟩ => ⟨S349x256x1024, .f32⟩
  | .hbm, ⟨74, _⟩ => ⟨S349x256x1024, .f32⟩
  | .hbm, ⟨75, _⟩ => ⟨S_, .f32⟩
  | .hbm, ⟨76, _⟩ => ⟨S349x256x1024, .f32⟩
  | .hbm, ⟨77, _⟩ => ⟨S349x256x1024, .f32⟩
  | .hbm, ⟨78, _⟩ => ⟨S349x256x1024, .f32⟩
  | .hbm, ⟨79, _⟩ => ⟨S_, .i32⟩
  | .hbm, ⟨80, _⟩ => ⟨S349, .i32⟩
  | .hbm, ⟨81, _⟩ => ⟨S349, .i1⟩
  | .hbm, ⟨82, _⟩ => ⟨S_, .i32⟩
  | .hbm, ⟨83, _⟩ => ⟨S349, .i32⟩
  | .hbm, ⟨84, _⟩ => ⟨S349, .i32⟩
  | .hbm, ⟨85, _⟩ => ⟨S349, .i32⟩
  | .hbm, ⟨86, _⟩ => ⟨S349x1, .i32⟩
  | .hbm, ⟨87, _⟩ => ⟨S349x1024x1024, .f32⟩
  | .hbm, ⟨88, _⟩ => ⟨S349x256x1024, .f32⟩
  | .hbm, ⟨89, _⟩ => ⟨S_, .i32⟩
  | .hbm, ⟨90, _⟩ => ⟨S349, .i32⟩
  | .hbm, ⟨91, _⟩ => ⟨S349, .i1⟩
  | .hbm, ⟨92, _⟩ => ⟨S_, .i32⟩
  | .hbm, ⟨93, _⟩ => ⟨S349, .i32⟩
  | .hbm, ⟨94, _⟩ => ⟨S349, .i32⟩
  | .hbm, ⟨95, _⟩ => ⟨S349, .i32⟩
  | .hbm, ⟨96, _⟩ => ⟨S349x1, .i32⟩
  | .hbm, ⟨97, _⟩ => ⟨S349x1x1024, .f32⟩
  | .hbm, ⟨98, _⟩ => ⟨S349x256x1024, .f32⟩
  | .hbm, ⟨99, _⟩ => ⟨S349x256x1024, .f32⟩
  | .hbm, ⟨100, _⟩ => ⟨S349, .i32⟩
  | .hbm, ⟨101, _⟩ => ⟨S_, .i32⟩
  | .hbm, ⟨102, _⟩ => ⟨S349, .i32⟩
  | .hbm, ⟨103, _⟩ => ⟨S349, .i1⟩
  | .hbm, ⟨104, _⟩ => ⟨S349x1x1, .i1⟩
  | .hbm, ⟨105, _⟩ => ⟨S_, .f32⟩
  | .hbm, ⟨106, _⟩ => ⟨S_, .f32⟩
  | .hbm, ⟨107, _⟩ => ⟨S349x256x1024, .i1⟩
  | .hbm, ⟨108, _⟩ => ⟨S349x256x1024, .f32⟩
  | .hbm, ⟨109, _⟩ => ⟨S349x256x1024, .f32⟩
  | .hbm, ⟨110, _⟩ => ⟨S89344x1024, .f32⟩
  | _, _ => ⟨S349, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_c_16 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_17 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]
-- ==== Proof.TileWords.lean ====
module

public import Idealize.ShloMosaic.Lib.Pipeline.Value
public import Idealize.ShloMosaic.Lib.Writes
public import Idealize.ShloMosaic.PureOps.Ideal

/-! Facts the two readings of the experts kernel share: its scalar words over the 349 tiles, and loads and stores
    that take a whole buffer. -/

@[expose] public section

set_option maxRecDepth 16384

namespace Cert.TileWords

open Idealize.ShloMosaic

/-! ## Words -/

/-- A one-bit word widened and compared with zero is itself. -/
theorem widen_ne (x : BitVec 1) : Scalar.cmpi .ne (Scalar.extui x) 0#32 = x := by revert x; decide

/-- A bit flipped is set exactly when the bit was clear. -/
theorem flip_eq (x : BitVec 1) : Scalar.xori x 1#1 = 1#1 ↔ x ≠ 1#1 := by revert x; decide

/-- What a clear conjunction says when its first bit is set. -/
theorem and_or_clear (a b c : BitVec 1) (h : a = 1#1) (hn : Scalar.andi a (Scalar.ori b c) ≠ 1#1) : b ≠ 1#1 ∧ c ≠ 1#1 := by
  revert a b c; decide

/-- A set conjunction has its first bit set. -/
theorem and_set (a b : BitVec 1) (h : Scalar.andi a b = 1#1) : a = 1#1 := by revert a b; decide

theorem ne_clear (x y : BitVec 32) (h : Scalar.cmpi .ne x y ≠ 1#1) : x = y := by
  by_contra hxy
  apply h
  show BitVec.ofBool (x != y) = 1#1
  rw [show (x != y) = true from bne_iff_ne.mpr hxy]; rfl

theorem slt_set (x y : BitVec 32) : Scalar.cmpi .slt x y = 1#1 ↔ x.toInt < y.toInt := by
  show BitVec.ofBool (x.slt y) = 1#1 ↔ _
  unfold BitVec.slt
  by_cases h : x.toInt < y.toInt <;> simp [h]

/-- A tile's number as a word. -/
theorem tile_toInt (n : Nat) (h : n < 349) : (BitVec.ofNat 32 n).toInt = n := by
  have : (BitVec.ofNat 32 n).toNat = n := by rw [BitVec.toNat_ofNat]; omega
  rw [BitVec.toInt_eq_toNat_of_lt (by omega), this]

theorem tile_toNat (n : Nat) (h : n < 349) : (BitVec.ofNat 32 n).toNat = n := by
  rw [BitVec.toNat_ofNat]; omega

/-- The number of the tile before, never below zero. -/
theorem prev_toNat : ∀ n : Fin 349, (Scalar.maxsi (Scalar.subi (BitVec.ofNat 32 n.val) 1#32) 0#32).toNat = n.val - 1 := by
  decide +kernel

/-- The row block a tile reads: its own number, or the last used one. -/
theorem rows_toInt (n : Nat) (h : n < 349) (v : BitVec 32) :
    (Scalar.minsi (BitVec.ofNat 32 n) (Scalar.maxsi v 0#32)).toNat ≤ n
      ∧ ((n : Int) ≤ v.toInt → (Scalar.minsi (BitVec.ofNat 32 n) (Scalar.maxsi v 0#32)).toNat = n) := by
  have hn := tile_toInt n h
  have hN := tile_toNat n h
  have key : ∀ w : BitVec 32, 0 ≤ w.toInt →
      (Scalar.minsi (BitVec.ofNat 32 n) w).toNat ≤ n ∧ ((n : Int) ≤ w.toInt → (Scalar.minsi (BitVec.ofNat 32 n) w).toNat = n) := by
    intro w hw
    have hwN : w.toInt = w.toNat := by
      rw [BitVec.toInt_eq_toNat_cond] at hw ⊢
      have := w.isLt
      split at hw <;> split <;> omega
    unfold Scalar.minsi IntOp.minsi BitVec.slt
    rw [hn]
    by_cases hlt : (n : Int) < w.toInt
    · rw [if_pos (by simpa using hlt)]; exact ⟨hN.le, fun _ => hN⟩
    · rw [if_neg (by simpa using hlt)]; constructor
      · omega
      · intro _; omega
  have hv : Scalar.maxsi v 0#32 = v ∧ 0 ≤ v.toInt ∨ Scalar.maxsi v 0#32 = 0#32 ∧ v.toInt ≤ 0 := by
    unfold Scalar.maxsi IntOp.maxsi BitVec.slt
    rw [show (0#32 : BitVec 32).toInt = 0 from rfl]
    by_cases h0 : 0 < v.toInt
    · left; rw [if_pos (by simpa using h0)]; exact ⟨rfl, h0.le⟩
    · right; rw [if_neg (by simpa using h0)]; exact ⟨rfl, by omega⟩
  rcases hv with ⟨e, h0⟩ | ⟨e, h0⟩
  · rw [e]; exact key v h0
  · rw [e]
    have k := key 0#32 (by decide)
    refine ⟨k.1, fun hle => k.2 ?_⟩
    rw [show (0#32 : BitVec 32).toInt = 0 from rfl]; omega

/-! ## Whole loads and stores -/

theorem zero2 : (![0, 0] : Fin 2 → Nat) = fun _ => 0 := funext fun a => by fin_cases a <;> rfl
theorem zero3 : (![0, 0, 0] : Fin 3 → Nat) = fun _ => 0 := funext fun a => by fin_cases a <;> rfl

section
variable {Val : EltTy → Type} [∀ e, Nonempty (Val e)] {sig : RefSig} {κ : Kind} {sp : Space} {S : Shape} {e : EltTy}

/-- A load of the whole of a buffer that holds `x` gives `x`. -/
theorem load_all (v : View sig κ sp S e) {off : Fin S.rank → Nat} (h : off = fun _ => 0)
    (inb : ∀ a, off a + S.size a ≤ S.size a) (x : S.Idx → Val e) :
    View.readAt Val v (Rect.unit off S.size inb).toLoadRect (v.rep x) = x := by
  show View.ld (v.read Val (v.rep x)) (Rect.unit off S.size inb) = x
  rw [View.read_rep, View.ld_unit_zero h]

/-- After one store of the whole of a buffer it reads as what was stored. -/
theorem store_all (v : View sig κ sp S e) {off : Fin S.rank → Nat} (h : off = fun _ => 0)
    (inb : ∀ a, off a + S.size a ≤ S.size a) (f : v.ty.Contents Val) (w : S.Idx → Val e) :
    v.read Val (v.writes Val f [(⟨Rect.unit off S.size inb, w⟩ : View.Piece Val S e)]) = w := by
  subst h
  funext y
  have k := View.read_writes_cons_emb v f (Rect.whole S) w [] y
  rw [Rect.emb_whole_apply] at k
  exact k

end

end Cert.TileWords
end
-- ==== Proof.ExpertsPaths.lean ====
module

public import proofs.«01_k».proof.Proof.TileWords
public import proofs.«01_k».proof.Proof.Gen.Experts.Flash.Runs

/-! One run of the experts kernel's body, on each of its three ways: what the kept buffers and the output hold after it. -/

@[expose] public section

set_option maxRecDepth 16384

noncomputable section

namespace Cert.Experts.Tiles

open Cert.Experts Cert.Experts.Gen Cert.TileWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## What one run of the body leaves, path by path -/

/-- The count as the body reads it. -/
abbrev readCount (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

/-- The decision to refresh, as the body computes it. -/
abbrev Refresh (T0 : S349.Idx → Elt Bits .i32) (T1 : S1.Idx → Elt Bits .i32) (i : grid0.Coords) : Prop := (Scalar.cmpi .ne (Scalar.extui (Scalar.andi (Scalar.cmpi .slt (BitVec.ofNat 32 (i 0).val) (View.readAt (Elt Bits) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt Bits) (tbM0_0).view (Rect.unit (s := S349) (k0_off1 i) S1.size (k0_off1_inb i)).toLoadRect T0 (Shape.Idx.first (numel1_S1.symm ▸ Nat.one_pos))) (View.readAt (Elt Bits) (tbM0_0).view (Rect.unit (s := S349) (k0_off2 i) S1.size (k0_off2_inb i)).toLoadRect T0 (Shape.Idx.first (numel1_S1.symm ▸ Nat.one_pos))))))) 0#32) = 1#1

theorem load_x (x : S256x1024.Idx → Elt Bits .f32) (r : Memref sig .tc .vmem S256x1024 .f32) :
    View.readAt (Elt Bits) r.view (Rect.unit ![0, 0] S256x1024.size inb_S256x1024_S256x1024_0_0).toLoadRect (r.view.rep x) = x :=
  load_all _ zero2 _ _

theorem load_w (x : S1x1024x1024.Idx → Elt Bits .f32) (r : Memref sig .tc .vmem S1x1024x1024 .f32) :
    View.readAt (Elt Bits) r.view (Rect.unit ![0, 0, 0] S1x1024x1024.size inb_S1x1024x1024_S1x1024x1024_0_0_0).toLoadRect (r.view.rep x) = x :=
  load_all _ zero3 _ _

theorem load_b (x : S1x1x1024.Idx → Elt Bits .f32) (r : Memref sig .tc .vmem S1x1x1024 .f32) :
    View.readAt (Elt Bits) r.view (Rect.unit ![0, 0, 0] S1x1x1024.size inb_S1x1x1024_S1x1x1024_0_0_0).toLoadRect (r.view.rep x) = x :=
  load_all _ zero3 _ _

theorem load_s0 (x : S1024x1024.Idx → Elt Bits .bf16) :
    View.readAt (Elt Bits) scM0_0.view (Rect.unit ![0, 0] S1024x1024.size inb_S1024x1024_S1024x1024_0_0).toLoadRect x = x := by
  show View.ld x (Rect.unit ![0, 0] S1024x1024.size inb_S1024x1024_S1024x1024_0_0) = x
  rw [View.ld_unit_zero zero2]

theorem store_s0 (f w : S1024x1024.Idx → Elt Bits .bf16) :
    View.write (Elt Bits) ((View.whole cc0_scratch0).slice (Rect.unit (s := S1024x1024) ![0, 0] ![1024, 1024] inb_S1024x1024_S1024x1024_0_0)) f w Finset.univ = w :=
  Memref.write_access_unit_zero_univ (Elt Bits) cc0_scratch0 zero2 _ _ _

theorem load_s1 (x : S1024x1024.Idx → Elt Bits .bf16) :
    View.readAt (Elt Bits) scM0_1.view (Rect.unit ![0, 0] S1024x1024.size inb_S1024x1024_S1024x1024_0_0).toLoadRect x = x := by
  show View.ld x (Rect.unit ![0, 0] S1024x1024.size inb_S1024x1024_S1024x1024_0_0) = x
  rw [View.ld_unit_zero zero2]

theorem store_s1 (f w : S1024x1024.Idx → Elt Bits .bf16) :
    View.write (Elt Bits) ((View.whole cc0_scratch1).slice (Rect.unit (s := S1024x1024) ![0, 0] ![1024, 1024] inb_S1024x1024_S1024x1024_0_0)) f w Finset.univ = w :=
  Memref.write_access_unit_zero_univ (Elt Bits) cc0_scratch1 zero2 _ _ _

theorem load_s2 (x : S1024x1024.Idx → Elt Bits .bf16) :
    View.readAt (Elt Bits) scM0_2.view (Rect.unit ![0, 0] S1024x1024.size inb_S1024x1024_S1024x1024_0_0).toLoadRect x = x := by
  show View.ld x (Rect.unit ![0, 0] S1024x1024.size inb_S1024x1024_S1024x1024_0_0) = x
  rw [View.ld_unit_zero zero2]

theorem store_s2 (f w : S1024x1024.Idx → Elt Bits .bf16) :
    View.write (Elt Bits) ((View.whole cc0_scratch2).slice (Rect.unit (s := S1024x1024) ![0, 0] ![1024, 1024] inb_S1024x1024_S1024x1024_0_0)) f w Finset.univ = w :=
  Memref.write_access_unit_zero_univ (Elt Bits) cc0_scratch2 zero2 _ _ _

section
variable (c : Dev nD) (i : grid0.Coords) (arg3 : Memref sig .tc .vmem S256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (T0 : (S349.Idx → Elt Bits .i32)) (T1 : (S1.Idx → Elt Bits .i32))
     (x0 : (S256x1024.Idx → Elt Bits .f32)) (x1 : (S1x1024x1024.Idx → Elt Bits .f32)) (x2 : (S1x1x1024.Idx → Elt Bits .f32)) (x3 : (S1x1024x1024.Idx → Elt Bits .f32)) (x4 : (S1x1x1024.Idx → Elt Bits .f32)) (x5 : (S1x1024x1024.Idx → Elt Bits .f32)) (x6 : (S1x1x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2))

theorem fresh_first (hc0 : Refresh T0 T1 i) (h2 : k0_cond2 i (readCount T1) = 1#1) (h3 : ¬k0_cond3 i (readCount T1) = 1#1) : (kernelRun0_A c i arg3 harg3 arg4 harg4 arg5 harg5 arg6 harg6 arg7 harg7 arg8 harg8 arg9 harg9 arg10 harg10 T0 T1 x0 x1 x2 x3 x4 x5 x6 hc0 h2 h3).2.1 = k0_pay1 (F := Bits) x1 := by
  unfold kernelRun0_A; dsimp only; unfold kernelRun0_A.sl.HS0_1
  rw [View.writes_singleton, load_w]
  exact store_s0 _ _

theorem fresh_second (hc0 : Refresh T0 T1 i) (h2 : k0_cond2 i (readCount T1) = 1#1) (h3 : ¬k0_cond3 i (readCount T1) = 1#1) : (kernelRun0_A c i arg3 harg3 arg4 harg4 arg5 harg5 arg6 harg6 arg7 harg7 arg8 harg8 arg9 harg9 arg10 harg10 T0 T1 x0 x1 x2 x3 x4 x5 x6 hc0 h2 h3).2.2.1 = k0_pay2 (F := Bits) x3 := by
  unfold kernelRun0_A; dsimp only; unfold kernelRun0_A.sl.HS1_1
  rw [View.writes_singleton, load_w]
  exact store_s1 _ _

theorem fresh_third (hc0 : Refresh T0 T1 i) (h2 : k0_cond2 i (readCount T1) = 1#1) (h3 : ¬k0_cond3 i (readCount T1) = 1#1) : (kernelRun0_A c i arg3 harg3 arg4 harg4 arg5 harg5 arg6 harg6 arg7 harg7 arg8 harg8 arg9 harg9 arg10 harg10 T0 T1 x0 x1 x2 x3 x4 x5 x6 hc0 h2 h3).2.2.2.1 = k0_pay3 (F := Bits) x5 := by
  unfold kernelRun0_A; dsimp only; unfold kernelRun0_A.sl.HS2_1
  rw [View.writes_singleton, load_w]
  exact store_s2 _ _

/-- A tile that refreshes computes with the matrices it has just stored. -/
theorem fresh_out (hc0 : Refresh T0 T1 i) (h2 : k0_cond2 i (readCount T1) = 1#1) (h3 : ¬k0_cond3 i (readCount T1) = 1#1) : VO0_7.read (Elt Bits) (VO0_7.writes (Elt Bits) VO0_7.junk (kernelRun0_A c i arg3 harg3 arg4 harg4 arg5 harg5 arg6 harg6 arg7 harg7 arg8 harg8 arg9 harg9 arg10 harg10 T0 T1 x0 x1 x2 x3 x4 x5 x6 hc0 h2 h3).1)
    = k0_pay4 (F := Bits) (k0_pay6 x0 (k0_pay1 x1) x2 (k0_pay2 x3) x4) (k0_pay3 x5) (constant S256x1024 .f32 0x00000000#32) x6 := by
  refine Eq.trans (store_all VO0_7 zero2 _ _ _) ?_
  unfold kernelRun0_A.sl.r_3 kernelRun0_A.sl.v53 kernelRun0_A.sl.cst_27 kernelRun0_A.sl.v21 kernelRun0_A.sl.v29
    kernelRun0_A.sl.HS0_1 kernelRun0_A.sl.HS1_1 kernelRun0_A.sl.HS2_1
  rw [View.readCov_unit_zero (S := S1024x1024) _ zero2, View.readCov_unit_zero (S := S1024x1024) _ zero2, View.readCov_unit_zero (S := S1024x1024) _ zero2]
  rw [load_x, load_w, load_b, load_w, load_b, load_w, load_b]

/-- A tile that does not refresh computes with the matrices it finds. -/
theorem kept_out (hc0 : ¬Refresh T0 T1 i) (h2 : k0_cond2 i (readCount T1) = 1#1) (h3 : ¬k0_cond3 i (readCount T1) = 1#1) : VO0_7.read (Elt Bits) (VO0_7.writes (Elt Bits) VO0_7.junk (kernelRun0_B c i arg3 harg3 arg4 harg4 arg5 harg5 arg6 harg6 arg7 harg7 arg8 harg8 arg9 harg9 arg10 harg10 T0 T1 x0 x1 x2 x3 x4 x5 x6 xa0 xa1 xa2 hc0 h2 h3).1)
    = k0_pay4 (F := Bits) (k0_pay6 x0 xa0 x2 xa1 x4) xa2 (constant S256x1024 .f32 0x00000000#32) x6 := by
  refine Eq.trans (store_all VO0_7 zero2 _ _ _) ?_
  unfold kernelRun0_B.sl.r_3 kernelRun0_B.sl.cst_27 kernelRun0_B.sl.r_4
  rw [load_x, load_s0, load_b, load_s1, load_b, load_b]
  rw [load_s2]

/-- An unused tile leaves zeros. -/
theorem unused_out (hc0 : ¬Refresh T0 T1 i) (h2 : ¬k0_cond2 i (readCount T1) = 1#1) (h3 : k0_cond3 i (readCount T1) = 1#1) : VO0_7.read (Elt Bits) (VO0_7.writes (Elt Bits) VO0_7.junk (kernelRun0_C c i arg3 harg3 arg4 harg4 arg5 harg5 arg6 harg6 arg7 harg7 arg8 harg8 arg9 harg9 arg10 harg10 T0 T1 x0 x1 x2 x3 x4 x5 x6 xa0 xa1 xa2 hc0 h2 h3).1)
    = k0_pay5 (F := Bits) := by
  exact store_all VO0_7 zero2 _ _ _

end

end Cert.Experts.Tiles

end
-- ==== Proof.ExpertsTiles.lean ====
module

public import proofs.«01_k».proof.Proof.TileWords
public import proofs.«01_k».proof.Proof.ExpertsPaths
public import proofs.«01_k».proof.Proof.Gen.Experts.Launch
public import Idealize.ShloMosaic.Lib.Pipeline.Quiescent
public import Idealize.ShloMosaic.Lib.Claim
public import Idealize.ShloMosaic.Lib.Pointwise
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The experts kernel over its 349 tiles, for any table `T0` of experts below 32 and any count `T1` of used tiles.
    Three buffers keep the rounded matrices of the expert of the last used tile. A used tile whose expert differs
    from the one before refreshes them; a used tile with the same expert finds in them what it would have written.
    So what a tile leaves depends only on its own blocks: the expert's answer if it is used, zeros if not. -/

@[expose] public section

set_option maxRecDepth 16384
set_option Elab.async false

noncomputable section

namespace Cert.Experts.Tiles

open Cert.Experts Cert.Experts.Gen Cert.TileWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The tables -/

set_option backward.proofsInPublic true in
/-- The two tables: each tile's expert, and the number of used tiles. -/
def tables (T0 : S349.Idx → BitVec 32) (T1 : S1.Idx → BitVec 32) : pre0.Contents (Elt Bits) :=
  fun | ⟨0, _⟩ => T0 | ⟨1, _⟩ => T1 | ⟨_ + 2, h⟩ => absurd h (by simp)

variable (T0 : S349.Idx → BitVec 32) (T1 : S1.Idx → BitVec 32)

/-- The table's entry of tile number `n`. -/
def entry (n : Fin 349) : BitVec 32 := T0 (ix1 n)

/-- The number of used tiles, a signed word. -/
def count : BitVec 32 := T1 (ix1 0)

/-- A tile is used when its number is below the count. -/
abbrev Used (n : Nat) : Prop := (n : Int) < (count T1).toInt

theorem at_entry (i : grid0.Coords) (inb : ∀ a, (k0_off1 i) a + S1.size a ≤ S349.size a) (h : S1.numel = 1) :
    (tables T0 T1).at 0 (Rect.unit (s := S349) (k0_off1 i) S1.size inb) h = entry T0 (i 0) := by
  show T0 _ = T0 _
  congr 1; funext a; apply Fin.ext
  match a with
  | ⟨0, _⟩ =>
    show (BitVec.ofNat 32 (i 0).val).toNat + 1 * 0 = (i 0).val
    rw [tile_toNat _ (i 0).isLt]; rfl

theorem at_count (inb : ∀ a, (![0] : Fin 1 → Nat) a + S1.size a ≤ S1.size a) (h : S1.numel = 1) :
    (tables T0 T1).at 1 (Rect.unit (s := S1) ![0] S1.size inb) h = count T1 := by
  show T1 _ = T1 _
  congr 1; funext a
  match a with
  | ⟨0, _⟩ => exact Subsingleton.elim (α := Fin 1) _ _

/-- A block of one expert lies inside an array of thirty-two. -/
theorem matrix_inside (w : BitVec 32) (hw : w.toNat < 32) (a : Fin 3) :
    ((![w.toNat, (0#32 : BitVec 32).toNat, (0#32 : BitVec 32).toNat] : Fin 3 → Nat) a + 1) * S1x1024x1024.size a
      ≤ S32x1024x1024.size a := by
  match a with
  | ⟨0, _⟩ => show (w.toNat + 1) * 1 ≤ 32; omega
  | ⟨1, _⟩ => exact Nat.le_refl 1024
  | ⟨2, _⟩ => exact Nat.le_refl 1024

theorem bias_inside (w : BitVec 32) (hw : w.toNat < 32) (a : Fin 3) :
    ((![w.toNat, (0#32 : BitVec 32).toNat, (0#32 : BitVec 32).toNat] : Fin 3 → Nat) a + 1) * S1x1x1024.size a
      ≤ S32x1x1024.size a := by
  match a with
  | ⟨0, _⟩ => show (w.toNat + 1) * 1 ≤ 32; omega
  | ⟨1, _⟩ => exact Nat.le_refl 1
  | ⟨2, _⟩ => exact Nat.le_refl 1024

/-- The row block of a tile lies inside the rows. -/
theorem rows_inside (n : Nat) (hn : n < 349) (v : BitVec 32) (a : Fin 2) :
    ((![(Scalar.minsi (BitVec.ofNat 32 n) (Scalar.maxsi v 0#32)).toNat, (0#32 : BitVec 32).toNat] : Fin 2 → Nat) a + 1) * S256x1024.size a
      ≤ S89344x1024.size a := by
  match a with
  | ⟨0, _⟩ =>
    have hr := (rows_toInt n hn v).1
    show ((Scalar.minsi (BitVec.ofNat 32 n) (Scalar.maxsi v 0#32)).toNat + 1) * 256 ≤ 89344
    omega
  | ⟨1, _⟩ => exact Nat.le_refl 1024

/-- With every expert below 32, every block the kernel asks for lies inside its array. -/
theorem tables_ok (hT : ∀ n, (entry T0 n).toNat < 32) : ok0 (F := Bits) (tables T0 T1) := by
  have hE : ∀ i : grid0.Coords, ((tables T0 T1).at 0 (Rect.unit (s := S349) (k0_off1 i) S1.size (k0_off1_inb i)) numel1_S1).toNat < 32 :=
    fun i => by rw [at_entry]; exact hT _
  unfold ok0
  exact ⟨fun i => ⟨rows_inside (i 0).val (i 0).isLt _, Or.inl rfl⟩, fun i => ⟨matrix_inside _ (hE i), Or.inl rfl⟩,
    fun i => ⟨bias_inside _ (hE i), Or.inl rfl⟩, fun i => ⟨matrix_inside _ (hE i), Or.inl rfl⟩,
    fun i => ⟨bias_inside _ (hE i), Or.inl rfl⟩, fun i => ⟨matrix_inside _ (hE i), Or.inl rfl⟩,
    fun i => ⟨bias_inside _ (hE i), Or.inl rfl⟩⟩

variable (hok : ok0 (F := Bits) (tables T0 T1))

/-- The pipeline at these tables. -/
def adm : (pcfg0 (F := Bits)).Adm := ⟨tables T0 T1, hok⟩
abbrev cfgA : Pipeline.Cfg sig Λ₀ := cfg0 (F := Bits) (adm T0 T1 hok)
abbrev pcs : Fin 1 → Pipeline.Cfg sig Λ₀ := Pipeline.pin (pcfgs (F := Bits)) fun _ => adm T0 T1 hok

variable (m : (ℓ : Loc nD τ sig) → Buf (Elt Bits) ℓ) (ρ : Dev nD → PrngReg)

/-- Tile `t`'s coordinate. -/
abbrev crd (t : Fin (cfgA T0 T1 hok).N) : (cfgA T0 T1 hok).grid.Coords := (cfgA T0 T1 hok).grid.coords t

theorem crd_val : ∀ t : Fin grid0.N, (grid0.coords t 0).val = t.val := by decide +kernel

theorem num_lt (t : Fin (cfgA T0 T1 hok).N) : t.val < 349 := t.isLt.trans_eq N_0

/-- Each window's buffer at tile `t`. -/
abbrev ms0_0 (t : Fin (cfgA T0 T1 hok).N) : Memref sig .tc .vmem S256x1024 .f32 := spec0_0.stage ((cfgA T0 T1 hok).slots t (0 : Fin 8))
abbrev hs0_0 (t : Fin (cfgA T0 T1 hok).N) : (ms0_0 T0 T1 hok t).IsWhole := hstage0_0 (((cfgA T0 T1 hok).slots t (0 : Fin 8)).cast nbuf0_0)
abbrev ms0_1 (t : Fin (cfgA T0 T1 hok).N) : Memref sig .tc .vmem S1x1024x1024 .f32 := spec0_1.stage ((cfgA T0 T1 hok).slots t (1 : Fin 8))
abbrev hs0_1 (t : Fin (cfgA T0 T1 hok).N) : (ms0_1 T0 T1 hok t).IsWhole := hstage0_1 (((cfgA T0 T1 hok).slots t (1 : Fin 8)).cast nbuf0_1)
abbrev ms0_2 (t : Fin (cfgA T0 T1 hok).N) : Memref sig .tc .vmem S1x1x1024 .f32 := spec0_2.stage ((cfgA T0 T1 hok).slots t (2 : Fin 8))
abbrev hs0_2 (t : Fin (cfgA T0 T1 hok).N) : (ms0_2 T0 T1 hok t).IsWhole := hstage0_2 (((cfgA T0 T1 hok).slots t (2 : Fin 8)).cast nbuf0_2)
abbrev ms0_3 (t : Fin (cfgA T0 T1 hok).N) : Memref sig .tc .vmem S1x1024x1024 .f32 := spec0_3.stage ((cfgA T0 T1 hok).slots t (3 : Fin 8))
abbrev hs0_3 (t : Fin (cfgA T0 T1 hok).N) : (ms0_3 T0 T1 hok t).IsWhole := hstage0_3 (((cfgA T0 T1 hok).slots t (3 : Fin 8)).cast nbuf0_3)
abbrev ms0_4 (t : Fin (cfgA T0 T1 hok).N) : Memref sig .tc .vmem S1x1x1024 .f32 := spec0_4.stage ((cfgA T0 T1 hok).slots t (4 : Fin 8))
abbrev hs0_4 (t : Fin (cfgA T0 T1 hok).N) : (ms0_4 T0 T1 hok t).IsWhole := hstage0_4 (((cfgA T0 T1 hok).slots t (4 : Fin 8)).cast nbuf0_4)
abbrev ms0_5 (t : Fin (cfgA T0 T1 hok).N) : Memref sig .tc .vmem S1x1024x1024 .f32 := spec0_5.stage ((cfgA T0 T1 hok).slots t (5 : Fin 8))
abbrev hs0_5 (t : Fin (cfgA T0 T1 hok).N) : (ms0_5 T0 T1 hok t).IsWhole := hstage0_5 (((cfgA T0 T1 hok).slots t (5 : Fin 8)).cast nbuf0_5)
abbrev ms0_6 (t : Fin (cfgA T0 T1 hok).N) : Memref sig .tc .vmem S1x1x1024 .f32 := spec0_6.stage ((cfgA T0 T1 hok).slots t (6 : Fin 8))
abbrev hs0_6 (t : Fin (cfgA T0 T1 hok).N) : (ms0_6 T0 T1 hok t).IsWhole := hstage0_6 (((cfgA T0 T1 hok).slots t (6 : Fin 8)).cast nbuf0_6)
abbrev ms0_7 (t : Fin (cfgA T0 T1 hok).N) : Memref sig .tc .vmem S256x1024 .f32 := spec0_7.stage ((cfgA T0 T1 hok).slots t (7 : Fin 8))
abbrev hs0_7 (t : Fin (cfgA T0 T1 hok).N) : (ms0_7 T0 T1 hok t).IsWhole := hstage0_7 (((cfgA T0 T1 hok).slots t (7 : Fin 8)).cast nbuf0_7)

/-- Window `w`'s block at tile `t`, read off its array at the start. -/
def iblk (c : Dev nD) (w : Fin (cfgA T0 T1 hok).W) (t : Fin (cfgA T0 T1 hok).N) :
    (((cfgA T0 T1 hok).win w).xblock (crd T0 T1 hok t)).Idx → Elt Bits ((cfgA T0 T1 hok).win w).elt :=
  (((cfgA T0 T1 hok).win w).blk t).view.read (Elt Bits) ((s₀ m ρ).mem (((cfgA T0 T1 hok).win w).arr.view.loc (c : Thread nD τ)))

/-- The table's entry of tile `t`. -/
abbrev ent (t : Fin (cfgA T0 T1 hok).N) : BitVec 32 := entry T0 ⟨t.val, num_lt T0 T1 hok t⟩

theorem at_ent (t : Fin (cfgA T0 T1 hok).N) (inb : ∀ a, (k0_off1 (crd T0 T1 hok t)) a + S1.size a ≤ S349.size a) (h : S1.numel = 1) :
    (tables T0 T1).at 0 (Rect.unit (s := S349) (k0_off1 (crd T0 T1 hok t)) S1.size inb) h = ent T0 T1 hok t := by
  rw [at_entry]; unfold ent; congr 1; exact Fin.ext (crd_val t)

/-- Window 1's block at a tile is the slice its expert names. -/
theorem iblk_1 (hT : ∀ n, (entry T0 n).toNat < 32) (c : Dev nD) (t : Fin (cfgA T0 T1 hok).N) (y : S1x1024x1024.Idx) :
    (iblk T0 T1 hok m ρ c (1 : Fin 8) t : S1x1024x1024.Idx → Elt Bits .f32) y
      = (m ((c : Thread nD τ).loc main_arg3) : S32x1024x1024.Idx → Elt Bits .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg3) : S32x1024x1024.Idx → Elt Bits .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1024 + 1 * (y 1).val = (y 1).val; omega
  | ⟨2, _⟩ => show 0 * 1024 + 1 * (y 2).val = (y 2).val; omega

/-- Window 2's block at a tile is the slice its expert names. -/
theorem iblk_2 (hT : ∀ n, (entry T0 n).toNat < 32) (c : Dev nD) (t : Fin (cfgA T0 T1 hok).N) (y : S1x1x1024.Idx) :
    (iblk T0 T1 hok m ρ c (2 : Fin 8) t : S1x1x1024.Idx → Elt Bits .f32) y
      = (m ((c : Thread nD τ).loc main_arg4) : S32x1x1024.Idx → Elt Bits .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg4) : S32x1x1024.Idx → Elt Bits .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1 + 1 * (y 1).val = (y 1).val; omega
  | ⟨2, _⟩ => show 0 * 1024 + 1 * (y 2).val = (y 2).val; omega

/-- Window 3's block at a tile is the slice its expert names. -/
theorem iblk_3 (hT : ∀ n, (entry T0 n).toNat < 32) (c : Dev nD) (t : Fin (cfgA T0 T1 hok).N) (y : S1x1024x1024.Idx) :
    (iblk T0 T1 hok m ρ c (3 : Fin 8) t : S1x1024x1024.Idx → Elt Bits .f32) y
      = (m ((c : Thread nD τ).loc main_arg5) : S32x1024x1024.Idx → Elt Bits .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg5) : S32x1024x1024.Idx → Elt Bits .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1024 + 1 * (y 1).val = (y 1).val; omega
  | ⟨2, _⟩ => show 0 * 1024 + 1 * (y 2).val = (y 2).val; omega

/-- Window 4's block at a tile is the slice its expert names. -/
theorem iblk_4 (hT : ∀ n, (entry T0 n).toNat < 32) (c : Dev nD) (t : Fin (cfgA T0 T1 hok).N) (y : S1x1x1024.Idx) :
    (iblk T0 T1 hok m ρ c (4 : Fin 8) t : S1x1x1024.Idx → Elt Bits .f32) y
      = (m ((c : Thread nD τ).loc main_arg6) : S32x1x1024.Idx → Elt Bits .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg6) : S32x1x1024.Idx → Elt Bits .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1 + 1 * (y 1).val = (y 1).val; omega
  | ⟨2, _⟩ => show 0 * 1024 + 1 * (y 2).val = (y 2).val; omega

/-- Window 5's block at a tile is the slice its expert names. -/
theorem iblk_5 (hT : ∀ n, (entry T0 n).toNat < 32) (c : Dev nD) (t : Fin (cfgA T0 T1 hok).N) (y : S1x1024x1024.Idx) :
    (iblk T0 T1 hok m ρ c (5 : Fin 8) t : S1x1024x1024.Idx → Elt Bits .f32) y
      = (m ((c : Thread nD τ).loc main_arg7) : S32x1024x1024.Idx → Elt Bits .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg7) : S32x1024x1024.Idx → Elt Bits .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1024 + 1 * (y 1).val = (y 1).val; omega
  | ⟨2, _⟩ => show 0 * 1024 + 1 * (y 2).val = (y 2).val; omega

/-- Window 6's block at a tile is the slice its expert names. -/
theorem iblk_6 (hT : ∀ n, (entry T0 n).toNat < 32) (c : Dev nD) (t : Fin (cfgA T0 T1 hok).N) (y : S1x1x1024.Idx) :
    (iblk T0 T1 hok m ρ c (6 : Fin 8) t : S1x1x1024.Idx → Elt Bits .f32) y
      = (m ((c : Thread nD τ).loc main_arg8) : S32x1x1024.Idx → Elt Bits .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg8) : S32x1x1024.Idx → Elt Bits .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1 + 1 * (y 1).val = (y 1).val; omega
  | ⟨2, _⟩ => show 0 * 1024 + 1 * (y 2).val = (y 2).val; omega

/-! ## The body's decisions at a tile -/

theorem readCount_eq : readCount T1 = count T1 := at_count (fun _ => 0#32) T1 inb_S1_S1_0 numel1_S1

theorem slt_iff (t : Fin (cfgA T0 T1 hok).N) :
    Scalar.cmpi .slt (BitVec.ofNat 32 ((crd T0 T1 hok t) 0).val) (readCount T1) = 1#1 ↔ Used T1 t.val := by
  rw [readCount_eq, slt_set, show ((crd T0 T1 hok t) 0).val = t.val from crd_val t, tile_toInt _ (num_lt T0 T1 hok t)]

theorem cond2_iff (t : Fin (cfgA T0 T1 hok).N) : k0_cond2 (crd T0 T1 hok t) (readCount T1) = 1#1 ↔ Used T1 t.val := by
  rw [← slt_iff T0 T1 hok t]; exact Iff.of_eq (congrArg (· = 1#1) (widen_ne _))

theorem cond3_iff (t : Fin (cfgA T0 T1 hok).N) : k0_cond3 (crd T0 T1 hok t) (readCount T1) = 1#1 ↔ ¬Used T1 t.val := by
  rw [← slt_iff T0 T1 hok t]
  exact (Iff.of_eq (congrArg (· = 1#1) (widen_ne _))).trans (flip_eq _)

theorem refresh_used (t : Fin (cfgA T0 T1 hok).N) (h : Refresh T0 T1 (crd T0 T1 hok t)) : Used T1 t.val :=
  (slt_iff T0 T1 hok t).mp (and_set _ _ ((widen_ne _).symm.trans h))

/-- A used tile that does not refresh is not the first, and has the expert of the one before. -/
theorem kept_prev (t : Fin (cfgA T0 T1 hok).N) (hu : Used T1 t.val) (h : ¬Refresh T0 T1 (crd T0 T1 hok t)) :
    t.val ≠ 0 ∧ ∀ s : Fin (cfgA T0 T1 hok).N, s.val + 1 = t.val → ent T0 T1 hok s = ent T0 T1 hok t := by
  have hv : ((crd T0 T1 hok t) 0).val = t.val := crd_val t
  obtain ⟨h0, h1⟩ := and_or_clear _ _ _ ((slt_iff T0 T1 hok t).mpr hu) (fun e => h ((widen_ne _).trans e))
  refine ⟨fun e => h0 ?_, fun s hs => ?_⟩
  · rw [hv, e]; rfl
  · have e := (ne_clear _ _ h1).symm
    refine Eq.trans (Eq.trans (congrArg T0 ?_) e) (congrArg T0 ?_)
    · funext a; apply Fin.ext
      match a with
      | ⟨0, _⟩ =>
        show s.val = (Scalar.maxsi (Scalar.subi (BitVec.ofNat 32 ((crd T0 T1 hok t) 0).val) 1#32) 0#32).toNat + 1 * 0
        have k := prev_toNat ⟨t.val, num_lt T0 T1 hok t⟩
        rw [hv, k]; show s.val = t.val - 1 + 1 * 0; omega
    · funext a; apply Fin.ext
      match a with
      | ⟨0, _⟩ =>
        show (BitVec.ofNat 32 ((crd T0 T1 hok t) 0).val).toNat + 1 * 0 = t.val
        rw [hv, tile_toNat _ (num_lt T0 T1 hok t)]; rfl

/-- No tile leaves its output buffer alone. -/
theorem never_idle (t : Fin (cfgA T0 T1 hok).N) : (cfgA T0 T1 hok).idle (7 : Fin 8) (crd T0 T1 hok t) = false := by
  have key : ∀ (i : grid0.Coords) (v : BitVec 32), (!(k0_cond2 i v == 1#1) && !(k0_cond3 i v == 1#1)) = false := by
    intro i v
    have e2 : k0_cond2 i v = Scalar.cmpi .slt (BitVec.ofNat 32 (i 0).val) v := widen_ne _
    have e3 : k0_cond3 i v = Scalar.xori (Scalar.cmpi .slt (BitVec.ofNat 32 (i 0).val) v) 1#1 := widen_ne _
    rw [e2, e3]
    generalize Scalar.cmpi .slt (BitVec.ofNat 32 (i 0).val) v = b
    revert b; decide
  exact key _ _

/-! ## What each tile leaves, and what the three buffers hold between tiles -/

/-- What tile `t` leaves: its expert's answer if it is used, zeros if not. -/
def tileOut (c : Dev nD) (t : Fin (cfgA T0 T1 hok).N) : S256x1024.Idx → Elt Bits .f32 :=
  if Used T1 t.val then
    k0_pay4 (F := Bits) (k0_pay6 (iblk T0 T1 hok m ρ c (0 : Fin 8) t) (k0_pay1 (F := Bits) (iblk T0 T1 hok m ρ c (1 : Fin 8) t)) (iblk T0 T1 hok m ρ c (2 : Fin 8) t)
        (k0_pay2 (F := Bits) (iblk T0 T1 hok m ρ c (3 : Fin 8) t)) (iblk T0 T1 hok m ρ c (4 : Fin 8) t))
      (k0_pay3 (F := Bits) (iblk T0 T1 hok m ρ c (5 : Fin 8) t)) (constant S256x1024 .f32 0x00000000#32) (iblk T0 T1 hok m ρ c (6 : Fin 8) t)
  else k0_pay5 (F := Bits)

/-- What the three buffers hold after `n` tiles: if the last of these was used, its expert's matrices. -/
def Held (c : Dev nD) (n : Nat) (a0 : Buf (Elt Bits) ((c : Thread nD τ).loc cc0_scratch0)) (a1 : Buf (Elt Bits) ((c : Thread nD τ).loc cc0_scratch1))
    (a2 : Buf (Elt Bits) ((c : Thread nD τ).loc cc0_scratch2)) : Prop :=
  ∀ s : Fin (cfgA T0 T1 hok).N, s.val + 1 = n → Used T1 s.val →
    a0 = k0_pay1 (F := Bits) (iblk T0 T1 hok m ρ c (1 : Fin 8) s) ∧ a1 = k0_pay2 (F := Bits) (iblk T0 T1 hok m ρ c (3 : Fin 8) s)
      ∧ a2 = k0_pay3 (F := Bits) (iblk T0 T1 hok m ρ c (5 : Fin 8) s)

/-- Two tiles with one expert read the same matrices. -/
theorem same_matrices (hT : ∀ n, (entry T0 n).toNat < 32) (c : Dev nD) (s t : Fin (cfgA T0 T1 hok).N) (h : ent T0 T1 hok s = ent T0 T1 hok t) :
    (iblk T0 T1 hok m ρ c (1 : Fin 8) s : S1x1024x1024.Idx → Elt Bits .f32) = iblk T0 T1 hok m ρ c (1 : Fin 8) t
      ∧ (iblk T0 T1 hok m ρ c (3 : Fin 8) s : S1x1024x1024.Idx → Elt Bits .f32) = iblk T0 T1 hok m ρ c (3 : Fin 8) t
      ∧ (iblk T0 T1 hok m ρ c (5 : Fin 8) s : S1x1024x1024.Idx → Elt Bits .f32) = iblk T0 T1 hok m ρ c (5 : Fin 8) t := by
  refine ⟨funext fun y => ?_, funext fun y => ?_, funext fun y => ?_⟩
  · rw [iblk_1 T0 T1 hok m ρ hT, iblk_1 T0 T1 hok m ρ hT]; simp only [h]
  · rw [iblk_3 T0 T1 hok m ρ hT, iblk_3 T0 T1 hok m ρ hT]; simp only [h]
  · rw [iblk_5 T0 T1 hok m ρ hT, iblk_5 T0 T1 hok m ρ hT]; simp only [h]

/-- What is true of the three buffers and the tables between tiles. -/
def Between (c : Dev nD) (n : Nat) : sProp 𝕄 :=
  iprop(∃ a0, ∃ a1, ∃ a2, ⌜Held T0 T1 hok m ρ c n a0 a1 a2⌝
    ∗ (scM0_0.view.loc (c : Thread nD τ) ↦{fullShare} a0) ∗ (scM0_1.view.loc (c : Thread nD τ) ↦{fullShare} a1) ∗ (scM0_2.view.loc (c : Thread nD τ) ↦{fullShare} a2)
    ∗ (tbM0_0.view.loc (c : Thread nD τ) ↦{fullShare.right} T0) ∗ (tbM0_1.view.loc (c : Thread nD τ) ↦{fullShare.right} T1))

/-- The seven inputs' buffers of tile `t`, each at its block. -/
def Inputs (c : Dev nD) (t : Fin (cfgA T0 T1 hok).N) : sProp 𝕄 :=
  iprop(owns (c : Thread nD τ) (ms0_0 T0 T1 hok t) fullShare (iblk T0 T1 hok m ρ c (0 : Fin 8) t) ∗ owns (c : Thread nD τ) (ms0_1 T0 T1 hok t) fullShare (iblk T0 T1 hok m ρ c (1 : Fin 8) t) ∗ owns (c : Thread nD τ) (ms0_2 T0 T1 hok t) fullShare (iblk T0 T1 hok m ρ c (2 : Fin 8) t) ∗ owns (c : Thread nD τ) (ms0_3 T0 T1 hok t) fullShare (iblk T0 T1 hok m ρ c (3 : Fin 8) t) ∗ owns (c : Thread nD τ) (ms0_4 T0 T1 hok t) fullShare (iblk T0 T1 hok m ρ c (4 : Fin 8) t) ∗ owns (c : Thread nD τ) (ms0_5 T0 T1 hok t) fullShare (iblk T0 T1 hok m ρ c (5 : Fin 8) t) ∗ owns (c : Thread nD τ) (ms0_6 T0 T1 hok t) fullShare (iblk T0 T1 hok m ρ c (6 : Fin 8) t))

/-- The body at tile `t`. -/
abbrev bodyAt (t : Fin (cfgA T0 T1 hok).N) : Prog (TpuEff nD τ sig (Elt Bits) Λ₀ .tc) PUnit :=
  cc0__expert_kernel (crd T0 T1 hok t) tbM0_0 (Memref.isWhole_whole _) tbM0_1 (Memref.isWhole_whole _) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) scM0_0 (Memref.isWhole_whole _) scM0_1 (Memref.isWhole_whole _) scM0_2 (Memref.isWhole_whole _)

set_option maxHeartbeats 4800000 in
/-- A tile that refreshes. -/
theorem tile_fresh (c : Dev nD) (t : Fin (cfgA T0 T1 hok).N) (K : PUnit → sProp 𝕄) (hr : Refresh T0 T1 (crd T0 T1 hok t)) :
    iprop(Between T0 T1 hok m ρ c t.val ∗ Inputs T0 T1 hok m ρ c t ∗ (∃ d, owns (c : Thread nD τ) (ms0_7 T0 T1 hok t) fullShare d)
        ∗ (iprop(Between T0 T1 hok m ρ c (t.val + 1) ∗ Inputs T0 T1 hok m ρ c t
            ∗ owns (c : Thread nD τ) (ms0_7 T0 T1 hok t) fullShare (tileOut T0 T1 hok m ρ c t)) -∗ K ⟨⟩))
      ⊢ wp frame (wpE (defs₀ (F := Bits)) Variants.none c none) Set.univ (bodyAt T0 T1 hok t) K := by
  have hu := refresh_used T0 T1 hok t hr
  have h2 := (cond2_iff T0 T1 hok t).mpr hu
  have h3 : ¬k0_cond3 (crd T0 T1 hok t) (readCount T1) = 1#1 := fun h => (cond3_iff T0 T1 hok t).mp h hu
  have hout : tileOut T0 T1 hok m ρ c t = _ := if_pos hu
  unfold Inputs Between
  iintro ⟨⟨%a0, %a1, %a2, %ha, HS0, HS1, HS2, HT0, HT1⟩, ⟨H0, H1, H2, H3, H4, H5, H6⟩, H7, Hk⟩
  iapply ((kernelRun0_A c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) hr h2 h3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  isplitl [HS2]; · iexact HS2
  iintro ⟨H0, H1, H2, H3, H4, H5, H6, HT0, HT1, ⟨%f, H7⟩, HS0, HS1, HS2⟩
  iapply Hk
  isplitl [HS0 HS1 HS2 HT0 HT1]
  · iexists _; iexists _; iexists _; isplitr; swap
    · isplitl [HS0]; · iexact HS0
      isplitl [HS1]; · iexact HS1
      isplitl [HS2]; · iexact HS2
      isplitl [HT0]; · iexact HT0
      iexact HT1
    · ipureintro; intro s hs _; obtain rfl : s = t := Fin.ext (by omega); exact ⟨fresh_first c (crd T0 T1 hok s) (ms0_0 T0 T1 hok s) (hs0_0 T0 T1 hok s) (ms0_1 T0 T1 hok s) (hs0_1 T0 T1 hok s) (ms0_2 T0 T1 hok s) (hs0_2 T0 T1 hok s) (ms0_3 T0 T1 hok s) (hs0_3 T0 T1 hok s) (ms0_4 T0 T1 hok s) (hs0_4 T0 T1 hok s) (ms0_5 T0 T1 hok s) (hs0_5 T0 T1 hok s) (ms0_6 T0 T1 hok s) (hs0_6 T0 T1 hok s) (ms0_7 T0 T1 hok s) (hs0_7 T0 T1 hok s) T0 T1 (iblk T0 T1 hok m ρ c (0 : Fin 8) s) (iblk T0 T1 hok m ρ c (1 : Fin 8) s) (iblk T0 T1 hok m ρ c (2 : Fin 8) s) (iblk T0 T1 hok m ρ c (3 : Fin 8) s) (iblk T0 T1 hok m ρ c (4 : Fin 8) s) (iblk T0 T1 hok m ρ c (5 : Fin 8) s) (iblk T0 T1 hok m ρ c (6 : Fin 8) s) hr h2 h3, fresh_second c (crd T0 T1 hok s) (ms0_0 T0 T1 hok s) (hs0_0 T0 T1 hok s) (ms0_1 T0 T1 hok s) (hs0_1 T0 T1 hok s) (ms0_2 T0 T1 hok s) (hs0_2 T0 T1 hok s) (ms0_3 T0 T1 hok s) (hs0_3 T0 T1 hok s) (ms0_4 T0 T1 hok s) (hs0_4 T0 T1 hok s) (ms0_5 T0 T1 hok s) (hs0_5 T0 T1 hok s) (ms0_6 T0 T1 hok s) (hs0_6 T0 T1 hok s) (ms0_7 T0 T1 hok s) (hs0_7 T0 T1 hok s) T0 T1 (iblk T0 T1 hok m ρ c (0 : Fin 8) s) (iblk T0 T1 hok m ρ c (1 : Fin 8) s) (iblk T0 T1 hok m ρ c (2 : Fin 8) s) (iblk T0 T1 hok m ρ c (3 : Fin 8) s) (iblk T0 T1 hok m ρ c (4 : Fin 8) s) (iblk T0 T1 hok m ρ c (5 : Fin 8) s) (iblk T0 T1 hok m ρ c (6 : Fin 8) s) hr h2 h3, fresh_third c (crd T0 T1 hok s) (ms0_0 T0 T1 hok s) (hs0_0 T0 T1 hok s) (ms0_1 T0 T1 hok s) (hs0_1 T0 T1 hok s) (ms0_2 T0 T1 hok s) (hs0_2 T0 T1 hok s) (ms0_3 T0 T1 hok s) (hs0_3 T0 T1 hok s) (ms0_4 T0 T1 hok s) (hs0_4 T0 T1 hok s) (ms0_5 T0 T1 hok s) (hs0_5 T0 T1 hok s) (ms0_6 T0 T1 hok s) (hs0_6 T0 T1 hok s) (ms0_7 T0 T1 hok s) (hs0_7 T0 T1 hok s) T0 T1 (iblk T0 T1 hok m ρ c (0 : Fin 8) s) (iblk T0 T1 hok m ρ c (1 : Fin 8) s) (iblk T0 T1 hok m ρ c (2 : Fin 8) s) (iblk T0 T1 hok m ρ c (3 : Fin 8) s) (iblk T0 T1 hok m ρ c (4 : Fin 8) s) (iblk T0 T1 hok m ρ c (5 : Fin 8) s) (iblk T0 T1 hok m ρ c (6 : Fin 8) s) hr h2 h3⟩
  isplitl [H0 H1 H2 H3 H4 H5 H6]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    iapply owns_of_rep; iexact H6
  unfold owns; iexists _; isplitr; swap
  · iexact H7
  · ipureintro
    refine (View.read_writes_of_cover _ _ VO0_7 VO0_7.junk _ (cover0_A_7 c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) hr h2 h3)).trans ?_
    exact (fresh_out c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) hr h2 h3).trans hout.symm

/-- A used tile that keeps the matrices it finds: they are its own, for the tile before was used and had its expert. -/
theorem held_kept (hT : ∀ n, (entry T0 n).toNat < 32) (c : Dev nD) (t : Fin (cfgA T0 T1 hok).N) (hu : Used T1 t.val)
    (hr : ¬Refresh T0 T1 (crd T0 T1 hok t)) (a0 a1 a2) (ha : Held T0 T1 hok m ρ c t.val a0 a1 a2) :
    Held T0 T1 hok m ρ c (t.val + 1) a0 a1 a2 := by
  obtain ⟨hne, hsame⟩ := kept_prev T0 T1 hok t hu hr
  intro s hs _
  obtain rfl : s = t := Fin.ext (by omega)
  have hp : s.val - 1 < (cfgA T0 T1 hok).N := lt_of_le_of_lt (Nat.sub_le _ _) s.isLt
  have hs1 : (⟨s.val - 1, hp⟩ : Fin (cfgA T0 T1 hok).N).val + 1 = s.val := by show s.val - 1 + 1 = s.val; omega
  obtain ⟨k0, k1, k2⟩ := ha ⟨s.val - 1, hp⟩ hs1 (by have := hu; show ((s.val - 1 : Nat) : Int) < _; omega)
  obtain ⟨g0, g1, g2⟩ := same_matrices T0 T1 hok m ρ hT c _ _ (hsame _ hs1)
  exact ⟨k0.trans (congrArg (k0_pay1 (F := Bits)) g0), k1.trans (congrArg (k0_pay2 (F := Bits)) g1), k2.trans (congrArg (k0_pay3 (F := Bits)) g2)⟩

set_option maxHeartbeats 4800000 in
/-- A used tile that does not refresh. -/
theorem tile_kept (hT : ∀ n, (entry T0 n).toNat < 32) (c : Dev nD) (t : Fin (cfgA T0 T1 hok).N) (K : PUnit → sProp 𝕄) (hu : Used T1 t.val) (hr : ¬Refresh T0 T1 (crd T0 T1 hok t)) :
    iprop(Between T0 T1 hok m ρ c t.val ∗ Inputs T0 T1 hok m ρ c t ∗ (∃ d, owns (c : Thread nD τ) (ms0_7 T0 T1 hok t) fullShare d)
        ∗ (iprop(Between T0 T1 hok m ρ c (t.val + 1) ∗ Inputs T0 T1 hok m ρ c t
            ∗ owns (c : Thread nD τ) (ms0_7 T0 T1 hok t) fullShare (tileOut T0 T1 hok m ρ c t)) -∗ K ⟨⟩))
      ⊢ wp frame (wpE (defs₀ (F := Bits)) Variants.none c none) Set.univ (bodyAt T0 T1 hok t) K := by
  have h2 := (cond2_iff T0 T1 hok t).mpr hu
  have h3 : ¬k0_cond3 (crd T0 T1 hok t) (readCount T1) = 1#1 := fun h => (cond3_iff T0 T1 hok t).mp h hu
  have hb := held_kept T0 T1 hok m ρ hT c t hu hr
  have hout : tileOut T0 T1 hok m ρ c t = _ := if_pos hu
  unfold Inputs Between
  iintro ⟨⟨%a0, %a1, %a2, %ha, HS0, HS1, HS2, HT0, HT1⟩, ⟨H0, H1, H2, H3, H4, H5, H6⟩, H7, Hk⟩
  iapply ((kernelRun0_B c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  isplitl [HS2]; · iexact HS2
  iintro ⟨H0, H1, H2, H3, H4, H5, H6, HT0, HT1, ⟨%f, H7⟩, HS0, HS1, HS2⟩
  iapply Hk
  isplitl [HS0 HS1 HS2 HT0 HT1]
  · iexists _; iexists _; iexists _; isplitr; swap
    · isplitl [HS0]; · iexact HS0
      isplitl [HS1]; · iexact HS1
      isplitl [HS2]; · iexact HS2
      isplitl [HT0]; · iexact HT0
      iexact HT1
    · ipureintro; exact hb _ _ _ ha
  isplitl [H0 H1 H2 H3 H4 H5 H6]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    iapply owns_of_rep; iexact H6
  unfold owns; iexists _; isplitr; swap
  · iexact H7
  · ipureintro
    refine (View.read_writes_of_cover _ _ VO0_7 VO0_7.junk _ (cover0_B_7 c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3)).trans ?_
    obtain ⟨k0, k1, k2⟩ := hb _ _ _ ha t rfl hu
    refine (kept_out c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3).trans (Eq.trans ?_ hout.symm)
    rw [k0, k1, k2]

set_option maxHeartbeats 4800000 in
/-- An unused tile. -/
theorem tile_unused (c : Dev nD) (t : Fin (cfgA T0 T1 hok).N) (K : PUnit → sProp 𝕄) (hu : ¬Used T1 t.val) :
    iprop(Between T0 T1 hok m ρ c t.val ∗ Inputs T0 T1 hok m ρ c t ∗ (∃ d, owns (c : Thread nD τ) (ms0_7 T0 T1 hok t) fullShare d)
        ∗ (iprop(Between T0 T1 hok m ρ c (t.val + 1) ∗ Inputs T0 T1 hok m ρ c t
            ∗ owns (c : Thread nD τ) (ms0_7 T0 T1 hok t) fullShare (tileOut T0 T1 hok m ρ c t)) -∗ K ⟨⟩))
      ⊢ wp frame (wpE (defs₀ (F := Bits)) Variants.none c none) Set.univ (bodyAt T0 T1 hok t) K := by
  have hr : ¬Refresh T0 T1 (crd T0 T1 hok t) := fun h => hu (refresh_used T0 T1 hok t h)
  have h2 : ¬k0_cond2 (crd T0 T1 hok t) (readCount T1) = 1#1 := fun h => hu ((cond2_iff T0 T1 hok t).mp h)
  have h3 := (cond3_iff T0 T1 hok t).mpr hu
  have hout : tileOut T0 T1 hok m ρ c t = _ := if_neg hu
  unfold Inputs Between
  iintro ⟨⟨%a0, %a1, %a2, %ha, HS0, HS1, HS2, HT0, HT1⟩, ⟨H0, H1, H2, H3, H4, H5, H6⟩, H7, Hk⟩
  iapply ((kernelRun0_C c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  isplitl [HS2]; · iexact HS2
  iintro ⟨H0, H1, H2, H3, H4, H5, H6, HT0, HT1, ⟨%f, H7⟩, HS0, HS1, HS2⟩
  iapply Hk
  isplitl [HS0 HS1 HS2 HT0 HT1]
  · iexists _; iexists _; iexists _; isplitr; swap
    · isplitl [HS0]; · iexact HS0
      isplitl [HS1]; · iexact HS1
      isplitl [HS2]; · iexact HS2
      isplitl [HT0]; · iexact HT0
      iexact HT1
    · ipureintro; intro s hs hus; obtain rfl : s = t := Fin.ext (by omega); exact absurd hus hu
  isplitl [H0 H1 H2 H3 H4 H5 H6]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    iapply owns_of_rep; iexact H6
  unfold owns; iexists _; isplitr; swap
  · iexact H7
  · ipureintro
    refine (View.read_writes_of_cover _ _ VO0_7 VO0_7.junk _ (cover0_C_7 c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3)).trans ?_
    exact (unused_out c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3).trans hout.symm

/-- One tile: from the buffers as the tiles before left them and the inputs at their blocks, the body leaves the
    buffers as this tile does, the inputs as they were and the output at `tileOut`. -/
theorem tile_run (hT : ∀ n, (entry T0 n).toNat < 32) (c : Dev nD) (t : Fin (cfgA T0 T1 hok).N) (K : PUnit → sProp 𝕄) :
    iprop(Between T0 T1 hok m ρ c t.val ∗ Inputs T0 T1 hok m ρ c t ∗ (∃ d, owns (c : Thread nD τ) (ms0_7 T0 T1 hok t) fullShare d)
        ∗ (iprop(Between T0 T1 hok m ρ c (t.val + 1) ∗ Inputs T0 T1 hok m ρ c t
            ∗ owns (c : Thread nD τ) (ms0_7 T0 T1 hok t) fullShare (tileOut T0 T1 hok m ρ c t)) -∗ K ⟨⟩))
      ⊢ wp frame (wpE (defs₀ (F := Bits)) Variants.none c none) Set.univ (bodyAt T0 T1 hok t) K := by
  by_cases hr : Refresh T0 T1 (crd T0 T1 hok t)
  · exact tile_fresh T0 T1 hok m ρ c t K hr
  by_cases hu : Used T1 t.val
  · exact tile_kept T0 T1 hok m ρ hT c t K hu hr
  · exact tile_unused T0 T1 hok m ρ c t K hu

/-! ## The launch -/

/-- What the run reads and leaves: each input's block as it was, the output's at `tileOut`. -/
def dats (_ : Fin 1) (c : Dev nD) : Dat τ (Elt Bits) Unit ℕ (UR sig nD τ) ℕ (cfgA T0 T1 hok) c where
  A w := (s₀ m ρ).mem (((cfgA T0 T1 hok).win w).arr.view.loc (c : Thread nD τ))
  after w t := match w with
    | ⟨0, _⟩ => iblk T0 T1 hok m ρ c (0 : Fin 8) t
    | ⟨1, _⟩ => iblk T0 T1 hok m ρ c (1 : Fin 8) t
    | ⟨2, _⟩ => iblk T0 T1 hok m ρ c (2 : Fin 8) t
    | ⟨3, _⟩ => iblk T0 T1 hok m ρ c (3 : Fin 8) t
    | ⟨4, _⟩ => iblk T0 T1 hok m ρ c (4 : Fin 8) t
    | ⟨5, _⟩ => iblk T0 T1 hok m ρ c (5 : Fin 8) t
    | ⟨6, _⟩ => iblk T0 T1 hok m ρ c (6 : Fin 8) t
    | ⟨7, _⟩ => tileOut T0 T1 hok m ρ c t
  Φ t := Between T0 T1 hok m ρ c t.val
  q _ := fullShare
  owed _ := 0

theorem before_0 (c : Dev nD) (t : Fin (cfgA T0 T1 hok).N) (d) : (dats T0 T1 hok m ρ 0 c).before (0 : Fin 8) t d = iblk T0 T1 hok m ρ c (0 : Fin 8) t :=
  ((dats T0 T1 hok m ρ 0 c).before_in_eq_fetched (0 : Fin 8) rfl (fun _ => rfl) (fun _ _ _ => rfl) (fun t => by
    show iblk T0 T1 hok m ρ c (0 : Fin 8) t = _
    unfold Dat.blockOf iblk; rfl) t d).trans (by unfold Dat.fetched Dat.blockOf iblk; rfl)

theorem before_1 (c : Dev nD) (t : Fin (cfgA T0 T1 hok).N) (d) : (dats T0 T1 hok m ρ 0 c).before (1 : Fin 8) t d = iblk T0 T1 hok m ρ c (1 : Fin 8) t :=
  ((dats T0 T1 hok m ρ 0 c).before_in_eq_fetched (1 : Fin 8) rfl (fun _ => rfl) (fun _ _ _ => rfl) (fun t => by
    show iblk T0 T1 hok m ρ c (1 : Fin 8) t = _
    unfold Dat.blockOf iblk; rfl) t d).trans (by unfold Dat.fetched Dat.blockOf iblk; rfl)

theorem before_2 (c : Dev nD) (t : Fin (cfgA T0 T1 hok).N) (d) : (dats T0 T1 hok m ρ 0 c).before (2 : Fin 8) t d = iblk T0 T1 hok m ρ c (2 : Fin 8) t :=
  ((dats T0 T1 hok m ρ 0 c).before_in_eq_fetched (2 : Fin 8) rfl (fun _ => rfl) (fun _ _ _ => rfl) (fun t => by
    show iblk T0 T1 hok m ρ c (2 : Fin 8) t = _
    unfold Dat.blockOf iblk; rfl) t d).trans (by unfold Dat.fetched Dat.blockOf iblk; rfl)

theorem before_3 (c : Dev nD) (t : Fin (cfgA T0 T1 hok).N) (d) : (dats T0 T1 hok m ρ 0 c).before (3 : Fin 8) t d = iblk T0 T1 hok m ρ c (3 : Fin 8) t :=
  ((dats T0 T1 hok m ρ 0 c).before_in_eq_fetched (3 : Fin 8) rfl (fun _ => rfl) (fun _ _ _ => rfl) (fun t => by
    show iblk T0 T1 hok m ρ c (3 : Fin 8) t = _
    unfold Dat.blockOf iblk; rfl) t d).trans (by unfold Dat.fetched Dat.blockOf iblk; rfl)

theorem before_4 (c : Dev nD) (t : Fin (cfgA T0 T1 hok).N) (d) : (dats T0 T1 hok m ρ 0 c).before (4 : Fin 8) t d = iblk T0 T1 hok m ρ c (4 : Fin 8) t :=
  ((dats T0 T1 hok m ρ 0 c).before_in_eq_fetched (4 : Fin 8) rfl (fun _ => rfl) (fun _ _ _ => rfl) (fun t => by
    show iblk T0 T1 hok m ρ c (4 : Fin 8) t = _
    unfold Dat.blockOf iblk; rfl) t d).trans (by unfold Dat.fetched Dat.blockOf iblk; rfl)

theorem before_5 (c : Dev nD) (t : Fin (cfgA T0 T1 hok).N) (d) : (dats T0 T1 hok m ρ 0 c).before (5 : Fin 8) t d = iblk T0 T1 hok m ρ c (5 : Fin 8) t :=
  ((dats T0 T1 hok m ρ 0 c).before_in_eq_fetched (5 : Fin 8) rfl (fun _ => rfl) (fun _ _ _ => rfl) (fun t => by
    show iblk T0 T1 hok m ρ c (5 : Fin 8) t = _
    unfold Dat.blockOf iblk; rfl) t d).trans (by unfold Dat.fetched Dat.blockOf iblk; rfl)

theorem before_6 (c : Dev nD) (t : Fin (cfgA T0 T1 hok).N) (d) : (dats T0 T1 hok m ρ 0 c).before (6 : Fin 8) t d = iblk T0 T1 hok m ρ c (6 : Fin 8) t :=
  ((dats T0 T1 hok m ρ 0 c).before_in_eq_fetched (6 : Fin 8) rfl (fun _ => rfl) (fun _ _ _ => rfl) (fun t => by
    show iblk T0 T1 hok m ρ c (6 : Fin 8) t = _
    unfold Dat.blockOf iblk; rfl) t d).trans (by unfold Dat.fetched Dat.blockOf iblk; rfl)

set_option maxHeartbeats 4800000 in
/-- The body's obligation at every tile: the inputs arrive at their blocks, `tile_run` applies, and no buffer is left idle. -/
theorem body_obligation (hT : ∀ n, (entry T0 n).toNat < 32) (c : Dev nD) :
    BodyObligation (dats T0 T1 hok m ρ 0 c) (defs₀ (F := Bits)) Variants.none () Set.univ := fun t => by
  rw [bigSep_W0, bigSep_W0]
  rewrite [never_idle T0 T1 hok t]
  simp only [before_0, before_1, before_2, before_3, before_4, before_5, before_6]
  rewrite [show (dats T0 T1 hok m ρ 0 c).Φ t.succ = Between T0 T1 hok m ρ c (t.val + 1) from rfl,
    show (dats T0 T1 hok m ρ 0 c).Φ t.castSucc = Between T0 T1 hok m ρ c t.val from rfl,
    show (dats T0 T1 hok m ρ 0 c).owesAt () t.succ = (dats T0 T1 hok m ρ 0 c).owesAt () t.castSucc from rfl]
  iintro ⟨HB, Ho, ⟨%d0, H0⟩, ⟨%d1, H1⟩, ⟨%d2, H2⟩, ⟨%d3, H3⟩, ⟨%d4, H4⟩, ⟨%d5, H5⟩, ⟨%d6, H6⟩, ⟨%d7, H7⟩⟩
  iapply tile_run T0 T1 hok m ρ hT c t
  isplitl [HB]; · iexact HB
  isplitl [H0 H1 H2 H3 H4 H5 H6]
  · unfold Inputs
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  unfold Inputs
  iintro ⟨HB, ⟨H0, H1, H2, H3, H4, H5, H6⟩, H7⟩
  isplitl [HB]; · iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's element. -/
def u₀ : UR sig nD τ :=
  initOf (Pipeline.cells (pcs T0 T1 hok) ((launch0 (F := Bits)).cellOf_inj fun _ => adm T0 T1 hok))
    (Pipeline.launchToks (pcs T0 T1 hok) ((launch0 (F := Bits)).cellOf_inj fun _ => adm T0 T1 hok))

theorem share_full (c : Dev nD) (w : Fin (cfgA T0 T1 hok).W) : (dats T0 T1 hok m ρ 0 c).share w = fullShare := by
  unfold Dat.share; split <;> rfl

/-- The two tables as the launch hands them over. -/
theorem tables_held (c : Dev nD) (s : Fin 2 → PosShare TreeShare) (v : pre0.Contents (Elt Bits)) :
    (Pipeline.prefHeld (Ix := Unit) (Name := ℕ) (U := UR sig nD τ) (Lvl := ℕ) pre0 c s v : sProp 𝕄)
      = iprop((((c : Thread nD τ).loc main_arg0) ↦{s 0} v 0) ∗ (((c : Thread nD τ).loc main_arg1) ↦{s 1} v 1)) := by
  unfold Pipeline.prefHeld
  rw [show (Finset.univ : Finset (Fin 2)) = insert (0 : Fin 2) {(1 : Fin 2)} from by decide, bigSep_insert (by decide), bigSep_singleton]
  rfl

/-- Before the first tile nothing is asked of the three buffers. -/
theorem enter (c : Dev nD) :
    iprop(BI.emp ∗ Pipeline.prefHeld pre0 c (fun _ => fullShare.right) (adm T0 T1 hok).1 ∗ Pipeline.scopedRest spec0 c) ⊢ (dats T0 T1 hok m ρ 0 c).Φ 0 := by
  rw [tables_held, scopedRest0_eq, show (dats T0 T1 hok m ρ 0 c).Φ 0 = Between T0 T1 hok m ρ c 0 from rfl]
  unfold Between
  iintro ⟨-, ⟨HT0, HT1⟩, ⟨%a0, HS0⟩, ⟨%a1, HS1⟩, ⟨%a2, HS2⟩⟩
  iexists a0; iexists a1; iexists a2; isplitr; swap
  · isplitl [HS0]; · iexact HS0
    isplitl [HS1]; · iexact HS1
    isplitl [HS2]; · iexact HS2
    isplitl [HT0]; · iexact HT0
    iexact HT1
  · ipureintro; intro s hs; exact absurd hs (Nat.succ_ne_zero _)

/-- After the last tile the three buffers are given back. -/
theorem leave (c : Dev nD) : (dats T0 T1 hok m ρ 0 c).Φ (Fin.last (cfgA T0 T1 hok).N) ⊢ iprop(BI.emp ∗ Pipeline.scopedRest spec0 c) := by
  rw [scopedRest0_eq, show (dats T0 T1 hok m ρ 0 c).Φ (Fin.last (cfgA T0 T1 hok).N) = Between T0 T1 hok m ρ c (cfgA T0 T1 hok).N from rfl]
  unfold Between
  iintro ⟨%a0, %a1, %a2, -, HS0, HS1, HS2, -, -⟩
  isplitr; · iempintro
  isplitl [HS0]; · iexists a0; iexact HS0
  isplitl [HS1]; · iexists a1; iexact HS1
  iexists a2; iexact HS2

/-- What the run ends with: every array at what the tiles leave of it, both tables as they were. -/
def Ends (r : PUnit × MemSt nD τ sig (Elt Bits)) : Prop :=
  ∀ c : Dev nD, (∀ w : Fin (cfgA T0 T1 hok).W, r.2.mem (((cfgA T0 T1 hok).win w).arr.view.loc (c : Thread nD τ)) = (dats T0 T1 hok m ρ 0 c).arrAt w (cfgA T0 T1 hok).N)
    ∧ ∀ j, r.2.mem ((c : Thread nD τ).loc (pre0.ref j)) = (adm T0 T1 hok).1 j

/-- The memory's two tables are `T0` and `T1`. -/
def Pinned : Prop := ∀ c : Dev nD, m ((c : Thread nD τ).loc main_arg0) = T0 ∧ m ((c : Thread nD τ).loc main_arg1) = T1

theorem pinned_at (hp : Pinned T0 T1 m) (c : Dev nD) (j : Fin 2) : m ((c : Thread nD τ).loc (pre0.ref j)) = (adm T0 T1 hok).1 j := by
  fin_cases j
  · exact (hp c).1
  · exact (hp c).2

set_option backward.isDefEq.respectTransparency.types false in
set_option maxHeartbeats 4000000 in
/-- From any memory with these tables every execution ends, with the arrays at what the tiles leave and all counters at zero. -/
theorem run_ends (hT : ∀ n, (entry T0 n).toNat < 32) (hp : Pinned T0 T1 m) :
    θ_run (defs (F := Bits)) (onTc (τ := τ) (main (F := Bits))) (s₀ m ρ) (fun r => Ends T0 T1 hok m ρ r ∧ r.2.sem = fun _ => 0) :=
  Pipeline.θ_run_region_noSem_pf_quiescent pcfgs (fun _ => adm T0 T1 hok) (dats T0 T1 hok m ρ) () ((launch0 (F := Bits)).cellOf_inj fun _ => adm T0 T1 hok) (0 : Fin 1)
    (launch0 (F := Bits)).win.to₀ (launch0 (F := Bits)).pre emb₁ defs₀ Variants.none m ρ main
    (hbody := fun c => (body_obligation T0 T1 hok m ρ hT c).loose) (hne := (launch0 (F := Bits)).block_pos)
    (harr := (launch0 (F := Bits)).arr_whole) (hstage := (launch0 (F := Bits)).stage_whole) (howed := fun _ _ => rfl)
    (u₀ := u₀ T0 T1 hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hok) (dats T0 T1 hok m ρ) 0 (launch0 (F := Bits)).win.arr_inj c (launch0 (F := Bits)).arr_whole
      (share_full T0 T1 hok m ρ c) _ _ fun _ => rfl)
    (hpf := pinned_at T0 T1 hok m hp)
    (X := fun _ => iprop(emp)) (Y := fun _ => iprop(emp)) (Z := fun _ => iprop(emp))
    (hX := fun c => by rw [unscopedRestP0_eq]; iintro -; isplitr <;> iempintro)
    (hin := enter T0 T1 hok m ρ)
    (hout := leave T0 T1 hok m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run ends with the result's array at what the tiles leave, the arguments as they were and all counters at zero. -/
theorem run_result (hT : ∀ n, (entry T0 n).toNat < 32) (hp : Pinned T0 T1 m) :
    θ_run (defs (F := Bits)) (onTc (τ := τ) (main (F := Bits))) ⟨m, fun _ => 0, ρ⟩ (fun r => ((∀ c : Dev nD,
      r.2.mem ((c.tc : Thread nD τ).loc main_v0) = (dats T0 T1 hok m ρ 0 c).arrAt (7 : Fin 8) (cfgA T0 T1 hok).N)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨⟨fun c => (h.1 c).1 (7 : Fin 8), fun c => ⟨((h.1 c).2 0).trans (hp c).1.symm, ((h.1 c).2 1).trans (hp c).2.symm, ((h.1 c).1 (0 : Fin 8)).trans ((dats T0 T1 hok m ρ 0 c).arrAt_in (0 : Fin 8) rfl _), ((h.1 c).1 (1 : Fin 8)).trans ((dats T0 T1 hok m ρ 0 c).arrAt_in (1 : Fin 8) rfl _), ((h.1 c).1 (2 : Fin 8)).trans ((dats T0 T1 hok m ρ 0 c).arrAt_in (2 : Fin 8) rfl _), ((h.1 c).1 (3 : Fin 8)).trans ((dats T0 T1 hok m ρ 0 c).arrAt_in (3 : Fin 8) rfl _), ((h.1 c).1 (4 : Fin 8)).trans ((dats T0 T1 hok m ρ 0 c).arrAt_in (4 : Fin 8) rfl _), ((h.1 c).1 (5 : Fin 8)).trans ((dats T0 T1 hok m ρ 0 c).arrAt_in (5 : Fin 8) rfl _), ((h.1 c).1 (6 : Fin 8)).trans ((dats T0 T1 hok m ρ 0 c).arrAt_in (6 : Fin 8) rfl _)⟩⟩, h.2⟩)
    (run_ends T0 T1 hok m ρ hT hp)

end Cert.Experts.Tiles

end
-- ==== Proof.ExpertsIdealPaths.lean ====
module

public import proofs.«01_k».proof.Proof.TileWords
public import proofs.«01_k».proof.Proof.Gen.ExpertsIdeal.Flash.Runs

/-! One run of the experts kernel's body, on each of its three ways: what the kept buffers and the output hold after it. -/

@[expose] public section

set_option maxRecDepth 16384

noncomputable section

namespace Cert.ExpertsIdeal.Tiles

open Cert.ExpertsIdeal Cert.ExpertsIdeal.Gen Cert.TileWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## What one run of the body leaves, path by path -/

/-- The count as the body reads it. -/
abbrev readCount (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

/-- The decision to refresh, as the body computes it. -/
abbrev Refresh (T0 : S349.Idx → Elt Ideal .i32) (T1 : S1.Idx → Elt Ideal .i32) (i : grid0.Coords) : Prop := (Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt Ideal) (tbM0_0).view (Rect.unit (s := S349) (k0_off1 i) S1.size (k0_off1_inb i)).toLoadRect T0 (Shape.Idx.first (numel1_S1.symm ▸ Nat.one_pos))) (View.readAt (Elt Ideal) (tbM0_0).view (Rect.unit (s := S349) (k0_off2 i) S1.size (k0_off2_inb i)).toLoadRect T0 (Shape.Idx.first (numel1_S1.symm ▸ Nat.one_pos))))))) 0#32) = 1#1

theorem load_x (x : S256x1024.Idx → Elt Ideal .f32) (r : Memref sig .tc .vmem S256x1024 .f32) :
    View.readAt (Elt Ideal) r.view (Rect.unit ![0, 0] S256x1024.size inb_S256x1024_S256x1024_0_0).toLoadRect (r.view.rep x) = x :=
  load_all _ zero2 _ _

theorem load_w (x : S1x1024x1024.Idx → Elt Ideal .f32) (r : Memref sig .tc .vmem S1x1024x1024 .f32) :
    View.readAt (Elt Ideal) r.view (Rect.unit ![0, 0, 0] S1x1024x1024.size inb_S1x1024x1024_S1x1024x1024_0_0_0).toLoadRect (r.view.rep x) = x :=
  load_all _ zero3 _ _

theorem load_b (x : S1x1x1024.Idx → Elt Ideal .f32) (r : Memref sig .tc .vmem S1x1x1024 .f32) :
    View.readAt (Elt Ideal) r.view (Rect.unit ![0, 0, 0] S1x1x1024.size inb_S1x1x1024_S1x1x1024_0_0_0).toLoadRect (r.view.rep x) = x :=
  load_all _ zero3 _ _

theorem load_s0 (x : S1024x1024.Idx → Elt Ideal .bf16) :
    View.readAt (Elt Ideal) scM0_0.view (Rect.unit ![0, 0] S1024x1024.size inb_S1024x1024_S1024x1024_0_0).toLoadRect x = x := by
  show View.ld x (Rect.unit ![0, 0] S1024x1024.size inb_S1024x1024_S1024x1024_0_0) = x
  rw [View.ld_unit_zero zero2]

theorem store_s0 (f w : S1024x1024.Idx → Elt Ideal .bf16) :
    View.write (Elt Ideal) ((View.whole cc0_scratch0).slice (Rect.unit (s := S1024x1024) ![0, 0] ![1024, 1024] inb_S1024x1024_S1024x1024_0_0)) f w Finset.univ = w :=
  Memref.write_access_unit_zero_univ (Elt Ideal) cc0_scratch0 zero2 _ _ _

theorem load_s1 (x : S1024x1024.Idx → Elt Ideal .bf16) :
    View.readAt (Elt Ideal) scM0_1.view (Rect.unit ![0, 0] S1024x1024.size inb_S1024x1024_S1024x1024_0_0).toLoadRect x = x := by
  show View.ld x (Rect.unit ![0, 0] S1024x1024.size inb_S1024x1024_S1024x1024_0_0) = x
  rw [View.ld_unit_zero zero2]

theorem store_s1 (f w : S1024x1024.Idx → Elt Ideal .bf16) :
    View.write (Elt Ideal) ((View.whole cc0_scratch1).slice (Rect.unit (s := S1024x1024) ![0, 0] ![1024, 1024] inb_S1024x1024_S1024x1024_0_0)) f w Finset.univ = w :=
  Memref.write_access_unit_zero_univ (Elt Ideal) cc0_scratch1 zero2 _ _ _

theorem load_s2 (x : S1024x1024.Idx → Elt Ideal .bf16) :
    View.readAt (Elt Ideal) scM0_2.view (Rect.unit ![0, 0] S1024x1024.size inb_S1024x1024_S1024x1024_0_0).toLoadRect x = x := by
  show View.ld x (Rect.unit ![0, 0] S1024x1024.size inb_S1024x1024_S1024x1024_0_0) = x
  rw [View.ld_unit_zero zero2]

theorem store_s2 (f w : S1024x1024.Idx → Elt Ideal .bf16) :
    View.write (Elt Ideal) ((View.whole cc0_scratch2).slice (Rect.unit (s := S1024x1024) ![0, 0] ![1024, 1024] inb_S1024x1024_S1024x1024_0_0)) f w Finset.univ = w :=
  Memref.write_access_unit_zero_univ (Elt Ideal) cc0_scratch2 zero2 _ _ _

section
variable (c : Dev nD) (i : grid0.Coords) (arg3 : Memref sig .tc .vmem S256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (T0 : (S349.Idx → Elt Ideal .i32)) (T1 : (S1.Idx → Elt Ideal .i32))
     (x0 : (S256x1024.Idx → Elt Ideal .f32)) (x1 : (S1x1024x1024.Idx → Elt Ideal .f32)) (x2 : (S1x1x1024.Idx → Elt Ideal .f32)) (x3 : (S1x1024x1024.Idx → Elt Ideal .f32)) (x4 : (S1x1x1024.Idx → Elt Ideal .f32)) (x5 : (S1x1024x1024.Idx → Elt Ideal .f32)) (x6 : (S1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

theorem fresh_first (hc0 : Refresh T0 T1 i) (h2 : k0_cond2 i (readCount T1) = 1#1) (h3 : ¬k0_cond3 i (readCount T1) = 1#1) : (kernelRun0_A c i arg3 harg3 arg4 harg4 arg5 harg5 arg6 harg6 arg7 harg7 arg8 harg8 arg9 harg9 arg10 harg10 T0 T1 x0 x1 x2 x3 x4 x5 x6 hc0 h2 h3).2.1 = k0_pay1 (F := Ideal) x1 := by
  unfold kernelRun0_A; dsimp only; unfold kernelRun0_A.sl.HS0_1
  rw [View.writes_singleton, load_w]
  exact store_s0 _ _

theorem fresh_second (hc0 : Refresh T0 T1 i) (h2 : k0_cond2 i (readCount T1) = 1#1) (h3 : ¬k0_cond3 i (readCount T1) = 1#1) : (kernelRun0_A c i arg3 harg3 arg4 harg4 arg5 harg5 arg6 harg6 arg7 harg7 arg8 harg8 arg9 harg9 arg10 harg10 T0 T1 x0 x1 x2 x3 x4 x5 x6 hc0 h2 h3).2.2.1 = k0_pay2 (F := Ideal) x3 := by
  unfold kernelRun0_A; dsimp only; unfold kernelRun0_A.sl.HS1_1
  rw [View.writes_singleton, load_w]
  exact store_s1 _ _

theorem fresh_third (hc0 : Refresh T0 T1 i) (h2 : k0_cond2 i (readCount T1) = 1#1) (h3 : ¬k0_cond3 i (readCount T1) = 1#1) : (kernelRun0_A c i arg3 harg3 arg4 harg4 arg5 harg5 arg6 harg6 arg7 harg7 arg8 harg8 arg9 harg9 arg10 harg10 T0 T1 x0 x1 x2 x3 x4 x5 x6 hc0 h2 h3).2.2.2.1 = k0_pay3 (F := Ideal) x5 := by
  unfold kernelRun0_A; dsimp only; unfold kernelRun0_A.sl.HS2_1
  rw [View.writes_singleton, load_w]
  exact store_s2 _ _

/-- A tile that refreshes computes with the matrices it has just stored. -/
theorem fresh_out (hc0 : Refresh T0 T1 i) (h2 : k0_cond2 i (readCount T1) = 1#1) (h3 : ¬k0_cond3 i (readCount T1) = 1#1) : VO0_7.read (Elt Ideal) (VO0_7.writes (Elt Ideal) VO0_7.junk (kernelRun0_A c i arg3 harg3 arg4 harg4 arg5 harg5 arg6 harg6 arg7 harg7 arg8 harg8 arg9 harg9 arg10 harg10 T0 T1 x0 x1 x2 x3 x4 x5 x6 hc0 h2 h3).1)
    = k0_pay4 (F := Ideal) (k0_pay6 x0 (k0_pay1 x1) x2 (k0_pay2 x3) x4) (k0_pay3 x5) (constant S256x1024 .f32 0x00000000#32) x6 := by
  refine Eq.trans (store_all VO0_7 zero2 _ _ _) ?_
  unfold kernelRun0_A.sl.r_3 kernelRun0_A.sl.v53 kernelRun0_A.sl.cst_27 kernelRun0_A.sl.v21 kernelRun0_A.sl.v29
    kernelRun0_A.sl.HS0_1 kernelRun0_A.sl.HS1_1 kernelRun0_A.sl.HS2_1
  rw [View.readCov_unit_zero (S := S1024x1024) _ zero2, View.readCov_unit_zero (S := S1024x1024) _ zero2, View.readCov_unit_zero (S := S1024x1024) _ zero2]
  rw [load_x, load_w, load_b, load_w, load_b, load_w, load_b]

/-- A tile that does not refresh computes with the matrices it finds. -/
theorem kept_out (hc0 : ¬Refresh T0 T1 i) (h2 : k0_cond2 i (readCount T1) = 1#1) (h3 : ¬k0_cond3 i (readCount T1) = 1#1) : VO0_7.read (Elt Ideal) (VO0_7.writes (Elt Ideal) VO0_7.junk (kernelRun0_B c i arg3 harg3 arg4 harg4 arg5 harg5 arg6 harg6 arg7 harg7 arg8 harg8 arg9 harg9 arg10 harg10 T0 T1 x0 x1 x2 x3 x4 x5 x6 xa0 xa1 xa2 hc0 h2 h3).1)
    = k0_pay4 (F := Ideal) (k0_pay6 x0 xa0 x2 xa1 x4) xa2 (constant S256x1024 .f32 0x00000000#32) x6 := by
  refine Eq.trans (store_all VO0_7 zero2 _ _ _) ?_
  unfold kernelRun0_B.sl.r_3 kernelRun0_B.sl.cst_27 kernelRun0_B.sl.r_4
  rw [load_x, load_s0, load_b, load_s1, load_b, load_b]
  rw [load_s2]

/-- An unused tile leaves zeros. -/
theorem unused_out (hc0 : ¬Refresh T0 T1 i) (h2 : ¬k0_cond2 i (readCount T1) = 1#1) (h3 : k0_cond3 i (readCount T1) = 1#1) : VO0_7.read (Elt Ideal) (VO0_7.writes (Elt Ideal) VO0_7.junk (kernelRun0_C c i arg3 harg3 arg4 harg4 arg5 harg5 arg6 harg6 arg7 harg7 arg8 harg8 arg9 harg9 arg10 harg10 T0 T1 x0 x1 x2 x3 x4 x5 x6 xa0 xa1 xa2 hc0 h2 h3).1)
    = k0_pay5 (F := Ideal) := by
  exact store_all VO0_7 zero2 _ _ _

end

end Cert.ExpertsIdeal.Tiles

end
-- ==== Proof.ExpertsIdealTiles.lean ====
module

public import proofs.«01_k».proof.Proof.TileWords
public import proofs.«01_k».proof.Proof.ExpertsIdealPaths
public import proofs.«01_k».proof.Proof.Gen.ExpertsIdeal.Launch
public import Idealize.ShloMosaic.Lib.Pipeline.Quiescent
public import Idealize.ShloMosaic.Lib.Claim
public import Idealize.ShloMosaic.Lib.Pointwise
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The experts kernel over its 349 tiles, for any table `T0` of experts below 32 and any count `T1` of used tiles.
    Three buffers keep the rounded matrices of the expert of the last used tile. A used tile whose expert differs
    from the one before refreshes them; a used tile with the same expert finds in them what it would have written.
    So what a tile leaves depends only on its own blocks: the expert's answer if it is used, zeros if not. -/

@[expose] public section

set_option maxRecDepth 16384
set_option Elab.async false

noncomputable section

namespace Cert.ExpertsIdeal.Tiles

open Cert.ExpertsIdeal Cert.ExpertsIdeal.Gen Cert.TileWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The tables -/

set_option backward.proofsInPublic true in
/-- The two tables: each tile's expert, and the number of used tiles. -/
def tables (T0 : S349.Idx → BitVec 32) (T1 : S1.Idx → BitVec 32) : pre0.Contents (Elt Ideal) :=
  fun | ⟨0, _⟩ => T0 | ⟨1, _⟩ => T1 | ⟨_ + 2, h⟩ => absurd h (by simp)

variable (T0 : S349.Idx → BitVec 32) (T1 : S1.Idx → BitVec 32)

/-- The table's entry of tile number `n`. -/
def entry (n : Fin 349) : BitVec 32 := T0 (ix1 n)

/-- The number of used tiles, a signed word. -/
def count : BitVec 32 := T1 (ix1 0)

/-- A tile is used when its number is below the count. -/
abbrev Used (n : Nat) : Prop := (n : Int) < (count T1).toInt

theorem at_entry (i : grid0.Coords) (inb : ∀ a, (k0_off1 i) a + S1.size a ≤ S349.size a) (h : S1.numel = 1) :
    (tables T0 T1).at 0 (Rect.unit (s := S349) (k0_off1 i) S1.size inb) h = entry T0 (i 0) := by
  show T0 _ = T0 _
  congr 1; funext a; apply Fin.ext
  match a with
  | ⟨0, _⟩ =>
    show (BitVec.ofNat 32 (i 0).val).toNat + 1 * 0 = (i 0).val
    rw [tile_toNat _ (i 0).isLt]; rfl

theorem at_count (inb : ∀ a, (![0] : Fin 1 → Nat) a + S1.size a ≤ S1.size a) (h : S1.numel = 1) :
    (tables T0 T1).at 1 (Rect.unit (s := S1) ![0] S1.size inb) h = count T1 := by
  show T1 _ = T1 _
  congr 1; funext a
  match a with
  | ⟨0, _⟩ => exact Subsingleton.elim (α := Fin 1) _ _

/-- A block of one expert lies inside an array of thirty-two. -/
theorem matrix_inside (w : BitVec 32) (hw : w.toNat < 32) (a : Fin 3) :
    ((![w.toNat, (0#32 : BitVec 32).toNat, (0#32 : BitVec 32).toNat] : Fin 3 → Nat) a + 1) * S1x1024x1024.size a
      ≤ S32x1024x1024.size a := by
  match a with
  | ⟨0, _⟩ => show (w.toNat + 1) * 1 ≤ 32; omega
  | ⟨1, _⟩ => exact Nat.le_refl 1024
  | ⟨2, _⟩ => exact Nat.le_refl 1024

theorem bias_inside (w : BitVec 32) (hw : w.toNat < 32) (a : Fin 3) :
    ((![w.toNat, (0#32 : BitVec 32).toNat, (0#32 : BitVec 32).toNat] : Fin 3 → Nat) a + 1) * S1x1x1024.size a
      ≤ S32x1x1024.size a := by
  match a with
  | ⟨0, _⟩ => show (w.toNat + 1) * 1 ≤ 32; omega
  | ⟨1, _⟩ => exact Nat.le_refl 1
  | ⟨2, _⟩ => exact Nat.le_refl 1024

/-- The row block of a tile lies inside the rows. -/
theorem rows_inside (n : Nat) (hn : n < 349) (v : BitVec 32) (a : Fin 2) :
    ((![(Scalar.minsi (BitVec.ofNat 32 n) (Scalar.maxsi v 0#32)).toNat, (0#32 : BitVec 32).toNat] : Fin 2 → Nat) a + 1) * S256x1024.size a
      ≤ S89344x1024.size a := by
  match a with
  | ⟨0, _⟩ =>
    have hr := (rows_toInt n hn v).1
    show ((Scalar.minsi (BitVec.ofNat 32 n) (Scalar.maxsi v 0#32)).toNat + 1) * 256 ≤ 89344
    omega
  | ⟨1, _⟩ => exact Nat.le_refl 1024

/-- With every expert below 32, every block the kernel asks for lies inside its array. -/
theorem tables_ok (hT : ∀ n, (entry T0 n).toNat < 32) : ok0 (F := Ideal) (tables T0 T1) := by
  have hE : ∀ i : grid0.Coords, ((tables T0 T1).at 0 (Rect.unit (s := S349) (k0_off1 i) S1.size (k0_off1_inb i)) numel1_S1).toNat < 32 :=
    fun i => by rw [at_entry]; exact hT _
  unfold ok0
  exact ⟨fun i => ⟨rows_inside (i 0).val (i 0).isLt _, Or.inl rfl⟩, fun i => ⟨matrix_inside _ (hE i), Or.inl rfl⟩,
    fun i => ⟨bias_inside _ (hE i), Or.inl rfl⟩, fun i => ⟨matrix_inside _ (hE i), Or.inl rfl⟩,
    fun i => ⟨bias_inside _ (hE i), Or.inl rfl⟩, fun i => ⟨matrix_inside _ (hE i), Or.inl rfl⟩,
    fun i => ⟨bias_inside _ (hE i), Or.inl rfl⟩⟩

variable (hok : ok0 (F := Ideal) (tables T0 T1))

/-- The pipeline at these tables. -/
def adm : (pcfg0 (F := Ideal)).Adm := ⟨tables T0 T1, hok⟩
abbrev cfgA : Pipeline.Cfg sig Λ₀ := cfg0 (F := Ideal) (adm T0 T1 hok)
abbrev pcs : Fin 1 → Pipeline.Cfg sig Λ₀ := Pipeline.pin (pcfgs (F := Ideal)) fun _ => adm T0 T1 hok

variable (m : (ℓ : Loc nD τ sig) → Buf (Elt Ideal) ℓ) (ρ : Dev nD → PrngReg)

/-- Tile `t`'s coordinate. -/
abbrev crd (t : Fin (cfgA T0 T1 hok).N) : (cfgA T0 T1 hok).grid.Coords := (cfgA T0 T1 hok).grid.coords t

theorem crd_val : ∀ t : Fin grid0.N, (grid0.coords t 0).val = t.val := by decide +kernel

theorem num_lt (t : Fin (cfgA T0 T1 hok).N) : t.val < 349 := t.isLt.trans_eq N_0

/-- Each window's buffer at tile `t`. -/
abbrev ms0_0 (t : Fin (cfgA T0 T1 hok).N) : Memref sig .tc .vmem S256x1024 .f32 := spec0_0.stage ((cfgA T0 T1 hok).slots t (0 : Fin 8))
abbrev hs0_0 (t : Fin (cfgA T0 T1 hok).N) : (ms0_0 T0 T1 hok t).IsWhole := hstage0_0 (((cfgA T0 T1 hok).slots t (0 : Fin 8)).cast nbuf0_0)
abbrev ms0_1 (t : Fin (cfgA T0 T1 hok).N) : Memref sig .tc .vmem S1x1024x1024 .f32 := spec0_1.stage ((cfgA T0 T1 hok).slots t (1 : Fin 8))
abbrev hs0_1 (t : Fin (cfgA T0 T1 hok).N) : (ms0_1 T0 T1 hok t).IsWhole := hstage0_1 (((cfgA T0 T1 hok).slots t (1 : Fin 8)).cast nbuf0_1)
abbrev ms0_2 (t : Fin (cfgA T0 T1 hok).N) : Memref sig .tc .vmem S1x1x1024 .f32 := spec0_2.stage ((cfgA T0 T1 hok).slots t (2 : Fin 8))
abbrev hs0_2 (t : Fin (cfgA T0 T1 hok).N) : (ms0_2 T0 T1 hok t).IsWhole := hstage0_2 (((cfgA T0 T1 hok).slots t (2 : Fin 8)).cast nbuf0_2)
abbrev ms0_3 (t : Fin (cfgA T0 T1 hok).N) : Memref sig .tc .vmem S1x1024x1024 .f32 := spec0_3.stage ((cfgA T0 T1 hok).slots t (3 : Fin 8))
abbrev hs0_3 (t : Fin (cfgA T0 T1 hok).N) : (ms0_3 T0 T1 hok t).IsWhole := hstage0_3 (((cfgA T0 T1 hok).slots t (3 : Fin 8)).cast nbuf0_3)
abbrev ms0_4 (t : Fin (cfgA T0 T1 hok).N) : Memref sig .tc .vmem S1x1x1024 .f32 := spec0_4.stage ((cfgA T0 T1 hok).slots t (4 : Fin 8))
abbrev hs0_4 (t : Fin (cfgA T0 T1 hok).N) : (ms0_4 T0 T1 hok t).IsWhole := hstage0_4 (((cfgA T0 T1 hok).slots t (4 : Fin 8)).cast nbuf0_4)
abbrev ms0_5 (t : Fin (cfgA T0 T1 hok).N) : Memref sig .tc .vmem S1x1024x1024 .f32 := spec0_5.stage ((cfgA T0 T1 hok).slots t (5 : Fin 8))
abbrev hs0_5 (t : Fin (cfgA T0 T1 hok).N) : (ms0_5 T0 T1 hok t).IsWhole := hstage0_5 (((cfgA T0 T1 hok).slots t (5 : Fin 8)).cast nbuf0_5)
abbrev ms0_6 (t : Fin (cfgA T0 T1 hok).N) : Memref sig .tc .vmem S1x1x1024 .f32 := spec0_6.stage ((cfgA T0 T1 hok).slots t (6 : Fin 8))
abbrev hs0_6 (t : Fin (cfgA T0 T1 hok).N) : (ms0_6 T0 T1 hok t).IsWhole := hstage0_6 (((cfgA T0 T1 hok).slots t (6 : Fin 8)).cast nbuf0_6)
abbrev ms0_7 (t : Fin (cfgA T0 T1 hok).N) : Memref sig .tc .vmem S256x1024 .f32 := spec0_7.stage ((cfgA T0 T1 hok).slots t (7 : Fin 8))
abbrev hs0_7 (t : Fin (cfgA T0 T1 hok).N) : (ms0_7 T0 T1 hok t).IsWhole := hstage0_7 (((cfgA T0 T1 hok).slots t (7 : Fin 8)).cast nbuf0_7)

/-- Window `w`'s block at tile `t`, read off its array at the start. -/
def iblk (c : Dev nD) (w : Fin (cfgA T0 T1 hok).W) (t : Fin (cfgA T0 T1 hok).N) :
    (((cfgA T0 T1 hok).win w).xblock (crd T0 T1 hok t)).Idx → Elt Ideal ((cfgA T0 T1 hok).win w).elt :=
  (((cfgA T0 T1 hok).win w).blk t).view.read (Elt Ideal) ((s₀ m ρ).mem (((cfgA T0 T1 hok).win w).arr.view.loc (c : Thread nD τ)))

/-- The table's entry of tile `t`. -/
abbrev ent (t : Fin (cfgA T0 T1 hok).N) : BitVec 32 := entry T0 ⟨t.val, num_lt T0 T1 hok t⟩

theorem at_ent (t : Fin (cfgA T0 T1 hok).N) (inb : ∀ a, (k0_off1 (crd T0 T1 hok t)) a + S1.size a ≤ S349.size a) (h : S1.numel = 1) :
    (tables T0 T1).at 0 (Rect.unit (s := S349) (k0_off1 (crd T0 T1 hok t)) S1.size inb) h = ent T0 T1 hok t := by
  rw [at_entry]; unfold ent; congr 1; exact Fin.ext (crd_val t)

/-- Window 1's block at a tile is the slice its expert names. -/
theorem iblk_1 (hT : ∀ n, (entry T0 n).toNat < 32) (c : Dev nD) (t : Fin (cfgA T0 T1 hok).N) (y : S1x1024x1024.Idx) :
    (iblk T0 T1 hok m ρ c (1 : Fin 8) t : S1x1024x1024.Idx → Elt Ideal .f32) y
      = (m ((c : Thread nD τ).loc main_arg3) : S32x1024x1024.Idx → Elt Ideal .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg3) : S32x1024x1024.Idx → Elt Ideal .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1024 + 1 * (y 1).val = (y 1).val; omega
  | ⟨2, _⟩ => show 0 * 1024 + 1 * (y 2).val = (y 2).val; omega

/-- Window 2's block at a tile is the slice its expert names. -/
theorem iblk_2 (hT : ∀ n, (entry T0 n).toNat < 32) (c : Dev nD) (t : Fin (cfgA T0 T1 hok).N) (y : S1x1x1024.Idx) :
    (iblk T0 T1 hok m ρ c (2 : Fin 8) t : S1x1x1024.Idx → Elt Ideal .f32) y
      = (m ((c : Thread nD τ).loc main_arg4) : S32x1x1024.Idx → Elt Ideal .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg4) : S32x1x1024.Idx → Elt Ideal .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1 + 1 * (y 1).val = (y 1).val; omega
  | ⟨2, _⟩ => show 0 * 1024 + 1 * (y 2).val = (y 2).val; omega

/-- Window 3's block at a tile is the slice its expert names. -/
theorem iblk_3 (hT : ∀ n, (entry T0 n).toNat < 32) (c : Dev nD) (t : Fin (cfgA T0 T1 hok).N) (y : S1x1024x1024.Idx) :
    (iblk T0 T1 hok m ρ c (3 : Fin 8) t : S1x1024x1024.Idx → Elt Ideal .f32) y
      = (m ((c : Thread nD τ).loc main_arg5) : S32x1024x1024.Idx → Elt Ideal .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg5) : S32x1024x1024.Idx → Elt Ideal .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1024 + 1 * (y 1).val = (y 1).val; omega
  | ⟨2, _⟩ => show 0 * 1024 + 1 * (y 2).val = (y 2).val; omega

/-- Window 4's block at a tile is the slice its expert names. -/
theorem iblk_4 (hT : ∀ n, (entry T0 n).toNat < 32) (c : Dev nD) (t : Fin (cfgA T0 T1 hok).N) (y : S1x1x1024.Idx) :
    (iblk T0 T1 hok m ρ c (4 : Fin 8) t : S1x1x1024.Idx → Elt Ideal .f32) y
      = (m ((c : Thread nD τ).loc main_arg6) : S32x1x1024.Idx → Elt Ideal .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg6) : S32x1x1024.Idx → Elt Ideal .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1 + 1 * (y 1).val = (y 1).val; omega
  | ⟨2, _⟩ => show 0 * 1024 + 1 * (y 2).val = (y 2).val; omega

/-- Window 5's block at a tile is the slice its expert names. -/
theorem iblk_5 (hT : ∀ n, (entry T0 n).toNat < 32) (c : Dev nD) (t : Fin (cfgA T0 T1 hok).N) (y : S1x1024x1024.Idx) :
    (iblk T0 T1 hok m ρ c (5 : Fin 8) t : S1x1024x1024.Idx → Elt Ideal .f32) y
      = (m ((c : Thread nD τ).loc main_arg7) : S32x1024x1024.Idx → Elt Ideal .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg7) : S32x1024x1024.Idx → Elt Ideal .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1024 + 1 * (y 1).val = (y 1).val; omega
  | ⟨2, _⟩ => show 0 * 1024 + 1 * (y 2).val = (y 2).val; omega

/-- Window 6's block at a tile is the slice its expert names. -/
theorem iblk_6 (hT : ∀ n, (entry T0 n).toNat < 32) (c : Dev nD) (t : Fin (cfgA T0 T1 hok).N) (y : S1x1x1024.Idx) :
    (iblk T0 T1 hok m ρ c (6 : Fin 8) t : S1x1x1024.Idx → Elt Ideal .f32) y
      = (m ((c : Thread nD τ).loc main_arg8) : S32x1x1024.Idx → Elt Ideal .f32)
          (ix3 ⟨(ent T0 T1 hok t).toNat, hT _⟩ ⟨(y 1).val, (y 1).isLt⟩ ⟨(y 2).val, (y 2).isLt⟩) := by
  unfold iblk; rw [View.read_apply]
  show (m ((c : Thread nD τ).loc main_arg8) : S32x1x1024.Idx → Elt Ideal .f32) _ = _
  congr 1; funext a; apply Fin.ext
  have hw := at_ent T0 T1 hok t (k0_off1_inb _) numel1_S1
  have h0 : (y 0).val = 0 := by have : (y 0).val < 1 := (y 0).isLt; omega
  match a with
  | ⟨0, _⟩ =>
    show ((tables T0 T1).at 0 (Rect.unit (s := S349) (k0_off1 (crd T0 T1 hok t)) S1.size (k0_off1_inb _)) numel1_S1).toNat * 1 + 1 * (y 0).val = (ent T0 T1 hok t).toNat
    rw [hw, h0]; omega
  | ⟨1, _⟩ => show 0 * 1 + 1 * (y 1).val = (y 1).val; omega
  | ⟨2, _⟩ => show 0 * 1024 + 1 * (y 2).val = (y 2).val; omega

/-! ## The body's decisions at a tile -/

theorem readCount_eq : readCount T1 = count T1 := at_count (fun _ => 0#32) T1 inb_S1_S1_0 numel1_S1

theorem slt_iff (t : Fin (cfgA T0 T1 hok).N) :
    Scalar.cmpi .slt (BitVec.ofNat 32 ((crd T0 T1 hok t) 0).val) (readCount T1) = 1#1 ↔ Used T1 t.val := by
  rw [readCount_eq, slt_set, show ((crd T0 T1 hok t) 0).val = t.val from crd_val t, tile_toInt _ (num_lt T0 T1 hok t)]

theorem cond2_iff (t : Fin (cfgA T0 T1 hok).N) : k0_cond2 (crd T0 T1 hok t) (readCount T1) = 1#1 ↔ Used T1 t.val := by
  rw [← slt_iff T0 T1 hok t]; exact Iff.of_eq (congrArg (· = 1#1) (widen_ne _))

theorem cond3_iff (t : Fin (cfgA T0 T1 hok).N) : k0_cond3 (crd T0 T1 hok t) (readCount T1) = 1#1 ↔ ¬Used T1 t.val := by
  rw [← slt_iff T0 T1 hok t]
  exact (Iff.of_eq (congrArg (· = 1#1) (widen_ne _))).trans (flip_eq _)

theorem refresh_used (t : Fin (cfgA T0 T1 hok).N) (h : Refresh T0 T1 (crd T0 T1 hok t)) : Used T1 t.val :=
  (slt_iff T0 T1 hok t).mp (and_set _ _ ((widen_ne _).symm.trans h))

/-- A used tile that does not refresh is not the first, and has the expert of the one before. -/
theorem kept_prev (t : Fin (cfgA T0 T1 hok).N) (hu : Used T1 t.val) (h : ¬Refresh T0 T1 (crd T0 T1 hok t)) :
    t.val ≠ 0 ∧ ∀ s : Fin (cfgA T0 T1 hok).N, s.val + 1 = t.val → ent T0 T1 hok s = ent T0 T1 hok t := by
  have hv : ((crd T0 T1 hok t) 0).val = t.val := crd_val t
  obtain ⟨h0, h1⟩ := and_or_clear _ _ _ ((slt_iff T0 T1 hok t).mpr hu) (fun e => h ((widen_ne _).trans e))
  refine ⟨fun e => h0 ?_, fun s hs => ?_⟩
  · rw [hv, e]; rfl
  · have e := (ne_clear _ _ h1).symm
    refine Eq.trans (Eq.trans (congrArg T0 ?_) e) (congrArg T0 ?_)
    · funext a; apply Fin.ext
      match a with
      | ⟨0, _⟩ =>
        show s.val = (Scalar.maxsi (Scalar.subi (BitVec.ofNat 32 ((crd T0 T1 hok t) 0).val) 1#32) 0#32).toNat + 1 * 0
        have k := prev_toNat ⟨t.val, num_lt T0 T1 hok t⟩
        rw [hv, k]; show s.val = t.val - 1 + 1 * 0; omega
    · funext a; apply Fin.ext
      match a with
      | ⟨0, _⟩ =>
        show (BitVec.ofNat 32 ((crd T0 T1 hok t) 0).val).toNat + 1 * 0 = t.val
        rw [hv, tile_toNat _ (num_lt T0 T1 hok t)]; rfl

/-- No tile leaves its output buffer alone. -/
theorem never_idle (t : Fin (cfgA T0 T1 hok).N) : (cfgA T0 T1 hok).idle (7 : Fin 8) (crd T0 T1 hok t) = false := by
  have key : ∀ (i : grid0.Coords) (v : BitVec 32), (!(k0_cond2 i v == 1#1) && !(k0_cond3 i v == 1#1)) = false := by
    intro i v
    have e2 : k0_cond2 i v = Scalar.cmpi .slt (BitVec.ofNat 32 (i 0).val) v := widen_ne _
    have e3 : k0_cond3 i v = Scalar.xori (Scalar.cmpi .slt (BitVec.ofNat 32 (i 0).val) v) 1#1 := widen_ne _
    rw [e2, e3]
    generalize Scalar.cmpi .slt (BitVec.ofNat 32 (i 0).val) v = b
    revert b; decide
  exact key _ _

/-! ## What each tile leaves, and what the three buffers hold between tiles -/

/-- What tile `t` leaves: its expert's answer if it is used, zeros if not. -/
def tileOut (c : Dev nD) (t : Fin (cfgA T0 T1 hok).N) : S256x1024.Idx → Elt Ideal .f32 :=
  if Used T1 t.val then
    k0_pay4 (F := Ideal) (k0_pay6 (iblk T0 T1 hok m ρ c (0 : Fin 8) t) (k0_pay1 (F := Ideal) (iblk T0 T1 hok m ρ c (1 : Fin 8) t)) (iblk T0 T1 hok m ρ c (2 : Fin 8) t)
        (k0_pay2 (F := Ideal) (iblk T0 T1 hok m ρ c (3 : Fin 8) t)) (iblk T0 T1 hok m ρ c (4 : Fin 8) t))
      (k0_pay3 (F := Ideal) (iblk T0 T1 hok m ρ c (5 : Fin 8) t)) (constant S256x1024 .f32 0x00000000#32) (iblk T0 T1 hok m ρ c (6 : Fin 8) t)
  else k0_pay5 (F := Ideal)

/-- What the three buffers hold after `n` tiles: if the last of these was used, its expert's matrices. -/
def Held (c : Dev nD) (n : Nat) (a0 : Buf (Elt Ideal) ((c : Thread nD τ).loc cc0_scratch0)) (a1 : Buf (Elt Ideal) ((c : Thread nD τ).loc cc0_scratch1))
    (a2 : Buf (Elt Ideal) ((c : Thread nD τ).loc cc0_scratch2)) : Prop :=
  ∀ s : Fin (cfgA T0 T1 hok).N, s.val + 1 = n → Used T1 s.val →
    a0 = k0_pay1 (F := Ideal) (iblk T0 T1 hok m ρ c (1 : Fin 8) s) ∧ a1 = k0_pay2 (F := Ideal) (iblk T0 T1 hok m ρ c (3 : Fin 8) s)
      ∧ a2 = k0_pay3 (F := Ideal) (iblk T0 T1 hok m ρ c (5 : Fin 8) s)

/-- Two tiles with one expert read the same matrices. -/
theorem same_matrices (hT : ∀ n, (entry T0 n).toNat < 32) (c : Dev nD) (s t : Fin (cfgA T0 T1 hok).N) (h : ent T0 T1 hok s = ent T0 T1 hok t) :
    (iblk T0 T1 hok m ρ c (1 : Fin 8) s : S1x1024x1024.Idx → Elt Ideal .f32) = iblk T0 T1 hok m ρ c (1 : Fin 8) t
      ∧ (iblk T0 T1 hok m ρ c (3 : Fin 8) s : S1x1024x1024.Idx → Elt Ideal .f32) = iblk T0 T1 hok m ρ c (3 : Fin 8) t
      ∧ (iblk T0 T1 hok m ρ c (5 : Fin 8) s : S1x1024x1024.Idx → Elt Ideal .f32) = iblk T0 T1 hok m ρ c (5 : Fin 8) t := by
  refine ⟨funext fun y => ?_, funext fun y => ?_, funext fun y => ?_⟩
  · rw [iblk_1 T0 T1 hok m ρ hT, iblk_1 T0 T1 hok m ρ hT]; simp only [h]
  · rw [iblk_3 T0 T1 hok m ρ hT, iblk_3 T0 T1 hok m ρ hT]; simp only [h]
  · rw [iblk_5 T0 T1 hok m ρ hT, iblk_5 T0 T1 hok m ρ hT]; simp only [h]

/-- What is true of the three buffers and the tables between tiles. -/
def Between (c : Dev nD) (n : Nat) : sProp 𝕄 :=
  iprop(∃ a0, ∃ a1, ∃ a2, ⌜Held T0 T1 hok m ρ c n a0 a1 a2⌝
    ∗ (scM0_0.view.loc (c : Thread nD τ) ↦{fullShare} a0) ∗ (scM0_1.view.loc (c : Thread nD τ) ↦{fullShare} a1) ∗ (scM0_2.view.loc (c : Thread nD τ) ↦{fullShare} a2)
    ∗ (tbM0_0.view.loc (c : Thread nD τ) ↦{fullShare.right} T0) ∗ (tbM0_1.view.loc (c : Thread nD τ) ↦{fullShare.right} T1))

/-- The seven inputs' buffers of tile `t`, each at its block. -/
def Inputs (c : Dev nD) (t : Fin (cfgA T0 T1 hok).N) : sProp 𝕄 :=
  iprop(owns (c : Thread nD τ) (ms0_0 T0 T1 hok t) fullShare (iblk T0 T1 hok m ρ c (0 : Fin 8) t) ∗ owns (c : Thread nD τ) (ms0_1 T0 T1 hok t) fullShare (iblk T0 T1 hok m ρ c (1 : Fin 8) t) ∗ owns (c : Thread nD τ) (ms0_2 T0 T1 hok t) fullShare (iblk T0 T1 hok m ρ c (2 : Fin 8) t) ∗ owns (c : Thread nD τ) (ms0_3 T0 T1 hok t) fullShare (iblk T0 T1 hok m ρ c (3 : Fin 8) t) ∗ owns (c : Thread nD τ) (ms0_4 T0 T1 hok t) fullShare (iblk T0 T1 hok m ρ c (4 : Fin 8) t) ∗ owns (c : Thread nD τ) (ms0_5 T0 T1 hok t) fullShare (iblk T0 T1 hok m ρ c (5 : Fin 8) t) ∗ owns (c : Thread nD τ) (ms0_6 T0 T1 hok t) fullShare (iblk T0 T1 hok m ρ c (6 : Fin 8) t))

/-- The body at tile `t`. -/
abbrev bodyAt (t : Fin (cfgA T0 T1 hok).N) : Prog (TpuEff nD τ sig (Elt Ideal) Λ₀ .tc) PUnit :=
  cc0__expert_kernel (crd T0 T1 hok t) tbM0_0 (Memref.isWhole_whole _) tbM0_1 (Memref.isWhole_whole _) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) scM0_0 (Memref.isWhole_whole _) scM0_1 (Memref.isWhole_whole _) scM0_2 (Memref.isWhole_whole _)

set_option maxHeartbeats 4800000 in
/-- A tile that refreshes. -/
theorem tile_fresh (c : Dev nD) (t : Fin (cfgA T0 T1 hok).N) (K : PUnit → sProp 𝕄) (hr : Refresh T0 T1 (crd T0 T1 hok t)) :
    iprop(Between T0 T1 hok m ρ c t.val ∗ Inputs T0 T1 hok m ρ c t ∗ (∃ d, owns (c : Thread nD τ) (ms0_7 T0 T1 hok t) fullShare d)
        ∗ (iprop(Between T0 T1 hok m ρ c (t.val + 1) ∗ Inputs T0 T1 hok m ρ c t
            ∗ owns (c : Thread nD τ) (ms0_7 T0 T1 hok t) fullShare (tileOut T0 T1 hok m ρ c t)) -∗ K ⟨⟩))
      ⊢ wp frame (wpE (defs₀ (F := Ideal)) Variants.none c none) Set.univ (bodyAt T0 T1 hok t) K := by
  have hu := refresh_used T0 T1 hok t hr
  have h2 := (cond2_iff T0 T1 hok t).mpr hu
  have h3 : ¬k0_cond3 (crd T0 T1 hok t) (readCount T1) = 1#1 := fun h => (cond3_iff T0 T1 hok t).mp h hu
  have hout : tileOut T0 T1 hok m ρ c t = _ := if_pos hu
  unfold Inputs Between
  iintro ⟨⟨%a0, %a1, %a2, %ha, HS0, HS1, HS2, HT0, HT1⟩, ⟨H0, H1, H2, H3, H4, H5, H6⟩, H7, Hk⟩
  iapply ((kernelRun0_A c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) hr h2 h3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  isplitl [HS2]; · iexact HS2
  iintro ⟨H0, H1, H2, H3, H4, H5, H6, HT0, HT1, ⟨%f, H7⟩, HS0, HS1, HS2⟩
  iapply Hk
  isplitl [HS0 HS1 HS2 HT0 HT1]
  · iexists _; iexists _; iexists _; isplitr; swap
    · isplitl [HS0]; · iexact HS0
      isplitl [HS1]; · iexact HS1
      isplitl [HS2]; · iexact HS2
      isplitl [HT0]; · iexact HT0
      iexact HT1
    · ipureintro; intro s hs _; obtain rfl : s = t := Fin.ext (by omega); exact ⟨fresh_first c (crd T0 T1 hok s) (ms0_0 T0 T1 hok s) (hs0_0 T0 T1 hok s) (ms0_1 T0 T1 hok s) (hs0_1 T0 T1 hok s) (ms0_2 T0 T1 hok s) (hs0_2 T0 T1 hok s) (ms0_3 T0 T1 hok s) (hs0_3 T0 T1 hok s) (ms0_4 T0 T1 hok s) (hs0_4 T0 T1 hok s) (ms0_5 T0 T1 hok s) (hs0_5 T0 T1 hok s) (ms0_6 T0 T1 hok s) (hs0_6 T0 T1 hok s) (ms0_7 T0 T1 hok s) (hs0_7 T0 T1 hok s) T0 T1 (iblk T0 T1 hok m ρ c (0 : Fin 8) s) (iblk T0 T1 hok m ρ c (1 : Fin 8) s) (iblk T0 T1 hok m ρ c (2 : Fin 8) s) (iblk T0 T1 hok m ρ c (3 : Fin 8) s) (iblk T0 T1 hok m ρ c (4 : Fin 8) s) (iblk T0 T1 hok m ρ c (5 : Fin 8) s) (iblk T0 T1 hok m ρ c (6 : Fin 8) s) hr h2 h3, fresh_second c (crd T0 T1 hok s) (ms0_0 T0 T1 hok s) (hs0_0 T0 T1 hok s) (ms0_1 T0 T1 hok s) (hs0_1 T0 T1 hok s) (ms0_2 T0 T1 hok s) (hs0_2 T0 T1 hok s) (ms0_3 T0 T1 hok s) (hs0_3 T0 T1 hok s) (ms0_4 T0 T1 hok s) (hs0_4 T0 T1 hok s) (ms0_5 T0 T1 hok s) (hs0_5 T0 T1 hok s) (ms0_6 T0 T1 hok s) (hs0_6 T0 T1 hok s) (ms0_7 T0 T1 hok s) (hs0_7 T0 T1 hok s) T0 T1 (iblk T0 T1 hok m ρ c (0 : Fin 8) s) (iblk T0 T1 hok m ρ c (1 : Fin 8) s) (iblk T0 T1 hok m ρ c (2 : Fin 8) s) (iblk T0 T1 hok m ρ c (3 : Fin 8) s) (iblk T0 T1 hok m ρ c (4 : Fin 8) s) (iblk T0 T1 hok m ρ c (5 : Fin 8) s) (iblk T0 T1 hok m ρ c (6 : Fin 8) s) hr h2 h3, fresh_third c (crd T0 T1 hok s) (ms0_0 T0 T1 hok s) (hs0_0 T0 T1 hok s) (ms0_1 T0 T1 hok s) (hs0_1 T0 T1 hok s) (ms0_2 T0 T1 hok s) (hs0_2 T0 T1 hok s) (ms0_3 T0 T1 hok s) (hs0_3 T0 T1 hok s) (ms0_4 T0 T1 hok s) (hs0_4 T0 T1 hok s) (ms0_5 T0 T1 hok s) (hs0_5 T0 T1 hok s) (ms0_6 T0 T1 hok s) (hs0_6 T0 T1 hok s) (ms0_7 T0 T1 hok s) (hs0_7 T0 T1 hok s) T0 T1 (iblk T0 T1 hok m ρ c (0 : Fin 8) s) (iblk T0 T1 hok m ρ c (1 : Fin 8) s) (iblk T0 T1 hok m ρ c (2 : Fin 8) s) (iblk T0 T1 hok m ρ c (3 : Fin 8) s) (iblk T0 T1 hok m ρ c (4 : Fin 8) s) (iblk T0 T1 hok m ρ c (5 : Fin 8) s) (iblk T0 T1 hok m ρ c (6 : Fin 8) s) hr h2 h3⟩
  isplitl [H0 H1 H2 H3 H4 H5 H6]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    iapply owns_of_rep; iexact H6
  unfold owns; iexists _; isplitr; swap
  · iexact H7
  · ipureintro
    refine (View.read_writes_of_cover _ _ VO0_7 VO0_7.junk _ (cover0_A_7 c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) hr h2 h3)).trans ?_
    exact (fresh_out c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) hr h2 h3).trans hout.symm

/-- A used tile that keeps the matrices it finds: they are its own, for the tile before was used and had its expert. -/
theorem held_kept (hT : ∀ n, (entry T0 n).toNat < 32) (c : Dev nD) (t : Fin (cfgA T0 T1 hok).N) (hu : Used T1 t.val)
    (hr : ¬Refresh T0 T1 (crd T0 T1 hok t)) (a0 a1 a2) (ha : Held T0 T1 hok m ρ c t.val a0 a1 a2) :
    Held T0 T1 hok m ρ c (t.val + 1) a0 a1 a2 := by
  obtain ⟨hne, hsame⟩ := kept_prev T0 T1 hok t hu hr
  intro s hs _
  obtain rfl : s = t := Fin.ext (by omega)
  have hp : s.val - 1 < (cfgA T0 T1 hok).N := lt_of_le_of_lt (Nat.sub_le _ _) s.isLt
  have hs1 : (⟨s.val - 1, hp⟩ : Fin (cfgA T0 T1 hok).N).val + 1 = s.val := by show s.val - 1 + 1 = s.val; omega
  obtain ⟨k0, k1, k2⟩ := ha ⟨s.val - 1, hp⟩ hs1 (by have := hu; show ((s.val - 1 : Nat) : Int) < _; omega)
  obtain ⟨g0, g1, g2⟩ := same_matrices T0 T1 hok m ρ hT c _ _ (hsame _ hs1)
  exact ⟨k0.trans (congrArg (k0_pay1 (F := Ideal)) g0), k1.trans (congrArg (k0_pay2 (F := Ideal)) g1), k2.trans (congrArg (k0_pay3 (F := Ideal)) g2)⟩

set_option maxHeartbeats 4800000 in
/-- A used tile that does not refresh. -/
theorem tile_kept (hT : ∀ n, (entry T0 n).toNat < 32) (c : Dev nD) (t : Fin (cfgA T0 T1 hok).N) (K : PUnit → sProp 𝕄) (hu : Used T1 t.val) (hr : ¬Refresh T0 T1 (crd T0 T1 hok t)) :
    iprop(Between T0 T1 hok m ρ c t.val ∗ Inputs T0 T1 hok m ρ c t ∗ (∃ d, owns (c : Thread nD τ) (ms0_7 T0 T1 hok t) fullShare d)
        ∗ (iprop(Between T0 T1 hok m ρ c (t.val + 1) ∗ Inputs T0 T1 hok m ρ c t
            ∗ owns (c : Thread nD τ) (ms0_7 T0 T1 hok t) fullShare (tileOut T0 T1 hok m ρ c t)) -∗ K ⟨⟩))
      ⊢ wp frame (wpE (defs₀ (F := Ideal)) Variants.none c none) Set.univ (bodyAt T0 T1 hok t) K := by
  have h2 := (cond2_iff T0 T1 hok t).mpr hu
  have h3 : ¬k0_cond3 (crd T0 T1 hok t) (readCount T1) = 1#1 := fun h => (cond3_iff T0 T1 hok t).mp h hu
  have hb := held_kept T0 T1 hok m ρ hT c t hu hr
  have hout : tileOut T0 T1 hok m ρ c t = _ := if_pos hu
  unfold Inputs Between
  iintro ⟨⟨%a0, %a1, %a2, %ha, HS0, HS1, HS2, HT0, HT1⟩, ⟨H0, H1, H2, H3, H4, H5, H6⟩, H7, Hk⟩
  iapply ((kernelRun0_B c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  isplitl [HS2]; · iexact HS2
  iintro ⟨H0, H1, H2, H3, H4, H5, H6, HT0, HT1, ⟨%f, H7⟩, HS0, HS1, HS2⟩
  iapply Hk
  isplitl [HS0 HS1 HS2 HT0 HT1]
  · iexists _; iexists _; iexists _; isplitr; swap
    · isplitl [HS0]; · iexact HS0
      isplitl [HS1]; · iexact HS1
      isplitl [HS2]; · iexact HS2
      isplitl [HT0]; · iexact HT0
      iexact HT1
    · ipureintro; exact hb _ _ _ ha
  isplitl [H0 H1 H2 H3 H4 H5 H6]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    iapply owns_of_rep; iexact H6
  unfold owns; iexists _; isplitr; swap
  · iexact H7
  · ipureintro
    refine (View.read_writes_of_cover _ _ VO0_7 VO0_7.junk _ (cover0_B_7 c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3)).trans ?_
    obtain ⟨k0, k1, k2⟩ := hb _ _ _ ha t rfl hu
    refine (kept_out c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3).trans (Eq.trans ?_ hout.symm)
    rw [k0, k1, k2]

set_option maxHeartbeats 4800000 in
/-- An unused tile. -/
theorem tile_unused (c : Dev nD) (t : Fin (cfgA T0 T1 hok).N) (K : PUnit → sProp 𝕄) (hu : ¬Used T1 t.val) :
    iprop(Between T0 T1 hok m ρ c t.val ∗ Inputs T0 T1 hok m ρ c t ∗ (∃ d, owns (c : Thread nD τ) (ms0_7 T0 T1 hok t) fullShare d)
        ∗ (iprop(Between T0 T1 hok m ρ c (t.val + 1) ∗ Inputs T0 T1 hok m ρ c t
            ∗ owns (c : Thread nD τ) (ms0_7 T0 T1 hok t) fullShare (tileOut T0 T1 hok m ρ c t)) -∗ K ⟨⟩))
      ⊢ wp frame (wpE (defs₀ (F := Ideal)) Variants.none c none) Set.univ (bodyAt T0 T1 hok t) K := by
  have hr : ¬Refresh T0 T1 (crd T0 T1 hok t) := fun h => hu (refresh_used T0 T1 hok t h)
  have h2 : ¬k0_cond2 (crd T0 T1 hok t) (readCount T1) = 1#1 := fun h => hu ((cond2_iff T0 T1 hok t).mp h)
  have h3 := (cond3_iff T0 T1 hok t).mpr hu
  have hout : tileOut T0 T1 hok m ρ c t = _ := if_neg hu
  unfold Inputs Between
  iintro ⟨⟨%a0, %a1, %a2, %ha, HS0, HS1, HS2, HT0, HT1⟩, ⟨H0, H1, H2, H3, H4, H5, H6⟩, H7, Hk⟩
  iapply ((kernelRun0_C c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  isplitl [HS2]; · iexact HS2
  iintro ⟨H0, H1, H2, H3, H4, H5, H6, HT0, HT1, ⟨%f, H7⟩, HS0, HS1, HS2⟩
  iapply Hk
  isplitl [HS0 HS1 HS2 HT0 HT1]
  · iexists _; iexists _; iexists _; isplitr; swap
    · isplitl [HS0]; · iexact HS0
      isplitl [HS1]; · iexact HS1
      isplitl [HS2]; · iexact HS2
      isplitl [HT0]; · iexact HT0
      iexact HT1
    · ipureintro; intro s hs hus; obtain rfl : s = t := Fin.ext (by omega); exact absurd hus hu
  isplitl [H0 H1 H2 H3 H4 H5 H6]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    iapply owns_of_rep; iexact H6
  unfold owns; iexists _; isplitr; swap
  · iexact H7
  · ipureintro
    refine (View.read_writes_of_cover _ _ VO0_7 VO0_7.junk _ (cover0_C_7 c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3)).trans ?_
    exact (unused_out c (crd T0 T1 hok t) (ms0_0 T0 T1 hok t) (hs0_0 T0 T1 hok t) (ms0_1 T0 T1 hok t) (hs0_1 T0 T1 hok t) (ms0_2 T0 T1 hok t) (hs0_2 T0 T1 hok t) (ms0_3 T0 T1 hok t) (hs0_3 T0 T1 hok t) (ms0_4 T0 T1 hok t) (hs0_4 T0 T1 hok t) (ms0_5 T0 T1 hok t) (hs0_5 T0 T1 hok t) (ms0_6 T0 T1 hok t) (hs0_6 T0 T1 hok t) (ms0_7 T0 T1 hok t) (hs0_7 T0 T1 hok t) T0 T1 (iblk T0 T1 hok m ρ c (0 : Fin 8) t) (iblk T0 T1 hok m ρ c (1 : Fin 8) t) (iblk T0 T1 hok m ρ c (2 : Fin 8) t) (iblk T0 T1 hok m ρ c (3 : Fin 8) t) (iblk T0 T1 hok m ρ c (4 : Fin 8) t) (iblk T0 T1 hok m ρ c (5 : Fin 8) t) (iblk T0 T1 hok m ρ c (6 : Fin 8) t) a0 a1 a2 hr h2 h3).trans hout.symm

/-- One tile: from the buffers as the tiles before left them and the inputs at their blocks, the body leaves the
    buffers as this tile does, the inputs as they were and the output at `tileOut`. -/
theorem tile_run (hT : ∀ n, (entry T0 n).toNat < 32) (c : Dev nD) (t : Fin (cfgA T0 T1 hok).N) (K : PUnit → sProp 𝕄) :
    iprop(Between T0 T1 hok m ρ c t.val ∗ Inputs T0 T1 hok m ρ c t ∗ (∃ d, owns (c : Thread nD τ) (ms0_7 T0 T1 hok t) fullShare d)
        ∗ (iprop(Between T0 T1 hok m ρ c (t.val + 1) ∗ Inputs T0 T1 hok m ρ c t
            ∗ owns (c : Thread nD τ) (ms0_7 T0 T1 hok t) fullShare (tileOut T0 T1 hok m ρ c t)) -∗ K ⟨⟩))
      ⊢ wp frame (wpE (defs₀ (F := Ideal)) Variants.none c none) Set.univ (bodyAt T0 T1 hok t) K := by
  by_cases hr : Refresh T0 T1 (crd T0 T1 hok t)
  · exact tile_fresh T0 T1 hok m ρ c t K hr
  by_cases hu : Used T1 t.val
  · exact tile_kept T0 T1 hok m ρ hT c t K hu hr
  · exact tile_unused T0 T1 hok m ρ c t K hu

/-! ## The launch -/

/-- What the run reads and leaves: each input's block as it was, the output's at `tileOut`. -/
def dats (_ : Fin 1) (c : Dev nD) : Dat τ (Elt Ideal) Unit ℕ (UR sig nD τ) ℕ (cfgA T0 T1 hok) c where
  A w := (s₀ m ρ).mem (((cfgA T0 T1 hok).win w).arr.view.loc (c : Thread nD τ))
  after w t := match w with
    | ⟨0, _⟩ => iblk T0 T1 hok m ρ c (0 : Fin 8) t
    | ⟨1, _⟩ => iblk T0 T1 hok m ρ c (1 : Fin 8) t
    | ⟨2, _⟩ => iblk T0 T1 hok m ρ c (2 : Fin 8) t
    | ⟨3, _⟩ => iblk T0 T1 hok m ρ c (3 : Fin 8) t
    | ⟨4, _⟩ => iblk T0 T1 hok m ρ c (4 : Fin 8) t
    | ⟨5, _⟩ => iblk T0 T1 hok m ρ c (5 : Fin 8) t
    | ⟨6, _⟩ => iblk T0 T1 hok m ρ c (6 : Fin 8) t
    | ⟨7, _⟩ => tileOut T0 T1 hok m ρ c t
  Φ t := Between T0 T1 hok m ρ c t.val
  q _ := fullShare
  owed _ := 0

theorem before_0 (c : Dev nD) (t : Fin (cfgA T0 T1 hok).N) (d) : (dats T0 T1 hok m ρ 0 c).before (0 : Fin 8) t d = iblk T0 T1 hok m ρ c (0 : Fin 8) t :=
  ((dats T0 T1 hok m ρ 0 c).before_in_eq_fetched (0 : Fin 8) rfl (fun _ => rfl) (fun _ _ _ => rfl) (fun t => by
    show iblk T0 T1 hok m ρ c (0 : Fin 8) t = _
    unfold Dat.blockOf iblk; rfl) t d).trans (by unfold Dat.fetched Dat.blockOf iblk; rfl)

theorem before_1 (c : Dev nD) (t : Fin (cfgA T0 T1 hok).N) (d) : (dats T0 T1 hok m ρ 0 c).before (1 : Fin 8) t d = iblk T0 T1 hok m ρ c (1 : Fin 8) t :=
  ((dats T0 T1 hok m ρ 0 c).before_in_eq_fetched (1 : Fin 8) rfl (fun _ => rfl) (fun _ _ _ => rfl) (fun t => by
    show iblk T0 T1 hok m ρ c (1 : Fin 8) t = _
    unfold Dat.blockOf iblk; rfl) t d).trans (by unfold Dat.fetched Dat.blockOf iblk; rfl)

theorem before_2 (c : Dev nD) (t : Fin (cfgA T0 T1 hok).N) (d) : (dats T0 T1 hok m ρ 0 c).before (2 : Fin 8) t d = iblk T0 T1 hok m ρ c (2 : Fin 8) t :=
  ((dats T0 T1 hok m ρ 0 c).before_in_eq_fetched (2 : Fin 8) rfl (fun _ => rfl) (fun _ _ _ => rfl) (fun t => by
    show iblk T0 T1 hok m ρ c (2 : Fin 8) t = _
    unfold Dat.blockOf iblk; rfl) t d).trans (by unfold Dat.fetched Dat.blockOf iblk; rfl)

theorem before_3 (c : Dev nD) (t : Fin (cfgA T0 T1 hok).N) (d) : (dats T0 T1 hok m ρ 0 c).before (3 : Fin 8) t d = iblk T0 T1 hok m ρ c (3 : Fin 8) t :=
  ((dats T0 T1 hok m ρ 0 c).before_in_eq_fetched (3 : Fin 8) rfl (fun _ => rfl) (fun _ _ _ => rfl) (fun t => by
    show iblk T0 T1 hok m ρ c (3 : Fin 8) t = _
    unfold Dat.blockOf iblk; rfl) t d).trans (by unfold Dat.fetched Dat.blockOf iblk; rfl)

theorem before_4 (c : Dev nD) (t : Fin (cfgA T0 T1 hok).N) (d) : (dats T0 T1 hok m ρ 0 c).before (4 : Fin 8) t d = iblk T0 T1 hok m ρ c (4 : Fin 8) t :=
  ((dats T0 T1 hok m ρ 0 c).before_in_eq_fetched (4 : Fin 8) rfl (fun _ => rfl) (fun _ _ _ => rfl) (fun t => by
    show iblk T0 T1 hok m ρ c (4 : Fin 8) t = _
    unfold Dat.blockOf iblk; rfl) t d).trans (by unfold Dat.fetched Dat.blockOf iblk; rfl)

theorem before_5 (c : Dev nD) (t : Fin (cfgA T0 T1 hok).N) (d) : (dats T0 T1 hok m ρ 0 c).before (5 : Fin 8) t d = iblk T0 T1 hok m ρ c (5 : Fin 8) t :=
  ((dats T0 T1 hok m ρ 0 c).before_in_eq_fetched (5 : Fin 8) rfl (fun _ => rfl) (fun _ _ _ => rfl) (fun t => by
    show iblk T0 T1 hok m ρ c (5 : Fin 8) t = _
    unfold Dat.blockOf iblk; rfl) t d).trans (by unfold Dat.fetched Dat.blockOf iblk; rfl)

theorem before_6 (c : Dev nD) (t : Fin (cfgA T0 T1 hok).N) (d) : (dats T0 T1 hok m ρ 0 c).before (6 : Fin 8) t d = iblk T0 T1 hok m ρ c (6 : Fin 8) t :=
  ((dats T0 T1 hok m ρ 0 c).before_in_eq_fetched (6 : Fin 8) rfl (fun _ => rfl) (fun _ _ _ => rfl) (fun t => by
    show iblk T0 T1 hok m ρ c (6 : Fin 8) t = _
    unfold Dat.blockOf iblk; rfl) t d).trans (by unfold Dat.fetched Dat.blockOf iblk; rfl)

set_option maxHeartbeats 4800000 in
/-- The body's obligation at every tile: the inputs arrive at their blocks, `tile_run` applies, and no buffer is left idle. -/
theorem body_obligation (hT : ∀ n, (entry T0 n).toNat < 32) (c : Dev nD) :
    BodyObligation (dats T0 T1 hok m ρ 0 c) (defs₀ (F := Ideal)) Variants.none () Set.univ := fun t => by
  rw [bigSep_W0, bigSep_W0]
  rewrite [never_idle T0 T1 hok t]
  simp only [before_0, before_1, before_2, before_3, before_4, before_5, before_6]
  rewrite [show (dats T0 T1 hok m ρ 0 c).Φ t.succ = Between T0 T1 hok m ρ c (t.val + 1) from rfl,
    show (dats T0 T1 hok m ρ 0 c).Φ t.castSucc = Between T0 T1 hok m ρ c t.val from rfl,
    show (dats T0 T1 hok m ρ 0 c).owesAt () t.succ = (dats T0 T1 hok m ρ 0 c).owesAt () t.castSucc from rfl]
  iintro ⟨HB, Ho, ⟨%d0, H0⟩, ⟨%d1, H1⟩, ⟨%d2, H2⟩, ⟨%d3, H3⟩, ⟨%d4, H4⟩, ⟨%d5, H5⟩, ⟨%d6, H6⟩, ⟨%d7, H7⟩⟩
  iapply tile_run T0 T1 hok m ρ hT c t
  isplitl [HB]; · iexact HB
  isplitl [H0 H1 H2 H3 H4 H5 H6]
  · unfold Inputs
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  unfold Inputs
  iintro ⟨HB, ⟨H0, H1, H2, H3, H4, H5, H6⟩, H7⟩
  isplitl [HB]; · iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's element. -/
def u₀ : UR sig nD τ :=
  initOf (Pipeline.cells (pcs T0 T1 hok) ((launch0 (F := Ideal)).cellOf_inj fun _ => adm T0 T1 hok))
    (Pipeline.launchToks (pcs T0 T1 hok) ((launch0 (F := Ideal)).cellOf_inj fun _ => adm T0 T1 hok))

theorem share_full (c : Dev nD) (w : Fin (cfgA T0 T1 hok).W) : (dats T0 T1 hok m ρ 0 c).share w = fullShare := by
  unfold Dat.share; split <;> rfl

/-- The two tables as the launch hands them over. -/
theorem tables_held (c : Dev nD) (s : Fin 2 → PosShare TreeShare) (v : pre0.Contents (Elt Ideal)) :
    (Pipeline.prefHeld (Ix := Unit) (Name := ℕ) (U := UR sig nD τ) (Lvl := ℕ) pre0 c s v : sProp 𝕄)
      = iprop((((c : Thread nD τ).loc main_arg0) ↦{s 0} v 0) ∗ (((c : Thread nD τ).loc main_arg1) ↦{s 1} v 1)) := by
  unfold Pipeline.prefHeld
  rw [show (Finset.univ : Finset (Fin 2)) = insert (0 : Fin 2) {(1 : Fin 2)} from by decide, bigSep_insert (by decide), bigSep_singleton]
  rfl

/-- Before the first tile nothing is asked of the three buffers. -/
theorem enter (c : Dev nD) :
    iprop(BI.emp ∗ Pipeline.prefHeld pre0 c (fun _ => fullShare.right) (adm T0 T1 hok).1 ∗ Pipeline.scopedRest spec0 c) ⊢ (dats T0 T1 hok m ρ 0 c).Φ 0 := by
  rw [tables_held, scopedRest0_eq, show (dats T0 T1 hok m ρ 0 c).Φ 0 = Between T0 T1 hok m ρ c 0 from rfl]
  unfold Between
  iintro ⟨-, ⟨HT0, HT1⟩, ⟨%a0, HS0⟩, ⟨%a1, HS1⟩, ⟨%a2, HS2⟩⟩
  iexists a0; iexists a1; iexists a2; isplitr; swap
  · isplitl [HS0]; · iexact HS0
    isplitl [HS1]; · iexact HS1
    isplitl [HS2]; · iexact HS2
    isplitl [HT0]; · iexact HT0
    iexact HT1
  · ipureintro; intro s hs; exact absurd hs (Nat.succ_ne_zero _)

/-- After the last tile the three buffers are given back. -/
theorem leave (c : Dev nD) : (dats T0 T1 hok m ρ 0 c).Φ (Fin.last (cfgA T0 T1 hok).N) ⊢ iprop(BI.emp ∗ Pipeline.scopedRest spec0 c) := by
  rw [scopedRest0_eq, show (dats T0 T1 hok m ρ 0 c).Φ (Fin.last (cfgA T0 T1 hok).N) = Between T0 T1 hok m ρ c (cfgA T0 T1 hok).N from rfl]
  unfold Between
  iintro ⟨%a0, %a1, %a2, -, HS0, HS1, HS2, -, -⟩
  isplitr; · iempintro
  isplitl [HS0]; · iexists a0; iexact HS0
  isplitl [HS1]; · iexists a1; iexact HS1
  iexists a2; iexact HS2

/-- What the run ends with: every array at what the tiles leave of it, both tables as they were. -/
def Ends (r : PUnit × MemSt nD τ sig (Elt Ideal)) : Prop :=
  ∀ c : Dev nD, (∀ w : Fin (cfgA T0 T1 hok).W, r.2.mem (((cfgA T0 T1 hok).win w).arr.view.loc (c : Thread nD τ)) = (dats T0 T1 hok m ρ 0 c).arrAt w (cfgA T0 T1 hok).N)
    ∧ ∀ j, r.2.mem ((c : Thread nD τ).loc (pre0.ref j)) = (adm T0 T1 hok).1 j

/-- The memory's two tables are `T0` and `T1`. -/
def Pinned : Prop := ∀ c : Dev nD, m ((c : Thread nD τ).loc main_arg0) = T0 ∧ m ((c : Thread nD τ).loc main_arg1) = T1

theorem pinned_at (hp : Pinned T0 T1 m) (c : Dev nD) (j : Fin 2) : m ((c : Thread nD τ).loc (pre0.ref j)) = (adm T0 T1 hok).1 j := by
  fin_cases j
  · exact (hp c).1
  · exact (hp c).2

set_option backward.isDefEq.respectTransparency.types false in
set_option maxHeartbeats 4000000 in
/-- From any memory with these tables every execution ends, with the arrays at what the tiles leave and all counters at zero. -/
theorem run_ends (hT : ∀ n, (entry T0 n).toNat < 32) (hp : Pinned T0 T1 m) :
    θ_run (defs (F := Ideal)) (onTc (τ := τ) (main (F := Ideal))) (s₀ m ρ) (fun r => Ends T0 T1 hok m ρ r ∧ r.2.sem = fun _ => 0) :=
  Pipeline.θ_run_region_noSem_pf_quiescent pcfgs (fun _ => adm T0 T1 hok) (dats T0 T1 hok m ρ) () ((launch0 (F := Ideal)).cellOf_inj fun _ => adm T0 T1 hok) (0 : Fin 1)
    (launch0 (F := Ideal)).win.to₀ (launch0 (F := Ideal)).pre emb₁ defs₀ Variants.none m ρ main
    (hbody := fun c => (body_obligation T0 T1 hok m ρ hT c).loose) (hne := (launch0 (F := Ideal)).block_pos)
    (harr := (launch0 (F := Ideal)).arr_whole) (hstage := (launch0 (F := Ideal)).stage_whole) (howed := fun _ _ => rfl)
    (u₀ := u₀ T0 T1 hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hok) (dats T0 T1 hok m ρ) 0 (launch0 (F := Ideal)).win.arr_inj c (launch0 (F := Ideal)).arr_whole
      (share_full T0 T1 hok m ρ c) _ _ fun _ => rfl)
    (hpf := pinned_at T0 T1 hok m hp)
    (X := fun _ => iprop(emp)) (Y := fun _ => iprop(emp)) (Z := fun _ => iprop(emp))
    (hX := fun c => by rw [unscopedRestP0_eq]; iintro -; isplitr <;> iempintro)
    (hin := enter T0 T1 hok m ρ)
    (hout := leave T0 T1 hok m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run ends with the result's array at what the tiles leave, the arguments as they were and all counters at zero. -/
theorem run_result (hT : ∀ n, (entry T0 n).toNat < 32) (hp : Pinned T0 T1 m) :
    θ_run (defs (F := Ideal)) (onTc (τ := τ) (main (F := Ideal))) ⟨m, fun _ => 0, ρ⟩ (fun r => ((∀ c : Dev nD,
      r.2.mem ((c.tc : Thread nD τ).loc main_v0) = (dats T0 T1 hok m ρ 0 c).arrAt (7 : Fin 8) (cfgA T0 T1 hok).N)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨⟨fun c => (h.1 c).1 (7 : Fin 8), fun c => ⟨((h.1 c).2 0).trans (hp c).1.symm, ((h.1 c).2 1).trans (hp c).2.symm, ((h.1 c).1 (0 : Fin 8)).trans ((dats T0 T1 hok m ρ 0 c).arrAt_in (0 : Fin 8) rfl _), ((h.1 c).1 (1 : Fin 8)).trans ((dats T0 T1 hok m ρ 0 c).arrAt_in (1 : Fin 8) rfl _), ((h.1 c).1 (2 : Fin 8)).trans ((dats T0 T1 hok m ρ 0 c).arrAt_in (2 : Fin 8) rfl _), ((h.1 c).1 (3 : Fin 8)).trans ((dats T0 T1 hok m ρ 0 c).arrAt_in (3 : Fin 8) rfl _), ((h.1 c).1 (4 : Fin 8)).trans ((dats T0 T1 hok m ρ 0 c).arrAt_in (4 : Fin 8) rfl _), ((h.1 c).1 (5 : Fin 8)).trans ((dats T0 T1 hok m ρ 0 c).arrAt_in (5 : Fin 8) rfl _), ((h.1 c).1 (6 : Fin 8)).trans ((dats T0 T1 hok m ρ 0 c).arrAt_in (6 : Fin 8) rfl _)⟩⟩, h.2⟩)
    (run_ends T0 T1 hok m ρ hT hp)

end Cert.ExpertsIdeal.Tiles

end
-- ==== Proof.ExpertsRows.lean ====
/- What the experts compute, row by row, and the reference's result as that. -/
module

public import proofs.«01_k».proof.Proof.TileWords
public import proofs.«01_k».proof.Proof.Gen.ExpertsRefIdeal.Read
public import Idealize.ShloMosaic.Lib.Pointwise
public import Idealize.ShloMosaic.PureOps.Ideal

@[expose] public section

set_option maxRecDepth 16384

noncomputable section

namespace Cert.Proof.Experts

open Idealize.ShloMosaic

/-- The activation of a gate and an up value: `g · σ(1.702 g) · (u + 1)`. -/
def act (g u : EReal) : EReal :=
  g * Ideal.div (Ideal.ofBits .f32 0x3F800000#32)
      (Ideal.ofBits .f32 0x3F800000#32 + Ideal.exp (-(Ideal.ofBits .f32 0x3FD9DB23#32 * g)))
    * (u + Ideal.ofBits .f32 0x3F800000#32)

/-- A row through a matrix and a bias. -/
def through (x : Fin 1024 → EReal) (w : Fin 1024 → Fin 1024 → EReal) (b : Fin 1024 → EReal) (h : Fin 1024) : EReal :=
  (∑ k : Fin 1024, x k * w k h) + b h

/-- One expert's answer to a row: the gate held below seven, the up value between minus seven and seven. -/
def answer (x : Fin 1024 → EReal) (wg : Fin 1024 → Fin 1024 → EReal) (bg : Fin 1024 → EReal) (wu : Fin 1024 → Fin 1024 → EReal)
    (bu : Fin 1024 → EReal) (wd : Fin 1024 → Fin 1024 → EReal) (bd : Fin 1024 → EReal) (n : Fin 1024) : EReal :=
  through (fun h => act (min (through x wg bg h) (Ideal.ofBits .f32 0x40E00000#32))
    (min (Ideal.ofBits .f32 0x40E00000#32) (max (Ideal.ofBits .f32 0xC0E00000#32) (through x wu bu h)))) wd bd n

/-- The tile of a row. -/
def tileOf (r : Fin 89344) : Fin 349 := ⟨r.val / 256, by omega⟩

open Cert.ExpertsRefIdeal in
/-- The result: a used tile's rows are answered by the tile's expert, the others are zero. -/
def result (te : S349.Idx → BitVec 32) (hT : ∀ n : Fin 349, (te (ix1 n)).toNat < 32) (nu : S1.Idx → BitVec 32)
    (x : S89344x1024.Idx → EReal) (wg : S32x1024x1024.Idx → EReal) (bg : S32x1x1024.Idx → EReal) (wu : S32x1024x1024.Idx → EReal)
    (bu : S32x1x1024.Idx → EReal) (wd : S32x1024x1024.Idx → EReal) (bd : S32x1x1024.Idx → EReal) : S89344x1024.Idx → EReal := fun i =>
  let e : Fin 32 := ⟨(te (ix1 (tileOf (i 0)))).toNat, hT _⟩
  if ((tileOf (i 0)).val : Int) < (nu (ix1 0)).toInt then
    answer (fun k => x (ix2 (i 0) k)) (fun k h => wg (ix3 e k h)) (fun h => bg (ix3 e 0 h)) (fun k h => wu (ix3 e k h)) (fun h => bu (ix3 e 0 h))
      (fun k h => wd (ix3 e k h)) (fun h => bd (ix3 e 0 h)) (i 1)
  else 0

end Cert.Proof.Experts

namespace Cert.ExpertsRefIdeal.Rows

open Cert.ExpertsRefIdeal Cert.ExpertsRefIdeal.Gen Cert.ExpertsRefIdeal.Read Cert.Proof.Experts Cert.TileWords
open Idealize.ShloMosaic Idealize.ShloMosaic.StableHlo

/-! ## The gathers -/

theorem small_toInt (v : BitVec 32) (hv : v.toNat < 32) : v.toInt = v.toNat :=
  BitVec.toInt_eq_toNat_of_lt (by omega)

/-- A number that is not negative is not wrapped. -/
theorem wrap_eq (v : BitVec 32) (hv : v.toNat < 32) : Scalar.select (IntOp.cmpi .slt v 0#32) (IntOp.addi v 32#32) v = v := by
  have h : ¬ (IntOp.cmpi .slt v 0#32 = 1#1) := by
    intro h
    have := (slt_set v 0#32).mp h
    rw [small_toInt v hv] at this
    simp at this
    omega
  unfold Scalar.select
  exact if_neg h

abbrev matDims := gather_S32x1024x1024_S349x1_S349x1024x1024_12_0_n_n_0_1_110241024
abbrev biasDims := gather_S32x1x1024_S349x1_S349x1x1024_12_0_n_n_0_1_111024

/-- Each tile gathers the matrix its word names. -/
theorem matrix_read (x : S32x1024x1024.Idx → EReal) (w : S349x1.Idx → BitVec 32) (r : Fin 349) (k h : Fin 1024) (hw : (w (ix2 r 0)).toNat < 32) :
    Host.gather gather_S32x1024x1024_S349x1_S349x1024x1024_12_0_n_n_0_1_110241024 x w (ix3 r k h) = x (ix3 ⟨(w (ix2 r 0)).toNat, hw⟩ k h) := by
  unfold Host.gather
  congr 1
  funext a
  apply Fin.ext
  show matDims.start (ix3 r k h) w a + matDims.batchCoord (ix3 r k h) a + matDims.offCoord (ix3 r k h) a = _
  have hs : ∀ e, matDims.siIdx (ix3 r k h) e = ix2 r 0 := by
    intro e; funext b
    match b with
    | ⟨0, _⟩ => rfl
    | ⟨1, _⟩ => apply Fin.ext; have := (matDims.siIdx (ix3 r k h) e ⟨1, by decide⟩).isLt; exact Nat.lt_one_iff.mp this
  rw [GatherDims.batchCoord_eq_zero _ _ _ (fun h => by cases h), Nat.add_zero]
  match a with
  | ⟨0, h0⟩ =>
    have hm : (⟨0, h0⟩ : Fin S32x1024x1024.rank) ∈ matDims.startIndexMap := (by decide : (0 : Fin 3) ∈ ([0] : List (Fin 3)))
    have hz : matDims.sliceSizes ⟨0, h0⟩ = 1 := rfl
    rw [GatherDims.offCoord_eq_zero _ _ _ (fun h => ((GatherDims.mem_sKept _ _).mp h).1 hm), Nat.add_zero]
    unfold GatherDims.start
    rw [dif_pos hm, hz, hs, small_toInt _ hw, Int.toNat_natCast]
    show min (w (ix2 r 0)).toNat 31 = (w (ix2 r 0)).toNat
    omega
  | ⟨1, h1⟩ =>
    have hm : (⟨1, h1⟩ : Fin S32x1024x1024.rank) ∉ matDims.startIndexMap := (by decide : (1 : Fin 3) ∉ ([0] : List (Fin 3)))
    unfold GatherDims.start GatherDims.offCoord
    rw [dif_neg hm, dif_pos ((GatherDims.mem_sKept _ _).mpr ⟨hm, fun h => by cases h⟩), Nat.zero_add]; rfl
  | ⟨2, h2⟩ =>
    have hm : (⟨2, h2⟩ : Fin S32x1024x1024.rank) ∉ matDims.startIndexMap := (by decide : (2 : Fin 3) ∉ ([0] : List (Fin 3)))
    unfold GatherDims.start GatherDims.offCoord
    rw [dif_neg hm, dif_pos ((GatherDims.mem_sKept _ _).mpr ⟨hm, fun h => by cases h⟩), Nat.zero_add]; rfl

/-- Each tile gathers the bias its word names. -/
theorem bias_read (x : S32x1x1024.Idx → EReal) (w : S349x1.Idx → BitVec 32) (r : Fin 349) (k : Fin 1) (h : Fin 1024) (hw : (w (ix2 r 0)).toNat < 32) :
    Host.gather gather_S32x1x1024_S349x1_S349x1x1024_12_0_n_n_0_1_111024 x w (ix3 r k h) = x (ix3 ⟨(w (ix2 r 0)).toNat, hw⟩ k h) := by
  unfold Host.gather
  congr 1
  funext a
  apply Fin.ext
  show biasDims.start (ix3 r k h) w a + biasDims.batchCoord (ix3 r k h) a + biasDims.offCoord (ix3 r k h) a = _
  have hs : ∀ e, biasDims.siIdx (ix3 r k h) e = ix2 r 0 := by
    intro e; funext b
    match b with
    | ⟨0, _⟩ => rfl
    | ⟨1, _⟩ => apply Fin.ext; have := (biasDims.siIdx (ix3 r k h) e ⟨1, by decide⟩).isLt; exact Nat.lt_one_iff.mp this
  rw [GatherDims.batchCoord_eq_zero _ _ _ (fun h => by cases h), Nat.add_zero]
  match a with
  | ⟨0, h0⟩ =>
    have hm : (⟨0, h0⟩ : Fin S32x1x1024.rank) ∈ biasDims.startIndexMap := (by decide : (0 : Fin 3) ∈ ([0] : List (Fin 3)))
    have hz : biasDims.sliceSizes ⟨0, h0⟩ = 1 := rfl
    rw [GatherDims.offCoord_eq_zero _ _ _ (fun h => ((GatherDims.mem_sKept _ _).mp h).1 hm), Nat.add_zero]
    unfold GatherDims.start
    rw [dif_pos hm, hz, hs, small_toInt _ hw, Int.toNat_natCast]
    show min (w (ix2 r 0)).toNat 31 = (w (ix2 r 0)).toNat
    omega
  | ⟨1, h1⟩ =>
    have hm : (⟨1, h1⟩ : Fin S32x1x1024.rank) ∉ biasDims.startIndexMap := (by decide : (1 : Fin 3) ∉ ([0] : List (Fin 3)))
    unfold GatherDims.start GatherDims.offCoord
    rw [dif_neg hm, dif_pos ((GatherDims.mem_sKept _ _).mpr ⟨hm, fun h => by cases h⟩), Nat.zero_add]; rfl
  | ⟨2, h2⟩ =>
    have hm : (⟨2, h2⟩ : Fin S32x1x1024.rank) ∉ biasDims.startIndexMap := (by decide : (2 : Fin 3) ∉ ([0] : List (Fin 3)))
    unfold GatherDims.start GatherDims.offCoord
    rw [dif_neg hm, dif_pos ((GatherDims.mem_sKept _ _).mpr ⟨hm, fun h => by cases h⟩), Nat.zero_add]; rfl

/-! ## The reference's stages -/

variable (te : S349.Idx → BitVec 32) (hT : ∀ n : Fin 349, (te (ix1 n)).toNat < 32) (nu : S1.Idx → BitVec 32)
    (x : S89344x1024.Idx → EReal) (wg : S32x1024x1024.Idx → EReal) (bg : S32x1x1024.Idx → EReal) (wu : S32x1024x1024.Idx → EReal)
    (bu : S32x1x1024.Idx → EReal) (wd : S32x1024x1024.Idx → EReal) (bd : S32x1x1024.Idx → EReal)

include hT in
theorem word_read (r : Fin 349) : val_main_v6 (F := Ideal) te (ix2 r 0) = te (ix1 r) := by
  have hi : idx_main_v6 (ix2 r 0) = ix1 r := funext fun a => match a with | ⟨0, _⟩ => rfl
  rw [val_main_v6_apply, hi, val_main_v5_apply, val_main_v2_apply, val_main_v4_apply, val_main_v1_apply, val_main_v3_apply]
  exact wrap_eq _ (hT r)

theorem words_v14 : val_main_v14 (F := Ideal) te = val_main_v6 (F := Ideal) te := rfl
theorem words_v25 : val_main_v25 (F := Ideal) te = val_main_v6 (F := Ideal) te := rfl
theorem words_v33 : val_main_v33 (F := Ideal) te = val_main_v6 (F := Ideal) te := rfl
theorem words_v55 : val_main_v55 (F := Ideal) te = val_main_v6 (F := Ideal) te := rfl
theorem words_v63 : val_main_v63 (F := Ideal) te = val_main_v6 (F := Ideal) te := rfl

/-- A gathered matrix at the tile's own word. -/
theorem matrix_at (y : S32x1024x1024.Idx → EReal) (r : Fin 349) (k h : Fin 1024) :
    Host.gather gather_S32x1024x1024_S349x1_S349x1024x1024_12_0_n_n_0_1_110241024 y (val_main_v6 (F := Ideal) te) (ix3 r k h)
      = y (ix3 ⟨(te (ix1 r)).toNat, hT r⟩ k h) := by
  have hw := word_read te hT r
  rw [matrix_read y _ r k h (by rw [hw]; exact hT r)]
  simp only [hw]

theorem bias_at (y : S32x1x1024.Idx → EReal) (r : Fin 349) (h : Fin 1024) :
    Host.gather gather_S32x1x1024_S349x1_S349x1x1024_12_0_n_n_0_1_111024 y (val_main_v6 (F := Ideal) te) (ix3 r 0 h)
      = y (ix3 ⟨(te (ix1 r)).toNat, hT r⟩ 0 h) := by
  have hw := word_read te hT r
  rw [bias_read y _ r 0 h (by rw [hw]; exact hT r)]
  simp only [hw]

/-- Row `q` of tile `r`. -/
def rowAt (r : Fin 349) (q : Fin 256) : Fin 89344 := ⟨r.val * 256 + q.val, by omega⟩

theorem row_read (r : Fin 349) (q : Fin 256) (k : Fin 1024) : val_main_v0 (F := Ideal) x (ix3 r q k) = x (ix2 (rowAt r q) k) := by
  rw [val_main_v0_apply]
  congr 1; funext a; apply Fin.ext
  match a with
  | ⟨0, _⟩ => show ((r.val * 256 + q.val) * 1024 + k.val) / 1024 = r.val * 256 + q.val; omega
  | ⟨1, _⟩ => show ((r.val * 256 + q.val) * 1024 + k.val) % 1024 = k.val; omega

theorem gate_read (r : Fin 349) (q : Fin 256) (h : Fin 1024) :
    val_main_v17 (F := Ideal) te x wg bg (ix3 r q h)
      = through (fun k => x (ix2 (rowAt r q) k)) (fun k h => wg (ix3 ⟨(te (ix1 r)).toNat, hT r⟩ k h)) (fun h => bg (ix3 ⟨(te (ix1 r)).toNat, hT r⟩ 0 h)) h := by
  have hl : ∀ k : Fin 1024, lidx_main_v8 (ix3 r q h) k = ix3 r q k := fun k => funext fun a => match a with | ⟨0, _⟩ => rfl | ⟨1, _⟩ => rfl | ⟨2, _⟩ => rfl
  have hr : ∀ k : Fin 1024, ridx_main_v8 (ix3 r q h) k = ix3 r k h := fun k => funext fun a => match a with | ⟨0, _⟩ => rfl | ⟨1, _⟩ => rfl | ⟨2, _⟩ => rfl
  have hb : idx_main_v16 (ix3 r q h) = ix3 r 0 h := funext fun a => match a with | ⟨0, _⟩ => rfl | ⟨1, _⟩ => rfl | ⟨2, _⟩ => rfl
  rw [val_main_v17_apply, val_main_v8_apply, val_main_v16_apply, hb]
  unfold val_main_v15 val_main_v7
  rw [words_v14, bias_at te hT]
  simp only [hl, hr, row_read, matrix_at te hT]
  rfl

theorem up_read (r : Fin 349) (q : Fin 256) (h : Fin 1024) :
    val_main_v36 (F := Ideal) te x wu bu (ix3 r q h)
      = through (fun k => x (ix2 (rowAt r q) k)) (fun k h => wu (ix3 ⟨(te (ix1 r)).toNat, hT r⟩ k h)) (fun h => bu (ix3 ⟨(te (ix1 r)).toNat, hT r⟩ 0 h)) h :=
  gate_read te hT x wu bu r q h

theorem hidden_read (r : Fin 349) (q : Fin 256) (h : Fin 1024) :
    val_main_v49 (F := Ideal) te x wg bg wu bu (ix3 r q h)
      = act (min (through (fun k => x (ix2 (rowAt r q) k)) (fun k h => wg (ix3 ⟨(te (ix1 r)).toNat, hT r⟩ k h)) (fun h => bg (ix3 ⟨(te (ix1 r)).toNat, hT r⟩ 0 h)) h)
            (Ideal.ofBits .f32 0x40E00000#32))
          (min (Ideal.ofBits .f32 0x40E00000#32) (max (Ideal.ofBits .f32 0xC0E00000#32)
            (through (fun k => x (ix2 (rowAt r q) k)) (fun k h => wu (ix3 ⟨(te (ix1 r)).toNat, hT r⟩ k h)) (fun h => bu (ix3 ⟨(te (ix1 r)).toNat, hT r⟩ 0 h)) h))) := by
  rw [val_main_v49_apply, val_main_v46_apply, val_main_v45_apply, val_main_v43_apply, val_main_v41_apply, val_main_v40_apply, val_main_v39_apply,
    val_main_v48_apply, val_main_v37_apply, val_main_call0_v2_apply, val_main_v19_apply, gate_read te hT, up_read te hT,
    val_main_v44_apply, val_main_v42_apply, val_main_v38_apply, val_main_v47_apply, val_main_v18_apply, val_main_call0_v4_apply, val_main_call0_v1_apply]
  rfl

theorem answer_read (r : Fin 349) (q : Fin 256) (n : Fin 1024) :
    val_main_v66 (F := Ideal) te x wg bg wu bu wd bd (ix3 r q n)
      = answer (fun k => x (ix2 (rowAt r q) k)) (fun k h => wg (ix3 ⟨(te (ix1 r)).toNat, hT r⟩ k h)) (fun h => bg (ix3 ⟨(te (ix1 r)).toNat, hT r⟩ 0 h))
          (fun k h => wu (ix3 ⟨(te (ix1 r)).toNat, hT r⟩ k h)) (fun h => bu (ix3 ⟨(te (ix1 r)).toNat, hT r⟩ 0 h))
          (fun k h => wd (ix3 ⟨(te (ix1 r)).toNat, hT r⟩ k h)) (fun h => bd (ix3 ⟨(te (ix1 r)).toNat, hT r⟩ 0 h)) n := by
  have hl : ∀ k : Fin 1024, lidx_main_v57 (ix3 r q n) k = ix3 r q k := fun k => funext fun a => match a with | ⟨0, _⟩ => rfl | ⟨1, _⟩ => rfl | ⟨2, _⟩ => rfl
  have hr : ∀ k : Fin 1024, ridx_main_v57 (ix3 r q n) k = ix3 r k n := fun k => funext fun a => match a with | ⟨0, _⟩ => rfl | ⟨1, _⟩ => rfl | ⟨2, _⟩ => rfl
  have hb : idx_main_v65 (ix3 r q n) = ix3 r 0 n := funext fun a => match a with | ⟨0, _⟩ => rfl | ⟨1, _⟩ => rfl | ⟨2, _⟩ => rfl
  rw [val_main_v66_apply, val_main_v57_apply, val_main_v65_apply, hb]
  unfold val_main_v64 val_main_v56
  rw [words_v63, words_v55, bias_at te hT]
  simp only [hl, hr, hidden_read te hT, matrix_at te hT]
  rfl

/-- The reference's result is the rows' answers. -/
theorem result_read (i : S89344x1024.Idx) :
    val_main_v73 (F := Ideal) te nu x wg bg wu bu wd bd i = result te hT nu x wg bg wu bu wd bd i := by
  obtain ⟨p, n, rfl⟩ : ∃ (p : Fin 89344) (n : Fin 1024), i = ix2 p n := ⟨i 0, i 1, by funext a; match a with | ⟨0, _⟩ => rfl | ⟨1, _⟩ => rfl⟩
  have hp : idx_main_v73 (ix2 p n) = ix3 (tileOf p) (⟨p.val % 256, Nat.mod_lt _ (by decide)⟩ : Fin 256) n := by
    funext a; apply Fin.ext
    match a with
    | ⟨0, _⟩ => show (p.val * 1024 + n.val) / 262144 = p.val / 256; omega
    | ⟨1, _⟩ => show (p.val * 1024 + n.val) / 1024 % 256 = p.val % 256; omega
    | ⟨2, _⟩ => show (p.val * 1024 + n.val) % 1024 = n.val; omega
  have hrow : rowAt (tileOf p) (⟨p.val % 256, Nat.mod_lt _ (by decide)⟩ : Fin 256) = p := Fin.ext (by show p.val / 256 * 256 + p.val % 256 = p.val; omega)
  rw [val_main_v73_apply, hp, val_main_v72_apply, answer_read te hT, hrow, val_main_call1_v1_apply, val_main_v71_apply, val_main_v70_apply,
    val_main_v69_apply, val_main_v67_apply, val_main_call1_v2_apply]
  have hn : val_main_v68 (F := Ideal) nu (idx_main_v69 (idx_main_v71 (idx_main_call1_v1 (ix3 (tileOf p) (⟨p.val % 256, Nat.mod_lt _ (by decide)⟩ : Fin 256) n)))) = nu (ix1 0) := by
    unfold val_main_v68
    generalize idx_main_v69 _ = z
    have hz : z = fun a => a.elim0 := funext fun a => a.elim0
    subst hz
    exact shapeCast_apply nu shapeCasts_S1_S_ _ (ix1 0) (by decide)
  rw [hn]
  unfold result Scalar.select
  have hc : (IntOp.cmpi .slt (BitVec.ofNat 32 (tileOf p).val) (nu (ix1 0)) = 1#1) ↔ ((tileOf p).val : Int) < (nu (ix1 0)).toInt := by
    have := slt_set (BitVec.ofNat 32 (tileOf p).val) (nu (ix1 0))
    rw [tile_toInt _ (tileOf p).isLt] at this
    exact this
  by_cases hu : ((tileOf p).val : Int) < (nu (ix1 0)).toInt
  · refine (if_pos (hc.mpr hu)).trans (if_pos hu).symm
  · refine (if_neg (fun h => hu (hc.mp h))).trans (Eq.trans ?_ (if_neg hu).symm)
    show Ideal.ofBits .f32 0x00000000#32 = 0
    simp [Ideal.ofBits, Ideal.ieee]

end Cert.ExpertsRefIdeal.Rows

end
-- ==== Proof.ExpertsValue.lean ====
/- The experts kernel's result at real values: every tile's block is its rows' answers, and the blocks fill the result. -/
module

public import proofs.«01_k».proof.Proof.ExpertsIdealTiles
public import proofs.«01_k».proof.Proof.ExpertsRows
public import Idealize.ShloMosaic.Lib.ValueIdx

@[expose] public section

set_option maxRecDepth 16384

noncomputable section

namespace Cert.ExpertsIdeal.Tiles

open Cert.ExpertsIdeal Cert.ExpertsIdeal.Gen Cert.TileWords Cert.Proof.Experts
open Idealize.ShloMosaic Idealize.SL.Sem
open Idealize.ShloMosaic.Pipeline (Dat)

/-! ## The body's formulas -/

theorem matrix_cast {α : Type} (y : S1x1024x1024.Idx → α) (h : S1x1024x1024.ShapeCasts S1024x1024) (k n : Fin 1024) :
    shapeCast S1024x1024 y h (ix2 k n) = y (ix3 0 k n) :=
  shapeCast_apply y h _ (ix3 0 k n) (by
    rewrite [Shape.rowMajor_val_three, Shape.rowMajor_val_two]
    show (0 * 1024 + k.val) * 1024 + n.val = k.val * 1024 + n.val
    omega)

theorem bias_cast {α : Type} (y : S1x1x1024.Idx → α) (h : S1x1x1024.ShapeCasts S1x1024) (z : Fin 1) (n : Fin 1024) :
    shapeCast S1x1024 y h (ix2 z n) = y (ix3 0 0 n) :=
  shapeCast_apply y h _ (ix3 0 0 n) (by
    rewrite [Shape.rowMajor_val_three, Shape.rowMajor_val_two]
    show (0 * 1 + 0) * 1024 + n.val = z.val * 1024 + n.val
    omega)

theorem matrix1_apply (y : Vec Ideal S1x1024x1024 .f32) (k n : Fin 1024) : k0_pay1 (F := Ideal) y (ix2 k n) = y (ix3 0 k n) := by
  unfold k0_pay1
  rw [shapeCast_self]
  exact matrix_cast y _ k n

theorem matrix2_apply (y : Vec Ideal S1x1024x1024 .f32) (k n : Fin 1024) : k0_pay2 (F := Ideal) y (ix2 k n) = y (ix3 0 k n) :=
  matrix1_apply y k n

theorem matrix3_apply (y : Vec Ideal S1x1024x1024 .f32) (k n : Fin 1024) : k0_pay3 (F := Ideal) y (ix2 k n) = y (ix3 0 k n) :=
  matrix1_apply y k n

/-- A bias in every row. -/
theorem spread_bias (b : Vec Ideal S1x1x1024 .f32) (h : S1x1x1024.ShapeCasts S1x1024) (hb : S1x1024.Broadcasts S256x1024) (q : Fin 256) (n : Fin 1024) :
    broadcastTo S256x1024 (shapeCast S1x1024 b h) hb (ix2 q n) = b (ix3 0 0 n) := by
  have e := bias_cast b h 0 n
  generalize shapeCast S1x1024 b h = z at e ⊢
  rw [← e]
  simp only [pointwise]
  simp

/-- A tile's rows through a matrix and a bias. -/
theorem through_apply (x : Vec Ideal S256x1024 .bf16) (w : Vec Ideal S1024x1024 .bf16) (b : Vec Ideal S1x1x1024 .f32)
    (q : Fin 256) (n : Fin 1024) :
    k0_pay4 (F := Ideal) x w (constant S256x1024 .f32 0x00000000#32) b (ix2 q n)
      = through (fun k => x (ix2 q k)) (fun k n => w (ix2 k n)) (fun n => b (ix3 0 0 n)) n := by
  unfold k0_pay4 through
  refine congrArg₂ (· + ·) ?_ (spread_bias b _ _ q n)
  simp only [pointwise, zero_add]

/-- The activated hidden rows. -/
theorem hidden_apply (x : Vec Ideal S256x1024 .f32) (wg : Vec Ideal S1024x1024 .bf16) (bg : Vec Ideal S1x1x1024 .f32)
    (wu : Vec Ideal S1024x1024 .bf16) (bu : Vec Ideal S1x1x1024 .f32) (q : Fin 256) (h : Fin 1024) :
    k0_pay6 (F := Ideal) x wg bg wu bu (ix2 q h)
      = act (min (through (fun k => x (ix2 q k)) (fun k n => wg (ix2 k n)) (fun n => bg (ix3 0 0 n)) h) (Ideal.ofBits .f32 0x40E00000#32))
          (min (Ideal.ofBits .f32 0x40E00000#32) (max (Ideal.ofBits .f32 0xC0E00000#32)
            (through (fun k => x (ix2 q k)) (fun k n => wu (ix2 k n)) (fun n => bu (ix3 0 0 n)) h))) := by
  rw [← through_apply x wg bg q h, ← through_apply x wu bu q h]
  unfold act
  have hz : ∀ y : EReal, -y = Ideal.ofBits .f32 0x00000000#32 - y := fun y => by
    rw [show Ideal.ofBits .f32 0x00000000#32 = 0 by simp [Ideal.ofBits, Ideal.ieee], zero_sub]
  rw [hz]
  rfl

/-! ## A used tile's block -/

variable (T0 : S349.Idx → BitVec 32) (T1 : S1.Idx → BitVec 32) (hok : ok0 (F := Ideal) (tables T0 T1))
variable (m : (ℓ : Loc nD τ sig) → Buf (Elt Ideal) ℓ) (ρ : Dev nD → PrngReg)

/-- One less than a count above a tile's number is at least that number. -/
theorem count_pred (n : Nat) (v : BitVec 32) (h : (n : Int) < v.toInt) : (n : Int) ≤ (Scalar.subi v 1#32).toInt := by
  show (n : Int) ≤ (v - 1#32).toInt
  have hhi : v.toInt < 2 ^ 31 := BitVec.toInt_lt
  have hm : (v.toInt - 1).bmod (2 ^ 32) = v.toInt - 1 := Int.bmod_eq_of_le (by omega) (by omega)
  rw [BitVec.toInt_sub, show (1#32 : BitVec 32).toInt = 1 from rfl, hm]
  omega

/-- A used tile's block of rows is the tile's own. -/
theorem row_block (t : Fin (cfgA T0 T1 hok).N) (hu : Used T1 t.val) :
    cc0_transform_0 (F := Ideal) inb_S1_S1_0 numel1_S1 (tables T0 T1) (crd T0 T1 hok t) 0 = t.val := by
  have hc := at_count T0 T1 inb_S1_S1_0 numel1_S1
  have hv : ((crd T0 T1 hok t) 0).val = t.val := crd_val t
  show (Scalar.minsi (BitVec.ofNat 32 ((crd T0 T1 hok t) 0).val)
        (Scalar.maxsi (Scalar.subi ((tables T0 T1).at 1 (Rect.unit (s := S1) ![0] S1.size inb_S1_S1_0) numel1_S1) 1#32) 0#32)).toNat = t.val
  rw [hc, hv]
  exact (rows_toInt t.val (num_lt T0 T1 hok t) (Scalar.subi (count T1) 1#32)).2 (count_pred _ _ hu)

theorem row_block1 (t : Fin (cfgA T0 T1 hok).N) :
    cc0_transform_0 (F := Ideal) inb_S1_S1_0 numel1_S1 (tables T0 T1) (crd T0 T1 hok t) 1 = 0 := rfl

/-- A used tile reads its own rows. -/
theorem iblk_0 (c : Dev nD) (t : Fin (cfgA T0 T1 hok).N) (hu : Used T1 t.val) (q : Fin 256) (k : Fin 1024) :
    (iblk T0 T1 hok m ρ c (0 : Fin 8) t : S256x1024.Idx → Elt Ideal .f32) (ix2 q k)
      = (m ((c.tc : Thread nD τ).loc main_arg2) : S89344x1024.Idx → Elt Ideal .f32)
          (ix2 ⟨t.val * 256 + q.val, by have := num_lt T0 T1 hok t; omega⟩ k) := by
  have hmap : ((cfgA T0 T1 hok).win (0 : Fin 8)).indexMap = cc0_transform_0 (F := Ideal) inb_S1_S1_0 numel1_S1 (tables T0 T1) := rfl
  have h0 : ((cfgA T0 T1 hok).win (0 : Fin 8)).index t (0 : Fin 2) = t.val :=
    (congrFun (congrFun hmap (crd T0 T1 hok t)) (0 : Fin 2)).trans (row_block T0 T1 hok t hu)
  have h1 : ((cfgA T0 T1 hok).win (0 : Fin 8)).index t (1 : Fin 2) = 0 :=
    (congrFun (congrFun hmap (crd T0 T1 hok t)) (1 : Fin 2)).trans (row_block1 T0 T1 hok t)
  unfold iblk; rw [View.read_apply]
  show (m ((c.tc : Thread nD τ).loc main_arg2) : S89344x1024.Idx → Elt Ideal .f32) _ = _
  congr 1; funext a; apply Fin.ext
  match a with
  | ⟨0, _⟩ =>
    show ((cfgA T0 T1 hok).win (0 : Fin 8)).index t (0 : Fin 2) * 256 + 1 * q.val = t.val * 256 + q.val
    rw [h0]; omega
  | ⟨1, _⟩ =>
    show ((cfgA T0 T1 hok).win (0 : Fin 8)).index t (1 : Fin 2) * 1024 + 1 * k.val = k.val
    rw [h1]; omega

/-- The result at a row whose tile is known. -/
theorem result_at (te : S349.Idx → BitVec 32) (hT : ∀ n : Fin 349, (te (ix1 n)).toNat < 32) (nu : S1.Idx → BitVec 32)
    (x : S89344x1024.Idx → EReal) (wg : S32x1024x1024.Idx → EReal) (bg : S32x1x1024.Idx → EReal) (wu : S32x1024x1024.Idx → EReal)
    (bu : S32x1x1024.Idx → EReal) (wd : S32x1024x1024.Idx → EReal) (bd : S32x1x1024.Idx → EReal)
    (r : Fin 89344) (n : Fin 1024) (s : Fin 349) (hs : tileOf r = s) :
    result te hT nu x wg bg wu bu wd bd (ix2 r n) =
      if (s.val : Int) < (nu (ix1 0)).toInt then
        answer (fun k => x (ix2 r k)) (fun k h => wg (ix3 ⟨(te (ix1 s)).toNat, hT _⟩ k h)) (fun h => bg (ix3 ⟨(te (ix1 s)).toNat, hT _⟩ 0 h))
          (fun k h => wu (ix3 ⟨(te (ix1 s)).toNat, hT _⟩ k h)) (fun h => bu (ix3 ⟨(te (ix1 s)).toNat, hT _⟩ 0 h))
          (fun k h => wd (ix3 ⟨(te (ix1 s)).toNat, hT _⟩ k h)) (fun h => bd (ix3 ⟨(te (ix1 s)).toNat, hT _⟩ 0 h)) n
      else 0 := by
  subst hs; rfl

variable (hT : ∀ n, (entry T0 n).toNat < 32)

/-- The result the kernel leaves. -/
abbrev outcome (c : Dev nD) : S89344x1024.Idx → EReal :=
  result T0 hT T1 (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))

/-- What a tile leaves is its rows of the result. -/
theorem tile_rows (c : Dev nD) (t : Fin (cfgA T0 T1 hok).N) (q : Fin 256) (n : Fin 1024) :
    tileOut T0 T1 hok m ρ c t (ix2 q n) = outcome T0 T1 m hT c (ix2 ⟨t.val * 256 + q.val, by have := num_lt T0 T1 hok t; omega⟩ n) := by
  have ht : tileOf ⟨t.val * 256 + q.val, by have := num_lt T0 T1 hok t; omega⟩ = ⟨t.val, num_lt T0 T1 hok t⟩ :=
    Fin.ext (by show (t.val * 256 + q.val) / 256 = t.val; omega)
  unfold outcome
  refine Eq.trans ?_ (result_at T0 hT T1 _ _ _ _ _ _ _ _ n ⟨t.val, num_lt T0 T1 hok t⟩ ht).symm
  unfold tileOut
  by_cases hu : Used T1 t.val
  · rw [if_pos hu]
    refine Eq.trans ?_ (if_pos hu).symm
    rw [through_apply]
    unfold answer
    simp only [hidden_apply, matrix1_apply, matrix2_apply, matrix3_apply, iblk_0 T0 T1 hok m ρ c t hu, iblk_1 T0 T1 hok m ρ hT,
      iblk_2 T0 T1 hok m ρ hT, iblk_3 T0 T1 hok m ρ hT, iblk_4 T0 T1 hok m ρ hT, iblk_5 T0 T1 hok m ρ hT, iblk_6 T0 T1 hok m ρ hT]
    rfl
  · rw [if_neg hu]
    refine Eq.trans ?_ (if_neg hu).symm
    show Ideal.ofBits .f32 0x00000000#32 = 0
    simp [Ideal.ofBits, Ideal.ieee]

/-! ## The result's array -/

/-- The result's block numbers: one row of blocks per tile. -/
theorem out_block : ∀ t : Fin grid0.N, cc0_transform_7 (grid0.coords t) 0 = t.val ∧ cc0_transform_7 (grid0.coords t) 1 = 0 := by
  decide +kernel

theorem out_flush (t : Fin (cfgA T0 T1 hok).N) : ((cfgA T0 T1 hok).win (7 : Fin 8)).flush t = true :=
  (by decide +kernel : ∀ t : Fin grid0.N, spec0_7.flushAt (G := grid0) cc0_transform_7 t = true) t

theorem out_read (t : Fin (cfgA T0 T1 hok).N) (G : S89344x1024.Idx → EReal) (q : Fin 256) (n : Fin 1024) :
    ((((cfgA T0 T1 hok).win (7 : Fin 8)).blk t).view.read (Elt Ideal) G : S256x1024.Idx → EReal) (ix2 q n)
      = G (ix2 ⟨t.val * 256 + q.val, by have := num_lt T0 T1 hok t; omega⟩ n) := by
  rw [View.read_apply]
  show G _ = _
  congr 1; funext a; apply Fin.ext
  match a with
  | ⟨0, _⟩ => show cc0_transform_7 (grid0.coords t) 0 * 256 + 1 * q.val = t.val * 256 + q.val; rw [(out_block t).1]; omega
  | ⟨1, _⟩ => show cc0_transform_7 (grid0.coords t) 1 * 1024 + 1 * n.val = n.val; rw [(out_block t).2]; omega

theorem out_cover (i : S89344x1024.Idx) :
    ∃ t : Fin (cfgA T0 T1 hok).N, ((cfgA T0 T1 hok).win (7 : Fin 8)).flush t = true ∧ i ∈ (((cfgA T0 T1 hok).win (7 : Fin 8)).blk t).view.set := by
  have h0 : (i 0 : Nat) < 89344 := (i 0).isLt
  have h1 : (i 1 : Nat) < 1024 := (i 1).isLt
  have hN : grid0.N = 349 := N_0
  refine ⟨(⟨(i 0 : Nat) / 256, by omega⟩ : Fin grid0.N), out_flush T0 T1 hok _, ?_⟩
  generalize ht : (⟨(i 0 : Nat) / 256, by omega⟩ : Fin grid0.N) = t
  have htv : t.val = (i 0 : Nat) / 256 := by rw [← ht]
  show i ∈ ((View.whole main_v0).slice (((cfgA T0 T1 hok).win (7 : Fin 8)).rect t)).set
  rw [View.set_slice_whole]
  refine Rect.mem_set_unit.mpr ?_
  intro a
  match a with
  | ⟨0, _⟩ =>
    show cc0_transform_7 (grid0.coords t) 0 * 256 ≤ (i 0 : Nat) ∧ (i 0 : Nat) < cc0_transform_7 (grid0.coords t) 0 * 256 + 256
    rw [(out_block t).1]; omega
  | ⟨1, _⟩ =>
    show cc0_transform_7 (grid0.coords t) 1 * 1024 ≤ (i 1 : Nat) ∧ (i 1 : Nat) < cc0_transform_7 (grid0.coords t) 1 * 1024 + 1024
    rw [(out_block t).2]; omega

/-- The result ends holding every row's answer. -/
theorem final (c : Dev nD) : (dats T0 T1 hok m ρ 0 c).arrAt (7 : Fin 8) (cfgA T0 T1 hok).N = outcome T0 T1 m hT c :=
  (dats T0 T1 hok m ρ 0 c).arrAt_eq_of_cover (7 : Fin 8) (outcome T0 T1 m hT c) (fun t _ => by
    show (tileOut T0 T1 hok m ρ c t : S256x1024.Idx → EReal) = _
    funext j
    obtain ⟨q, n, rfl⟩ : ∃ (q : Fin 256) (n : Fin 1024), j = ix2 q n := ⟨j 0, j 1, by funext a; match a with | ⟨0, _⟩ => rfl | ⟨1, _⟩ => rfl⟩
    exact (tile_rows T0 T1 hok m ρ hT c t q n).trans (out_read T0 T1 hok t (outcome T0 T1 m hT c) q n).symm)
    (out_cover T0 T1 hok)

end Cert.ExpertsIdeal.Tiles

end
-- ==== Proof.AttnChunk.lean ====
module

public import proofs.«01_k».proof.Proof.Gen.AttnIdeal.Value
public import Idealize.ShloMosaic.Lib.Tactic

@[expose] public section

set_option maxRecDepth 16384
set_option maxHeartbeats 4000000

noncomputable section

namespace Cert.AttnIdeal.Chunk

open Cert.AttnIdeal Cert.AttnIdeal.Gen Idealize.ShloMosaic Idealize.ShloMosaic.TcCoe Idealize.SL.Sem

variable {F : FTy → Type} [FloatOps F]

/-! One chunk of the attention kernel is 128 queries of one head of a pair of heads: pair `pr` of four, chunk `ck` of
    four (the first two chunks are the first head's 256 queries, the last two the second head's). The kernel prints
    the four chunks of the four pairs one after another; here each is the same function of `pr` and `ck`. -/

/-- Chunk `ck` of a row of 512 queries, one row for each pair of heads. -/
def rowRect (pr ck : Fin 4) : Rect S4x1x512 :=
  Rect.unit ![pr.val, 0, 128 * ck.val] S1x1x128.size (by
    intro a; fin_cases a <;> fin_cases pr <;> fin_cases ck <;> decide)

/-- Chunk `ck` of the accumulator: its head, all 64 features, its 128 queries. -/
def accRect (pr ck : Fin 4) : Rect S4x2x64x256 :=
  Rect.unit ![pr.val, ck.val / 2, 0, 128 * (ck.val % 2)] S1x1x64x128.size (by
    intro a; fin_cases a <;> fin_cases pr <;> fin_cases ck <;> decide)

/-- Chunk `ck` of the block-diagonal queries of a pair. -/
def queryRect (pr ck : Fin 4) : Rect S4x512x128 :=
  Rect.unit ![pr.val, 128 * ck.val, 0] S1x128x128.size (by
    intro a; fin_cases a <;> fin_cases pr <;> fin_cases ck <;> decide)

/-- The queries of a pair. -/
def pairRect (pr : Fin 4) : Rect S4x512x128 :=
  Rect.unit ![pr.val, 0, 0] S1x512x128.size (by intro a; fin_cases a <;> fin_cases pr <;> decide)

/-- The selection of a pair: sixteen blocks by 512 queries. -/
def selRect (pr : Fin 4) : Rect S4x16x512 :=
  Rect.unit ![pr.val, 0, 0] S1x16x512.size (by intro a; fin_cases a <;> fin_cases pr <;> decide)

/-- The 128 feature columns of a pair, of a block of 256 rows. -/
def colRect (pr : Fin 4) : Rect S256x512 :=
  Rect.unit ![0, 128 * pr.val] S256x128.size (by intro a; fin_cases a <;> fin_cases pr <;> decide)

/-- The 128 feature columns of a pair, of the sixteen block means. -/
def meanRect (pr : Fin 4) : Rect S16x512 :=
  Rect.unit ![0, 128 * pr.val] S16x128.size (by intro a; fin_cases a <;> fin_cases pr <;> decide)

/-- A chunk of a row of 512 starts inside it. -/
theorem row_slices (ck : Fin 4) : S1x512.Slices ![0, 128 * ck.val] S1x128 := by
  fin_cases ck <;> decide

/-- A chunk of a block of 256 rows by 512 queries starts inside it. -/
theorem mask_slices (ck : Fin 4) : S256x512.Slices ![0, 128 * ck.val] S256x128 := by
  fin_cases ck <;> decide

/-- One head's 64 features start inside the pair's 128. -/
theorem head_slices (ck : Fin 4) : S128x128.Slices ![64 * (ck.val / 2), 0] S64x128 := by
  fin_cases ck <;> decide

/-- The queries whose block is picked: the selection row above one half. -/
def pickedRow (sel : Vec F S1x1x512 .f32) : IVec S1x512 1 :=
  cmpf .ogt (shapeCast S1x512 sel shapeCasts_S1x1x512_S1x512) (broadcast S1x512 (Scalar.ofBits .f32 0x3F000000#32))

/-- Keys against the chunk's queries. -/
def products (kb : Vec F S256x128 .bf16) (qc : Vec F S1x128x128 .bf16) : FVec F S256x128 .f32 :=
  matmul dot_S256x128_S128x128_S256x128_1_1_0_0_n_n none kb (shapeCast S128x128 qc shapeCasts_S1x128x128_S128x128)
    (constant S256x128 .f32 0x00000000#32)

/-- The scores of a past block: minus infinity for the queries that did not pick it. -/
def pastScores (ck : Fin 4) (sel : Vec F S1x1x512 .f32) (kb : Vec F S256x128 .bf16) (qc : Vec F S1x128x128 .bf16) :
    FVec F S256x128 .f32 :=
  select (broadcastTo S256x128 (shapeCast S1x128 (extractStridedSlice S1x128 ![0, 128 * ck.val] (pickedRow sel)
    (row_slices ck)) shapeCasts_S1x128_S1x128) broadcasts_S1x128_S256x128) (products kb qc)
    (broadcast S256x128 (Scalar.ofBits .f32 0xFF800000#32))

/-- The causal mask of the own block: key row at most query column. -/
def causalMask : IVec S256x512 1 := k0_pay306

/-- The scores of the own block: minus infinity for the keys after the query. -/
def ownScores (ck : Fin 4) (kb : Vec F S256x128 .bf16) (qc : Vec F S1x128x128 .bf16) : FVec F S256x128 .f32 :=
  select (extractStridedSlice S256x128 ![0, 128 * ck.val] causalMask (mask_slices ck)) (products kb qc)
    (broadcast S256x128 (Scalar.ofBits .f32 0xFF800000#32))

/-- The largest score of each query. -/
def colMax (s : FVec F S256x128 .f32) : FVec F S1x128 .f32 :=
  shapeCast S1x128 (multiReduction .maximumf [0] S128 s 0xFF800000#32 reduces_S256x128_S128 (.inl rfl) rfl)
    shapeCasts_S128_S1x128

/-- The running maximum with the block's scores. -/
def newMax (m : Vec F S1x1x128 .f32) (s : FVec F S256x128 .f32) : FVec F S1x128 .f32 :=
  maximumf (shapeCast S1x128 m shapeCasts_S1x1x128_S1x128) (colMax s)

/-- The weights of the block's keys, relative to a maximum. -/
def weights (s : FVec F S256x128 .f32) (mx : FVec F S1x128 .f32) : FVec F S256x128 .f32 :=
  exp (subf s (broadcastTo S256x128 mx broadcasts_S1x128_S256x128))

/-- The sum of each query's weights. -/
def colSum (p : FVec F S256x128 .f32) : FVec F S1x128 .f32 :=
  shapeCast S1x128 (multiReduction .add [0] S128 p 0x00000000#32 reduces_S256x128_S128 (.inl rfl) rfl)
    shapeCasts_S128_S1x128

/-- The weighted values, of the chunk's head. -/
def weighted (ck : Fin 4) (vb : Vec F S256x128 .bf16) (p : FVec F S256x128 .f32) : FVec F S64x128 .f32 :=
  extractStridedSlice S64x128 ![64 * (ck.val / 2), 0]
    (matmul dot_S256x128_S256x128_S128x128_0_0_1_1_n_n none vb (truncf .bf16 p bitsLt_bf16_f32)
      (constant S128x128 .f32 0x00000000#32)) (head_slices ck)

/-- How much the earlier sums shrink when the maximum grows. -/
def shrink (m : Vec F S1x1x128 .f32) (s : FVec F S256x128 .f32) : FVec F S1x128 .f32 :=
  exp (subf (shapeCast S1x128 m shapeCasts_S1x1x128_S1x128) (newMax m s))

/-- What the own block stores as the maximum. -/
def ownM (s : FVec F S256x128 .f32) : FVec F S1x1x128 .f32 := shapeCast S1x1x128 (colMax s) shapeCasts_S1x128_S1x1x128

/-- What the own block stores as the sum of weights. -/
def ownL (s : FVec F S256x128 .f32) : FVec F S1x1x128 .f32 :=
  shapeCast S1x1x128 (colSum (weights s (colMax s))) shapeCasts_S1x128_S1x1x128

/-- What the own block stores as the weighted values. -/
def ownA (ck : Fin 4) (vb : Vec F S256x128 .bf16) (s : FVec F S256x128 .f32) : FVec F S1x1x64x128 .f32 :=
  shapeCast S1x1x64x128 (weighted ck vb (weights s (colMax s))) shapeCasts_S64x128_S1x1x64x128

/-- What a past block stores as the maximum. -/
def pastM (m : Vec F S1x1x128 .f32) (s : FVec F S256x128 .f32) : FVec F S1x1x128 .f32 :=
  shapeCast S1x1x128 (newMax m s) shapeCasts_S1x128_S1x1x128

/-- What a past block stores as the sum of weights. -/
def pastL (m l : Vec F S1x1x128 .f32) (s : FVec F S256x128 .f32) : FVec F S1x1x128 .f32 :=
  shapeCast S1x1x128 (addf (mulf (shrink m s) (shapeCast S1x128 l shapeCasts_S1x1x128_S1x128))
    (colSum (weights s (newMax m s)))) shapeCasts_S1x128_S1x1x128

/-- What a past block stores as the weighted values. -/
def pastA (ck : Fin 4) (m : Vec F S1x1x128 .f32) (a : Vec F S1x1x64x128 .f32) (vb : Vec F S256x128 .bf16)
    (s : FVec F S256x128 .f32) : FVec F S1x1x64x128 .f32 :=
  shapeCast S1x1x64x128 (addf (mulf (broadcastTo S64x128 (shrink m s) broadcasts_S1x128_S64x128)
    (shapeCast S64x128 a shapeCasts_S1x1x64x128_S64x128)) (weighted ck vb (weights s (newMax m s))))
    shapeCasts_S64x128_S1x1x64x128

/-- Sixteen stores into the rows, the last first. -/
def rowTiles (w : Fin 4 → Fin 4 → FVec F S1x1x128 .f32) : List (View.Piece (Elt F) S4x1x512 .f32) :=
  [⟨rowRect 3 3, w 3 3⟩, ⟨rowRect 3 2, w 3 2⟩, ⟨rowRect 3 1, w 3 1⟩, ⟨rowRect 3 0, w 3 0⟩, ⟨rowRect 2 3, w 2 3⟩, ⟨rowRect 2 2, w 2 2⟩, ⟨rowRect 2 1, w 2 1⟩, ⟨rowRect 2 0, w 2 0⟩, ⟨rowRect 1 3, w 1 3⟩, ⟨rowRect 1 2, w 1 2⟩, ⟨rowRect 1 1, w 1 1⟩, ⟨rowRect 1 0, w 1 0⟩, ⟨rowRect 0 3, w 0 3⟩, ⟨rowRect 0 2, w 0 2⟩, ⟨rowRect 0 1, w 0 1⟩, ⟨rowRect 0 0, w 0 0⟩]

/-- Sixteen stores into the accumulator, the last first. -/
def accTiles (w : Fin 4 → Fin 4 → FVec F S1x1x64x128 .f32) : List (View.Piece (Elt F) S4x2x64x256 .f32) :=
  [⟨accRect 3 3, w 3 3⟩, ⟨accRect 3 2, w 3 2⟩, ⟨accRect 3 1, w 3 1⟩, ⟨accRect 3 0, w 3 0⟩, ⟨accRect 2 3, w 2 3⟩, ⟨accRect 2 2, w 2 2⟩, ⟨accRect 2 1, w 2 1⟩, ⟨accRect 2 0, w 2 0⟩, ⟨accRect 1 3, w 1 3⟩, ⟨accRect 1 2, w 1 2⟩, ⟨accRect 1 1, w 1 1⟩, ⟨accRect 1 0, w 1 0⟩, ⟨accRect 0 3, w 0 3⟩, ⟨accRect 0 2, w 0 2⟩, ⟨accRect 0 1, w 0 1⟩, ⟨accRect 0 0, w 0 0⟩]

/-- Four stores of a pair's queries, the last first. -/
def pairTiles (w : Fin 4 → FVec F S1x512x128 .bf16) : List (View.Piece (Elt F) S4x512x128 .bf16) :=
  [⟨pairRect 3, w 3⟩, ⟨pairRect 2, w 2⟩, ⟨pairRect 1, w 1⟩, ⟨pairRect 0, w 0⟩]

/-- Four stores of a pair's selection, the last first. -/
def selTiles (w : Fin 4 → FVec F S1x16x512 .f32) : List (View.Piece (Elt F) S4x16x512 .f32) :=
  [⟨selRect 3, w 3⟩, ⟨selRect 2, w 2⟩, ⟨selRect 1, w 1⟩, ⟨selRect 0, w 0⟩]

/-- Four stores of a pair's results, the last first. -/
def outTiles (w : Fin 4 → FVec F S256x128 .f32) : List (View.Piece (Elt F) S256x512 .f32) :=
  [⟨colRect 3, w 3⟩, ⟨colRect 2, w 2⟩, ⟨colRect 1, w 1⟩, ⟨colRect 0, w 0⟩]

/-! ## The queries of a pair, side by side -/

/-- The two heads of a pair kept apart: the first head's features in the upper 256 rows, the second's in the lower. -/
def blockDiag (t : FVec F S256x128 .bf16) : FVec F S512x128 .bf16 :=
  concatenate S512x128 0
    [⟨S256x128, select (cmpi .slt (iota .tc S256x128 32 [1] iota_S256x128_d1_w32) (broadcast S256x128 64#32)) t
        (broadcast S256x128 (Scalar.ofBits .bf16 0x0000#16))⟩,
     ⟨S256x128, select (cmpi .sge (iota .tc S256x128 32 [1] iota_S256x128_d1_w32) (broadcast S256x128 64#32)) t
        (broadcast S256x128 (Scalar.ofBits .bf16 0x0000#16))⟩] concatenates_S256x128_S256x128_S512x128_d0

/-- What the kernel stores of a pair's queries. -/
def pairQueries (qb : Vec F S256x128 .bf16) : FVec F S1x512x128 .bf16 :=
  shapeCast S1x512x128 (blockDiag qb) shapeCasts_S512x128_S1x512x128

/-- The remainder of the scaled queries after the rounded ones. -/
def lowQueries (q : Vec F S256x128 .f32) (qb : Vec F S256x128 .bf16) : FVec F S256x128 .bf16 :=
  truncf .bf16 (subf (mulf q (broadcast S256x128 (Scalar.ofBits .f32 0x3E000000#32))) (extf .f32 qb bitsLt_bf16_f32))
    bitsLt_bf16_f32

/-- Block means against queries, into a given start. -/
def meanDot (a : FVec F S16x128 .bf16) (b : FVec F S512x128 .bf16) : FVec F S16x512 .f32 :=
  matmul dot_S16x128_S512x128_S16x512_1_1_0_0_n_n none a b (constant S16x512 .f32 0x00000000#32)

/-- The gate: each block's mean key against each query, in three rounded parts. -/
def gate (q : Vec F S256x128 .f32) (qb : Vec F S256x128 .bf16) (km : Vec F S16x128 .f32) (qd : Vec F S1x512x128 .bf16) :
    FVec F S16x512 .f32 :=
  addf (addf (meanDot (truncf .bf16 km bitsLt_bf16_f32) (shapeCast S512x128 qd shapeCasts_S1x512x128_S512x128))
    (meanDot (truncf .bf16 (subf km (extf .f32 (truncf .bf16 km bitsLt_bf16_f32) bitsLt_bf16_f32)) bitsLt_bf16_f32)
      (shapeCast S512x128 qd shapeCasts_S1x512x128_S512x128)))
    (meanDot (truncf .bf16 km bitsLt_bf16_f32) (blockDiag (lowQueries q qb)))

/-- The row numbers of the sixteen blocks. -/
def blockNo : IVec S16x512 32 := iota .tc S16x512 32 [0] iota_S16x512_d0_w32

/-- The live entries, the others at minus infinity. -/
def masked (live : IVec S16x512 1) (g : FVec F S16x512 .f32) : FVec F S16x512 .f32 :=
  select live g (broadcast S16x512 (Scalar.ofBits .f32 0xFF800000#32))

/-- The first live row of largest gate, each query's: the mask of one round of the selection. -/
def pickRound (live : IVec S16x512 1) (g : FVec F S16x512 .f32) : IVec S16x512 1 :=
  cmpi .eq blockNo (broadcastTo S16x512 (shapeCast S1x512 (multiReductionI .minsi [0] S512
    (select (andi live (cmpf .oeq (masked live g) (broadcastTo S16x512 (shapeCast S1x512
      (multiReduction .maximumf [0] S512 (masked live g) 0xFF800000#32 reduces_S16x512_S512 (.inl rfl) rfl)
      shapeCasts_S512_S1x512) broadcasts_S1x512_S16x512))) blockNo (broadcast S16x512 16#32))
    2147483647#32 reduces_S16x512_S512 rfl) shapeCasts_S512_S1x512) broadcasts_S1x512_S16x512)

/-- What is live after a round. -/
def liveAfter (live pick : IVec S16x512 1) : IVec S16x512 1 := andi live (xori pick (constantI S16x512 1 1#1))

/-- The past blocks: those before the queries' own. -/
def live0 (qi : BitVec 32) : IVec S16x512 1 := cmpi .slt blockNo (broadcast S16x512 qi)

/-- What is live before the second round. -/
def live1 (qi : BitVec 32) (g : FVec F S16x512 .f32) : IVec S16x512 1 := liveAfter (live0 qi) (pickRound (live0 qi) g)

/-- What is live before the third round. -/
def live2 (qi : BitVec 32) (g : FVec F S16x512 .f32) : IVec S16x512 1 :=
  liveAfter (live1 qi g) (pickRound (live1 qi g) g)

/-- The selection: the three rounds together. -/
def topRows (qi : BitVec 32) (g : FVec F S16x512 .f32) : IVec S16x512 1 :=
  ori (ori (ori (broadcast S16x512 0#1) (pickRound (live0 qi) g)) (pickRound (live1 qi g) g)) (pickRound (live2 qi g) g)

/-- What the kernel stores of a pair's selection. -/
def selOf (qi : BitVec 32) (g : FVec F S16x512 .f32) : FVec F S1x16x512 .f32 :=
  shapeCast S1x16x512 (sitofp .f32 (extui 32 (topRows qi g) natLt_1_32)) shapeCasts_S16x512_S1x16x512

/-- A pair's results: the weighted values over the sums, transposed. -/
def outOf (l : Vec F S1x1x512 .f32) (a0 a1 : Vec F S1x1x64x256 .f32) : FVec F S256x128 .f32 :=
  transpose S256x128 [1, 0] (concatenate S128x256 0
    [⟨S64x256, divf (shapeCast S64x256 a0 shapeCasts_S1x1x64x256_S64x256) (broadcastTo S64x256 (extractStridedSlice S1x256
        ![0, 0] (shapeCast S1x512 l shapeCasts_S1x1x512_S1x512) slices_S1x512_o0_0_S1x256) broadcasts_S1x256_S64x256)⟩,
     ⟨S64x256, divf (shapeCast S64x256 a1 shapeCasts_S1x1x64x256_S64x256) (broadcastTo S64x256 (extractStridedSlice S1x256
        ![0, 256] (shapeCast S1x512 l shapeCasts_S1x1x512_S1x512) slices_S1x512_o0_256_S1x256) broadcasts_S1x256_S64x256)⟩]
    concatenates_S64x256_S64x256_S128x256_d0) transposes_S128x256_p1_0_S256x128

section trip

variable (𝒱 : Variants) (c : Dev nD) (bd : Option 𝒱.V) (i : grid0.Coords) (arg2 : Memref sig .tc .vmem S256x512 .f32) (harg2 : arg2.IsWhole) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S16x512 .f32) (harg6 : arg6.IsWhole) (arg7 : Memref sig .tc .vmem S256x512 .f32) (harg7 : arg7.IsWhole) (arg8 : Memref sig .tc .vmem S4x512x128 .bf16) (harg8 : arg8.IsWhole) (arg9 : Memref sig .tc .vmem S4x16x512 .f32) (harg9 : arg9.IsWhole) (arg10 : Memref sig .tc .vmem S4x1x512 .f32) (harg10 : arg10.IsWhole) (arg11 : Memref sig .tc .vmem S4x1x512 .f32) (harg11 : arg11.IsWhole) (arg12 : Memref sig .tc .vmem S4x2x64x256 .f32) (harg12 : arg12.IsWhole)
variable (arg1 : BitVec 32) (v796 : FVec F S1x128 .f32) (v802 : FVec F S64x128 .f32) (v803 : FVec F S128 .f32)
variable (X4 : BufTy.Contents (Elt F) arg4.view.ty) (X5 : BufTy.Contents (Elt F) arg5.view.ty) (X8 : BufTy.Contents (Elt F) arg8.view.ty) (X9 : BufTy.Contents (Elt F) arg9.view.ty)
variable (k : Fin (k0_t1_loop i).trips) (acc : BitVec 32)
variable (f10 : BufTy.Contents (Elt F) arg10.view.ty) (f11 : BufTy.Contents (Elt F) arg11.view.ty) (f12 : BufTy.Contents (Elt F) arg12.view.ty)

/-- The rows of a past block a trip reads, by pair of heads. -/
def tripRows (arg : Memref sig .tc .vmem S4096x512 .bf16) (X : BufTy.Contents (Elt F) arg.view.ty) : Fin 4 → Vec F S256x128 .bf16 :=
  ![arg.view.readAt (Elt F) (Rect.unit (s := S4096x512) (k0_off6 i k) S256x128.size (k0_off6_inb i k)).toLoadRect X,
    arg.view.readAt (Elt F) (Rect.unit (s := S4096x512) (k0_off8 i k) S256x128.size (k0_off8_inb i k)).toLoadRect X,
    arg.view.readAt (Elt F) (Rect.unit (s := S4096x512) (k0_off10 i k) S256x128.size (k0_off10_inb i k)).toLoadRect X,
    arg.view.readAt (Elt F) (Rect.unit (s := S4096x512) (k0_off12 i k) S256x128.size (k0_off12_inb i k)).toLoadRect X]

/-- The selection row a trip reads, by pair of heads. -/
def tripSel : Fin 4 → Vec F S1x1x512 .f32 :=
  ![arg9.view.readAt (Elt F) (Rect.unit (s := S4x16x512) (k0_off5 i k) S1x1x512.size (k0_off5_inb i k)).toLoadRect X9,
    arg9.view.readAt (Elt F) (Rect.unit (s := S4x16x512) (k0_off7 i k) S1x1x512.size (k0_off7_inb i k)).toLoadRect X9,
    arg9.view.readAt (Elt F) (Rect.unit (s := S4x16x512) (k0_off9 i k) S1x1x512.size (k0_off9_inb i k)).toLoadRect X9,
    arg9.view.readAt (Elt F) (Rect.unit (s := S4x16x512) (k0_off11 i k) S1x1x512.size (k0_off11_inb i k)).toLoadRect X9]

/-- The scores of trip `k`, chunk `ck` of pair `pr`. -/
def tripScores (pr ck : Fin 4) : FVec F S256x128 .f32 :=
  pastScores ck (tripSel i arg9 X9 k pr) (tripRows i k arg4 X4 pr) (arg8.view.readAt (Elt F) (queryRect pr ck).toLoadRect X8)

/-- What a trip stores into the maxima. -/
theorem trip_m :
    (trip_k0_t1 (F := F) 𝒱 c bd i arg2 harg2 arg3 harg3 arg4 harg4 arg5 harg5 arg6 harg6 arg7 harg7 arg8 harg8 arg9 harg9 arg10 harg10 arg11 harg11 arg12 harg12 arg1 v796 v802 v803 X4 X5 X8 X9 k).2.1 acc f10 f11 f12
      = rowTiles fun pr ck => pastM (arg10.view.readAt (Elt F) (rowRect pr ck).toLoadRect f10)
          (tripScores i arg4 arg8 arg9 X4 X8 X9 k pr ck) := by
  unfold trip_k0_t1
  rfl

/-- What a trip stores into the sums of weights. -/
theorem trip_l :
    (trip_k0_t1 (F := F) 𝒱 c bd i arg2 harg2 arg3 harg3 arg4 harg4 arg5 harg5 arg6 harg6 arg7 harg7 arg8 harg8 arg9 harg9 arg10 harg10 arg11 harg11 arg12 harg12 arg1 v796 v802 v803 X4 X5 X8 X9 k).2.2.1 acc f10 f11 f12
      = rowTiles fun pr ck => pastL (arg10.view.readAt (Elt F) (rowRect pr ck).toLoadRect f10)
          (arg11.view.readAt (Elt F) (rowRect pr ck).toLoadRect f11) (tripScores i arg4 arg8 arg9 X4 X8 X9 k pr ck) := by
  unfold trip_k0_t1
  rfl

/-- What a trip stores into the weighted values. -/
theorem trip_a :
    (trip_k0_t1 (F := F) 𝒱 c bd i arg2 harg2 arg3 harg3 arg4 harg4 arg5 harg5 arg6 harg6 arg7 harg7 arg8 harg8 arg9 harg9 arg10 harg10 arg11 harg11 arg12 harg12 arg1 v796 v802 v803 X4 X5 X8 X9 k).2.2.2.val acc f10 f11 f12
      = accTiles fun pr ck => pastA ck (arg10.view.readAt (Elt F) (rowRect pr ck).toLoadRect f10)
          (arg12.view.readAt (Elt F) (accRect pr ck).toLoadRect f12) (tripRows i k arg5 X5 pr)
          (tripScores i arg4 arg8 arg9 X4 X8 X9 k pr ck) := by
  unfold trip_k0_t1
  rfl

end trip

section run

variable (c : Dev nD) (i : grid0.Coords) (arg2 : Memref sig .tc .vmem S256x512 .f32) (harg2 : arg2.IsWhole) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S16x512 .f32) (harg6 : arg6.IsWhole) (arg7 : Memref sig .tc .vmem S256x512 .f32) (harg7 : arg7.IsWhole) (arg8 : Memref sig .tc .vmem S4x512x128 .bf16) (harg8 : arg8.IsWhole) (arg9 : Memref sig .tc .vmem S4x16x512 .f32) (harg9 : arg9.IsWhole) (arg10 : Memref sig .tc .vmem S4x1x512 .f32) (harg10 : arg10.IsWhole) (arg11 : Memref sig .tc .vmem S4x1x512 .f32) (harg11 : arg11.IsWhole) (arg12 : Memref sig .tc .vmem S4x2x64x256 .f32) (harg12 : arg12.IsWhole)
variable (x0 : Vec F S256x512 .f32) (x1 : Vec F S256x512 .bf16) (x2 : Vec F S4096x512 .bf16) (x3 : Vec F S4096x512 .bf16) (x4 : Vec F S16x512 .f32)

/-- The rounded queries of a pair, as the kernel reads them. -/
def runQB (pr : Fin 4) : Vec F S256x128 .bf16 := arg3.view.readAt (Elt F) (colRect pr).toLoadRect (harg3.unread x1)

/-- The queries of a pair, as the kernel reads them. -/
def runQ (pr : Fin 4) : Vec F S256x128 .f32 := arg2.view.readAt (Elt F) (colRect pr).toLoadRect (harg2.unread x0)

/-- The block means of a pair, as the kernel reads them. -/
def runKM (pr : Fin 4) : Vec F S16x128 .f32 := arg6.view.readAt (Elt F) (meanRect pr).toLoadRect (harg6.unread x4)

/-- One pair's store of its queries. -/
def queryPiece (pr : Fin 4) : View.Piece (Elt F) S4x512x128 .bf16 := ⟨pairRect pr, pairQueries (runQB arg3 harg3 x1 pr)⟩

/-- The stores of queries made when pair `pr` reads its own, the last first. -/
def queryPieces : Fin 4 → List (View.Piece (Elt F) S4x512x128 .bf16) :=
  ![[queryPiece arg3 harg3 x1 0], [queryPiece arg3 harg3 x1 1, queryPiece arg3 harg3 x1 0],
    [queryPiece arg3 harg3 x1 2, queryPiece arg3 harg3 x1 1, queryPiece arg3 harg3 x1 0],
    [queryPiece arg3 harg3 x1 3, queryPiece arg3 harg3 x1 2, queryPiece arg3 harg3 x1 1, queryPiece arg3 harg3 x1 0]]

/-- The rows of the own block, by pair of heads. -/
def ownRows (arg : Memref sig .tc .vmem S4096x512 .bf16) (X : BufTy.Contents (Elt F) arg.view.ty) : Fin 4 → Vec F S256x128 .bf16 :=
  ![arg.view.readAt (Elt F) (Rect.unit (s := S4096x512) (k0_off1 i) S256x128.size (k0_off1_inb i)).toLoadRect X,
    arg.view.readAt (Elt F) (Rect.unit (s := S4096x512) (k0_off2 i) S256x128.size (k0_off2_inb i)).toLoadRect X,
    arg.view.readAt (Elt F) (Rect.unit (s := S4096x512) (k0_off3 i) S256x128.size (k0_off3_inb i)).toLoadRect X,
    arg.view.readAt (Elt F) (Rect.unit (s := S4096x512) (k0_off4 i) S256x128.size (k0_off4_inb i)).toLoadRect X]

/-- The own block's scores, of a chunk. -/
def runOwn (pr ck : Fin 4) : FVec F S256x128 .f32 :=
  ownScores ck (ownRows i arg4 (harg4.unread x2) pr)
    (arg8.view.readCov (queryPieces arg3 harg3 x1 pr) (queryRect pr ck).toLoadRect)

/-- A pair's gate. -/
def runGate (pr : Fin 4) : FVec F S16x512 .f32 :=
  gate (runQ arg2 harg2 x0 pr) (runQB arg3 harg3 x1 pr) (runKM arg6 harg6 x4 pr)
    (arg8.view.readCov (queryPieces arg3 harg3 x1 pr) (pairRect pr).toLoadRect)

/-- The stores of the selections. -/
def runSel : List (View.Piece (Elt F) S4x16x512 .f32) :=
  selTiles fun pr => selOf (BitVec.ofNat 32 (i 1).val) (runGate arg2 harg2 arg3 harg3 arg6 harg6 arg8 x0 x1 x4 pr)

/-- The maxima before the loop. -/
def startM : List (View.Piece (Elt F) S4x1x512 .f32) :=
  rowTiles fun pr ck => ownM (runOwn i arg3 harg3 arg4 harg4 arg8 x1 x2 pr ck)

/-- The sums of weights before the loop. -/
def startL : List (View.Piece (Elt F) S4x1x512 .f32) :=
  rowTiles fun pr ck => ownL (runOwn i arg3 harg3 arg4 harg4 arg8 x1 x2 pr ck)

/-- The weighted values before the loop. -/
def startA : List (View.Piece (Elt F) S4x2x64x256 .f32) :=
  accTiles fun pr ck => ownA ck (ownRows i arg5 (harg5.unread x3) pr) (runOwn i arg3 harg3 arg4 harg4 arg8 x1 x2 pr ck)

/-- The stores of the loop over the past blocks, `n` trips. -/
def runLoop (u : FVec F S1x128 .f32) (v : FVec F S64x128 .f32) (w : FVec F S128 .f32) (n : Nat) :=
  st_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) u v w (harg4.unread x2) (harg5.unread x3)
    (arg8.view.writes (Elt F) arg8.view.junk (queryPieces arg3 harg3 x1 3))
    (arg9.view.writes (Elt F) arg9.view.junk (runSel i arg2 harg2 arg3 harg3 arg6 harg6 arg8 x0 x1 x4))
    (arg10.view.writes (Elt F) arg10.view.junk (startM i arg3 harg3 arg4 harg4 arg8 x1 x2))
    (arg11.view.writes (Elt F) arg11.view.junk (startL i arg3 harg3 arg4 harg4 arg8 x1 x2))
    (arg12.view.writes (Elt F) arg12.view.junk (startA i arg3 harg3 arg4 harg4 arg5 harg5 arg8 x1 x2 x3)) 0#32 n

/-- Every result of a grid point: the four pairs' weighted values over their sums, read after the loop. -/
theorem run_out : ∃ (u : FVec F S1x128 .f32) (v : FVec F S64x128 .f32) (w : FVec F S128 .f32)
    (L11 : List (View.Piece (Elt F) S4x1x512 .f32)) (L12 : List (View.Piece (Elt F) S4x2x64x256 .f32)),
    ((k0_t2_loop i).trips = 0 → L11 = [] ∧ L12 = []) ∧
    (kernelRun0_A (F := F) c i arg2 harg2 arg3 harg3 arg4 harg4 arg5 harg5 arg6 harg6 arg7 harg7 arg8 harg8 arg9 harg9 arg10 harg10 arg11 harg11 arg12 harg12 x0 x1 x2 x3 x4).1 = outTiles fun pr =>
      outOf (arg11.view.readAt (Elt F) (Rect.unit (s := S4x1x512) ![pr.val, 0, 0] S1x1x512.size (by
          intro a; fin_cases a <;> fin_cases pr <;> decide)).toLoadRect
          (arg11.view.writes (Elt F) arg11.view.junk (L11 ++ ((runLoop c i arg2 harg2 arg3 harg3 arg4 harg4 arg5 harg5 arg6 harg6 arg7 harg7 arg8 harg8 arg9 harg9 arg10 harg10 arg11 harg11 arg12 harg12 x0 x1 x2 x3 x4 u v w (k0_t1_loop i).trips).2.2.1
            ++ startL i arg3 harg3 arg4 harg4 arg8 x1 x2))))
        (arg12.view.readAt (Elt F) (Rect.unit (s := S4x2x64x256) ![pr.val, 0, 0, 0] S1x1x64x256.size (by
          intro a; fin_cases a <;> fin_cases pr <;> decide)).toLoadRect
          (arg12.view.writes (Elt F) arg12.view.junk (L12 ++ ((runLoop c i arg2 harg2 arg3 harg3 arg4 harg4 arg5 harg5 arg6 harg6 arg7 harg7 arg8 harg8 arg9 harg9 arg10 harg10 arg11 harg11 arg12 harg12 x0 x1 x2 x3 x4 u v w (k0_t1_loop i).trips).2.2.2
            ++ startA i arg3 harg3 arg4 harg4 arg5 harg5 arg8 x1 x2 x3))))
        (arg12.view.readAt (Elt F) (Rect.unit (s := S4x2x64x256) ![pr.val, 1, 0, 0] S1x1x64x256.size (by
          intro a; fin_cases a <;> fin_cases pr <;> decide)).toLoadRect
          (arg12.view.writes (Elt F) arg12.view.junk (L12 ++ ((runLoop c i arg2 harg2 arg3 harg3 arg4 harg4 arg5 harg5 arg6 harg6 arg7 harg7 arg8 harg8 arg9 harg9 arg10 harg10 arg11 harg11 arg12 harg12 x0 x1 x2 x3 x4 u v w (k0_t1_loop i).trips).2.2.2
            ++ startA i arg3 harg3 arg4 harg4 arg5 harg5 arg8 x1 x2 x3)))) := by
  unfold kernelRun0_A
  refine ⟨_, _, _, _, _, ?_, rfl⟩
  intro h
  rw [show Scf.trips (k0_t2_loop i).lb (k0_t2_loop i).ub (k0_t2_loop i).st = 0 from h]
  exact ⟨rfl, rfl⟩

end run

end Cert.AttnIdeal.Chunk

end
-- ==== Proof.AttnLoop.lean ====
module

public import proofs.«01_k».proof.Proof.AttnChunk
public import Idealize.ShloMosaic.Lib.WritesUnit

@[expose] public section

set_option maxRecDepth 16384

noncomputable section

namespace Cert.AttnIdeal.Chunk

open Cert.AttnIdeal Cert.AttnIdeal.Gen Idealize.ShloMosaic Idealize.ShloMosaic.TcCoe Idealize.SL.Sem

/-! ## Reading back one of several separate stores -/

section pieces

variable {sig : RefSig} {κ : Kind} {sp : Space} {s : Shape} {e : EltTy} {Val : EltTy → Type}

/-- Of stores that do not overlap, each is read back whole. -/
theorem readAt_writes_of_mem (v : View sig κ sp s e) (f : v.ty.Contents Val) (r : Rect s) (w : r.shape.Idx → Val e) :
    ∀ L : List (View.Piece Val s e), L.Pairwise (fun p q => Disjoint p.1.set q.1.set) → (⟨r, w⟩ : View.Piece Val s e) ∈ L →
      v.readAt Val r.toLoadRect (v.writes Val f L) = w
  | [], _, h => absurd h (by simp)
  | p :: L, hd, h => by
    rw [List.pairwise_cons] at hd
    funext x
    rcases List.mem_cons.mp h with e | h'
    · subst e
      exact View.read_writes_cons_emb v f r w L x
    · have hx : r.emb x ∉ Finset.univ.map p.1.emb := by
        rw [Rect.map_emb_univ]
        exact Finset.disjoint_right.mp (hd.1 _ h') (by rw [← Rect.map_emb_univ]; exact Finset.mem_map_of_mem _ (Finset.mem_univ x))
      have e1 : v.read Val (v.writes Val f (p :: L)) (r.emb x) = v.read Val (v.writes Val f L) (r.emb x) := by
        rw [View.writes_cons]
        exact View.read_slice_write_of_not_mem p.1 _ _ _ hx
      have e2 := congrFun (readAt_writes_of_mem v f r w L hd.2 h') x
      exact e1.trans e2

end pieces

/-- The sixteen chunks, the last first. -/
def chunks : List (Fin 4 × Fin 4) :=
  [(3, 3), (3, 2), (3, 1), (3, 0), (2, 3), (2, 2), (2, 1), (2, 0), (1, 3), (1, 2), (1, 1), (1, 0), (0, 3), (0, 2), (0, 1), (0, 0)]

theorem chunks_nodup : chunks.Nodup := by decide

theorem mem_chunks (pr ck : Fin 4) : (pr, ck) ∈ chunks := by revert pr ck; decide

/-- Two chunks of the rows share nothing. -/
theorem rowRect_disjoint {p q : Fin 4 × Fin 4} (h : p ≠ q) : Disjoint (rowRect p.1 p.2).set (rowRect q.1 q.2).set := by
  rw [Finset.disjoint_left]
  intro y hp hq
  apply h
  unfold rowRect at hp hq
  rw [Rect.mem_set_unit] at hp hq
  have p0 := hp 0; have p2 := hp 2; have q0 := hq 0; have q2 := hq 2
  simp [S1x1x128] at p0 p2 q0 q2
  exact Prod.ext (Fin.ext (by omega)) (Fin.ext (by omega))

/-- Two chunks of the accumulator share nothing. -/
theorem accRect_disjoint {p q : Fin 4 × Fin 4} (h : p ≠ q) : Disjoint (accRect p.1 p.2).set (accRect q.1 q.2).set := by
  rw [Finset.disjoint_left]
  intro y hp hq
  apply h
  unfold accRect at hp hq
  rw [Rect.mem_set_unit] at hp hq
  have p0 := hp 0; have p1 := hp 1; have p3 := hp 3; have q0 := hq 0; have q1 := hq 1; have q3 := hq 3
  simp [S1x1x64x128] at p0 p1 p3 q0 q1 q3
  exact Prod.ext (Fin.ext (by omega)) (Fin.ext (by omega))

/-- Two pairs' queries share nothing. -/
theorem pairRect_disjoint {p q : Fin 4} (h : p ≠ q) : Disjoint (pairRect p).set (pairRect q).set := by
  rw [Finset.disjoint_left]
  intro y hp hq
  apply h
  unfold pairRect at hp hq
  rw [Rect.mem_set_unit] at hp hq
  have p0 := hp 0; have q0 := hq 0
  simp [S1x512x128] at p0 q0
  exact Fin.ext (by omega)

/-- Two pairs' selections share nothing. -/
theorem selRect_disjoint {p q : Fin 4} (h : p ≠ q) : Disjoint (selRect p).set (selRect q).set := by
  rw [Finset.disjoint_left]
  intro y hp hq
  apply h
  unfold selRect at hp hq
  rw [Rect.mem_set_unit] at hp hq
  have p0 := hp 0; have q0 := hq 0
  simp [S1x16x512] at p0 q0
  exact Fin.ext (by omega)

/-- Two pairs' results share nothing. -/
theorem colRect_disjoint {p q : Fin 4} (h : p ≠ q) : Disjoint (colRect p).set (colRect q).set := by
  rw [Finset.disjoint_left]
  intro y hp hq
  apply h
  unfold colRect at hp hq
  rw [Rect.mem_set_unit] at hp hq
  have p0 := hp 1; have q0 := hq 1
  simp [S256x128] at p0 q0
  exact Fin.ext (by omega)

variable {F : FTy → Type} [FloatOps F]

/-- A chunk stored among the sixteen of the rows is read back. -/
theorem read_rowTiles {sig : RefSig} {κ : Kind} {sp : Space} (v : View sig κ sp S4x1x512 .f32) (f : v.ty.Contents (Elt F)) (w : Fin 4 → Fin 4 → FVec F S1x1x128 .f32)
    (pr ck : Fin 4) : v.readAt (Elt F) (rowRect pr ck).toLoadRect (v.writes (Elt F) f (rowTiles w)) = w pr ck := by
  have e : rowTiles w = chunks.map fun p => (⟨rowRect p.1 p.2, w p.1 p.2⟩ : View.Piece (Elt F) S4x1x512 .f32) := rfl
  rw [e]
  refine readAt_writes_of_mem v f _ _ _ ?_ (List.mem_map.mpr ⟨(pr, ck), mem_chunks pr ck, rfl⟩)
  rw [List.pairwise_map]
  exact chunks_nodup.imp fun h => rowRect_disjoint h

/-- A chunk stored among the sixteen of the accumulator is read back. -/
theorem read_accTiles {sig : RefSig} {κ : Kind} {sp : Space} (v : View sig κ sp S4x2x64x256 .f32) (f : v.ty.Contents (Elt F)) (w : Fin 4 → Fin 4 → FVec F S1x1x64x128 .f32)
    (pr ck : Fin 4) : v.readAt (Elt F) (accRect pr ck).toLoadRect (v.writes (Elt F) f (accTiles w)) = w pr ck := by
  have e : accTiles w = chunks.map fun p => (⟨accRect p.1 p.2, w p.1 p.2⟩ : View.Piece (Elt F) S4x2x64x256 .f32) := rfl
  rw [e]
  refine readAt_writes_of_mem v f _ _ _ ?_ (List.mem_map.mpr ⟨(pr, ck), mem_chunks pr ck, rfl⟩)
  rw [List.pairwise_map]
  exact chunks_nodup.imp fun h => accRect_disjoint h

/-- A pair's selection stored among the four is read back. -/
theorem read_selTiles {sig : RefSig} {κ : Kind} {sp : Space} (v : View sig κ sp S4x16x512 .f32) (f : v.ty.Contents (Elt F)) (w : Fin 4 → FVec F S1x16x512 .f32)
    (pr : Fin 4) : v.readAt (Elt F) (selRect pr).toLoadRect (v.writes (Elt F) f (selTiles w)) = w pr := by
  have e : selTiles w = ([3, 2, 1, 0] : List (Fin 4)).map fun p => (⟨selRect p, w p⟩ : View.Piece (Elt F) S4x16x512 .f32) := rfl
  rw [e]
  refine readAt_writes_of_mem v f _ _ _ ?_ (List.mem_map.mpr ⟨pr, by revert pr; decide, rfl⟩)
  rw [List.pairwise_map]
  exact (show ([3, 2, 1, 0] : List (Fin 4)).Nodup by decide).imp fun h => selRect_disjoint h

/-- A pair's results stored among the four are read back. -/
theorem read_outTiles {sig : RefSig} {κ : Kind} {sp : Space} (v : View sig κ sp S256x512 .f32) (f : v.ty.Contents (Elt F)) (w : Fin 4 → FVec F S256x128 .f32)
    (pr : Fin 4) : v.readAt (Elt F) (colRect pr).toLoadRect (v.writes (Elt F) f (outTiles w)) = w pr := by
  have e : outTiles w = ([3, 2, 1, 0] : List (Fin 4)).map fun p => (⟨colRect p, w p⟩ : View.Piece (Elt F) S256x512 .f32) := rfl
  rw [e]
  refine readAt_writes_of_mem v f _ _ _ ?_ (List.mem_map.mpr ⟨pr, by revert pr; decide, rfl⟩)
  rw [List.pairwise_map]
  exact (show ([3, 2, 1, 0] : List (Fin 4)).Nodup by decide).imp fun h => colRect_disjoint h

/-- A pair's queries are read back from the stores made up to then. -/
theorem read_queryPieces {sig' : RefSig} {sp : Space} (v : View sig' .tc sp S4x512x128 .bf16) (f : v.ty.Contents (Elt F))
    (arg3 : Memref sig .tc .vmem S256x512 .bf16) (harg3 : arg3.IsWhole) (x1 : Vec F S256x512 .bf16) (pr n : Fin 4) (hn : pr ≤ n) :
    v.readAt (Elt F) (pairRect pr).toLoadRect (v.writes (Elt F) f (queryPieces arg3 harg3 x1 n))
      = pairQueries (runQB arg3 harg3 x1 pr) := by
  have e : queryPieces arg3 harg3 x1 n
      = ((![[0], [1, 0], [2, 1, 0], [3, 2, 1, 0]] : Fin 4 → List (Fin 4)) n).map fun p => queryPiece arg3 harg3 x1 p := by
    fin_cases n <;> rfl
  have hm : ∀ pr n : Fin 4, pr ≤ n → pr ∈ (![[0], [1, 0], [2, 1, 0], [3, 2, 1, 0]] : Fin 4 → List (Fin 4)) n := by decide
  have hnd : ∀ n : Fin 4, ((![[0], [1, 0], [2, 1, 0], [3, 2, 1, 0]] : Fin 4 → List (Fin 4)) n).Nodup := by decide
  rw [e]
  refine readAt_writes_of_mem v f _ _ _ ?_ (List.mem_map.mpr ⟨pr, hm pr n hn, rfl⟩)
  rw [List.pairwise_map]
  exact (hnd n).imp fun h => pairRect_disjoint h

/-! ## The loop over the past blocks -/

section loop

/-- The maxima after `n` past blocks. -/
def loopM (S0 : FVec F S256x128 .f32) (S : Nat → FVec F S256x128 .f32) : Nat → FVec F S1x1x128 .f32
  | 0 => ownM S0
  | n + 1 => pastM (loopM S0 S n) (S n)

/-- The sums of weights after `n` past blocks. -/
def loopL (S0 : FVec F S256x128 .f32) (S : Nat → FVec F S256x128 .f32) : Nat → FVec F S1x1x128 .f32
  | 0 => ownL S0
  | n + 1 => pastL (loopM S0 S n) (loopL S0 S n) (S n)

/-- The weighted values after `n` past blocks. -/
def loopA (ck : Fin 4) (S0 : FVec F S256x128 .f32) (S : Nat → FVec F S256x128 .f32) (V0 : Vec F S256x128 .bf16)
    (V : Nat → Vec F S256x128 .bf16) : Nat → FVec F S1x1x64x128 .f32
  | 0 => ownA ck V0 S0
  | n + 1 => pastA ck (loopM S0 S n) (loopA ck S0 S V0 V n) (V n) (S n)

variable (c : Dev nD) (i : grid0.Coords) (arg2 : Memref sig .tc .vmem S256x512 .f32) (harg2 : arg2.IsWhole) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S16x512 .f32) (harg6 : arg6.IsWhole) (arg7 : Memref sig .tc .vmem S256x512 .f32) (harg7 : arg7.IsWhole) (arg8 : Memref sig .tc .vmem S4x512x128 .bf16) (harg8 : arg8.IsWhole) (arg9 : Memref sig .tc .vmem S4x16x512 .f32) (harg9 : arg9.IsWhole) (arg10 : Memref sig .tc .vmem S4x1x512 .f32) (harg10 : arg10.IsWhole) (arg11 : Memref sig .tc .vmem S4x1x512 .f32) (harg11 : arg11.IsWhole) (arg12 : Memref sig .tc .vmem S4x2x64x256 .f32) (harg12 : arg12.IsWhole)
variable (x0 : Vec F S256x512 .f32) (x1 : Vec F S256x512 .bf16) (x2 : Vec F S4096x512 .bf16) (x3 : Vec F S4096x512 .bf16) (x4 : Vec F S16x512 .f32)

/-- What the three buffers hold after `n` trips, chunk by chunk. -/
theorem loop_state (u : FVec F S1x128 .f32) (v : FVec F S64x128 .f32) (w : FVec F S128 .f32)
    (S : Nat → Fin 4 → Fin 4 → FVec F S256x128 .f32) (V : Nat → Fin 4 → Vec F S256x128 .bf16)
    (hS : ∀ (k : Fin (k0_t1_loop i).trips) (pr ck : Fin 4), tripScores i arg4 arg8 arg9 (harg4.unread x2)
      (arg8.view.writes (Elt F) arg8.view.junk (queryPieces arg3 harg3 x1 3))
      (arg9.view.writes (Elt F) arg9.view.junk (runSel i arg2 harg2 arg3 harg3 arg6 harg6 arg8 x0 x1 x4)) k pr ck = S k.val pr ck)
    (hV : ∀ (k : Fin (k0_t1_loop i).trips) (pr : Fin 4), tripRows i k arg5 (harg5.unread x3) pr = V k.val pr)
    (n : Nat) (hn : n ≤ (k0_t1_loop i).trips) :
    (∀ pr ck : Fin 4, arg10.view.readAt (Elt F) (rowRect pr ck).toLoadRect (arg10.view.writes (Elt F) arg10.view.junk
        ((runLoop c i arg2 harg2 arg3 harg3 arg4 harg4 arg5 harg5 arg6 harg6 arg7 harg7 arg8 harg8 arg9 harg9 arg10 harg10 arg11 harg11 arg12 harg12 x0 x1 x2 x3 x4 u v w n).2.1 ++ startM i arg3 harg3 arg4 harg4 arg8 x1 x2))
      = loopM (runOwn i arg3 harg3 arg4 harg4 arg8 x1 x2 pr ck) (fun k => S k pr ck) n)
    ∧ (∀ pr ck : Fin 4, arg11.view.readAt (Elt F) (rowRect pr ck).toLoadRect (arg11.view.writes (Elt F) arg11.view.junk
        ((runLoop c i arg2 harg2 arg3 harg3 arg4 harg4 arg5 harg5 arg6 harg6 arg7 harg7 arg8 harg8 arg9 harg9 arg10 harg10 arg11 harg11 arg12 harg12 x0 x1 x2 x3 x4 u v w n).2.2.1 ++ startL i arg3 harg3 arg4 harg4 arg8 x1 x2))
      = loopL (runOwn i arg3 harg3 arg4 harg4 arg8 x1 x2 pr ck) (fun k => S k pr ck) n)
    ∧ (∀ pr ck : Fin 4, arg12.view.readAt (Elt F) (accRect pr ck).toLoadRect (arg12.view.writes (Elt F) arg12.view.junk
        ((runLoop c i arg2 harg2 arg3 harg3 arg4 harg4 arg5 harg5 arg6 harg6 arg7 harg7 arg8 harg8 arg9 harg9 arg10 harg10 arg11 harg11 arg12 harg12 x0 x1 x2 x3 x4 u v w n).2.2.2 ++ startA i arg3 harg3 arg4 harg4 arg5 harg5 arg8 x1 x2 x3))
      = loopA ck (runOwn i arg3 harg3 arg4 harg4 arg8 x1 x2 pr ck) (fun k => S k pr ck) (ownRows i arg5 (harg5.unread x3) pr)
          (fun k => V k pr) n) := by
  induction n with
  | zero =>
    refine ⟨fun pr ck => ?_, fun pr ck => ?_, fun pr ck => ?_⟩
    · show arg10.view.readAt (Elt F) _ (arg10.view.writes (Elt F) arg10.view.junk (startM i arg3 harg3 arg4 harg4 arg8 x1 x2)) = _
      unfold startM
      rw [read_rowTiles]; rfl
    · show arg11.view.readAt (Elt F) _ (arg11.view.writes (Elt F) arg11.view.junk (startL i arg3 harg3 arg4 harg4 arg8 x1 x2)) = _
      unfold startL
      rw [read_rowTiles]; rfl
    · show arg12.view.readAt (Elt F) _ (arg12.view.writes (Elt F) arg12.view.junk (startA i arg3 harg3 arg4 harg4 arg5 harg5 arg8 x1 x2 x3)) = _
      unfold startA
      rw [read_accTiles]; rfl
  | succ n ih =>
    obtain ⟨ihm, ihl, iha⟩ := ih (Nat.le_of_succ_le hn)
    have e : runLoop c i arg2 harg2 arg3 harg3 arg4 harg4 arg5 harg5 arg6 harg6 arg7 harg7 arg8 harg8 arg9 harg9 arg10 harg10 arg11 harg11 arg12 harg12 x0 x1 x2 x3 x4 u v w (n + 1) = _ :=
      st_k0_t1_succ (F := F) Variants.none c none i arg2 harg2 arg3 harg3 arg4 harg4 arg5 harg5 arg6 harg6 arg7 harg7 arg8 harg8 arg9 harg9 arg10 harg10 arg11 harg11 arg12 harg12 (BitVec.ofNat 32 (i 1).val) u v w (harg4.unread x2) (harg5.unread x3)
        (arg8.view.writes (Elt F) arg8.view.junk (queryPieces arg3 harg3 x1 3))
        (arg9.view.writes (Elt F) arg9.view.junk (runSel i arg2 harg2 arg3 harg3 arg6 harg6 arg8 x0 x1 x4))
        (arg10.view.writes (Elt F) arg10.view.junk (startM i arg3 harg3 arg4 harg4 arg8 x1 x2))
        (arg11.view.writes (Elt F) arg11.view.junk (startL i arg3 harg3 arg4 harg4 arg8 x1 x2))
        (arg12.view.writes (Elt F) arg12.view.junk (startA i arg3 harg3 arg4 harg4 arg5 harg5 arg8 x1 x2 x3)) 0#32 ⟨n, hn⟩
    simp only [View.writes_append] at ihm ihl iha ⊢
    rw [e]
    refine ⟨fun pr ck => ?_, fun pr ck => ?_, fun pr ck => ?_⟩
    · dsimp only
      rw [trip_m, View.writes_append, read_rowTiles, hS]
      exact congrArg (fun m => pastM m (S n pr ck)) (ihm pr ck)
    · dsimp only
      rw [trip_l, View.writes_append, read_rowTiles, hS]
      exact congrArg₂ (fun m l => pastL m l (S n pr ck)) (ihm pr ck) (ihl pr ck)
    · dsimp only
      rw [trip_a, View.writes_append, read_accTiles, hS, hV]
      exact congrArg₂ (fun m a => pastA ck m a (V n pr) (S n pr ck)) (ihm pr ck) (iha pr ck)

end loop

end Cert.AttnIdeal.Chunk

end
-- ==== Proof.AttnOnline.lean ====
module

public import Idealize.ShloMosaic.PureOps.Ideal
public import Idealize.ShloMosaic.PureOps.Ideal.Laws
public import Mathlib.Data.EReal.Inv

@[expose] public section

/-! # The softmax taken block by block

The kernel meets the keys a block at a time, keeps the largest score so far, the sum of the weights relative to it and the
weighted values, and shrinks the two sums when a larger score comes. Here: after any number of blocks the sums are the
ones taken at once, relative to the largest score of all the blocks met. -/

namespace Cert.Attn

open Idealize.ShloMosaic

/-- The weight of a score relative to a maximum. -/
noncomputable def ew (s m : EReal) : EReal := Ideal.exp (s - m)

theorem ew_nonneg (s m : EReal) : 0 ≤ ew s m := by
  unfold ew
  induction s - m using EReal.rec with
  | bot => exact le_refl _
  | top => exact le_top
  | coe r => exact EReal.coe_nonneg.mpr (Real.exp_pos r).le

/-- A weight relative to a larger score is finite. -/
theorem ew_ne_top {s m : EReal} (h : s ≤ m) : ew s m ≠ ⊤ := by
  unfold ew
  induction s using EReal.rec with
  | bot => rw [EReal.bot_sub]; exact EReal.zero_ne_top
  | top => rw [top_le_iff.mp h]; exact EReal.zero_ne_top
  | coe r =>
    induction m using EReal.rec with
    | bot => exact absurd h (by simp)
    | top => exact EReal.zero_ne_top
    | coe t => exact EReal.coe_ne_top _

/-- A score of minus infinity has no weight. -/
theorem ew_bot (m : EReal) : ew ⊥ m = 0 := by
  unfold ew; rw [EReal.bot_sub]; rfl

/-- The largest score's own weight is one. -/
theorem ew_self (r : ℝ) : ew (r : EReal) (r : EReal) = 1 := by
  unfold ew
  rw [← EReal.coe_sub, sub_self]
  show ((Real.exp 0 : ℝ) : EReal) = 1
  rw [Real.exp_zero]; rfl

/-- Shrinking a weight from one maximum to a larger one. -/
theorem ew_mul {s m m' : EReal} (h : s ≤ m) (h' : m ≤ m') : ew m m' * ew s m = ew s m' := by
  induction s using EReal.rec with
  | bot => rw [ew_bot, ew_bot, mul_zero]
  | top =>
    have e := top_le_iff.mp h
    subst e
    have e' := top_le_iff.mp h'
    subst e'
    have : ew ⊤ ⊤ = 0 := rfl
    rw [this, mul_zero]
  | coe r =>
    induction m using EReal.rec with
    | bot => exact absurd h (by simp)
    | top =>
      have e' := top_le_iff.mp h'
      subst e'
      have h0 : ew (r : EReal) ⊤ = 0 := rfl
      rw [h0, mul_zero]
    | coe t =>
      induction m' using EReal.rec with
      | bot => exact absurd h' (by simp)
      | top =>
        have h0 : ew (r : EReal) ⊤ = 0 := rfl
        have h1 : ew (t : EReal) ⊤ = 0 := rfl
        rw [h0, h1, zero_mul]
      | coe u =>
        unfold ew
        rw [← EReal.coe_sub, ← EReal.coe_sub, ← EReal.coe_sub]
        show ((Real.exp (t - u) : ℝ) : EReal) * ((Real.exp (r - t) : ℝ) : EReal) = ((Real.exp (r - u) : ℝ) : EReal)
        rw [← EReal.coe_mul, ← Real.exp_add]
        congr 2
        ring

/-- A finite factor at least zero distributes over a sum. -/
theorem mul_sum_finite {ι : Type} (S : Finset ι) (c : EReal) (hc : 0 ≤ c) (hc' : c ≠ ⊤) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top hc hc', ih]

/-- Shrinking a sum of weighted values from one maximum to a larger one. -/
theorem shrink_sum {ι : Type} (S : Finset ι) (v s : ι → EReal) {m m' : EReal} (h : ∀ i ∈ S, s i ≤ m) (h' : m ≤ m') :
    ew m m' * ∑ i ∈ S, v i * ew (s i) m = ∑ i ∈ S, v i * ew (s i) m' := by
  rw [mul_sum_finite S _ (ew_nonneg _ _) (ew_ne_top h')]
  refine Finset.sum_congr rfl fun i hi => ?_
  rw [mul_left_comm, ew_mul (h i hi) h']

variable (s0 v0 : Fin 256 → EReal) (s v : Nat → Fin 256 → EReal)

/-- The largest score of a block. -/
noncomputable def blockMax (t : Fin 256 → EReal) : EReal := Finset.univ.sup t

theorem le_blockMax (t : Fin 256 → EReal) (r : Fin 256) : t r ≤ blockMax t := Finset.le_sup (Finset.mem_univ r)

/-- The largest score after the own block and `k` past ones. -/
noncomputable def runMax : Nat → EReal
  | 0 => blockMax s0
  | k + 1 => max (runMax k) (blockMax (s k))

/-- The weighted values after the own block and `k` past ones, shrunk at each. -/
noncomputable def runSum : Nat → EReal
  | 0 => ∑ r, v0 r * ew (s0 r) (runMax s0 s 0)
  | k + 1 => ew (runMax s0 s k) (runMax s0 s (k + 1)) * runSum k + ∑ r, v k r * ew (s k r) (runMax s0 s (k + 1))

theorem runMax_mono {j k : Nat} (h : j ≤ k) : runMax s0 s j ≤ runMax s0 s k := by
  induction h with
  | refl => exact le_refl _
  | step _ ih => exact ih.trans (le_max_left _ _)

theorem own_le_runMax (k : Nat) (r : Fin 256) : s0 r ≤ runMax s0 s k :=
  (le_blockMax s0 r).trans (runMax_mono s0 s (Nat.zero_le k))

theorem past_le_runMax {j k : Nat} (h : j < k) (r : Fin 256) : s j r ≤ runMax s0 s k :=
  ((le_blockMax (s j) r).trans (le_max_right _ _)).trans (runMax_mono s0 s (Nat.succ_le_of_lt h))

/-- The largest score is at most any bound of the own scores and the past ones. -/
theorem runMax_le {k : Nat} {b : EReal} (h0 : ∀ r, s0 r ≤ b) (h : ∀ j, j < k → ∀ r, s j r ≤ b) : runMax s0 s k ≤ b := by
  induction k with
  | zero =>
    show Finset.univ.sup s0 ≤ b
    exact Finset.sup_le fun r _ => h0 r
  | succ k ih =>
    exact max_le (ih fun j hj => h j (hj.trans (Nat.lt_succ_self k))) (Finset.sup_le fun r _ => h k (Nat.lt_succ_self k) r)

/-- The sums taken at once: the running sum after `k` past blocks, relative to the largest score. -/
theorem runSum_eq (k : Nat) : runSum s0 v0 s v k
    = (∑ r, v0 r * ew (s0 r) (runMax s0 s k)) + ∑ j ∈ Finset.range k, ∑ r, v j r * ew (s j r) (runMax s0 s k) := by
  induction k with
  | zero => rw [Finset.sum_range_zero, add_zero]; rfl
  | succ k ih =>
    have hk := runMax_mono s0 s (Nat.le_succ k)
    have e : runSum s0 v0 s v (k + 1) = ew (runMax s0 s k) (runMax s0 s (k + 1)) * runSum s0 v0 s v k
        + ∑ r, v k r * ew (s k r) (runMax s0 s (k + 1)) := rfl
    rw [e, ih, EReal.left_distrib_of_nonneg_of_ne_top (ew_nonneg _ _) (ew_ne_top hk),
      shrink_sum _ _ _ (fun r _ => own_le_runMax s0 s k r) hk, mul_sum_finite _ _ (ew_nonneg _ _) (ew_ne_top hk),
      Finset.sum_range_succ, add_assoc]
    congr 2
    refine Finset.sum_congr rfl fun j hj => ?_
    exact shrink_sum _ _ _ (fun r _ => past_le_runMax s0 s (Finset.mem_range.mp hj) r) hk

/-- The quotient of a sum by a divisor at least one is the sum of the quotients. -/
theorem div_sum {ι : Type} (S : Finset ι) (L : EReal) (hL : 1 ≤ L) (v p : ι → EReal) :
    (∑ i ∈ S, v i * p i) * L⁻¹ = ∑ i ∈ S, (p i * L⁻¹) * v i := by
  have h0 : 0 ≤ L⁻¹ := EReal.inv_nonneg_of_nonneg (zero_le_one.trans hL)
  have ht : L⁻¹ ≠ ⊤ := by
    induction L using EReal.rec with
    | bot => exact absurd (hL.trans (bot_le (a := (0 : EReal)))) (by norm_num)
    | top => rw [EReal.inv_top]; exact EReal.zero_ne_top
    | coe r => rw [← EReal.coe_inv]; exact EReal.coe_ne_top _
  rw [mul_comm, mul_sum_finite S _ h0 ht]
  refine Finset.sum_congr rfl fun i _ => ?_
  rw [mul_comm (v i) (p i), ← mul_assoc, mul_comm L⁻¹ (p i)]

theorem div_eq_mul_inv_of_one_le {x L : EReal} (hL : 1 ≤ L) : Ideal.div x L = x * L⁻¹ := by
  have : L ≠ 0 := fun h => by rw [h] at hL; exact absurd hL (by norm_num)
  unfold Ideal.div
  rw [if_neg this]

end Cert.Attn

end
-- ==== Proof.AttnRead.lean ====
/- The chunks of the attention kernel read at one query: what a chunk stores is the step of the softmax taken block by
   block, for that query. -/
module

public import proofs.«01_k».proof.Proof.AttnLoop
public import proofs.«01_k».proof.Proof.AttnOnline
public import Idealize.ShloMosaic.Lib.Pointwise
public import Idealize.ShloMosaic.Lib.ValueIdx

@[expose] public section

set_option maxRecDepth 16384

noncomputable section

namespace Cert.AttnIdeal.Chunk

open Cert.AttnIdeal Cert.AttnIdeal.Gen Cert.Attn Idealize.ShloMosaic Idealize.ShloMosaic.TcCoe Idealize.SL.Sem

/-- The word of minus infinity. -/
theorem word_bot : Ideal.ofBits .f32 4286578688#32 = ⊥ := by simp [Ideal.ofBits, Ideal.ieee]

/-- The word of one half. -/
theorem word_half : Ideal.ofBits .f32 1056964608#32 = ((1 / 2 : ℝ) : EReal) := by
  simp [Ideal.ofBits, Ideal.ieee]
  norm_cast
  norm_num

/-- A fold of maxima from minus infinity is the largest. -/
theorem fold_max_bot (f : Fin 256 → EReal) : Finset.fold max ⊥ f Finset.univ = blockMax f := rfl

/-- A key row against a query of the chunk. -/
theorem products_apply (kb : Vec Ideal S256x128 .bf16) (qc : Vec Ideal S1x128x128 .bf16) (r : Fin 256) (j : Fin 128) :
    (products kb qc : FVec Ideal S256x128 .f32) (ix2 r j) = ∑ l : Fin 128, kb (ix2 r l) * qc (ix3 0 j l) := by
  unfold products
  simp only [pointwise]
  exact zero_add _

/-- Query `j` of chunk `ck`, among the pair's 512. -/
def col (ck : Fin 4) (j : Fin 128) : Fin 512 := ⟨128 * ck.val + j.val, by omega⟩

/-- A past block's score: minus infinity where the query did not pick the block. -/
theorem pastScores_apply (ck : Fin 4) (sel : Vec Ideal S1x1x512 .f32) (kb : Vec Ideal S256x128 .bf16)
    (qc : Vec Ideal S1x128x128 .bf16) (r : Fin 256) (j : Fin 128) :
    (pastScores ck sel kb qc : FVec Ideal S256x128 .f32) (ix2 r j)
      = if ((1 / 2 : ℝ) : EReal) < sel (ix3 0 0 (col ck j)) then ∑ l : Fin 128, kb (ix2 r l) * qc (ix3 0 j l) else ⊥ := by
  unfold pastScores pickedRow
  simp only [pointwise, Nat.reduceEqDiff, ↓reduceDIte]
  rw [products_apply, word_half, word_bot]
  rfl

/-- A small number's word, read with its sign. -/
theorem toInt_small {n : Nat} (h : n < 2 ^ 31) : (BitVec.ofNat 32 n).toInt = (n : Int) := by
  have e : (BitVec.ofNat 32 n).toNat = n := by rw [BitVec.toNat_ofNat]; exact Nat.mod_eq_of_lt (by omega)
  rw [BitVec.toInt_eq_toNat_of_lt (by omega), e]

/-- The columns' remainder by 256, as the kernel computes it. -/
theorem column_rem : ∀ j : Fin 512, (Scalar.select
        (IntOp.andi
          (IntOp.xori
            (IntOp.cmpi CmpIPredicate.slt
              (IntOp.remsi ArithUnit.vector
                (BitVec.ofNat 32 j.val)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector
              (BitVec.ofNat 32 j.val)
              (Scalar.select (Scalar.cmpi CmpIPredicate.eq 256#32 0#32) 1#32 256#32))
            0#32))
        (IntOp.addi
          (IntOp.remsi ArithUnit.vector
            (BitVec.ofNat 32 j.val)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 j.val)
          (Scalar.select (Scalar.cmpi CmpIPredicate.eq 256#32 0#32) 1#32 256#32))) = BitVec.ofNat 32 (j.val % 256) := by
  decide +kernel

/-- The causal mask: the key row at most the query's place in its block. -/
theorem causal_apply (r : Fin 256) (j : Fin 512) : causalMask (ix2 r j) = 1#1 ↔ r.val ≤ j.val % 256 := by
  have h0 : causalMask (ix2 r j) = IntOp.cmpi CmpIPredicate.sle (BitVec.ofNat 32 r.val) (BitVec.ofNat 32 (j.val % 256)) := by
    unfold causalMask k0_pay306
    simp only [pointwise]
    have e0 : List.foldl (fun n a => n * (![256, 512] : Fin 2 → Nat) a + (ix2 r j a : Nat)) 0 [0] = r.val := by
      simp
    have e1 : List.foldl (fun n a => n * (![256, 512] : Fin 2 → Nat) a + (ix2 r j a : Nat)) 0 [1] = j.val := by
      simp
    rw [e0, e1, column_rem j]
  rw [h0]
  have hr := toInt_small (n := r.val) (by omega)
  have hq := toInt_small (n := j.val % 256) (by omega)
  simp only [IntOp.cmpi, BitVec.sle_eq_decide, hr, hq, Nat.cast_le]
  by_cases h : r.val ≤ j.val % 256
  · simp only [h, decide_true, iff_true]; rfl
  · simp only [h, decide_false, iff_false]; decide

/-- The own block's score: minus infinity for a key after the query. -/
theorem ownScores_apply (ck : Fin 4) (kb : Vec Ideal S256x128 .bf16) (qc : Vec Ideal S1x128x128 .bf16) (r : Fin 256) (j : Fin 128) :
    (ownScores ck kb qc : FVec Ideal S256x128 .f32) (ix2 r j)
      = if r.val ≤ (col ck j).val % 256 then ∑ l : Fin 128, kb (ix2 r l) * qc (ix3 0 j l) else ⊥ := by
  unfold ownScores
  simp only [pointwise]
  rw [products_apply, word_bot]
  have e : causalMask (ix2 ⟨(![0, 128 * ck.val] : Fin 2 → Nat) 0 + r.val, by simp⟩
      ⟨(![0, 128 * ck.val] : Fin 2 → Nat) 1 + j.val, by simp; omega⟩) = causalMask (ix2 r (col ck j)) := by
    congr 2
    exact Fin.ext (Nat.zero_add _)
  refine Eq.trans (congrArg (fun b => Scalar.select b _ _) e) ?_
  unfold Scalar.select
  by_cases h : r.val ≤ (col ck j).val % 256
  · rw [if_pos h, if_pos (show causalMask (ix2 r (col ck j)) = 1 from (causal_apply r (col ck j)).mpr h)]
  · rw [if_neg h, if_neg (show ¬ causalMask (ix2 r (col ck j)) = 1 from fun h' => h ((causal_apply r (col ck j)).mp h'))]

/-- A block's scores for query `j`. -/
def scoreCol (s : FVec Ideal S256x128 .f32) (j : Fin 128) : Fin 256 → EReal := fun r => s (ix2 r j)

theorem ownM_apply (s : FVec Ideal S256x128 .f32) (j : Fin 128) :
    (ownM s : FVec Ideal S1x1x128 .f32) (ix3 0 0 j) = blockMax (scoreCol s j) := by
  unfold ownM colMax
  simp only [pointwise]
  rw [word_bot]
  rfl

theorem pastM_apply (m : Vec Ideal S1x1x128 .f32) (s : FVec Ideal S256x128 .f32) (j : Fin 128) :
    (pastM m s : FVec Ideal S1x1x128 .f32) (ix3 0 0 j) = max (m (ix3 0 0 j)) (blockMax (scoreCol s j)) := by
  unfold pastM newMax colMax
  simp only [pointwise]
  rw [word_bot]
  rfl

theorem ownL_apply (s : FVec Ideal S256x128 .f32) (j : Fin 128) :
    (ownL s : FVec Ideal S1x1x128 .f32) (ix3 0 0 j) = ∑ r, ew (scoreCol s j r) (blockMax (scoreCol s j)) := by
  unfold ownL colSum weights colMax
  simp only [pointwise, Nat.reduceEqDiff, ↓reduceDIte]
  rw [word_bot]
  rfl

theorem pastL_apply (m l : Vec Ideal S1x1x128 .f32) (s : FVec Ideal S256x128 .f32) (j : Fin 128) :
    (pastL m l s : FVec Ideal S1x1x128 .f32) (ix3 0 0 j)
      = ew (m (ix3 0 0 j)) (max (m (ix3 0 0 j)) (blockMax (scoreCol s j))) * l (ix3 0 0 j)
        + ∑ r, ew (scoreCol s j r) (max (m (ix3 0 0 j)) (blockMax (scoreCol s j))) := by
  unfold pastL shrink colSum weights newMax colMax
  simp only [pointwise, Nat.reduceEqDiff, ↓reduceDIte]
  rw [word_bot]
  rfl

/-- Feature `d` of the chunk's head, among the pair's 128. -/
def feat (ck : Fin 4) (d : Fin 64) : Fin 128 := ⟨64 * (ck.val / 2) + d.val, by omega⟩

theorem ownA_apply (ck : Fin 4) (vb : Vec Ideal S256x128 .bf16) (s : FVec Ideal S256x128 .f32) (d : Fin 64) (j : Fin 128) :
    (ownA ck vb s : FVec Ideal S1x1x64x128 .f32) (ix4 0 0 d j)
      = ∑ r, vb (ix2 r (feat ck d)) * ew (scoreCol s j r) (blockMax (scoreCol s j)) := by
  unfold ownA weighted weights colMax
  simp only [pointwise, Nat.reduceEqDiff, ↓reduceDIte]
  rw [word_bot, zero_add]
  have e : (⟨(![64 * (ck.val / 2), 0] : Fin 2 → Nat) 1 + j.val, by simp⟩ : Fin 128) = j := Fin.ext (Nat.zero_add _)
  refine Finset.sum_congr rfl fun r _ => ?_
  simp only [e]
  rfl

theorem pastA_apply (ck : Fin 4) (m : Vec Ideal S1x1x128 .f32) (a : Vec Ideal S1x1x64x128 .f32) (vb : Vec Ideal S256x128 .bf16)
    (s : FVec Ideal S256x128 .f32) (d : Fin 64) (j : Fin 128) :
    (pastA ck m a vb s : FVec Ideal S1x1x64x128 .f32) (ix4 0 0 d j)
      = ew (m (ix3 0 0 j)) (max (m (ix3 0 0 j)) (blockMax (scoreCol s j))) * a (ix4 0 0 d j)
        + ∑ r, vb (ix2 r (feat ck d)) * ew (scoreCol s j r) (max (m (ix3 0 0 j)) (blockMax (scoreCol s j))) := by
  unfold pastA shrink weighted weights newMax colMax
  simp only [pointwise, Nat.reduceEqDiff, ↓reduceDIte]
  rw [word_bot, zero_add]
  have e : (⟨(![64 * (ck.val / 2), 0] : Fin 2 → Nat) 1 + j.val, by simp⟩ : Fin 128) = j := Fin.ext (Nat.zero_add _)
  refine congrArg₂ (· + ·) rfl (Finset.sum_congr rfl fun r _ => ?_)
  simp only [e]
  rfl

/-- The loop's maximum for one query. -/
theorem loopM_apply (S0 : FVec Ideal S256x128 .f32) (S : Nat → FVec Ideal S256x128 .f32) (n : Nat) (j : Fin 128) :
    (loopM S0 S n : FVec Ideal S1x1x128 .f32) (ix3 0 0 j) = runMax (scoreCol S0 j) (fun k => scoreCol (S k) j) n := by
  induction n with
  | zero => exact ownM_apply S0 j
  | succ n ih =>
    have e : loopM S0 S (n + 1) = pastM (loopM S0 S n) (S n) := rfl
    rw [e, pastM_apply, ih]; rfl

/-- The loop's sum of weights for one query. -/
theorem loopL_apply (S0 : FVec Ideal S256x128 .f32) (S : Nat → FVec Ideal S256x128 .f32) (n : Nat) (j : Fin 128) :
    (loopL S0 S n : FVec Ideal S1x1x128 .f32) (ix3 0 0 j)
      = runSum (scoreCol S0 j) (fun _ => 1) (fun k => scoreCol (S k) j) (fun _ _ => 1) n := by
  induction n with
  | zero =>
    refine (ownL_apply S0 j).trans ?_
    refine Finset.sum_congr rfl fun r _ => ?_
    exact (one_mul _).symm
  | succ n ih =>
    have e : loopL S0 S (n + 1) = pastL (loopM S0 S n) (loopL S0 S n) (S n) := rfl
    rw [e, pastL_apply, ih, loopM_apply]
    refine congrArg₂ (· + ·) rfl (Finset.sum_congr rfl fun r _ => ?_)
    exact (one_mul _).symm

/-- The loop's weighted values for one query and feature. -/
theorem loopA_apply (ck : Fin 4) (S0 : FVec Ideal S256x128 .f32) (S : Nat → FVec Ideal S256x128 .f32)
    (V0 : Vec Ideal S256x128 .bf16) (V : Nat → Vec Ideal S256x128 .bf16) (n : Nat) (d : Fin 64) (j : Fin 128) :
    (loopA ck S0 S V0 V n : FVec Ideal S1x1x64x128 .f32) (ix4 0 0 d j)
      = runSum (scoreCol S0 j) (fun r => V0 (ix2 r (feat ck d))) (fun k => scoreCol (S k) j)
          (fun k r => V k (ix2 r (feat ck d))) n := by
  induction n with
  | zero => exact ownA_apply ck V0 S0 d j
  | succ n ih =>
    have e : loopA ck S0 S V0 V (n + 1) = pastA ck (loopM S0 S n) (loopA ck S0 S V0 V n) (V n) (S n) := rfl
    rw [e, pastA_apply, ih, loopM_apply]
    rfl

end Cert.AttnIdeal.Chunk

end
-- ==== Proof.AttnSelect.lean ====
module

public import Idealize.ShloMosaic.Lib.SortPrefix
public import Mathlib.Data.EReal.Basic

@[expose] public section

/-! # The selection of at most three past blocks

Of sixteen blocks only those before the query's own are live. The kernel picks, three times, the live block of largest
gate (of equal gates the lowest number) and drops it. The mathematics sorts the gates, the ones not live put at minus
infinity, and takes the first three. Both name the same blocks. -/

namespace Cert.Attn

open Idealize.ShloMosaic

/-- A block picked in one round: live, and no live block has a larger gate or an equal one and a lower number. -/
def IsFirst (live : Fin 16 → Prop) (g : Fin 16 → EReal) (j : Fin 16) : Prop :=
  live j ∧ ∀ p, live p → g p < g j ∨ (g p = g j ∧ j ≤ p)

/-- One round picks one block at most. -/
theorem IsFirst.unique {live : Fin 16 → Prop} {g : Fin 16 → EReal} {a b : Fin 16} (ha : IsFirst live g a)
    (hb : IsFirst live g b) : a = b := by
  rcases ha.2 b hb.1 with h | ⟨h, hab⟩
  · rcases hb.2 a ha.1 with h' | ⟨h', -⟩
    · exact absurd (h.trans h') (lt_irrefl _)
    · exact absurd h (h' ▸ lt_irrefl _)
  · rcases hb.2 a ha.1 with h' | ⟨-, hba⟩
    · exact absurd h' (h ▸ lt_irrefl _)
    · exact le_antisymm hab hba

/-- The blocks live before round `n`. -/
def liveBefore (qi : Nat) (g : Fin 16 → EReal) : Nat → Fin 16 → Prop
  | 0 => fun p => p.val < qi
  | n + 1 => fun p => liveBefore qi g n p ∧ ¬ IsFirst (liveBefore qi g n) g p

/-- The blocks that the three rounds pick. -/
def Picked (qi : Nat) (g : Fin 16 → EReal) (p : Fin 16) : Prop :=
  (IsFirst (liveBefore qi g 0) g p ∨ IsFirst (liveBefore qi g 1) g p) ∨ IsFirst (liveBefore qi g 2) g p

/-- The gates with the blocks that are not live at minus infinity. -/
noncomputable def maskedGate (qi : Nat) (g : Fin 16 → EReal) (p : Fin 16) : EReal := if p.val < qi then g p else ⊥

/-- The order of the sort: larger masked gates first. -/
noncomputable def larger (qi : Nat) (g : Fin 16 → EReal) (a b : Fin 16) : Bool :=
  decide (maskedGate qi g b < maskedGate qi g a)

/-- The same with equal gates ordered by the block's number. -/
noncomputable def largerThenLower (qi : Nat) (g : Fin 16 → EReal) (a b : Fin 16) : Bool :=
  decide (maskedGate qi g b < maskedGate qi g a) ||
    (decide (maskedGate qi g a = maskedGate qi g b) && decide (a < b))

/-- Breaking ties by position is a strict total order. -/
theorem total_largerThenLower (qi : Nat) (g : Fin 16 → EReal) : StrictTotalBefore (largerThenLower qi g) := by
  classical
  have h := StrictTotalBefore.of_key_then_position (n := 16) (fun x y : EReal => decide (y < x)) (maskedGate qi g)
    (fun a => by simp) (fun a b c hab hbc => by
      simp only [decide_eq_true_eq] at hab hbc ⊢; exact hbc.trans hab)
    (fun a b => by
      simp only [decide_eq_true_eq]
      rcases lt_trichotomy a b with h | h | h
      · exact Or.inr (Or.inr h)
      · exact Or.inr (Or.inl h)
      · exact Or.inl h)
  have e : largerThenLower qi g = fun a b : Fin 16 => decide (maskedGate qi g b < maskedGate qi g a) ||
      (decide (maskedGate qi g a = maskedGate qi g b) && decide (a < b)) := by
    funext a b; unfold largerThenLower; congr!
  rw [e]
  convert h using 5

/-- A stable sort of a list in increasing order asks only how a later element compares with an earlier one. -/
theorem stableSort_eq_of_later {n : Nat} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Sorts that list the positions alike put the same position first, second and so on. -/
theorem sortedFrom_of_positions {n : Nat} (R R' : Fin n → Fin n → Bool)
    (e : sortPositions n R = sortPositions n R') : sortedFrom R = sortedFrom R' := by
  funext k
  unfold sortedFrom
  rw [List.get_of_eq e]
  rfl

/-- So the sort is the same whether ties are broken by position or left to the sort's stability. -/
theorem sortedFrom_larger (qi : Nat) (g : Fin 16 → EReal) :
    sortedFrom (larger qi g) = sortedFrom (largerThenLower qi g) := by
  have e : sortPositions 16 (larger qi g) = sortPositions 16 (largerThenLower qi g) :=
    stableSort_eq_of_later _ _ _ (List.pairwise_lt_finRange 16) fun a b hab => by
      unfold larger largerThenLower
      have : decide (b < a) = false := decide_eq_false (not_lt.mpr hab.le)
      rw [this, Bool.and_false, Bool.or_false]
  exact sortedFrom_of_positions _ _ e

/-- The block at a position of the sort. -/
noncomputable def ranked (qi : Nat) (g : Fin 16 → EReal) (i : Fin 16) : Fin 16 := sortedFrom (larger qi g) i

theorem ranked_injective (qi : Nat) (g : Fin 16 → EReal) : Function.Injective (ranked qi g) := sortedFrom_injective _

theorem ranked_surjective (qi : Nat) (g : Fin 16 → EReal) : Function.Surjective (ranked qi g) := sortedFrom_surjective _

/-- An earlier position holds a larger gate, or an equal one and a lower number. -/
theorem ranked_order (qi : Nat) (g : Fin 16 → EReal) {i j : Fin 16} (h : i < j) :
    maskedGate qi g (ranked qi g j) < maskedGate qi g (ranked qi g i) ∨
      (maskedGate qi g (ranked qi g i) = maskedGate qi g (ranked qi g j) ∧ ranked qi g i < ranked qi g j) := by
  have hB := total_largerThenLower qi g
  have h1 : largerThenLower qi g (ranked qi g j) (ranked qi g i) = false := by
    unfold ranked
    rw [sortedFrom_larger]
    exact sortedFrom_noInversion _ _ (fun a b h => hB.asymm a b h) (fun _ _ h => h) hB.negTrans i j h
  have h2 : ranked qi g i ≠ ranked qi g j := fun e => absurd (ranked_injective qi g e) h.ne
  rcases hB.total _ _ h2 with h3 | h3
  · simpa [largerThenLower] using h3
  · rw [h1] at h3; exact absurd h3 (by decide)

/-- The first `qi` positions hold live blocks. -/
theorem ranked_live (qi : Nat) (g : Fin 16 → EReal) (n : Fin 16) (hq : qi ≤ 16) (hn : n.val < qi) :
    (ranked qi g n).val < qi := by
  by_contra hge
  have hpos : ∀ p : Fin qi, ∃ i : Fin n.val, (ranked qi g ⟨i.val, i.isLt.trans n.isLt⟩).val = p.val := by
    intro p
    obtain ⟨j, hj⟩ := ranked_surjective qi g ⟨p.val, p.isLt.trans_le hq⟩
    rcases lt_trichotomy j n with hlt | heq | hgt
    · exact ⟨⟨j.val, hlt⟩, by have := congrArg Fin.val hj; exact this⟩
    · subst heq; exact absurd (by rw [hj]; exact p.isLt) hge
    · exfalso
      have hb : maskedGate qi g (ranked qi g n) = ⊥ := if_neg hge
      rcases ranked_order qi g hgt with h | ⟨-, h⟩
      · rw [hb] at h; exact absurd h not_lt_bot
      · have hv : (ranked qi g n).val < p.val := by
          have h5 := Fin.lt_def.mp h
          rw [hj] at h5
          exact h5
        exact hge (hv.trans p.isLt)
  choose f hf using hpos
  have hinj : Function.Injective f := fun a b hab => Fin.ext (by rw [← hf a, ← hf b, hab])
  have hc := Fintype.card_le_of_injective f hinj
  simp only [Fintype.card_fin] at hc
  omega

/-- The first `qi` positions' blocks, as a map of the first `qi` numbers to themselves. -/
noncomputable def liveRanked (qi : Nat) (g : Fin 16 → EReal) (hq : qi ≤ 16) (i : Fin qi) : Fin qi :=
  ⟨(ranked qi g (i.castLE hq)).val, ranked_live qi g (i.castLE hq) hq i.isLt⟩

/-- A live block stands at one of the first `qi` positions. -/
theorem ranked_position (qi : Nat) (g : Fin 16 → EReal) (hq : qi ≤ 16) (j : Fin 16) (hj : (ranked qi g j).val < qi) :
    j.val < qi := by
  have hinj : Function.Injective (liveRanked qi g hq) := by
    intro a b hab
    have h1 : ranked qi g (a.castLE hq) = ranked qi g (b.castLE hq) := by
      have h := congrArg Fin.val hab
      unfold liveRanked at h
      dsimp only at h
      exact Fin.ext h
    exact Fin.castLE_injective hq (ranked_injective qi g h1)
  obtain ⟨i, hi⟩ := (Finite.injective_iff_surjective.mp hinj) ⟨(ranked qi g j).val, hj⟩
  have h3 : ranked qi g (i.castLE hq) = ranked qi g j := by
    have h := congrArg Fin.val hi
    unfold liveRanked at h
    dsimp only at h
    exact Fin.ext h
  have h4 : i.castLE hq = j := ranked_injective qi g h3
  rw [← h4]
  exact i.isLt

/-- A block is picked in a round with live blocks `L` exactly when it is the sort's next, where `L` is what the first
    `n` positions leave. -/
theorem isFirst_iff (qi : Nat) (g : Fin 16 → EReal) (hq : qi ≤ 16) (L : Fin 16 → Prop) (n : Fin 16)
    (hL : ∀ p, L p ↔ p.val < qi ∧ ∀ i : Fin 16, i < n → ranked qi g i ≠ p) (p : Fin 16) :
    IsFirst L g p ↔ n.val < qi ∧ p = ranked qi g n := by
  have key : n.val < qi → IsFirst L g (ranked qi g n) := by
    intro hn
    have hl := ranked_live qi g n hq hn
    refine ⟨(hL _).mpr ⟨hl, fun i hi e => absurd (ranked_injective qi g e) hi.ne⟩, fun p hp => ?_⟩
    obtain ⟨h1, h2⟩ := (hL p).mp hp
    obtain ⟨j, rfl⟩ := ranked_surjective qi g p
    have hm : ∀ q : Fin 16, q.val < qi → maskedGate qi g q = g q := fun q h => if_pos h
    rcases lt_trichotomy j n with hlt | heq | hgt
    · exact absurd rfl (h2 j hlt)
    · subst heq; exact Or.inr ⟨rfl, le_refl _⟩
    · have h5 := ranked_order qi g hgt
      rw [hm _ hl, hm _ h1] at h5
      rcases h5 with h | ⟨h, h'⟩
      · exact Or.inl h
      · exact Or.inr ⟨h.symm, h'.le⟩
  constructor
  · intro h
    obtain ⟨h1, h2⟩ := (hL p).mp h.1
    obtain ⟨j, hj⟩ := ranked_surjective qi g p
    have hjq : j.val < qi := ranked_position qi g hq j (by rw [hj]; exact h1)
    have hnj : n ≤ j := not_lt.mp fun hlt => h2 j hlt hj
    have hn : n.val < qi := lt_of_le_of_lt (Fin.le_def.mp hnj) hjq
    exact ⟨hn, h.unique (key hn)⟩
  · rintro ⟨hn, rfl⟩; exact key hn

/-- What is live before round `n`: the live blocks that are not among the first `n` of the sort. -/
theorem liveBefore_iff (qi : Nat) (g : Fin 16 → EReal) (hq : qi ≤ 16) (n : Nat) (hn : n < 16) (p : Fin 16) :
    liveBefore qi g n p ↔ p.val < qi ∧ ∀ i : Fin 16, i < ⟨n, hn⟩ → ranked qi g i ≠ p := by
  induction n generalizing p with
  | zero =>
    refine ⟨fun h => ⟨h, fun i hi => absurd (Fin.lt_def.mp hi) (Nat.not_lt_zero _)⟩, fun h => h.1⟩
  | succ n ih =>
    have hn' : n < 16 := by omega
    have e : liveBefore qi g (n + 1) p = (liveBefore qi g n p ∧ ¬ IsFirst (liveBefore qi g n) g p) := rfl
    rw [e, isFirst_iff qi g hq _ ⟨n, hn'⟩ (ih hn'), ih hn' p]
    constructor
    · rintro ⟨⟨h1, h2⟩, h3⟩
      refine ⟨h1, fun i hi hip => ?_⟩
      rcases lt_or_eq_of_le (Nat.lt_succ_iff.mp (Fin.lt_def.mp hi)) with hlt | heq
      · exact h2 i (Fin.lt_def.mpr hlt) hip
      · have hi' : i = ⟨n, hn'⟩ := Fin.ext heq
        rw [hi'] at hip
        refine h3 ⟨?_, hip.symm⟩
        exact ranked_position qi g hq ⟨n, hn'⟩ (by rw [hip]; exact h1)
    · rintro ⟨h1, h2⟩
      refine ⟨⟨h1, fun i hi => h2 i (Fin.lt_def.mpr (lt_trans (Fin.lt_def.mp hi) (Nat.lt_succ_self n)))⟩, ?_⟩
      rintro ⟨-, h3⟩
      exact h2 ⟨n, hn'⟩ (Fin.lt_def.mpr (Nat.lt_succ_self n)) h3.symm

/-- The three rounds pick the first three blocks of the sort, as many as are live. -/
theorem picked_iff (qi : Nat) (g : Fin 16 → EReal) (hq : qi ≤ 16) (p : Fin 16) :
    Picked qi g p ↔ ∃ n : Fin 3, n.val < qi ∧ ranked qi g (n.castLE (by decide)) = p := by
  unfold Picked
  rw [isFirst_iff qi g hq _ 0 (fun p => liveBefore_iff qi g hq 0 (by decide) p),
    isFirst_iff qi g hq _ 1 (fun p => liveBefore_iff qi g hq 1 (by decide) p),
    isFirst_iff qi g hq _ 2 (fun p => liveBefore_iff qi g hq 2 (by decide) p)]
  constructor
  · rintro ((⟨h, e⟩ | ⟨h, e⟩) | ⟨h, e⟩)
    · exact ⟨0, h, e.symm⟩
    · exact ⟨1, h, e.symm⟩
    · exact ⟨2, h, e.symm⟩
  · rintro ⟨n, h, e⟩
    fin_cases n
    · exact Or.inl (Or.inl ⟨h, e.symm⟩)
    · exact Or.inl (Or.inr ⟨h, e.symm⟩)
    · exact Or.inr ⟨h, e.symm⟩

/-- A sum over the picked past blocks is a sum over the first three of the sort, those beyond the live ones left out. -/
theorem sum_picked {M : Type} [AddCommMonoid M] (qi : Nat) (g : Fin 16 → EReal) (hq : qi ≤ 16) (f : Fin 16 → M)
    [DecidablePred (Picked qi g)] :
    (∑ p : Fin 16, if Picked qi g p then f p else 0)
      = ∑ n : Fin 3, if n.val < qi then f (ranked qi g (n.castLE (by decide))) else 0 := by
  classical
  rw [← Finset.sum_filter, ← Finset.sum_filter]
  have e : Finset.univ.filter (fun p => Picked qi g p)
      = (Finset.univ.filter fun n : Fin 3 => n.val < qi).image fun n => ranked qi g (n.castLE (by decide)) := by
    ext p
    simp only [Finset.mem_filter, Finset.mem_univ, true_and, Finset.mem_image]
    exact picked_iff qi g hq p
  rw [e, Finset.sum_image]
  intro a _ b _ hab
  have := ranked_injective qi g hab
  exact Fin.castLE_injective _ this

end Cert.Attn

end
-- ==== Proof.AttnPick.lean ====
/- The attention kernel's gate and its selection of past blocks, read at one query. -/
module

public import proofs.«01_k».proof.Proof.AttnRead
public import proofs.«01_k».proof.Proof.AttnSelect

@[expose] public section

set_option maxRecDepth 16384

noncomputable section

namespace Cert.AttnIdeal.Chunk

open Cert.AttnIdeal Cert.AttnIdeal.Gen Cert.Attn Idealize.ShloMosaic Idealize.ShloMosaic.TcCoe Idealize.SL.Sem

/-! ## One round of the selection -/

theorem toInt_minsi (x y : BitVec 32) : (IntOp.minsi x y).toInt = min x.toInt y.toInt := by
  unfold IntOp.minsi
  rw [BitVec.slt_eq_decide]
  by_cases h : x.toInt < y.toInt
  · simp [h, h.le]
  · simp [h, le_of_not_gt h]

/-- The least of sixteen numbers, those not marked counted as sixteen: `j` exactly when `j` is the first marked. -/
theorem least_iff (P : Fin 16 → Prop) [DecidablePred P] (j : Fin 16) :
    BitVec.ofNat 32 j.val = Finset.fold IntOp.minsi (2147483647#32)
        (fun k : Fin 16 => if P k then BitVec.ofNat 32 k.val else 16#32) Finset.univ
      ↔ P j ∧ ∀ k, P k → j ≤ k := by
  have hfold : (Finset.fold IntOp.minsi (2147483647#32)
        (fun k : Fin 16 => if P k then BitVec.ofNat 32 k.val else 16#32) Finset.univ).toInt
      = Finset.fold min (2147483647 : Int) (fun k : Fin 16 => if P k then (k.val : Int) else 16) Finset.univ := by
    rw [← Finset.fold_hom (op' := (min : Int → Int → Int)) (m := BitVec.toInt) toInt_minsi]
    refine Finset.fold_congr fun k _ => ?_
    by_cases h : P k
    · rw [if_pos h, if_pos h, toInt_small (by omega)]
    · rw [if_neg h, if_neg h]; rfl
  rw [← BitVec.toInt_inj, hfold, toInt_small (by omega)]
  constructor
  · intro e
    have h1 : Finset.fold min (2147483647 : Int) (fun k : Fin 16 => if P k then (k.val : Int) else 16) Finset.univ ≤ j.val := e.ge
    have h2 : (j.val : Int) ≤ Finset.fold min (2147483647 : Int) (fun k : Fin 16 => if P k then (k.val : Int) else 16) Finset.univ := e.le
    rw [Finset.fold_min_le] at h1
    rw [Finset.le_fold_min] at h2
    have h3 : ∀ k, P k → j ≤ k := fun k hk => by
      have h := h2.2 k (Finset.mem_univ k)
      rw [if_pos hk] at h
      exact Fin.le_def.mpr (by omega)
    refine ⟨?_, h3⟩
    rcases h1 with h1 | ⟨x, -, hx⟩
    · omega
    · by_cases hp : P x
      · rw [if_pos hp] at hx
        have := Fin.le_def.mp (h3 x hp)
        have hxj : x = j := Fin.ext (by omega)
        exact hxj ▸ hp
      · rw [if_neg hp] at hx; omega
  · rintro ⟨hj, hmin⟩
    refine le_antisymm ?_ ?_
    · rw [Finset.le_fold_min]
      refine ⟨by omega, fun k _ => ?_⟩
      by_cases hk : P k
      · rw [if_pos hk]; have := Fin.le_def.mp (hmin k hk); omega
      · rw [if_neg hk]; omega
    · rw [Finset.fold_min_le]
      exact Or.inr ⟨j, Finset.mem_univ j, by rw [if_pos hj]⟩

/-- The first live block that reaches the largest live gate is the round's pick. -/
theorem first_iff (live : Fin 16 → Prop) [DecidablePred live] (g : Fin 16 → EReal) (j : Fin 16) :
    ((live j ∧ (if live j then g j else ⊥) = Finset.univ.sup fun p => if live p then g p else ⊥)
        ∧ ∀ k, (live k ∧ (if live k then g k else ⊥) = Finset.univ.sup fun p => if live p then g p else ⊥) → j ≤ k)
      ↔ IsFirst live g j := by
  have hle : ∀ p, live p → g p ≤ Finset.univ.sup fun p => if live p then g p else ⊥ := fun p hp => by
    have h : (if live p then g p else ⊥) ≤ Finset.univ.sup fun p => if live p then g p else ⊥ :=
      Finset.le_sup (f := fun p => if live p then g p else ⊥) (Finset.mem_univ p)
    rwa [if_pos hp] at h
  constructor
  · rintro ⟨⟨hl, he⟩, hmin⟩
    rw [if_pos hl] at he
    refine ⟨hl, fun p hp => ?_⟩
    have h := hle p hp
    rw [← he] at h
    rcases h.lt_or_eq with hlt | heq
    · exact Or.inl hlt
    · exact Or.inr ⟨heq, hmin p ⟨hp, by rw [if_pos hp, heq, he]⟩⟩
  · rintro ⟨hl, hdom⟩
    have he : g j = Finset.univ.sup fun p => if live p then g p else ⊥ := by
      refine le_antisymm (hle j hl) (Finset.sup_le fun p _ => ?_)
      by_cases hp : live p
      · rw [if_pos hp]
        rcases hdom p hp with h | ⟨h, -⟩
        · exact h.le
        · exact h.le
      · rw [if_neg hp]; exact bot_le
    refine ⟨⟨hl, by rw [if_pos hl]; exact he⟩, ?_⟩
    rintro k ⟨hk, hke⟩
    rw [if_pos hk, ← he] at hke
    rcases hdom k hk with h | ⟨-, h⟩
    · exact absurd h (hke ▸ lt_irrefl _)
    · exact h

/-- What a column's live mask says. -/
def LiveAt (live : IVec S16x512 1) (c : Fin 512) (p : Fin 16) : Prop := live (ix2 p c) = 1#1

instance (live : IVec S16x512 1) (c : Fin 512) : DecidablePred (LiveAt live c) :=
  fun p => inferInstanceAs (Decidable (live (ix2 p c) = 1#1))

theorem row_iota (j : Fin 16) (c : Fin 512) :
    List.foldl (fun n a => n * (![16, 512] : Fin 2 → Nat) a + (ix2 j c a : Nat)) 0 [0] = j.val := by simp

theorem and_iff : ∀ a : BitVec 1, ∀ b : Bool, (IntOp.andi a (BitVec.ofBool b) = 1#1) = (a = 1#1 ∧ b = true) := by
  intro a b
  have : a = 0#1 ∨ a = 1#1 := by revert a; decide
  rcases this with rfl | rfl <;> cases b <;> simp [IntOp.andi]

/-- One round: the pick's bit is set at the round's first block. -/
theorem pickRound_apply (live : IVec S16x512 1) (g : FVec Ideal S16x512 .f32) (j : Fin 16) (c : Fin 512) :
    pickRound live g (ix2 j c) = 1#1 ↔ IsFirst (LiveAt live c) (fun p => g (ix2 p c)) j := by
  have h0 : pickRound live g (ix2 j c) = IntOp.cmpi CmpIPredicate.eq (BitVec.ofNat 32 j.val)
      (Finset.fold IntOp.minsi (2147483647#32)
        (fun k : Fin 16 => if (LiveAt live c k ∧ (if LiveAt live c k then g (ix2 k c) else ⊥)
            = Finset.univ.sup fun p => if LiveAt live c p then g (ix2 p c) else ⊥)
          then BitVec.ofNat 32 k.val else 16#32) Finset.univ) := by
    unfold pickRound masked blockNo
    simp only [pointwise, Nat.reduceEqDiff, ↓reduceDIte, row_iota, word_bot]
    refine congrArg _ (Finset.fold_congr fun k _ => ?_)
    unfold Scalar.select
    refine if_congr ?_ rfl rfl
    exact (iff_of_eq (and_iff _ _)).trans (and_congr Iff.rfl decide_eq_true_iff)
  rw [h0]
  refine Iff.trans ?_ ((least_iff (fun k : Fin 16 => LiveAt live c k ∧ (if LiveAt live c k then g (ix2 k c) else ⊥)
    = Finset.univ.sup fun p => if LiveAt live c p then g (ix2 p c) else ⊥) j).trans
    (first_iff (LiveAt live c) (fun p => g (ix2 p c)) j))
  generalize Finset.fold IntOp.minsi (2147483647#32) (fun k : Fin 16 => if (LiveAt live c k ∧
    (if LiveAt live c k then g (ix2 k c) else ⊥) = Finset.univ.sup fun p => if LiveAt live c p then g (ix2 p c) else ⊥)
    then BitVec.ofNat 32 k.val else 16#32) Finset.univ = w
  generalize BitVec.ofNat 32 j.val = x
  by_cases h : x = w
  · subst h; simp [IntOp.cmpi]
  · have hb : (x == w) = false := beq_eq_false_iff_ne.mpr h
    refine iff_of_false ?_ h
    show ¬ BitVec.ofBool (x == w) = 1#1
    rw [hb]; decide

/-- What is live after a round: what was, but the pick. -/
theorem liveAfter_apply (live p : IVec S16x512 1) (j : Fin 16) (c : Fin 512) :
    liveAfter live p (ix2 j c) = 1#1 ↔ live (ix2 j c) = 1#1 ∧ ¬ p (ix2 j c) = 1#1 := by
  unfold liveAfter
  simp only [pointwise]
  have h : ∀ a b : BitVec 1, IntOp.andi a (IntOp.xori b 1#1) = 1#1 ↔ a = 1#1 ∧ ¬ b = 1#1 := by decide
  exact h _ _

/-- The blocks live at first: those before the query's own. -/
theorem live0_apply (n : Nat) (hn : n < 16) (j : Fin 16) (c : Fin 512) :
    live0 (BitVec.ofNat 32 n) (ix2 j c) = 1#1 ↔ j.val < n := by
  unfold live0 blockNo
  simp only [pointwise, row_iota]
  have h : ∀ j n : Fin 16, IntOp.cmpi CmpIPredicate.slt (BitVec.ofNat 32 j.val) (BitVec.ofNat 32 n.val) = 1#1 ↔ j.val < n.val := by
    decide +kernel
  exact h j ⟨n, hn⟩

/-- The column's gate. -/
def gateCol (g : FVec Ideal S16x512 .f32) (c : Fin 512) (p : Fin 16) : EReal := g (ix2 p c)

theorem liveAt0 (n : Nat) (hn : n < 16) (g : FVec Ideal S16x512 .f32) (c : Fin 512) :
    LiveAt (live0 (BitVec.ofNat 32 n)) c = liveBefore n (gateCol g c) 0 :=
  funext fun p => propext (live0_apply n hn p c)

theorem liveAt1 (n : Nat) (hn : n < 16) (g : FVec Ideal S16x512 .f32) (c : Fin 512) :
    LiveAt (live1 (BitVec.ofNat 32 n) g) c = liveBefore n (gateCol g c) 1 := by
  funext p
  refine propext ?_
  unfold LiveAt live1
  rw [liveAfter_apply, pickRound_apply, liveAt0 n hn g c]
  exact and_congr (live0_apply n hn p c) Iff.rfl

theorem liveAt2 (n : Nat) (hn : n < 16) (g : FVec Ideal S16x512 .f32) (c : Fin 512) :
    LiveAt (live2 (BitVec.ofNat 32 n) g) c = liveBefore n (gateCol g c) 2 := by
  funext p
  refine propext ?_
  unfold LiveAt live2
  rw [liveAfter_apply, pickRound_apply, liveAt1 n hn g c]
  exact and_congr (iff_of_eq (congrFun (liveAt1 n hn g c) p)) Iff.rfl

/-- The three rounds' bit is set at the blocks picked. -/
theorem topRows_apply (n : Nat) (hn : n < 16) (g : FVec Ideal S16x512 .f32) (j : Fin 16) (c : Fin 512) :
    topRows (BitVec.ofNat 32 n) g (ix2 j c) = 1#1 ↔ Picked n (gateCol g c) j := by
  unfold topRows
  simp only [pointwise]
  have h : ∀ a b d : BitVec 1, IntOp.ori (IntOp.ori (IntOp.ori (0#1) a) b) d = 1#1 ↔ ((a = 1#1 ∨ b = 1#1) ∨ d = 1#1) := by
    decide
  rw [h, pickRound_apply, pickRound_apply, pickRound_apply, liveAt0 n hn g c, liveAt1 n hn g c, liveAt2 n hn g c]
  rfl

/-- The stored selection is above one half at the blocks picked. -/
theorem selOf_apply (n : Nat) (hn : n < 16) (g : FVec Ideal S16x512 .f32) (j : Fin 16) (c : Fin 512) :
    ((1 / 2 : ℝ) : EReal) < (selOf (BitVec.ofNat 32 n) g : FVec Ideal S1x16x512 .f32) (ix3 0 j c)
      ↔ Picked n (gateCol g c) j := by
  rw [← topRows_apply n hn g j c]
  unfold selOf
  simp only [pointwise]
  generalize topRows (BitVec.ofNat 32 n) g (ix2 j c) = b
  have : b = 0#1 ∨ b = 1#1 := by revert b; decide
  rcases this with rfl | rfl
  · refine iff_of_false ?_ (by decide)
    show ¬ ((1 / 2 : ℝ) : EReal) < (((0 : Int) : ℝ) : EReal)
    rw [EReal.coe_lt_coe_iff]; norm_num
  · refine iff_of_true ?_ rfl
    show ((1 / 2 : ℝ) : EReal) < (((1 : Int) : ℝ) : EReal)
    rw [EReal.coe_lt_coe_iff]; norm_num

/-! ## The queries side by side, and the gate -/

/-- Row `c` of the two heads kept apart: the query's features in its own head's half, zero in the other's. -/
theorem blockDiag_apply (t : FVec Ideal S256x128 .bf16) (c : Fin 512) (l : Fin 128) :
    (blockDiag t : FVec Ideal S512x128 .bf16) (ix2 c l)
      = if l.val / 64 = c.val / 256 then t (ix2 ⟨c.val % 256, by omega⟩ l) else 0 := by
  have hs : ∀ l : Fin 128, IntOp.cmpi CmpIPredicate.slt (BitVec.ofNat 32 l.val) 64#32 = 1#1 ↔ l.val < 64 := by decide +kernel
  have hg : ∀ l : Fin 128, IntOp.cmpi CmpIPredicate.sge (BitVec.ofNat 32 l.val) 64#32 = 1#1 ↔ 64 ≤ l.val := by decide +kernel
  have hi : ∀ (r : Fin 256) (l : Fin 128),
      List.foldl (fun n a => n * (![256, 128] : Fin 2 → Nat) a + (ix2 r l a : Nat)) 0 [1] = l.val := by intro r l; simp
  unfold blockDiag
  simp only [pointwise, hi]
  by_cases hc : c.val < 256
  · rw [dif_pos hc]
    unfold Scalar.select
    have e : (⟨c.val % 256, by omega⟩ : Fin 256) = ⟨c.val, hc⟩ := Fin.ext (Nat.mod_eq_of_lt hc)
    rw [e]
    exact if_congr ((hs l).trans (by omega)) rfl rfl
  · rw [dif_neg hc]
    unfold Scalar.select
    refine if_congr ((hg l).trans (by omega)) ?_ rfl
    congr 2
    exact Fin.ext (by simp; omega)

/-- What the kernel stores of a pair's queries, at one of the 512. -/
theorem pairQueries_apply (t : FVec Ideal S256x128 .bf16) (c : Fin 512) (l : Fin 128) :
    (pairQueries t : FVec Ideal S1x512x128 .bf16) (ix3 0 c l) = (blockDiag t : FVec Ideal S512x128 .bf16) (ix2 c l) := by
  unfold pairQueries
  simp only [pointwise]

/-- A sum over the pair's 128 features against a row of one head is the sum over the head's 64. -/
theorem sum_head (h : Fin 2) (f g : Fin 128 → EReal) :
    (∑ l : Fin 128, f l * (if l.val / 64 = h.val then g l else 0))
      = ∑ d : Fin 64, f ⟨64 * h.val + d.val, by omega⟩ * g ⟨64 * h.val + d.val, by omega⟩ := by
  rw [← (finProdFinEquiv (m := 2) (n := 64)).sum_comp, Fintype.sum_prod_type, Finset.sum_eq_single h]
  · refine Finset.sum_congr rfl fun d _ => ?_
    have e : finProdFinEquiv (m := 2) (n := 64) (h, d) = (⟨64 * h.val + d.val, by omega⟩ : Fin 128) :=
      Fin.ext (Nat.add_comm _ _)
    rw [e, if_pos (by show (64 * h.val + d.val) / 64 = h.val; omega)]
  · intro b _ hb
    refine Finset.sum_eq_zero fun d _ => ?_
    have e : finProdFinEquiv (m := 2) (n := 64) (b, d) = (⟨64 * b.val + d.val, by omega⟩ : Fin 128) :=
      Fin.ext (Nat.add_comm _ _)
    rw [e, if_neg (by show ¬ (64 * b.val + d.val) / 64 = h.val; exact fun h' => hb (Fin.ext (by omega))), mul_zero]
  · intro h'; exact absurd (Finset.mem_univ h) h'

/-- A finite factor times a difference, put back together. -/
theorem mul_add_mul_sub (a b : ℝ) (y : EReal) : (a : EReal) * b + (a : EReal) * (y - b) = (a : EReal) * y := by
  induction y using EReal.rec with
  | bot =>
    rw [EReal.bot_sub]
    rcases lt_trichotomy a 0 with h | h | h
    · rw [EReal.coe_mul_bot_of_neg h, ← EReal.coe_mul, EReal.coe_add_top]
    · subst h; simp
    · rw [EReal.coe_mul_bot_of_pos h, EReal.add_bot]
  | coe r =>
    rw [← EReal.coe_sub, ← EReal.coe_mul, ← EReal.coe_mul, ← EReal.coe_mul, ← EReal.coe_add]
    congr 1; ring
  | top =>
    rw [EReal.top_sub_coe]
    rcases lt_trichotomy a 0 with h | h | h
    · rw [EReal.coe_mul_top_of_neg h, EReal.add_bot]
    · subst h; simp
    · rw [EReal.coe_mul_top_of_pos h, ← EReal.coe_mul, EReal.coe_add_top]

/-- The word of one eighth. -/
theorem word_eighth : Ideal.ofBits .f32 1040187392#32 = ((1 / 8 : ℝ) : EReal) := by
  simp [Ideal.ofBits, Ideal.ieee]
  norm_cast
  norm_num

/-- The remainder of the scaled queries. -/
theorem lowQueries_apply (q : Vec Ideal S256x128 .f32) (qb : Vec Ideal S256x128 .bf16) (r : Fin 256) (l : Fin 128) :
    (lowQueries q qb : FVec Ideal S256x128 .bf16) (ix2 r l) = q (ix2 r l) * ((1 / 8 : ℝ) : EReal) - qb (ix2 r l) := by
  unfold lowQueries
  simp only [pointwise]
  rw [word_eighth]

/-- Feature `d` of a column's head, among the pair's 128. -/
def headFeat (c : Fin 512) (d : Fin 64) : Fin 128 := ⟨64 * (c.val / 256) + d.val, by omega⟩

/-- The gate: with finite means and rounded queries the three parts are one product, the mean key against the scaled
    query. -/
theorem gate_apply (q : Vec Ideal S256x128 .f32) (qb : Vec Ideal S256x128 .bf16) (km : Vec Ideal S16x128 .f32)
    (hqb : ∀ i, ∃ r : ℝ, qb i = (r : EReal)) (hkm : ∀ i, ∃ r : ℝ, km i = (r : EReal)) (p : Fin 16) (c : Fin 512) :
    (gate q qb km (pairQueries qb) : FVec Ideal S16x512 .f32) (ix2 p c)
      = ∑ d : Fin 64, km (ix2 p (headFeat c d)) * (q (ix2 ⟨c.val % 256, by omega⟩ (headFeat c d)) * ((1 / 8 : ℝ) : EReal)) := by
  unfold gate meanDot
  simp only [pointwise, pairQueries_apply, blockDiag_apply, lowQueries_apply]
  have hz : ∀ k : Fin 128, km (ix2 p k) - km (ix2 p k) = 0 := fun k => by
    obtain ⟨r, hr⟩ := hkm (ix2 p k)
    rw [hr, ← EReal.coe_sub, sub_self]; rfl
  simp only [hz, zero_mul, Finset.sum_const_zero, zero_add, add_zero]
  have h1 := sum_head ⟨c.val / 256, by omega⟩ (fun l => km (ix2 p l)) (fun l => qb (ix2 ⟨c.val % 256, by omega⟩ l))
  have h2 := sum_head ⟨c.val / 256, by omega⟩ (fun l => km (ix2 p l)) (fun l => q (ix2 ⟨c.val % 256, by omega⟩ l)
    * ((1 / 8 : ℝ) : EReal) - qb (ix2 ⟨c.val % 256, by omega⟩ l))
  refine (congrArg₂ (· + ·) h1 h2).trans ?_
  rw [← Finset.sum_add_distrib]
  refine Finset.sum_congr rfl fun d _ => ?_
  show km (ix2 p (headFeat c d)) * qb (ix2 ⟨c.val % 256, by omega⟩ (headFeat c d)) + km (ix2 p (headFeat c d))
    * (q (ix2 ⟨c.val % 256, by omega⟩ (headFeat c d)) * ((1 / 8 : ℝ) : EReal) - qb (ix2 ⟨c.val % 256, by omega⟩ (headFeat c d))) = _
  obtain ⟨a, ha⟩ := hkm (ix2 p (headFeat c d))
  obtain ⟨b, hb⟩ := hqb (ix2 ⟨c.val % 256, by omega⟩ (headFeat c d))
  rw [ha, hb, mul_add_mul_sub]

/-- A pair's result: the head's weighted values over its sum. -/
theorem outOf_apply (l : Vec Ideal S1x1x512 .f32) (a0 a1 : Vec Ideal S1x1x64x256 .f32) (q : Fin 256) (h : Fin 2) (d : Fin 64) :
    (outOf l a0 a1 : FVec Ideal S256x128 .f32) (ix2 q ⟨64 * h.val + d.val, by omega⟩)
      = Ideal.div (if h.val = 0 then a0 (ix4 0 0 d q) else a1 (ix4 0 0 d q)) (l (ix3 0 0 ⟨256 * h.val + q.val, by omega⟩)) := by
  unfold outOf
  simp only [pointwise]
  by_cases hd : 64 * h.val + d.val < 64
  · have hh : h.val = 0 := by omega
    rw [dif_pos hd]
    refine congrArg₂ Ideal.div ((congrArg a0 (congrArg₂ (ix4 0 0) (Fin.ext ?_) rfl)).trans (if_pos hh).symm)
      (congrArg l (congrArg (ix3 0 0) (Fin.ext ?_)))
    · show 64 * h.val + d.val = d.val; omega
    · show 0 + q.val = 256 * h.val + q.val; omega
  · have hh : h.val = 1 := by omega
    rw [dif_neg hd]
    refine congrArg₂ Ideal.div ((congrArg a1 (congrArg₂ (ix4 0 0) (Fin.ext ?_) (Fin.ext rfl))).trans
      (if_neg (by omega)).symm) (congrArg l (congrArg (ix3 0 0) (Fin.ext ?_)))
    · show 64 * h.val + d.val - 64 = d.val; omega
    · show 256 + q.val = 256 * h.val + q.val; omega

end Cert.AttnIdeal.Chunk

end
-- ==== Proof.AttnPoint.lean ====
/- The attention kernel at one grid point: what it leaves in its block of results, from its blocks of arguments. -/
module

public import proofs.«01_k».proof.Proof.AttnLoop
public import proofs.«01_k».proof.Proof.AttnPick
public import Idealize.ShloMosaic.Lib.WholeRead

@[expose] public section

set_option maxRecDepth 16384

noncomputable section

namespace Cert.AttnIdeal.Chunk

open Cert.AttnIdeal Cert.AttnIdeal.Gen Cert.Attn Idealize.ShloMosaic Idealize.ShloMosaic.TcCoe Idealize.SL.Sem

/-! ## Trips and offsets -/

/-- The main loop makes as many trips as there are past blocks. -/
theorem trips_main : ∀ i : grid0.Coords, (k0_t1_loop i).trips = (i 1).val := by decide +kernel

/-- The loop's remainder makes none. -/
theorem trips_rest : ∀ i : grid0.Coords, (k0_t2_loop i).trips = 0 := by decide +kernel

/-- A trip reads past block `k`, and the selection's row `k`. -/
theorem trip_offsets : ∀ (i : grid0.Coords) (k : Fin (k0_t1_loop i).trips),
    k0_off5 i k = ![0, k.val, 0] ∧ k0_off7 i k = ![1, k.val, 0] ∧ k0_off9 i k = ![2, k.val, 0] ∧ k0_off11 i k = ![3, k.val, 0]
    ∧ k0_off6 i k = ![256 * k.val, 0] ∧ k0_off8 i k = ![256 * k.val, 128] ∧ k0_off10 i k = ![256 * k.val, 256]
    ∧ k0_off12 i k = ![256 * k.val, 384] := by decide +kernel

/-- The own block is the grid point's. -/
theorem own_offsets : ∀ i : grid0.Coords, k0_off1 i = ![256 * (i 1).val, 0] ∧ k0_off2 i = ![256 * (i 1).val, 128]
    ∧ k0_off3 i = ![256 * (i 1).val, 256] ∧ k0_off4 i = ![256 * (i 1).val, 384] := by decide +kernel

section reads

variable {F : FTy → Type} [FloatOps F]

/-- Block `b` of 256 rows, a pair's 128 columns. -/
def rowsOf (X : Vec F S4096x512 .bf16) (b : Nat) (pr : Fin 4) : Vec F S256x128 .bf16 :=
  fun y => X (ix2 ⟨(256 * b + (y 0).val) % 4096, Nat.mod_lt _ (by decide)⟩ ⟨128 * pr.val + (y 1).val, by
    have h : (y 1).val < 128 := (y 1).isLt
    omega⟩)

/-- A pair's 128 columns. -/
def colsOf {e : EltTy} (X : Vec F S256x512 e) (pr : Fin 4) : Vec F S256x128 e :=
  fun y => X (ix2 (y 0) ⟨128 * pr.val + (y 1).val, by
    have h : (y 1).val < 128 := (y 1).isLt
    omega⟩)

/-- A pair's 128 columns of the sixteen means. -/
def meansOf (X : Vec F S16x512 .f32) (pr : Fin 4) : Vec F S16x128 .f32 :=
  fun y => X (ix2 (y 0) ⟨128 * pr.val + (y 1).val, by
    have h : (y 1).val < 128 := (y 1).isLt
    omega⟩)

/-- A read of 256 rows at given offsets. -/
theorem read_rows (arg : Memref sig .tc .vmem S4096x512 .bf16) (harg : arg.IsWhole) (X : Vec F S4096x512 .bf16)
    (off : Fin 2 → Nat) (inb : ∀ a, off a + S256x128.size a ≤ S4096x512.size a) (b : Nat) (pr : Fin 4)
    (h : off = ![256 * b, 128 * pr.val]) :
    arg.view.readAt (Elt F) (Rect.unit (s := S4096x512) off S256x128.size inb).toLoadRect (harg.unread X) = rowsOf X b pr := by
  subst h
  funext y
  rw [Memref.IsWhole.readAt_unread]
  unfold rowsOf
  congr 1
  have h0 : (y 0).val < 256 := (y 0).isLt
  have hb : 256 * b + 256 ≤ 4096 := inb 0
  funext a
  apply Fin.ext
  match a with
  | ⟨0, _⟩ => show 256 * b + 1 * (y 0).val = (256 * b + (y 0).val) % 4096; omega
  | ⟨1, _⟩ => show 128 * pr.val + 1 * (y 1).val = 128 * pr.val + (y 1).val; omega

theorem read_cols {e : EltTy} (arg : Memref sig .tc .vmem S256x512 e) (harg : arg.IsWhole) (X : Vec F S256x512 e) (pr : Fin 4) :
    arg.view.readAt (Elt F) (colRect pr).toLoadRect (harg.unread X) = colsOf X pr := by
  funext y
  rw [Memref.IsWhole.readAt_unread]
  unfold colsOf
  congr 1
  funext a
  apply Fin.ext
  match a with
  | ⟨0, _⟩ => show 0 + 1 * (y 0).val = (y 0).val; omega
  | ⟨1, _⟩ => show 128 * pr.val + 1 * (y 1).val = 128 * pr.val + (y 1).val; omega

theorem read_means (arg : Memref sig .tc .vmem S16x512 .f32) (harg : arg.IsWhole) (X : Vec F S16x512 .f32) (pr : Fin 4) :
    arg.view.readAt (Elt F) (meanRect pr).toLoadRect (harg.unread X) = meansOf X pr := by
  funext y
  rw [Memref.IsWhole.readAt_unread]
  unfold meansOf
  congr 1
  funext a
  apply Fin.ext
  match a with
  | ⟨0, _⟩ => show 0 + 1 * (y 0).val = (y 0).val; omega
  | ⟨1, _⟩ => show 128 * pr.val + 1 * (y 1).val = 128 * pr.val + (y 1).val; omega

/-- Two reads of one buffer agree where their rectangles meet. -/
theorem read_same {sp : Space} {s : Shape} {e : EltTy} (v : View sig .tc sp s e) (f : v.ty.Contents (Elt F)) (r r' : LoadRect s)
    (x : r.shape.Idx) (x' : r'.shape.Idx) (h : r.idx x = r'.idx x') :
    v.readAt (Elt F) r f x = v.readAt (Elt F) r' f x' := by
  rw [View.readAt_apply, View.readAt_apply, h]

/-- A whole row of 512 read at a chunk's entry. -/
theorem read_wholeRow {sp : Space} (v : View sig .tc sp S4x1x512 .f32) (f : v.ty.Contents (Elt F)) (pr ck : Fin 4) (j : Fin 128)
    (inb : ∀ a, (![pr.val, 0, 0] : Fin 3 → Nat) a + S1x1x512.size a ≤ S4x1x512.size a) :
    v.readAt (Elt F) (Rect.unit (s := S4x1x512) ![pr.val, 0, 0] S1x1x512.size inb).toLoadRect f (ix3 0 0 (col ck j))
      = v.readAt (Elt F) (rowRect pr ck).toLoadRect f (ix3 0 0 j) := by
  refine read_same v f (Rect.unit (s := S4x1x512) ![pr.val, 0, 0] S1x1x512.size inb).toLoadRect (rowRect pr ck).toLoadRect
    (ix3 0 0 (col ck j)) (ix3 0 0 j) ?_
  funext a
  apply Fin.ext
  match a with
  | ⟨0, _⟩ => rfl
  | ⟨1, _⟩ => rfl
  | ⟨2, _⟩ => show 0 + 1 * (128 * ck.val + j.val) = 128 * ck.val + 1 * j.val; omega

/-- A head's weighted values read at a chunk's entry. -/
theorem read_wholeAcc {sp : Space} (v : View sig .tc sp S4x2x64x256 .f32) (f : v.ty.Contents (Elt F)) (pr ck : Fin 4) (h : Nat)
    (hck : ck.val / 2 = h) (d : Fin 64) (j : Fin 128)
    (inb : ∀ a, (![pr.val, h, 0, 0] : Fin 4 → Nat) a + S1x1x64x256.size a ≤ S4x2x64x256.size a) :
    v.readAt (Elt F) (Rect.unit (s := S4x2x64x256) ![pr.val, h, 0, 0] S1x1x64x256.size inb).toLoadRect f
        (ix4 0 0 d ⟨128 * (ck.val % 2) + j.val, by omega⟩)
      = v.readAt (Elt F) (accRect pr ck).toLoadRect f (ix4 0 0 d j) := by
  refine read_same v f (Rect.unit (s := S4x2x64x256) ![pr.val, h, 0, 0] S1x1x64x256.size inb).toLoadRect (accRect pr ck).toLoadRect
    (ix4 0 0 d ⟨128 * (ck.val % 2) + j.val, by omega⟩) (ix4 0 0 d j) ?_
  funext a
  apply Fin.ext
  match a with
  | ⟨0, _⟩ => rfl
  | ⟨1, _⟩ => show h + 1 * 0 = ck.val / 2 + 1 * 0; omega
  | ⟨2, _⟩ => rfl
  | ⟨3, _⟩ => show 0 + 1 * (128 * (ck.val % 2) + j.val) = 128 * (ck.val % 2) + 1 * j.val; omega

variable (c : Dev nD) (i : grid0.Coords) (arg2 : Memref sig .tc .vmem S256x512 .f32) (harg2 : arg2.IsWhole) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S16x512 .f32) (harg6 : arg6.IsWhole) (arg7 : Memref sig .tc .vmem S256x512 .f32) (harg7 : arg7.IsWhole) (arg8 : Memref sig .tc .vmem S4x512x128 .bf16) (harg8 : arg8.IsWhole) (arg9 : Memref sig .tc .vmem S4x16x512 .f32) (harg9 : arg9.IsWhole) (arg10 : Memref sig .tc .vmem S4x1x512 .f32) (harg10 : arg10.IsWhole) (arg11 : Memref sig .tc .vmem S4x1x512 .f32) (harg11 : arg11.IsWhole) (arg12 : Memref sig .tc .vmem S4x2x64x256 .f32) (harg12 : arg12.IsWhole)
variable (x0 : Vec F S256x512 .f32) (x1 : Vec F S256x512 .bf16) (x2 : Vec F S4096x512 .bf16) (x3 : Vec F S4096x512 .bf16) (x4 : Vec F S16x512 .f32)

/-- A chunk of a pair's stored queries. -/
def queryChunk (pr ck : Fin 4) : Vec F S1x128x128 .bf16 :=
  fun y => (pairQueries (colsOf x1 pr) : Vec F S1x512x128 .bf16) (ix3 0 ⟨128 * ck.val + (y 1).val, by
    have h : (y 1).val < 128 := (y 1).isLt
    omega⟩ (y 2))

/-- A pair's gate, from the blocks of arguments. -/
def gateOf (pr : Fin 4) : FVec F S16x512 .f32 :=
  gate (colsOf x0 pr) (colsOf x1 pr) (meansOf x4 pr) (pairQueries (colsOf x1 pr))

/-- The selection's row for past block `k`. -/
def selRow (qi : BitVec 32) (k : Nat) (pr : Fin 4) : Vec F S1x1x512 .f32 :=
  fun y => (selOf qi (gateOf x0 x1 x4 pr) : Vec F S1x16x512 .f32) (ix3 0 ⟨k % 16, Nat.mod_lt _ (by decide)⟩ (y 2))

/-- The own block's scores. -/
def ownScore (b : Nat) (pr ck : Fin 4) : FVec F S256x128 .f32 := ownScores ck (rowsOf x2 b pr) (queryChunk x1 pr ck)

/-- A past block's scores. -/
def pastScore (qi : BitVec 32) (k : Nat) (pr ck : Fin 4) : FVec F S256x128 .f32 :=
  pastScores ck (selRow x0 x1 x4 qi k pr) (rowsOf x2 k pr) (queryChunk x1 pr ck)

theorem runQB_eq (pr : Fin 4) : runQB arg3 harg3 x1 pr = colsOf x1 pr := read_cols arg3 harg3 x1 pr

/-- The chunk of queries read back from the stores. -/
theorem read_chunk (f : arg8.view.ty.Contents (Elt F)) (pr ck n : Fin 4) (hn : pr ≤ n) :
    arg8.view.readAt (Elt F) (queryRect pr ck).toLoadRect (arg8.view.writes (Elt F) f (queryPieces arg3 harg3 x1 n))
      = queryChunk x1 pr ck := by
  funext y
  have h1 : (y 1).val < 128 := (y 1).isLt
  refine (read_same arg8.view _ (queryRect pr ck).toLoadRect (pairRect pr).toLoadRect y
    (ix3 0 ⟨128 * ck.val + (y 1).val, by omega⟩ (y 2)) ?_).trans ?_
  · funext a
    apply Fin.ext
    match a with
    | ⟨0, _⟩ =>
      have h0 : (y 0).val < 1 := (y 0).isLt
      show pr.val + 1 * (y 0).val = pr.val + 1 * 0; omega
    | ⟨1, _⟩ => show 128 * ck.val + 1 * (y 1).val = 0 + 1 * (128 * ck.val + (y 1).val); omega
    | ⟨2, _⟩ => show 0 + 1 * (y 2).val = 0 + 1 * (y 2).val; rfl
  · rw [read_queryPieces arg8.view f arg3 harg3 x1 pr n hn, runQB_eq]
    rfl

theorem ownRows_eq (arg : Memref sig .tc .vmem S4096x512 .bf16) (harg : arg.IsWhole) (X : Vec F S4096x512 .bf16) (pr : Fin 4) :
    ownRows i arg (harg.unread X) pr = rowsOf X (i 1).val pr := by
  obtain ⟨h1, h2, h3, h4⟩ := own_offsets i
  fin_cases pr
  · exact read_rows arg harg X _ _ _ 0 h1
  · exact read_rows arg harg X _ _ _ 1 h2
  · exact read_rows arg harg X _ _ _ 2 h3
  · exact read_rows arg harg X _ _ _ 3 h4

theorem tripRows_eq (arg : Memref sig .tc .vmem S4096x512 .bf16) (harg : arg.IsWhole) (X : Vec F S4096x512 .bf16)
    (k : Fin (k0_t1_loop i).trips) (pr : Fin 4) :
    tripRows i k arg (harg.unread X) pr = rowsOf X k.val pr := by
  obtain ⟨-, -, -, -, h1, h2, h3, h4⟩ := trip_offsets i k
  fin_cases pr
  · exact read_rows arg harg X _ _ _ 0 h1
  · exact read_rows arg harg X _ _ _ 1 h2
  · exact read_rows arg harg X _ _ _ 2 h3
  · exact read_rows arg harg X _ _ _ 3 h4

theorem runOwn_eq (pr ck : Fin 4) :
    runOwn i arg3 harg3 arg4 harg4 arg8 x1 x2 pr ck = ownScore x1 x2 (i 1).val pr ck := by
  unfold runOwn ownScore
  rw [ownRows_eq]
  have h := read_chunk arg3 harg3 arg8 x1 arg8.view.junk pr ck pr le_rfl
  exact congrArg _ h

theorem runGate_eq (pr : Fin 4) :
    runGate arg2 harg2 arg3 harg3 arg6 harg6 arg8 x0 x1 x4 pr = gateOf x0 x1 x4 pr := by
  unfold runGate gateOf
  have h : arg8.view.readCov (queryPieces arg3 harg3 x1 pr) (pairRect pr).toLoadRect = pairQueries (colsOf x1 pr) :=
    (read_queryPieces arg8.view arg8.view.junk arg3 harg3 x1 pr pr le_rfl).trans (by rw [runQB_eq])
  have hq : runQ arg2 harg2 x0 pr = colsOf x0 pr := read_cols arg2 harg2 x0 pr
  have hk : runKM arg6 harg6 x4 pr = meansOf x4 pr := read_means arg6 harg6 x4 pr
  rw [h, hq, hk, runQB_eq]

/-- A row of the stored selection, read at given offsets. -/
theorem read_sel (f : arg9.view.ty.Contents (Elt F)) (off : Fin 3 → Nat) (inb : ∀ a, off a + S1x1x512.size a ≤ S4x16x512.size a)
    (k : Nat) (pr : Fin 4) (h : off = ![pr.val, k, 0]) :
    arg9.view.readAt (Elt F) (Rect.unit (s := S4x16x512) off S1x1x512.size inb).toLoadRect
        (arg9.view.writes (Elt F) f (runSel i arg2 harg2 arg3 harg3 arg6 harg6 arg8 x0 x1 x4))
      = selRow x0 x1 x4 (BitVec.ofNat 32 (i 1).val) k pr := by
  subst h
  funext y
  have hk : k + 1 ≤ 16 := inb 1
  refine (read_same arg9.view _ _ (selRect pr).toLoadRect y
    (ix3 0 ⟨k % 16, Nat.mod_lt _ (by decide)⟩ (y 2)) ?_).trans ?_
  · have h0 : (y 0).val < 1 := (y 0).isLt
    have h1 : (y 1).val < 1 := (y 1).isLt
    funext a
    apply Fin.ext
    match a with
    | ⟨0, _⟩ => show pr.val + 1 * (y 0).val = pr.val + 1 * 0; omega
    | ⟨1, _⟩ => show k + 1 * (y 1).val = 0 + 1 * (k % 16); omega
    | ⟨2, _⟩ => show 0 + 1 * (y 2).val = 0 + 1 * (y 2).val; rfl
  · unfold runSel
    rw [read_selTiles, runGate_eq]
    rfl

theorem tripScores_eq (k : Fin (k0_t1_loop i).trips) (pr ck : Fin 4) :
    tripScores i arg4 arg8 arg9 (harg4.unread x2)
        (arg8.view.writes (Elt F) arg8.view.junk (queryPieces arg3 harg3 x1 3))
        (arg9.view.writes (Elt F) arg9.view.junk (runSel i arg2 harg2 arg3 harg3 arg6 harg6 arg8 x0 x1 x4)) k pr ck
      = pastScore x0 x1 x2 x4 (BitVec.ofNat 32 (i 1).val) k.val pr ck := by
  unfold tripScores pastScore
  rw [tripRows_eq, read_chunk arg3 harg3 arg8 x1 arg8.view.junk pr ck 3 (Fin.le_last pr)]
  have h : tripSel i arg9 (arg9.view.writes (Elt F) arg9.view.junk (runSel i arg2 harg2 arg3 harg3 arg6 harg6 arg8 x0 x1 x4)) k pr
      = selRow x0 x1 x4 (BitVec.ofNat 32 (i 1).val) k.val pr := by
    obtain ⟨h1, h2, h3, h4, -⟩ := trip_offsets i k
    fin_cases pr
    · exact read_sel i arg2 harg2 arg3 harg3 arg6 harg6 arg8 arg9 x0 x1 x4 _ _ _ _ 0 h1
    · exact read_sel i arg2 harg2 arg3 harg3 arg6 harg6 arg8 arg9 x0 x1 x4 _ _ _ _ 1 h2
    · exact read_sel i arg2 harg2 arg3 harg3 arg6 harg6 arg8 arg9 x0 x1 x4 _ _ _ _ 2 h3
    · exact read_sel i arg2 harg2 arg3 harg3 arg6 harg6 arg8 arg9 x0 x1 x4 _ _ _ _ 3 h4
  rw [h]

/-- What a pair of heads sums for a query: its own block, then the past blocks before it. -/
def finalL (b : Nat) (pr ck : Fin 4) : FVec F S1x1x128 .f32 :=
  loopL (ownScore x1 x2 b pr ck) (fun k => pastScore x0 x1 x2 x4 (BitVec.ofNat 32 b) k pr ck) b

/-- The same of the weighted values. -/
def finalA (b : Nat) (pr ck : Fin 4) : FVec F S1x1x64x128 .f32 :=
  loopA ck (ownScore x1 x2 b pr ck) (fun k => pastScore x0 x1 x2 x4 (BitVec.ofNat 32 b) k pr ck) (rowsOf x3 b pr)
    (fun k => rowsOf x3 k pr) b

/-- The block of results read at a pair's columns is what was stored there. -/
theorem out_read (w : Fin 4 → FVec F S256x128 .f32) (h : (kernelRun0_A (F := F) c i arg2 harg2 arg3 harg3 arg4 harg4 arg5 harg5 arg6 harg6 arg7 harg7 arg8 harg8 arg9 harg9 arg10 harg10 arg11 harg11 arg12 harg12 x0 x1 x2 x3 x4).1 = outTiles w)
    (q : Fin 256) (pr : Fin 4) (l : Fin 128) :
    out0_A_5 c i arg2 harg2 arg3 harg3 arg4 harg4 arg5 harg5 arg6 harg6 arg7 harg7 arg8 harg8 arg9 harg9 arg10 harg10 arg11 harg11 arg12 harg12 x0 x1 x2 x3 x4 (ix2 q ⟨128 * pr.val + l.val, by omega⟩) = w pr (ix2 q l) := by
  unfold out0_A_5
  rw [h]
  refine Eq.trans ?_ (congrFun (read_outTiles VO0_5 VO0_5.junk w pr) (ix2 q l))
  show VO0_5.read (Elt F) _ _ = VO0_5.read (Elt F) _ _
  congr 1
  funext a
  apply Fin.ext
  match a with
  | ⟨0, _⟩ => show q.val = 0 + 1 * q.val; omega
  | ⟨1, _⟩ => show 128 * pr.val + l.val = 128 * pr.val + 1 * l.val; omega

/-- One entry of the block of results: the pair's quotient of the weighted values by the sum, each read from its chunk. -/
theorem out_apply (q : Fin 256) (pr : Fin 4) (l : Fin 128) : ∃ (L : Vec F S1x1x512 .f32) (A0 A1 : Vec F S1x1x64x256 .f32),
    (∀ (ck : Fin 4) (j : Fin 128), L (ix3 0 0 (col ck j)) = finalL x0 x1 x2 x4 (i 1).val pr ck (ix3 0 0 j))
    ∧ (∀ (ck : Fin 4) (d : Fin 64) (j : Fin 128), ck.val / 2 = 0 → A0 (ix4 0 0 d ⟨128 * (ck.val % 2) + j.val, by omega⟩)
        = finalA x0 x1 x2 x3 x4 (i 1).val pr ck (ix4 0 0 d j))
    ∧ (∀ (ck : Fin 4) (d : Fin 64) (j : Fin 128), ck.val / 2 = 1 → A1 (ix4 0 0 d ⟨128 * (ck.val % 2) + j.val, by omega⟩)
        = finalA x0 x1 x2 x3 x4 (i 1).val pr ck (ix4 0 0 d j))
    ∧ out0_A_5 c i arg2 harg2 arg3 harg3 arg4 harg4 arg5 harg5 arg6 harg6 arg7 harg7 arg8 harg8 arg9 harg9 arg10 harg10 arg11 harg11 arg12 harg12 x0 x1 x2 x3 x4 (ix2 q ⟨128 * pr.val + l.val, by omega⟩)
      = (outOf L A0 A1 : Vec F S256x128 .f32) (ix2 q l) := by
  obtain ⟨u, v, w, L11, L12, hL, hrun⟩ := run_out c i arg2 harg2 arg3 harg3 arg4 harg4 arg5 harg5 arg6 harg6 arg7 harg7 arg8 harg8 arg9 harg9 arg10 harg10 arg11 harg11 arg12 harg12 x0 x1 x2 x3 x4
  obtain ⟨h11, h12⟩ := hL (trips_rest i)
  subst h11 h12
  simp only [List.nil_append] at hrun
  obtain ⟨-, hl, ha⟩ := loop_state c i arg2 harg2 arg3 harg3 arg4 harg4 arg5 harg5 arg6 harg6 arg7 harg7 arg8 harg8 arg9 harg9 arg10 harg10 arg11 harg11 arg12 harg12 x0 x1 x2 x3 x4 u v w
    (fun k pr ck => pastScore x0 x1 x2 x4 (BitVec.ofNat 32 (i 1).val) k pr ck) (fun k pr => rowsOf x3 k pr)
    (tripScores_eq i arg2 harg2 arg3 harg3 arg4 harg4 arg6 harg6 arg8 arg9 x0 x1 x2 x4)
    (tripRows_eq i arg5 harg5 x3) (k0_t1_loop i).trips le_rfl
  have hout := out_read c i arg2 harg2 arg3 harg3 arg4 harg4 arg5 harg5 arg6 harg6 arg7 harg7 arg8 harg8 arg9 harg9 arg10 harg10 arg11 harg11 arg12 harg12 x0 x1 x2 x3 x4 _ hrun q pr l
  refine ⟨_, _, _, ?_, ?_, ?_, hout⟩
  · intro ck j
    have h := hl pr ck
    rw [runOwn_eq] at h
    refine (read_wholeRow arg11.view _ pr ck j _).trans ((congrFun h _).trans ?_)
    unfold finalL
    rw [trips_main]
  · intro ck d j hck
    have h := ha pr ck
    rw [runOwn_eq, ownRows_eq] at h
    refine (read_wholeAcc arg12.view _ pr ck 0 hck d j _).trans ((congrFun h _).trans ?_)
    unfold finalA
    rw [trips_main]
  · intro ck d j hck
    have h := ha pr ck
    rw [runOwn_eq, ownRows_eq] at h
    refine (read_wholeAcc arg12.view _ pr ck 1 hck d j _).trans ((congrFun h _).trans ?_)
    unfold finalA
    rw [trips_main]

end reads

end Cert.AttnIdeal.Chunk

end
-- ==== Proof.AttnHead.lean ====
/- The attention kernel at one grid point, head by head: a query's scores, its selection and its result. -/
module

public import proofs.«01_k».proof.Proof.AttnPoint

@[expose] public section

set_option maxRecDepth 16384

noncomputable section

namespace Cert.AttnIdeal.Chunk

open Cert.AttnIdeal Cert.AttnIdeal.Gen Cert.Attn Idealize.ShloMosaic Idealize.ShloMosaic.TcCoe Idealize.SL.Sem

/-- Feature `d` of head `hd`, among the 512 columns. -/
def featCol (hd : Fin 8) (d : Fin 64) : Fin 512 := ⟨64 * hd.val + d.val, by omega⟩

/-- Row `r` of block `k`, among a sequence's 4096. -/
def rowAt (k : Nat) (r : Fin 256) : Fin 4096 := ⟨(256 * k + r.val) % 4096, Nat.mod_lt _ (by decide)⟩

/-- The pair a head belongs to. -/
def pairOf (hd : Fin 8) : Fin 4 := ⟨hd.val / 2, by omega⟩

/-- The chunk a head's query lies in. -/
def chunkOf (hd : Fin 8) (q : Fin 256) : Fin 4 := ⟨2 * (hd.val % 2) + q.val / 128, by omega⟩

/-- The query's place in its chunk. -/
def placeOf (q : Fin 256) : Fin 128 := ⟨q.val % 128, by omega⟩

/-- The query's place among the pair's 512. -/
theorem col_place (hd : Fin 8) (q : Fin 256) :
    col (chunkOf hd q) (placeOf q) = ⟨256 * (hd.val % 2) + q.val, by omega⟩ := by
  apply Fin.ext
  show 128 * (2 * (hd.val % 2) + q.val / 128) + q.val % 128 = 256 * (hd.val % 2) + q.val
  omega

variable (x0 : Vec Ideal S256x512 .f32) (x1 : Vec Ideal S256x512 .bf16) (x2 : Vec Ideal S4096x512 .bf16) (x3 : Vec Ideal S4096x512 .bf16) (x4 : Vec Ideal S16x512 .f32)

/-- A head's key row against a query. -/
def keyDot (hd : Fin 8) (q : Fin 256) (row : Fin 4096) : EReal :=
  ∑ d : Fin 64, x2 (ix2 row (featCol hd d)) * x1 (ix2 q (featCol hd d))

/-- A head's mean key of block `p` against the scaled query. -/
def gateAt (hd : Fin 8) (q : Fin 256) (p : Fin 16) : EReal :=
  ∑ d : Fin 64, x4 (ix2 p (featCol hd d)) * (x0 (ix2 q (featCol hd d)) * ((1 / 8 : ℝ) : EReal))

/-- The own block's scores: the keys up to the query. -/
def ownAt (b : Nat) (hd : Fin 8) (q r : Fin 256) : EReal :=
  if r.val ≤ q.val then keyDot x1 x2 hd q (rowAt b r) else ⊥

open Classical in
/-- A past block's scores: the keys of a block the query picked. -/
def pastAt (b : Nat) (hd : Fin 8) (q : Fin 256) (k : Nat) (r : Fin 256) : EReal :=
  if Picked b (gateAt x0 x4 hd q) ⟨k % 16, Nat.mod_lt _ (by decide)⟩ then keyDot x1 x2 hd q (rowAt k r) else ⊥

/-- A block's values of one feature. -/
def valueAt (hd : Fin 8) (d : Fin 64) (k : Nat) (r : Fin 256) : EReal := x3 (ix2 (rowAt k r) (featCol hd d))

/-- A key row against a query of the chunk, as the kernel multiplies the pair's 128 features. -/
theorem chunk_dot (k : Nat) (hd : Fin 8) (q r : Fin 256) :
    (∑ l : Fin 128, (rowsOf x2 k (pairOf hd) : Vec Ideal S256x128 .bf16) (ix2 r l)
        * (queryChunk x1 (pairOf hd) (chunkOf hd q) : Vec Ideal S1x128x128 .bf16) (ix3 0 (placeOf q) l))
      = keyDot x1 x2 hd q (rowAt k r) := by
  have hq : ∀ l : Fin 128, (queryChunk x1 (pairOf hd) (chunkOf hd q) : Vec Ideal S1x128x128 .bf16) (ix3 0 (placeOf q) l)
      = if l.val / 64 = hd.val % 2 then (colsOf x1 (pairOf hd) : Vec Ideal S256x128 .bf16) (ix2 q l) else 0 := fun l => by
    have h1 : (queryChunk x1 (pairOf hd) (chunkOf hd q) : Vec Ideal S1x128x128 .bf16) (ix3 0 (placeOf q) l)
        = (pairQueries (colsOf x1 (pairOf hd)) : FVec Ideal S1x512x128 .bf16) (ix3 0 (col (chunkOf hd q) (placeOf q)) l) := rfl
    rw [h1, col_place, pairQueries_apply, blockDiag_apply]
    have h2 : (256 * (hd.val % 2) + q.val) / 256 = hd.val % 2 := by omega
    have h3 : (256 * (hd.val % 2) + q.val) % 256 = q.val := by omega
    refine if_congr (by rw [h2]) ?_ rfl
    congr 2
    exact Fin.ext h3
  simp only [hq]
  rw [sum_head ⟨hd.val % 2, by omega⟩ (fun l => (rowsOf x2 k (pairOf hd) : Vec Ideal S256x128 .bf16) (ix2 r l))
    (fun l => (colsOf x1 (pairOf hd) : Vec Ideal S256x128 .bf16) (ix2 q l))]
  unfold keyDot
  refine Finset.sum_congr rfl fun d _ => ?_
  have hc : (⟨128 * (pairOf hd).val + (64 * (hd.val % 2) + d.val), by have := (pairOf hd).isLt; omega⟩ : Fin 512) = featCol hd d :=
    Fin.ext (by show 128 * (hd.val / 2) + (64 * (hd.val % 2) + d.val) = 64 * hd.val + d.val; omega)
  exact congrArg₂ (· * ·) (congrArg x2 (congrArg (ix2 (rowAt k r)) hc)) (congrArg x1 (congrArg (ix2 q) hc))

theorem own_apply (b : Nat) (hd : Fin 8) (q : Fin 256) :
    scoreCol (ownScore x1 x2 b (pairOf hd) (chunkOf hd q)) (placeOf q) = ownAt x1 x2 b hd q := by
  funext r
  unfold scoreCol ownScore ownAt
  rw [ownScores_apply, chunk_dot, col_place]
  refine if_congr ?_ rfl rfl
  show r.val ≤ (256 * (hd.val % 2) + q.val) % 256 ↔ r.val ≤ q.val
  have h3 : (256 * (hd.val % 2) + q.val) % 256 = q.val := by omega
  rw [h3]

variable (h1 : ∀ i, ∃ r : ℝ, x1 i = (r : EReal)) (h4 : ∀ i, ∃ r : ℝ, x4 i = (r : EReal))

include h1 h4 in
theorem gateOf_apply (hd : Fin 8) (q : Fin 256) :
    gateCol (gateOf x0 x1 x4 (pairOf hd)) ⟨256 * (hd.val % 2) + q.val, by omega⟩ = gateAt x0 x4 hd q := by
  funext p
  unfold gateCol gateOf
  rw [gate_apply (colsOf x0 (pairOf hd)) (colsOf x1 (pairOf hd)) (meansOf x4 (pairOf hd)) (fun i => h1 _) (fun i => h4 _)]
  unfold gateAt
  refine Finset.sum_congr rfl fun d _ => ?_
  have hq : (⟨(256 * (hd.val % 2) + q.val) % 256, by omega⟩ : Fin 256) = q := Fin.ext (by show (256 * (hd.val % 2) + q.val) % 256 = q.val; omega)
  have hc : (⟨128 * (pairOf hd).val + (64 * ((256 * (hd.val % 2) + q.val) / 256) + d.val), by have := (pairOf hd).isLt; omega⟩ : Fin 512) = featCol hd d :=
    Fin.ext (by show 128 * (hd.val / 2) + (64 * ((256 * (hd.val % 2) + q.val) / 256) + d.val) = 64 * hd.val + d.val; omega)
  exact congrArg₂ (· * ·) (congrArg x4 (congrArg (ix2 p) hc)) (congrArg (· * ((1 / 8 : ℝ) : EReal)) (congrArg x0 (congrArg₂ ix2 hq hc)))

include h1 h4 in
theorem past_apply (b : Nat) (hb : b < 16) (k : Nat) (hd : Fin 8) (q : Fin 256) :
    scoreCol (pastScore x0 x1 x2 x4 (BitVec.ofNat 32 b) k (pairOf hd) (chunkOf hd q)) (placeOf q) = pastAt x0 x1 x2 x4 b hd q k := by
  classical
  funext r
  unfold scoreCol pastScore pastAt
  rw [pastScores_apply, chunk_dot, col_place]
  refine if_congr ?_ rfl rfl
  have h := selOf_apply b hb (gateOf x0 x1 x4 (pairOf hd)) ⟨k % 16, Nat.mod_lt _ (by decide)⟩ ⟨256 * (hd.val % 2) + q.val, by omega⟩
  rw [gateOf_apply x0 x1 x4 h1 h4] at h
  exact h

variable (c : Dev nD) (i : grid0.Coords) (arg2 : Memref sig .tc .vmem S256x512 .f32) (harg2 : arg2.IsWhole) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S16x512 .f32) (harg6 : arg6.IsWhole) (arg7 : Memref sig .tc .vmem S256x512 .f32) (harg7 : arg7.IsWhole) (arg8 : Memref sig .tc .vmem S4x512x128 .bf16) (harg8 : arg8.IsWhole) (arg9 : Memref sig .tc .vmem S4x16x512 .f32) (harg9 : arg9.IsWhole) (arg10 : Memref sig .tc .vmem S4x1x512 .f32) (harg10 : arg10.IsWhole) (arg11 : Memref sig .tc .vmem S4x1x512 .f32) (harg11 : arg11.IsWhole) (arg12 : Memref sig .tc .vmem S4x2x64x256 .f32) (harg12 : arg12.IsWhole)

include h1 h4 in
/-- A grid point's result: the query's weighted values over its sum of weights, own block and picked past blocks. -/
theorem point_apply (q : Fin 256) (hd : Fin 8) (d : Fin 64) :
    out0_A_5 (F := Ideal) c i arg2 harg2 arg3 harg3 arg4 harg4 arg5 harg5 arg6 harg6 arg7 harg7 arg8 harg8 arg9 harg9 arg10 harg10 arg11 harg11 arg12 harg12 x0 x1 x2 x3 x4 (ix2 q (featCol hd d))
      = Ideal.div
          (runSum (ownAt x1 x2 (i 1).val hd q) (valueAt x3 hd d (i 1).val) (pastAt x0 x1 x2 x4 (i 1).val hd q) (valueAt x3 hd d) (i 1).val)
          (runSum (ownAt x1 x2 (i 1).val hd q) (fun _ => 1) (pastAt x0 x1 x2 x4 (i 1).val hd q) (fun _ _ => 1) (i 1).val) := by
  have hi : (i 1).val < 16 := (i 1).isLt
  obtain ⟨L, A0, A1, hL, hA0, hA1, hout⟩ := out_apply c i arg2 harg2 arg3 harg3 arg4 harg4 arg5 harg5 arg6 harg6 arg7 harg7 arg8 harg8 arg9 harg9 arg10 harg10 arg11 harg11 arg12 harg12 x0 x1 x2 x3 x4 q (pairOf hd) ⟨64 * (hd.val % 2) + d.val, by omega⟩
  have hc : (⟨128 * (pairOf hd).val + (64 * (hd.val % 2) + d.val), by have := (pairOf hd).isLt; omega⟩ : Fin 512) = featCol hd d :=
    Fin.ext (by show 128 * (hd.val / 2) + (64 * (hd.val % 2) + d.val) = 64 * hd.val + d.val; omega)
  rw [← hc]
  refine hout.trans ((outOf_apply L A0 A1 q ⟨hd.val % 2, by omega⟩ d).trans ?_)
  have eL := hL (chunkOf hd q) (placeOf q)
  rw [col_place] at eL
  have hp : (⟨128 * ((chunkOf hd q).val % 2) + (placeOf q).val, by omega⟩ : Fin 256) = q :=
    Fin.ext (by show 128 * ((2 * (hd.val % 2) + q.val / 128) % 2) + q.val % 128 = q.val; omega)
  have hs : (fun k => scoreCol (pastScore x0 x1 x2 x4 (BitVec.ofNat 32 (i 1).val) k (pairOf hd) (chunkOf hd q)) (placeOf q))
      = pastAt x0 x1 x2 x4 (i 1).val hd q := funext fun k => past_apply x0 x1 x2 x4 h1 h4 _ hi k hd q
  have hLv : (finalL x0 x1 x2 x4 (i 1).val (pairOf hd) (chunkOf hd q) : FVec Ideal S1x1x128 .f32) (ix3 0 0 (placeOf q))
      = runSum (ownAt x1 x2 (i 1).val hd q) (fun _ => 1) (pastAt x0 x1 x2 x4 (i 1).val hd q) (fun _ _ => 1) (i 1).val := by
    unfold finalL
    rw [loopL_apply, own_apply, hs]
  have hf : ∀ k : Nat, (fun r : Fin 256 => (rowsOf x3 k (pairOf hd) : Vec Ideal S256x128 .bf16) (ix2 r (feat (chunkOf hd q) d)))
      = valueAt x3 hd d k := fun k => by
    funext r
    have e : (⟨128 * (pairOf hd).val + (feat (chunkOf hd q) d).val, by have := (pairOf hd).isLt; omega⟩ : Fin 512) = featCol hd d :=
      Fin.ext (by show 128 * (hd.val / 2) + (64 * ((2 * (hd.val % 2) + q.val / 128) / 2) + d.val) = 64 * hd.val + d.val; omega)
    exact congrArg x3 (congrArg (ix2 (rowAt k r)) e)
  have hAv : (finalA x0 x1 x2 x3 x4 (i 1).val (pairOf hd) (chunkOf hd q) : FVec Ideal S1x1x64x128 .f32) (ix4 0 0 d (placeOf q))
      = runSum (ownAt x1 x2 (i 1).val hd q) (valueAt x3 hd d (i 1).val) (pastAt x0 x1 x2 x4 (i 1).val hd q) (valueAt x3 hd d) (i 1).val := by
    unfold finalA
    rw [loopA_apply, own_apply, hs, hf]
    exact congrArg (fun v => runSum _ _ _ v _) (funext hf)
  refine congrArg₂ Ideal.div ?_ (eL.trans hLv)
  by_cases hh : hd.val % 2 = 0
  · rw [if_pos hh, ← hAv, ← hA0 (chunkOf hd q) d (placeOf q) (by show (2 * (hd.val % 2) + q.val / 128) / 2 = 0; omega), hp]
  · rw [if_neg hh, ← hAv, ← hA1 (chunkOf hd q) d (placeOf q) (by show (2 * (hd.val % 2) + q.val / 128) / 2 = 1; omega), hp]

end Cert.AttnIdeal.Chunk

end
-- ==== Proof.AttnArray.lean ====
/- The attention kernel's whole result: each grid point's block in its place. -/
module

public import proofs.«01_k».proof.Proof.AttnHead
public import proofs.«01_k».proof.Proof.Gen.AttnIdeal.Value

@[expose] public section

set_option maxRecDepth 16384

noncomputable section

namespace Cert.AttnIdeal.Result

open Cert.AttnIdeal Cert.AttnIdeal.Gen Cert.AttnIdeal.Chunk Cert.Attn Idealize.ShloMosaic Idealize.ShloMosaic.TcCoe Idealize.SL.Sem
open Idealize.ShloMosaic.Pipeline (Dat)

/-- Block `t` of 256 rows of queries. -/
def queryBlock (X : S16384x512.Idx → EReal) (t : Fin 64) : S256x512.Idx → EReal :=
  fun y => X (ix2 ⟨256 * t.val + (y 0).val, by
    have h : (y 0).val < 256 := (y 0).isLt
    omega⟩ (y 1))

/-- The sequence block `t` of queries lies in: its 4096 rows of keys or values. -/
def sequenceRows (X : S16384x512.Idx → EReal) (t : Fin 64) : S4096x512.Idx → EReal :=
  fun y => X (ix2 ⟨4096 * (t.val / 16) + (y 0).val, by
    have h : (y 0).val < 4096 := (y 0).isLt
    omega⟩ (y 1))

/-- The sixteen mean keys of that sequence. -/
def sequenceMeans (X : S64x512.Idx → EReal) (t : Fin 64) : S16x512.Idx → EReal :=
  fun y => X (ix2 ⟨16 * (t.val / 16) + (y 0).val, by
    have h : (y 0).val < 16 := (y 0).isLt
    omega⟩ (y 1))

section spec

variable (X0 : S16384x512.Idx → EReal) (X1 X2 X3 : S16384x512.Idx → EReal) (X4 : S64x512.Idx → EReal)

/-- The own block's scores of a query, its keys' products up to the query. -/
def own (t : Fin 64) (hd : Fin 8) (q : Fin 256) : Fin 256 → EReal :=
  ownAt (queryBlock X1 t) (sequenceRows X2 t) (t.val % 16) hd q

/-- The past blocks' scores of a query. -/
def past (t : Fin 64) (hd : Fin 8) (q : Fin 256) : Nat → Fin 256 → EReal :=
  pastAt (queryBlock X0 t) (queryBlock X1 t) (sequenceRows X2 t) (sequenceMeans X4 t) (t.val % 16) hd q

/-- The blocks' values of one feature. -/
def val (t : Fin 64) (hd : Fin 8) (d : Fin 64) : Nat → Fin 256 → EReal := valueAt (sequenceRows X3 t) hd d

/-- One query's result of one feature. -/
def entry (t : Fin 64) (q : Fin 256) (hd : Fin 8) (d : Fin 64) : EReal :=
  Ideal.div
    (runSum (own X1 X2 t hd q) (val X3 t hd d (t.val % 16)) (past X0 X1 X2 X4 t hd q) (val X3 t hd d) (t.val % 16))
    (runSum (own X1 X2 t hd q) (fun _ => 1) (past X0 X1 X2 X4 t hd q) (fun _ _ => 1) (t.val % 16))

/-- The whole result, from the five arguments. -/
def resultOf : S16384x512.Idx → EReal := fun i =>
  entry X0 X1 X2 X3 X4 ⟨(i 0).val / 256, by
      have h : (i 0).val < 16384 := (i 0).isLt
      omega⟩ ⟨(i 0).val % 256, by omega⟩ ⟨(i 1).val / 64, by
      have h : (i 1).val < 512 := (i 1).isLt
      omega⟩ ⟨(i 1).val % 64, by omega⟩

/-- The result at a block's row and a head's feature. -/
theorem resultOf_apply (t : Fin 64) (q : Fin 256) (hd : Fin 8) (d : Fin 64) :
    resultOf X0 X1 X2 X3 X4 (ix2 ⟨256 * t.val + q.val, by omega⟩ (featCol hd d)) = entry X0 X1 X2 X3 X4 t q hd d := by
  unfold resultOf
  have e1 : (⟨(256 * t.val + q.val) / 256, by omega⟩ : Fin 64) = t := Fin.ext (by show (256 * t.val + q.val) / 256 = t.val; omega)
  have e2 : (⟨(256 * t.val + q.val) % 256, by omega⟩ : Fin 256) = q := Fin.ext (by show (256 * t.val + q.val) % 256 = q.val; omega)
  have e3 : (⟨(64 * hd.val + d.val) / 64, by omega⟩ : Fin 8) = hd := Fin.ext (by show (64 * hd.val + d.val) / 64 = hd.val; omega)
  have e4 : (⟨(64 * hd.val + d.val) % 64, by omega⟩ : Fin 64) = d := Fin.ext (by show (64 * hd.val + d.val) % 64 = d.val; omega)
  show entry X0 X1 X2 X3 X4 ⟨(256 * t.val + q.val) / 256, _⟩ ⟨(256 * t.val + q.val) % 256, _⟩ ⟨(64 * hd.val + d.val) / 64, _⟩
    ⟨(64 * hd.val + d.val) % 64, _⟩ = _
  rw [e1, e2, e3, e4]

end spec

variable (m : (ℓ : Loc nD τ sig) → Buf (Elt Ideal) ℓ)

/-- The whole result, from the arguments in memory. -/
abbrev result (c : Dev nD) : Buf (Elt Ideal) ((c : Thread nD τ).loc main_v0) :=
  resultOf (m ((c : Thread nD τ).loc main_arg0)) (m ((c : Thread nD τ).loc main_arg1)) (m ((c : Thread nD τ).loc main_arg2))
    (m ((c : Thread nD τ).loc main_arg3)) (m ((c : Thread nD τ).loc main_arg4))

/-- A grid point's own block, and each window's block number there. -/
theorem block_numbers : ∀ t : Fin cfg0.N, (grid0.coords t 1).val = t.val % 16 ∧ (win0_0.index t 0 = t.val ∧ win0_0.index t 1 = 0)
    ∧ (win0_1.index t 0 = t.val ∧ win0_1.index t 1 = 0) ∧ (win0_2.index t 0 = t.val / 16 ∧ win0_2.index t 1 = 0)
    ∧ (win0_3.index t 0 = t.val / 16 ∧ win0_3.index t 1 = 0) ∧ (win0_4.index t 0 = t.val / 16 ∧ win0_4.index t 1 = 0)
    ∧ (win0_5.index t 0 = t.val ∧ win0_5.index t 1 = 0) :=
  (by decide +kernel : ∀ t : Fin grid0.N, (grid0.coords t 1).val = t.val % 16 ∧ (win0_0.index t 0 = t.val ∧ win0_0.index t 1 = 0)
    ∧ (win0_1.index t 0 = t.val ∧ win0_1.index t 1 = 0) ∧ (win0_2.index t 0 = t.val / 16 ∧ win0_2.index t 1 = 0)
    ∧ (win0_3.index t 0 = t.val / 16 ∧ win0_3.index t 1 = 0) ∧ (win0_4.index t 0 = t.val / 16 ∧ win0_4.index t 1 = 0)
    ∧ (win0_5.index t 0 = t.val ∧ win0_5.index t 1 = 0))

/-- A grid point's number, among the sixty-four. -/
def pt (t : Fin cfg0.N) : Fin 64 := ⟨t.val, by have := t.isLt; have hN : cfg0.N = 64 := N_0; omega⟩

theorem block0 (c : Dev nD) (t : Fin cfg0.N) : (iblk m c 0 t : Vec Ideal S256x512 .f32)
    = queryBlock (m ((c : Thread nD τ).loc main_arg0)) (pt t) := by
  funext y
  unfold iblk queryBlock
  rw [View.read_apply]
  show V m c main_arg0 _ = _
  rw [V_main_arg0]
  congr 1
  funext a
  apply Fin.ext
  match a with
  | ⟨0, _⟩ => show win0_0.index t 0 * 256 + 1 * (y 0).val = 256 * t.val + (y 0).val; rw [(block_numbers t).2.1.1]; omega
  | ⟨1, _⟩ => show win0_0.index t 1 * 512 + 1 * (y 1).val = (y 1).val; rw [(block_numbers t).2.1.2]; omega

theorem block1 (c : Dev nD) (t : Fin cfg0.N) : (iblk m c 1 t : Vec Ideal S256x512 .bf16)
    = queryBlock (m ((c : Thread nD τ).loc main_arg1)) (pt t) := by
  funext y
  unfold iblk queryBlock
  rw [View.read_apply]
  show V m c main_arg1 _ = _
  rw [V_main_arg1]
  congr 1
  funext a
  apply Fin.ext
  match a with
  | ⟨0, _⟩ => show win0_1.index t 0 * 256 + 1 * (y 0).val = 256 * t.val + (y 0).val; rw [(block_numbers t).2.2.1.1]; omega
  | ⟨1, _⟩ => show win0_1.index t 1 * 512 + 1 * (y 1).val = (y 1).val; rw [(block_numbers t).2.2.1.2]; omega

theorem block2 (c : Dev nD) (t : Fin cfg0.N) : (iblk m c 2 t : Vec Ideal S4096x512 .bf16)
    = sequenceRows (m ((c : Thread nD τ).loc main_arg2)) (pt t) := by
  funext y
  unfold iblk sequenceRows
  rw [View.read_apply]
  show V m c main_arg2 _ = _
  rw [V_main_arg2]
  congr 1
  funext a
  apply Fin.ext
  match a with
  | ⟨0, _⟩ => show win0_2.index t 0 * 4096 + 1 * (y 0).val = 4096 * (t.val / 16) + (y 0).val; rw [(block_numbers t).2.2.2.1.1]; omega
  | ⟨1, _⟩ => show win0_2.index t 1 * 512 + 1 * (y 1).val = (y 1).val; rw [(block_numbers t).2.2.2.1.2]; omega

theorem block3 (c : Dev nD) (t : Fin cfg0.N) : (iblk m c 3 t : Vec Ideal S4096x512 .bf16)
    = sequenceRows (m ((c : Thread nD τ).loc main_arg3)) (pt t) := by
  funext y
  unfold iblk sequenceRows
  rw [View.read_apply]
  show V m c main_arg3 _ = _
  rw [V_main_arg3]
  congr 1
  funext a
  apply Fin.ext
  match a with
  | ⟨0, _⟩ => show win0_3.index t 0 * 4096 + 1 * (y 0).val = 4096 * (t.val / 16) + (y 0).val; rw [(block_numbers t).2.2.2.2.1.1]; omega
  | ⟨1, _⟩ => show win0_3.index t 1 * 512 + 1 * (y 1).val = (y 1).val; rw [(block_numbers t).2.2.2.2.1.2]; omega

theorem block4 (c : Dev nD) (t : Fin cfg0.N) : (iblk m c 4 t : Vec Ideal S16x512 .f32)
    = sequenceMeans (m ((c : Thread nD τ).loc main_arg4)) (pt t) := by
  funext y
  unfold iblk sequenceMeans
  rw [View.read_apply]
  show V m c main_arg4 _ = _
  rw [V_main_arg4]
  congr 1
  funext a
  apply Fin.ext
  match a with
  | ⟨0, _⟩ => show win0_4.index t 0 * 16 + 1 * (y 0).val = 16 * (t.val / 16) + (y 0).val; rw [(block_numbers t).2.2.2.2.2.1.1]; omega
  | ⟨1, _⟩ => show win0_4.index t 1 * 512 + 1 * (y 1).val = (y 1).val; rw [(block_numbers t).2.2.2.2.2.1.2]; omega

/-- Result block `t`, at row `r`, is row 256 t + r of the result. -/
theorem result_apply (t : Fin cfg0.N) (G : FVec Ideal S16384x512 .f32) (r : Fin 256) (n : Fin 512) :
    ((win0_5.blk t).view.read (Elt Ideal) G : Vec Ideal S256x512 .f32) (ix2 r n)
      = G (ix2 ⟨256 * (pt t).val + r.val, by omega⟩ n) := by
  rw [View.read_apply]
  show G _ = _
  congr 1
  funext a
  apply Fin.ext
  match a with
  | ⟨0, _⟩ => show win0_5.index t 0 * 256 + 1 * r.val = 256 * t.val + r.val; rw [(block_numbers t).2.2.2.2.2.2.1]; omega
  | ⟨1, _⟩ => show win0_5.index t 1 * 512 + 1 * n.val = n.val; rw [(block_numbers t).2.2.2.2.2.2.2]; omega

/-- Arguments whose rounded queries and mean keys are all finite. -/
def Finite (c : Dev nD) : Prop :=
  (∀ i, ∃ r : ℝ, (m ((c : Thread nD τ).loc main_arg1) : S16384x512.Idx → EReal) i = (r : EReal))
    ∧ ∀ i, ∃ r : ℝ, (m ((c : Thread nD τ).loc main_arg4) : S64x512.Idx → EReal) i = (r : EReal)

/-- What a grid point writes back is its block of the result. -/
theorem flushed_eq (c : Dev nD) (hfin : Finite m c) (t : Fin cfg0.N) :
    (dats m 0 c).flushed 5 t = (win0_5.blk t).view.read (Elt Ideal) (result m c) := by
  rw [Value.flushed5_A]
  funext j
  obtain ⟨r, n, rfl⟩ : ∃ (r : Fin 256) (n : Fin 512), j = ix2 r n := ⟨j 0, j 1, by funext a; match a with | ⟨0, _⟩ => rfl | ⟨1, _⟩ => rfl⟩
  obtain ⟨hd, d, rfl⟩ : ∃ (hd : Fin 8) (d : Fin 64), n = featCol hd d :=
    ⟨⟨n.val / 64, by omega⟩, ⟨n.val % 64, by omega⟩, Fin.ext (by show n.val = 64 * (n.val / 64) + n.val % 64; omega)⟩
  refine Eq.trans ?_ (result_apply t (result m c) r (featCol hd d)).symm
  refine Eq.trans ?_ (resultOf_apply _ _ _ _ _ (pt t) r hd d).symm
  have e1 : (iblk m c 1 t : Vec Ideal S256x512 .bf16) = queryBlock (m ((c : Thread nD τ).loc main_arg1)) (pt t) := block1 m c t
  have e4 : (iblk m c 4 t : Vec Ideal S16x512 .f32) = sequenceMeans (m ((c : Thread nD τ).loc main_arg4)) (pt t) := block4 m c t
  refine (point_apply (iblk m c 0 t) (iblk m c 1 t) (iblk m c 2 t) (iblk m c 3 t) (iblk m c 4 t)
    (fun i => by rw [e1]; exact hfin.1 _) (fun i => by rw [e4]; exact hfin.2 _) c (grid0.coords t)
    (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) scM0_3 (Memref.isWhole_whole _)
    scM0_4 (Memref.isWhole_whole _) r hd d).trans ?_
  rw [block0, e1, block2, block3, e4, (block_numbers t).1]
  rfl

/-- The blocks written fill the result. -/
theorem cover (i : S16384x512.Idx) :
    ∃ t : Fin cfg0.N, (cfg0.win 5).flush t = true ∧ i ∈ ((cfg0.win 5).blk t).view.set := by
  have h0 : (i 0 : Nat) < 16384 := (i 0).isLt
  have h1 : (i 1 : Nat) < 512 := (i 1).isLt
  have hN : cfg0.N = 64 := N_0
  refine ⟨⟨(i 0 : Nat) / 256, by omega⟩, flush0_5 _, ?_⟩
  generalize ht : (⟨(i 0 : Nat) / 256, by omega⟩ : Fin cfg0.N) = t
  have htv : t.val = (i 0 : Nat) / 256 := by rw [← ht]
  show i ∈ ((View.whole main_v0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [(block_numbers t).2.2.2.2.2.2.1]; omega
  | ⟨1, _⟩ =>
    show win0_5.index t 1 * 512 ≤ (i 1 : Nat) ∧ (i 1 : Nat) < win0_5.index t 1 * 512 + 512
    rw [(block_numbers t).2.2.2.2.2.2.2]; omega

/-- So the result ends holding the attention of every query. -/
theorem final (c : Dev nD) (hfin : Finite m c) : (dats m 0 c).arrAt 5 cfg0.N = result m c :=
  (dats m 0 c).arrAt_eq_of_cover 5 (result m c) (fun t _ => flushed_eq m c hfin t) cover

end Cert.AttnIdeal.Result

end
-- ==== Proof.AttnRefRead.lean ====
/- The attention reference's stages read at one index: the gates, the chosen blocks, and the gathered keys and values. -/
module

public import proofs.«01_k».proof.Proof.AttnHead
public import proofs.«01_k».proof.Proof.AttnSelect
public import proofs.«01_k».proof.Proof.Gen.AttnRefIdeal.Read

@[expose] public section

set_option maxRecDepth 16384

noncomputable section

namespace Cert.AttnRefIdeal.Closed

open Cert.AttnRefIdeal Cert.AttnRefIdeal.Gen Cert.AttnRefIdeal.Read Cert.Attn Idealize.ShloMosaic Idealize.ShloMosaic.StableHlo
open Cert.AttnIdeal.Chunk (featCol word_eighth)

/-- The row of query or key `q` of block `c` of sequence `b`. -/
def rowIx (b : Fin 4) (c : Fin 16) (q : Fin 256) : Fin 16384 := ⟨256 * (16 * b.val + c.val) + q.val, by omega⟩

/-- The row of the mean key of block `p` of sequence `b`. -/
def meanIx (b : Fin 4) (p : Fin 16) : Fin 64 := ⟨16 * b.val + p.val, by omega⟩

variable (x0 x1 x2 x3 : S16384x512.Idx → EReal) (x4 : S64x512.Idx → EReal)

theorem v0_read (b : Fin 4) (h : Fin 8) (c : Fin 16) (q : Fin 256) (d : Fin 64) :
    val_main_v1 (F := Ideal) x0 (ix5 b h c q d) = x0 (ix2 (rowIx b c q) (featCol h d)) := by
  rw [val_main_v1_apply, val_main_v0_apply]
  congr 1
  funext a
  apply Fin.ext
  match a with
  | ⟨0, _⟩ => show ((((b.val * 16 + c.val) * 256 + q.val) * 8 + h.val) * 64 + d.val) / 512 = 256 * (16 * b.val + c.val) + q.val; omega
  | ⟨1, _⟩ => show ((((b.val * 16 + c.val) * 256 + q.val) * 8 + h.val) * 64 + d.val) % 512 = 64 * h.val + d.val; omega

theorem v6_read (b : Fin 4) (h : Fin 8) (c : Fin 16) (q : Fin 256) (d : Fin 64) :
    val_main_v6 (F := Ideal) x1 (ix5 b h c q d) = x1 (ix2 (rowIx b c q) (featCol h d)) := by
  rw [val_main_v6_apply, val_main_v5_apply, val_main_v4_apply]
  show x1 _ = _
  congr 1
  funext a
  apply Fin.ext
  match a with
  | ⟨0, _⟩ => show ((((b.val * 16 + c.val) * 256 + q.val) * 8 + h.val) * 64 + d.val) / 512 = 256 * (16 * b.val + c.val) + q.val; omega
  | ⟨1, _⟩ => show ((((b.val * 16 + c.val) * 256 + q.val) * 8 + h.val) * 64 + d.val) % 512 = 64 * h.val + d.val; omega

theorem v9_read (b : Fin 4) (h : Fin 8) (c : Fin 16) (q : Fin 256) (d : Fin 64) :
    val_main_v9 (F := Ideal) x2 (ix5 b h c q d) = x2 (ix2 (rowIx b c q) (featCol h d)) := by
  rw [val_main_v9_apply, val_main_v8_apply, val_main_v7_apply]
  show x2 _ = _
  congr 1
  funext a
  apply Fin.ext
  match a with
  | ⟨0, _⟩ => show ((((b.val * 16 + c.val) * 256 + q.val) * 8 + h.val) * 64 + d.val) / 512 = 256 * (16 * b.val + c.val) + q.val; omega
  | ⟨1, _⟩ => show ((((b.val * 16 + c.val) * 256 + q.val) * 8 + h.val) * 64 + d.val) % 512 = 64 * h.val + d.val; omega

theorem v12_read (b : Fin 4) (h : Fin 8) (c : Fin 16) (q : Fin 256) (d : Fin 64) :
    val_main_v12 (F := Ideal) x3 (ix5 b h c q d) = x3 (ix2 (rowIx b c q) (featCol h d)) := by
  rw [val_main_v12_apply, val_main_v11_apply, val_main_v10_apply]
  show x3 _ = _
  congr 1
  funext a
  apply Fin.ext
  match a with
  | ⟨0, _⟩ => show ((((b.val * 16 + c.val) * 256 + q.val) * 8 + h.val) * 64 + d.val) / 512 = 256 * (16 * b.val + c.val) + q.val; omega
  | ⟨1, _⟩ => show ((((b.val * 16 + c.val) * 256 + q.val) * 8 + h.val) * 64 + d.val) % 512 = 64 * h.val + d.val; omega

theorem v14_read (b : Fin 4) (h : Fin 8) (p : Fin 16) (d : Fin 64) :
    val_main_v14 (F := Ideal) x4 (ix4 b h p d) = x4 (ix2 (meanIx b p) (featCol h d)) := by
  rw [val_main_v14_apply, val_main_v13_apply]
  congr 1
  funext a
  apply Fin.ext
  match a with
  | ⟨0, _⟩ => show (((b.val * 16 + p.val) * 8 + h.val) * 64 + d.val) / 512 = 16 * b.val + p.val; omega
  | ⟨1, _⟩ => show (((b.val * 16 + p.val) * 8 + h.val) * 64 + d.val) % 512 = 64 * h.val + d.val; omega

/-- The gate of one query for one block: the query's eighth with the block's mean key. -/
def gate (b : Fin 4) (h : Fin 8) (c : Fin 16) (q : Fin 256) (p : Fin 16) : EReal :=
  ∑ d : Fin 64, x4 (ix2 (meanIx b p) (featCol h d)) * (x0 (ix2 (rowIx b c q) (featCol h d)) * ((1 / 8 : ℝ) : EReal))

theorem v16_read (b : Fin 4) (h : Fin 8) (c : Fin 16) (q : Fin 256) (p : Fin 16) :
    val_main_v16 (F := Ideal) x0 x4 (ix5 b h c q p) = gate x0 x4 b h c q p := by
  rw [val_main_v16_apply]
  unfold gate
  refine Finset.sum_congr rfl fun d _ => ?_
  have e1 : lidx_main_v16 (ix5 b h c q p) d = ix5 b h c q d := by
    funext a
    match a with
    | ⟨0, _⟩ => rfl
    | ⟨1, _⟩ => rfl
    | ⟨2, _⟩ => rfl
    | ⟨3, _⟩ => rfl
    | ⟨4, _⟩ => rfl
  have e2 : ridx_main_v16 (ix5 b h c q p) d = ix4 b h p d := by
    funext a
    match a with
    | ⟨0, _⟩ => rfl
    | ⟨1, _⟩ => rfl
    | ⟨2, _⟩ => rfl
    | ⟨3, _⟩ => rfl
  rw [e1, e2, val_main_v3_apply, v0_read, v14_read, val_main_v2_apply, val_main_cst_apply]
  show x0 _ * Ideal.ofBits .f32 0x3E000000#32 * _ = _
  rw [word_eighth, mul_comm]

/-- The comparison of two small numbers as words. -/
theorem slt_small : ∀ (m n : Nat), m < 1024 → n < 1024 →
    (IntOp.cmpi .slt (BitVec.ofNat 32 m) (BitVec.ofNat 32 n) = 1 ↔ m < n) := by
  intro m n hm hn
  unfold IntOp.cmpi
  show BitVec.ofBool (BitVec.slt (BitVec.ofNat 32 m) (BitVec.ofNat 32 n)) = 1 ↔ _
  have h1 : (BitVec.ofNat 32 m).toInt = m := by
    rw [BitVec.toInt_eq_toNat_of_lt (by rw [BitVec.toNat_ofNat]; omega), BitVec.toNat_ofNat]; omega
  have h2 : (BitVec.ofNat 32 n).toInt = n := by
    rw [BitVec.toInt_eq_toNat_of_lt (by rw [BitVec.toNat_ofNat]; omega), BitVec.toNat_ofNat]; omega
  rw [BitVec.slt_eq_decide, h1, h2]
  by_cases h : m < n
  · rw [decide_eq_true (by exact_mod_cast h)]; simp [h]
  · rw [decide_eq_false (by exact_mod_cast h)]; simp [h]

theorem v22_read (c p : Fin 16) : (val_main_v22 (F := Ideal) (ix3 c 0 p) = 1) ↔ p.val < c.val := by
  rw [val_main_v22_apply, val_main_v20_apply, val_main_v21_apply, val_main_v19_apply, val_main_v18_apply, val_main_v17_apply, val_main_v15_apply]
  exact slt_small p.val c.val (by omega) (by omega)

theorem v23_read (b : Fin 4) (h : Fin 8) (c : Fin 16) (q : Fin 256) (p : Fin 16) :
    val_main_v23 (F := Ideal) x0 x4 (ix5 b h c q p) = maskedGate c.val (gate x0 x4 b h c q) p := by
  rw [val_main_v23_apply, val_main_call0_v1_apply, v16_read, val_main_call0_v2_apply, val_main_call0_v0_apply, val_main_cst_0_apply]
  have e : idx_main_call0_v1 (ix5 b h c q p) = ix3 c 0 p := by
    funext a
    match a with
    | ⟨0, _⟩ => rfl
    | ⟨1, _⟩ => rfl
    | ⟨2, _⟩ => rfl
  rw [e]
  unfold Scalar.select maskedGate
  have hb : (FloatOps.ofBits (F := Ideal) .f32 0xFF800000#32 : EReal) = ⊥ := by
    show Ideal.ofBits .f32 0xFF800000#32 = ⊥
    exact Cert.AttnIdeal.Chunk.word_bot
  rw [hb]
  by_cases hp : p.val < c.val
  · rw [if_pos ((v22_read c p).mpr hp), if_pos hp]
  · rw [if_neg (fun h => hp ((v22_read c p).mp h)), if_neg hp]

/-- The second result of a top-k, read at one index. -/
theorem topK_positions {s t : Shape} {α : Type} (d : Nat) (hd : d < s.rank) (gt : α → α → BitVec 1) (x : s.Idx → α)
    (h : s.Slices (fun _ => 0) t) (j : t.Idx) (J : s.Idx) (hJ : ∀ a : Fin s.rank, (J a).val = (j (a.cast h.1.symm)).val)
    (R : Fin (s.size ⟨d, hd⟩) → Fin (s.size ⟨d, hd⟩) → Bool)
    (hR : ∀ k k', (gt (x (J.along ⟨d, hd⟩ k)) (x (J.along ⟨d, hd⟩ k')) == 1#1) = R k k')
    (n : Fin (s.size ⟨d, hd⟩)) (hn : J ⟨d, hd⟩ = n) :
    (Host.topK t d gt x h).2 j = BitVec.ofNat 32 (sortedFrom R n).val := by
  have e1 : (fun k k' => gt (x (J.along ⟨d, hd⟩ k)) (x (J.along ⟨d, hd⟩ k')) == 1#1) = R := by
    funext k k'; exact hR k k'
  have ej : ∀ w : s.Idx → BitVec 32, extractStridedSlice t (fun _ => 0) w h j = w J := fun w =>
    extractStridedSlice_apply _ w h j J fun a => by rw [hJ a, Nat.zero_add]
  subst hn
  unfold Host.topK
  dsimp only
  rw [ej]
  unfold Host.sort2
  rw [dif_pos hd]
  dsimp only
  rw [dif_pos hd, e1]
  unfold iotaInDim Shape.Idx.along
  rw [Function.update_self]

/-- Replacing the last coordinate of an index. -/
theorem along_last (b : Fin 4) (h : Fin 8) (c : Fin 16) (q : Fin 256) (k' k : Fin 16) :
    (ix5 b h c q k' : S4x8x16x256x16.Idx).along 4 k = ix5 b h c q k := by
  funext a
  unfold Shape.Idx.along
  match a with
  | ⟨0, _⟩ => rfl
  | ⟨1, _⟩ => rfl
  | ⟨2, _⟩ => rfl
  | ⟨3, _⟩ => rfl
  | ⟨4, _⟩ => rfl

/-- The positions of the largest entries along the last axis, read at one index. -/
theorem topK_read (v : S4x8x16x256x16.Idx → EReal) (b : Fin 4) (h : Fin 8) (c : Fin 16) (q : Fin 256) (n : Fin 3) :
    (Host.topK S4x8x16x256x3 4 (FloatOps.cmpfTotal (F := Ideal) (φ := .f32) .gt) v sliceFits_S4x8x16x256x16_S4x8x16x256x3).2
        (ix5 b h c q n)
      = BitVec.ofNat 32 (sortedFrom (fun k k' : Fin 16 => FloatOps.cmpfTotal (F := Ideal) (φ := .f32) .gt
          (v (ix5 b h c q k)) (v (ix5 b h c q k')) == 1#1) (n.castLE (by decide))).val := by
  have hJ : ∀ a : Fin S4x8x16x256x16.rank, ((ix5 b h c q (n.castLE (by decide : 3 ≤ 16)) : S4x8x16x256x16.Idx) a).val
      = ((ix5 b h c q n : S4x8x16x256x3.Idx) (a.cast sliceFits_S4x8x16x256x16_S4x8x16x256x3.1.symm)).val := fun a =>
    match a with
    | ⟨0, _⟩ => rfl
    | ⟨1, _⟩ => rfl
    | ⟨2, _⟩ => rfl
    | ⟨3, _⟩ => rfl
    | ⟨4, _⟩ => rfl
  have hR : ∀ k k' : Fin 16, (FloatOps.cmpfTotal (F := Ideal) (φ := .f32) .gt
        (v ((ix5 b h c q (n.castLE (by decide : 3 ≤ 16)) : S4x8x16x256x16.Idx).along 4 k))
        (v ((ix5 b h c q (n.castLE (by decide : 3 ≤ 16)) : S4x8x16x256x16.Idx).along 4 k')) == 1#1)
      = (FloatOps.cmpfTotal (F := Ideal) (φ := .f32) .gt (v (ix5 b h c q k)) (v (ix5 b h c q k')) == 1#1) := fun k k' => by
    rw [along_last b h c q _ k, along_last b h c q _ k']
  exact topK_positions (s := S4x8x16x256x16) (t := S4x8x16x256x3) (α := EReal) 4 (Nat.lt_succ_self 4)
    (FloatOps.cmpfTotal (F := Ideal) (φ := .f32) .gt) v sliceFits_S4x8x16x256x16_S4x8x16x256x3 (ix5 b h c q n)
    (ix5 b h c q (n.castLE (by decide))) hJ
    (fun k k' : Fin 16 => FloatOps.cmpfTotal (F := Ideal) (φ := .f32) .gt (v (ix5 b h c q k)) (v (ix5 b h c q k')) == 1#1) hR
    (n.castLE (by decide)) rfl

/-- The chosen blocks' numbers, largest masked gate first. -/
theorem indices_read (b : Fin 4) (h : Fin 8) (c : Fin 16) (q : Fin 256) (n : Fin 3) :
    val_main_indices (F := Ideal) x0 x4 (ix5 b h c q n)
      = BitVec.ofNat 32 (ranked c.val (gate x0 x4 b h c q) (n.castLE (by decide))).val := by
  have e0 : (fun k k' : Fin 16 => FloatOps.cmpfTotal (F := Ideal) (φ := .f32) .gt
        (val_main_v23 (F := Ideal) x0 x4 (ix5 b h c q k)) (val_main_v23 (F := Ideal) x0 x4 (ix5 b h c q k')) == 1#1)
      = larger c.val (gate x0 x4 b h c q) := by
    funext k k'
    rw [v23_read, v23_read]
    unfold larger
    generalize maskedGate c.val (gate x0 x4 b h c q) k = A
    generalize maskedGate c.val (gate x0 x4 b h c q) k' = B
    show (BitVec.ofBool (decide (B < A)) == 1#1) = _
    by_cases hh : B < A
    · simp [hh]
    · simp [hh]
  unfold val_main_indices
  rw [topK_read, e0]
  rfl

/-- A small number as a word is not below zero. -/
theorem not_slt_zero (n : Nat) (hn : n < 1024) : ¬ IntOp.cmpi .slt (BitVec.ofNat 32 n) 0#32 = 1 := fun h =>
  absurd ((slt_small n 0 hn (by decide)).mp h) (Nat.not_lt_zero n)

theorem v51_read (b : Fin 4) (h : Fin 8) (c : Fin 16) (q : Fin 256) (n : Fin 3) :
    val_main_v51 (F := Ideal) (ix6 b h c q n 0) = BitVec.ofNat 32 b.val := by
  rw [val_main_v51_apply, val_main_v49_apply, val_main_v38_apply, val_main_v35_apply, val_main_v34_apply, val_main_c_apply,
    val_main_v31_apply, val_main_v30_apply]
  unfold Scalar.select
  exact if_neg (not_slt_zero b.val (by omega))

theorem v52_read (b : Fin 4) (h : Fin 8) (c : Fin 16) (q : Fin 256) (n : Fin 3) :
    val_main_v52 (F := Ideal) (ix6 b h c q n 0) = BitVec.ofNat 32 h.val := by
  rw [val_main_v52_apply, val_main_v50_apply, val_main_v43_apply, val_main_v40_apply, val_main_v39_apply, val_main_c_2_apply,
    val_main_v33_apply, val_main_v32_apply]
  unfold Scalar.select
  exact if_neg (not_slt_zero h.val (by omega))

theorem v53_read (b : Fin 4) (h : Fin 8) (c : Fin 16) (q : Fin 256) (n : Fin 3) :
    val_main_v53 (F := Ideal) x0 x4 (ix6 b h c q n 0)
      = BitVec.ofNat 32 (ranked c.val (gate x0 x4 b h c q) (n.castLE (by decide))).val := by
  have e : idx_main_v53 (ix6 b h c q n 0) = ix5 b h c q n := by
    funext a
    match a with
    | ⟨0, _⟩ => rfl
    | ⟨1, _⟩ => rfl
    | ⟨2, _⟩ => rfl
    | ⟨3, _⟩ => rfl
    | ⟨4, _⟩ => rfl
  rw [val_main_v53_apply, val_main_v48_apply, val_main_v45_apply, val_main_v44_apply, val_main_c_4_apply, e, indices_read]
  unfold Scalar.select
  exact if_neg (not_slt_zero _ (Nat.lt_trans (ranked c.val (gate x0 x4 b h c q) (n.castLE (by decide))).isLt (by decide)))

/-- Word 0 of three words laid side by side. -/
theorem words_read0 (y0 y1 y2 : S4x8x16x256x3x1.Idx → BitVec 32) (b : Fin 4) (h : Fin 8) (c : Fin 16) (q : Fin 256) (n : Fin 3) :
    concatenate S4x8x16x256x3x3 5 [⟨S4x8x16x256x3x1, y0⟩, ⟨S4x8x16x256x3x1, y1⟩, ⟨S4x8x16x256x3x1, y2⟩]
      concatenates_S4x8x16x256x3x1_S4x8x16x256x3x1_S4x8x16x256x3x1_S4x8x16x256x3x3_d5 (ix6 b h c q n 0) = y0 (ix6 b h c q n 0) := by
  refine concatenate_apply_piece (5 : Fin S4x8x16x256x3x3.rank) [⟨S4x8x16x256x3x1, y0⟩, ⟨S4x8x16x256x3x1, y1⟩, ⟨S4x8x16x256x3x1, y2⟩]
    concatenates_S4x8x16x256x3x1_S4x8x16x256x3x1_S4x8x16x256x3x1_S4x8x16x256x3x3_d5 (ix6 b h c q n 0) 0 (by show 0 < 3; decide)
    S4x8x16x256x3x1 y0 rfl rfl 0 ?_ (ix6 b h c q n 0) (fun a ha => ?_) ?_
  · rfl
  · match a with
    | ⟨0, _⟩ => rfl
    | ⟨1, _⟩ => rfl
    | ⟨2, _⟩ => rfl
    | ⟨3, _⟩ => rfl
    | ⟨4, _⟩ => rfl
    | ⟨5, _⟩ => exact absurd rfl ha
  · rfl

/-- Word 1 of three words laid side by side. -/
theorem words_read1 (y0 y1 y2 : S4x8x16x256x3x1.Idx → BitVec 32) (b : Fin 4) (h : Fin 8) (c : Fin 16) (q : Fin 256) (n : Fin 3) :
    concatenate S4x8x16x256x3x3 5 [⟨S4x8x16x256x3x1, y0⟩, ⟨S4x8x16x256x3x1, y1⟩, ⟨S4x8x16x256x3x1, y2⟩]
      concatenates_S4x8x16x256x3x1_S4x8x16x256x3x1_S4x8x16x256x3x1_S4x8x16x256x3x3_d5 (ix6 b h c q n 1) = y1 (ix6 b h c q n 0) := by
  refine concatenate_apply_piece (5 : Fin S4x8x16x256x3x3.rank) [⟨S4x8x16x256x3x1, y0⟩, ⟨S4x8x16x256x3x1, y1⟩, ⟨S4x8x16x256x3x1, y2⟩]
    concatenates_S4x8x16x256x3x1_S4x8x16x256x3x1_S4x8x16x256x3x1_S4x8x16x256x3x3_d5 (ix6 b h c q n 1) 1 (by show 1 < 3; decide)
    S4x8x16x256x3x1 y1 rfl rfl 1 ?_ (ix6 b h c q n 0) (fun a ha => ?_) ?_
  · rfl
  · match a with
    | ⟨0, _⟩ => rfl
    | ⟨1, _⟩ => rfl
    | ⟨2, _⟩ => rfl
    | ⟨3, _⟩ => rfl
    | ⟨4, _⟩ => rfl
    | ⟨5, _⟩ => exact absurd rfl ha
  · rfl

/-- Word 2 of three words laid side by side. -/
theorem words_read2 (y0 y1 y2 : S4x8x16x256x3x1.Idx → BitVec 32) (b : Fin 4) (h : Fin 8) (c : Fin 16) (q : Fin 256) (n : Fin 3) :
    concatenate S4x8x16x256x3x3 5 [⟨S4x8x16x256x3x1, y0⟩, ⟨S4x8x16x256x3x1, y1⟩, ⟨S4x8x16x256x3x1, y2⟩]
      concatenates_S4x8x16x256x3x1_S4x8x16x256x3x1_S4x8x16x256x3x1_S4x8x16x256x3x3_d5 (ix6 b h c q n 2) = y2 (ix6 b h c q n 0) := by
  refine concatenate_apply_piece (5 : Fin S4x8x16x256x3x3.rank) [⟨S4x8x16x256x3x1, y0⟩, ⟨S4x8x16x256x3x1, y1⟩, ⟨S4x8x16x256x3x1, y2⟩]
    concatenates_S4x8x16x256x3x1_S4x8x16x256x3x1_S4x8x16x256x3x1_S4x8x16x256x3x3_d5 (ix6 b h c q n 2) 2 (by show 2 < 3; decide)
    S4x8x16x256x3x1 y2 rfl rfl 2 ?_ (ix6 b h c q n 0) (fun a ha => ?_) ?_
  · rfl
  · match a with
    | ⟨0, _⟩ => rfl
    | ⟨1, _⟩ => rfl
    | ⟨2, _⟩ => rfl
    | ⟨3, _⟩ => rfl
    | ⟨4, _⟩ => rfl
    | ⟨5, _⟩ => exact absurd rfl ha
  · rfl

/-- The three words of a choice: its sequence, its head, and the block's number. -/
theorem v54_read0 (b : Fin 4) (h : Fin 8) (c : Fin 16) (q : Fin 256) (n : Fin 3) :
    val_main_v54 (F := Ideal) x0 x4 (ix6 b h c q n 0) = BitVec.ofNat 32 b.val := by
  unfold val_main_v54
  exact (words_read0 _ _ _ b h c q n).trans (v51_read b h c q n)

theorem v54_read1 (b : Fin 4) (h : Fin 8) (c : Fin 16) (q : Fin 256) (n : Fin 3) :
    val_main_v54 (F := Ideal) x0 x4 (ix6 b h c q n 1) = BitVec.ofNat 32 h.val := by
  unfold val_main_v54
  exact (words_read1 _ _ _ b h c q n).trans (v52_read b h c q n)

theorem v54_read2 (b : Fin 4) (h : Fin 8) (c : Fin 16) (q : Fin 256) (n : Fin 3) :
    val_main_v54 (F := Ideal) x0 x4 (ix6 b h c q n 2) = BitVec.ofNat 32 (ranked c.val (gate x0 x4 b h c q) (n.castLE (by decide))).val := by
  unfold val_main_v54
  exact (words_read2 _ _ _ b h c q n).trans (v53_read x0 x4 b h c q n)

/-- The values are gathered by the same words as the keys. -/
theorem v76_eq : val_main_v76 (F := Ideal) x0 x4 = val_main_v54 (F := Ideal) x0 x4 := rfl

/-- A small number's word, read back. -/
theorem word_small (n : Nat) (hn : n < 1024) : (BitVec.ofNat 32 n).toInt.toNat = n := by
  rw [BitVec.toInt_eq_toNat_of_lt (by rw [BitVec.toNat_ofNat]; omega), BitVec.toNat_ofNat]; omega

/-- The gather's reading: three words name a sequence, a head and a block; the block's rows and features follow. -/
abbrev blockDims := gather_S4x8x16x256x64_S4x8x16x256x3x3_S4x8x16x256x3x256x64_56_012_n_n_012_5_11125664

/-- The word of axis `e` the gather reads for a result index. -/
theorem blockDims_word (b : Fin 4) (h : Fin 8) (c : Fin 16) (q : Fin 256) (n : Fin 3) (r : Fin 256) (d : Fin 64) (e : Fin 3) :
    blockDims.siIdx (ix7 b h c q n r d) e = ix6 b h c q n e := by
  funext a
  match a with
  | ⟨0, _⟩ => rfl
  | ⟨1, _⟩ => rfl
  | ⟨2, _⟩ => rfl
  | ⟨3, _⟩ => rfl
  | ⟨4, _⟩ => rfl
  | ⟨5, _⟩ => rfl

/-- On a named axis the gather reads at the word, held inside the axis. -/
theorem blockDims_read (w : S4x8x16x256x3x3.Idx → BitVec 32) (b : Fin 4) (h : Fin 8) (c : Fin 16) (q : Fin 256) (n : Fin 3)
    (r : Fin 256) (d : Fin 64) (e : Fin 3)
    (a : Fin S4x8x16x256x64.rank) (ha : a.val = e.val) : blockDims.start (ix7 b h c q n r d) w a + blockDims.batchCoord (ix7 b h c q n r d) a
      + blockDims.offCoord (ix7 b h c q n r d) a = min (w (ix6 b h c q n e)).toInt.toNat (S4x8x16x256x64.size a - 1) := by
  have hm : a ∈ blockDims.startIndexMap := by
    exact (by decide : ∀ x : Fin 5, x.val < 3 → x ∈ ([0, 1, 2] : List (Fin 5))) a (by omega)
  have hi : blockDims.startIndexMap.idxOf a = e.val := by
    rw [← ha]
    exact (by decide : ∀ x : Fin 5, x.val < 3 → ([0, 1, 2] : List (Fin 5)).idxOf x = x.val) a (by omega)
  have hz : blockDims.sliceSizes a = 1 := blockDims.slice_collapsed a hm
  rw [GatherDims.batchCoord_eq_zero _ _ _ (fun h => by cases h),
    GatherDims.offCoord_eq_zero _ _ _ (fun h => ((GatherDims.mem_sKept _ _).mp h).1 hm)]
  simp only [Nat.add_zero]
  unfold GatherDims.start
  rw [dif_pos hm, hz]
  have he : (⟨blockDims.startIndexMap.idxOf a, List.idxOf_lt_length_iff.2 hm⟩ : Fin blockDims.startIndexMap.length) = e := Fin.ext hi
  rw [he, blockDims_word]

/-- On the two other axes the gather reads at the result's own coordinate. -/
theorem blockDims_offset (w : S4x8x16x256x3x3.Idx → BitVec 32) (b : Fin 4) (h : Fin 8) (c : Fin 16) (q : Fin 256) (n : Fin 3)
    (r : Fin 256) (d : Fin 64)
    (a : Fin S4x8x16x256x64.rank) (ha : 3 ≤ a.val) : blockDims.start (ix7 b h c q n r d) w a + blockDims.batchCoord (ix7 b h c q n r d) a
      + blockDims.offCoord (ix7 b h c q n r d) a = (if a.val = 3 then r.val else d.val) := by
  have hm : a ∉ blockDims.startIndexMap := by
    exact (by decide : ∀ x : Fin 5, 3 ≤ x.val → x ∉ ([0, 1, 2] : List (Fin 5))) a ha
  rw [GatherDims.batchCoord_eq_zero _ _ _ (fun h => by cases h)]
  unfold GatherDims.start GatherDims.offCoord
  rw [dif_neg hm, dif_pos ((GatherDims.mem_sKept _ _).mpr ⟨hm, fun h => by cases h⟩), Nat.add_zero, Nat.zero_add]
  match a with
  | ⟨3, _⟩ => rfl
  | ⟨4, _⟩ => rfl

/-- A gathered block: the block the three words name. -/
theorem gather_read (x : S4x8x16x256x64.Idx → EReal) (w : S4x8x16x256x3x3.Idx → BitVec 32)
    (b : Fin 4) (h : Fin 8) (c : Fin 16) (q : Fin 256) (n : Fin 3) (r : Fin 256) (d : Fin 64) (p : Fin 16)
    (h0 : w (ix6 b h c q n 0) = BitVec.ofNat 32 b.val) (h1 : w (ix6 b h c q n 1) = BitVec.ofNat 32 h.val)
    (h2 : w (ix6 b h c q n 2) = BitVec.ofNat 32 p.val) :
    Host.gather gather_S4x8x16x256x64_S4x8x16x256x3x3_S4x8x16x256x3x256x64_56_012_n_n_012_5_11125664 x w (ix7 b h c q n r d)
      = x (ix5 b h p r d) := by
  unfold Host.gather
  congr 1
  funext a
  apply Fin.ext
  show blockDims.start (ix7 b h c q n r d) w a + blockDims.batchCoord (ix7 b h c q n r d) a
      + blockDims.offCoord (ix7 b h c q n r d) a = _
  match a with
  | ⟨0, _⟩ =>
    rw [blockDims_read w b h c q n r d 0 _ rfl, h0, word_small _ (by omega)]
    show min b.val 3 = b.val
    omega
  | ⟨1, _⟩ =>
    rw [blockDims_read w b h c q n r d 1 _ rfl, h1, word_small _ (by omega)]
    show min h.val 7 = h.val
    omega
  | ⟨2, _⟩ =>
    rw [blockDims_read w b h c q n r d 2 _ rfl, h2, word_small _ (by omega)]
    show min p.val 15 = p.val
    omega
  | ⟨3, _⟩ => rw [blockDims_offset w b h c q n r d _ (Nat.le_refl 3)]; rfl
  | ⟨4, _⟩ => rw [blockDims_offset w b h c q n r d _ (Nat.le_succ 3)]; rfl

/-- The chosen block of place `n`. -/
def chosen (b : Fin 4) (h : Fin 8) (c : Fin 16) (q : Fin 256) (n : Fin 3) : Fin 16 :=
  ranked c.val (gate x0 x4 b h c q) (n.castLE (by decide))

theorem v55_read (b : Fin 4) (h : Fin 8) (c : Fin 16) (q : Fin 256) (n : Fin 3) (r : Fin 256) (d : Fin 64) :
    val_main_v55 (F := Ideal) x0 x2 x4 (ix7 b h c q n r d) = x2 (ix2 (rowIx b (chosen x0 x4 b h c q n) r) (featCol h d)) := by
  unfold val_main_v55
  rw [gather_read _ _ b h c q n r d (chosen x0 x4 b h c q n) (v54_read0 x0 x4 b h c q n) (v54_read1 x0 x4 b h c q n)
    (v54_read2 x0 x4 b h c q n), v9_read]

theorem v77_read (b : Fin 4) (h : Fin 8) (c : Fin 16) (q : Fin 256) (n : Fin 3) (r : Fin 256) (d : Fin 64) :
    val_main_v77 (F := Ideal) x0 x3 x4 (ix7 b h c q n r d) = x3 (ix2 (rowIx b (chosen x0 x4 b h c q n) r) (featCol h d)) := by
  unfold val_main_v77
  rw [v76_eq, gather_read _ _ b h c q n r d (chosen x0 x4 b h c q n) (v54_read0 x0 x4 b h c q n) (v54_read1 x0 x4 b h c q n)
    (v54_read2 x0 x4 b h c q n), v12_read]

end Cert.AttnRefIdeal.Closed

end

end
-- ==== Proof.AttnRefSoftmax.lean ====
/- The attention reference's scores and its softmax, read at one index. -/
module

public import proofs.«01_k».proof.Proof.AttnRefRead
public import Idealize.ShloMosaic.Lib.ValueIdxRank6

@[expose] public section

set_option maxRecDepth 16384

noncomputable section

namespace Cert.AttnRefIdeal.Closed

open Cert.AttnRefIdeal Cert.AttnRefIdeal.Gen Cert.AttnRefIdeal.Read Cert.Attn Idealize.ShloMosaic Idealize.ShloMosaic.StableHlo
open Cert.AttnIdeal.Chunk (featCol word_bot)

/-- Column `256 n + r` of the 1024: key `r` of the block of place `n`. -/
def joined (n : Fin 3) (r : Fin 256) : Fin 1024 := ⟨256 * n.val + r.val, by omega⟩

/-- Column `768 + r` of the 1024: key `r` of the own block. -/
def tail (r : Fin 256) : Fin 1024 := ⟨768 + r.val, by omega⟩

/-- A sum over the 1024 columns: the three blocks' and the own block's. -/
theorem sum_columns (f : Fin 1024 → EReal) : ∑ k, f k = (∑ n : Fin 3, ∑ r : Fin 256, f (joined n r)) + ∑ r : Fin 256, f (tail r) := by
  rw [← Equiv.sum_comp (finSumFinEquiv (m := 768) (n := 256)) f, Fintype.sum_sum_type]
  congr 1
  rw [← Equiv.sum_comp (finProdFinEquiv (m := 3) (n := 256)), Fintype.sum_prod_type]
  refine Finset.sum_congr rfl fun n _ => Finset.sum_congr rfl fun r _ => congrArg f (Fin.ext ?_)
  show r.val + 256 * n.val = 256 * n.val + r.val
  exact Nat.add_comm _ _

/-- Every column is one of the two kinds. -/
theorem column_cases (k : Fin 1024) : (∃ n r, k = joined n r) ∨ ∃ r, k = tail r := by
  by_cases h : k.val < 768
  · exact Or.inl ⟨⟨k.val / 256, by omega⟩, ⟨k.val % 256, by omega⟩, Fin.ext (by show k.val = 256 * (k.val / 256) + k.val % 256; omega)⟩
  · exact Or.inr ⟨⟨k.val - 768, by omega⟩, Fin.ext (by show k.val = 768 + (k.val - 768); omega)⟩

variable (x0 x1 x2 x3 : S16384x512.Idx → EReal) (x4 : S64x512.Idx → EReal)

/-- A query's product with key `r` of block `p` of its sequence. -/
def score (b : Fin 4) (h : Fin 8) (c : Fin 16) (q : Fin 256) (p : Fin 16) (r : Fin 256) : EReal :=
  ∑ d : Fin 64, x2 (ix2 (rowIx b p r) (featCol h d)) * x1 (ix2 (rowIx b c q) (featCol h d))

/-- The scores of the block of place `n`, when there are that many past blocks. -/
def chosenScore (b : Fin 4) (h : Fin 8) (c : Fin 16) (q : Fin 256) (n : Fin 3) (r : Fin 256) : EReal :=
  if n.val < c.val then score x1 x2 b h c q (chosen x0 x4 b h c q n) r else ⊥

/-- The own block's scores, up to the query. -/
def ownScore (b : Fin 4) (h : Fin 8) (c : Fin 16) (q : Fin 256) (r : Fin 256) : EReal :=
  if r.val ≤ q.val then score x1 x2 b h c q c r else ⊥

theorem v78_read (b : Fin 4) (h : Fin 8) (c : Fin 16) (q : Fin 256) (n : Fin 3) (r : Fin 256) :
    val_main_v78 (F := Ideal) x0 x1 x2 x4 (ix6 b h c q n r) = score x1 x2 b h c q (chosen x0 x4 b h c q n) r := by
  rw [val_main_v78_apply]
  unfold score
  refine Finset.sum_congr rfl fun d _ => ?_
  have e1 : lidx_main_v78 (ix6 b h c q n r) d = ix5 b h c q d := by
    funext a
    match a with
    | ⟨0, _⟩ => rfl
    | ⟨1, _⟩ => rfl
    | ⟨2, _⟩ => rfl
    | ⟨3, _⟩ => rfl
    | ⟨4, _⟩ => rfl
  have e2 : ridx_main_v78 (ix6 b h c q n r) d = ix7 b h c q n r d := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  rw [e1, e2, v6_read, v55_read, mul_comm]

theorem v81_read (b : Fin 4) (h : Fin 8) (c : Fin 16) (q : Fin 256) (r : Fin 256) :
    val_main_v81 (F := Ideal) x1 x2 (ix5 b h c q r) = score x1 x2 b h c q c r := by
  rw [val_main_v81_apply]
  unfold score
  refine Finset.sum_congr rfl fun d _ => ?_
  have e1 : lidx_main_v81 (ix5 b h c q r) d = ix5 b h c q d := by
    funext a
    match a with
    | ⟨0, _⟩ => rfl
    | ⟨1, _⟩ => rfl
    | ⟨2, _⟩ => rfl
    | ⟨3, _⟩ => rfl
    | ⟨4, _⟩ => rfl
  have e2 : ridx_main_v81 (ix5 b h c q r) d = ix5 b h c r d := by
    funext a
    match a with
    | ⟨0, _⟩ => rfl
    | ⟨1, _⟩ => rfl
    | ⟨2, _⟩ => rfl
    | ⟨3, _⟩ => rfl
    | ⟨4, _⟩ => rfl
  rw [e1, e2, v6_read, v9_read, mul_comm]

theorem v29_read (c : Fin 16) (n : Fin 3) : (val_main_v29 (F := Ideal) (ix2 c n) = 1) ↔ n.val < c.val := by
  rw [val_main_v29_apply, val_main_v27_apply, val_main_v28_apply, val_main_v26_apply, val_main_v25_apply, val_main_v24_apply, val_main_v15_apply]
  exact slt_small n.val c.val (by omega) (by omega)

/-- The signed comparison of two small numbers as words. -/
theorem sle_small (m n : Nat) (hm : m < 1024) (hn : n < 1024) :
    IntOp.cmpi .sle (BitVec.ofNat 32 m) (BitVec.ofNat 32 n) = 1 ↔ m ≤ n := by
  unfold IntOp.cmpi
  show BitVec.ofBool (BitVec.sle (BitVec.ofNat 32 m) (BitVec.ofNat 32 n)) = 1 ↔ _
  have h1 : (BitVec.ofNat 32 m).toInt = m := by
    rw [BitVec.toInt_eq_toNat_of_lt (by rw [BitVec.toNat_ofNat]; omega), BitVec.toNat_ofNat]; omega
  have h2 : (BitVec.ofNat 32 n).toInt = n := by
    rw [BitVec.toInt_eq_toNat_of_lt (by rw [BitVec.toNat_ofNat]; omega), BitVec.toNat_ofNat]; omega
  rw [BitVec.sle_eq_decide, h1, h2]
  by_cases h : m ≤ n
  · rw [decide_eq_true (by exact_mod_cast h)]; simp [h]
  · rw [decide_eq_false (by exact_mod_cast h)]; simp [h]

theorem v87_read (q r : Fin 256) : (val_main_v87 (F := Ideal) (ix2 q r) = 1) ↔ r.val ≤ q.val := by
  rw [val_main_v87_apply, val_main_v85_apply, val_main_v86_apply, val_main_v83_apply, val_main_v84_apply, val_main_v82_apply, val_main_v82_apply]
  exact sle_small r.val q.val (by omega) (by omega)

theorem v80_read (b : Fin 4) (h : Fin 8) (c : Fin 16) (q : Fin 256) (n : Fin 3) (r : Fin 256) :
    val_main_v80 (F := Ideal) x0 x1 x2 x4 (ix6 b h c q n r) = chosenScore x0 x1 x2 x4 b h c q n r := by
  rw [val_main_v80_apply, v78_read, val_main_call1_v2_apply, val_main_call1_v0_apply, val_main_cst_12_apply, val_main_call1_v1_apply,
    val_main_v79_apply]
  have e : idx_main_v79 (idx_main_call1_v1 (ix6 b h c q n r)) = ix2 c n := by
    funext a
    match a with
    | ⟨0, _⟩ => rfl
    | ⟨1, _⟩ => rfl
  have hb : (FloatOps.ofBits (F := Ideal) .f32 0xFF800000#32 : EReal) = ⊥ := word_bot
  rw [e, hb]
  unfold Scalar.select chosenScore
  by_cases hn : n.val < c.val
  · rw [if_pos ((v29_read c n).mpr hn), if_pos hn]
  · rw [if_neg (fun h => hn ((v29_read c n).mp h)), if_neg hn]

theorem v88_read (b : Fin 4) (h : Fin 8) (c : Fin 16) (q : Fin 256) (r : Fin 256) :
    val_main_v88 (F := Ideal) x1 x2 (ix5 b h c q r) = ownScore x1 x2 b h c q r := by
  rw [val_main_v88_apply, v81_read, val_main_call2_v2_apply, val_main_call2_v0_apply, val_main_cst_13_apply, val_main_call2_v1_apply]
  have e : idx_main_call2_v1 (ix5 b h c q r) = ix2 q r := by
    funext a
    match a with
    | ⟨0, _⟩ => rfl
    | ⟨1, _⟩ => rfl
  have hb : (FloatOps.ofBits (F := Ideal) .f32 0xFF800000#32 : EReal) = ⊥ := word_bot
  rw [e, hb]
  unfold Scalar.select ownScore
  by_cases hr : r.val ≤ q.val
  · rw [if_pos ((v87_read q r).mpr hr), if_pos hr]
  · rw [if_neg (fun h => hr ((v87_read q r).mp h)), if_neg hr]

/-- All 1024 scores of a query. -/
def scores (b : Fin 4) (h : Fin 8) (c : Fin 16) (q : Fin 256) (k : Fin 1024) : EReal :=
  val_main_v90 (F := Ideal) x0 x1 x2 x4 (ix5 b h c q k)

theorem scores_joined (b : Fin 4) (h : Fin 8) (c : Fin 16) (q : Fin 256) (n : Fin 3) (r : Fin 256) :
    scores x0 x1 x2 x4 b h c q (joined n r) = chosenScore x0 x1 x2 x4 b h c q n r := by
  rw [← v80_read]
  unfold scores val_main_v90 val_main_v89
  generalize val_main_v80 (F := Ideal) x0 x1 x2 x4 = y0
  generalize val_main_v88 (F := Ideal) x1 x2 = y1
  have hlt : 256 * n.val + r.val < 768 := by omega
  refine (concatenate_pair_apply_left (4 : Fin S4x8x16x256x1024.rank) (shapeCast _ y0 shapeCasts_S4x8x16x256x3x256_S4x8x16x256x768) y1
    concatenates_S4x8x16x256x768_S4x8x16x256x256_S4x8x16x256x1024_d4 (ix5 b h c q (joined n r)) rfl
    (ix5 b h c q ⟨256 * n.val + r.val, hlt⟩) (fun a => ?_)).trans ?_
  · match a with
    | ⟨0, _⟩ => rfl
    | ⟨1, _⟩ => rfl
    | ⟨2, _⟩ => rfl
    | ⟨3, _⟩ => rfl
    | ⟨4, _⟩ => rfl
  · refine shapeCast_apply y0 shapeCasts_S4x8x16x256x3x256_S4x8x16x256x768 (ix5 b h c q ⟨256 * n.val + r.val, hlt⟩) (ix6 b h c q n r) ?_
    rw [Shape.rowMajor_val_six, Shape.rowMajor_val_five]
    show ((((b.val * 8 + h.val) * 16 + c.val) * 256 + q.val) * 3 + n.val) * 256 + r.val
      = (((b.val * 8 + h.val) * 16 + c.val) * 256 + q.val) * 768 + (256 * n.val + r.val)
    omega

theorem scores_tail (b : Fin 4) (h : Fin 8) (c : Fin 16) (q : Fin 256) (r : Fin 256) :
    scores x0 x1 x2 x4 b h c q (tail r) = ownScore x1 x2 b h c q r := by
  rw [← v88_read]
  unfold scores val_main_v90
  generalize val_main_v89 (F := Ideal) x0 x1 x2 x4 = y0
  generalize val_main_v88 (F := Ideal) x1 x2 = y1
  refine concatenate_pair_apply_right (4 : Fin S4x8x16x256x1024.rank) y0 y1
    concatenates_S4x8x16x256x768_S4x8x16x256x256_S4x8x16x256x1024_d4 (ix5 b h c q (tail r)) rfl rfl (ix5 b h c q r) (fun a ha => ?_) ?_
  · match a with
    | ⟨0, _⟩ => rfl
    | ⟨1, _⟩ => rfl
    | ⟨2, _⟩ => rfl
    | ⟨3, _⟩ => rfl
    | ⟨4, _⟩ => exact absurd rfl ha
  · show r.val + 768 = 768 + r.val
    exact Nat.add_comm _ _

/-- The largest of a query's scores. -/
def top (b : Fin 4) (h : Fin 8) (c : Fin 16) (q : Fin 256) : EReal := Finset.univ.sup (scores x0 x1 x2 x4 b h c q)

theorem v93_read (b : Fin 4) (h : Fin 8) (c : Fin 16) (q : Fin 256) :
    val_main_v93 (F := Ideal) x0 x1 x2 x4 (ix4 b h c q) = top x0 x1 x2 x4 b h c q := by
  rw [val_main_v93_apply, val_main_v92_apply, val_main_cst_15_apply]
  have hb : (FloatOps.ofBits (F := Ideal) .f32 0xFF800000#32 : EReal) = ⊥ := word_bot
  rw [hb]
  show max (⊥ : EReal) (val_main_v91 (F := Ideal) x0 x1 x2 x4 (ix4 b h c q)) = _
  rw [max_eq_right bot_le]
  unfold val_main_v91 top scores
  generalize val_main_v90 (F := Ideal) x0 x1 x2 x4 = y
  have e := Host.reduce_eq_fold_single (max : EReal → EReal → EReal) (y : S4x8x16x256x1024.Idx → EReal) (val_main_cst_14 (F := Ideal))
    reducesTo_S4x8x16x256x1024_S4x8x16x256_d4 (by decide : S4x8x16x256x1024.Reduces [4] S4x8x16x256) h_S_ (ix4 b h c q)
  rw [val_main_cst_14_apply, hb] at e
  refine Eq.trans e ?_
  show Finset.univ.sup _ = _
  refine Finset.sup_congr rfl fun k _ => ?_
  refine congrArg y (funext fun a => Fin.ext ?_)
  match a with
  | ⟨0, _⟩ => rfl
  | ⟨1, _⟩ => rfl
  | ⟨2, _⟩ => rfl
  | ⟨3, _⟩ => rfl
  | ⟨4, _⟩ => rfl

theorem v97_read (b : Fin 4) (h : Fin 8) (c : Fin 16) (q : Fin 256) (k : Fin 1024) :
    val_main_v97 (F := Ideal) x0 x1 x2 x4 (ix5 b h c q k) = ew (scores x0 x1 x2 x4 b h c q k) (top x0 x1 x2 x4 b h c q) := by
  rw [val_main_v97_apply, val_main_v96_apply, val_main_v95_apply, val_main_v94_apply]
  have e : idx_main_v94 (idx_main_v95 (ix5 b h c q k)) = ix4 b h c q := by
    funext a
    match a with
    | ⟨0, _⟩ => rfl
    | ⟨1, _⟩ => rfl
    | ⟨2, _⟩ => rfl
    | ⟨3, _⟩ => rfl
  rw [e, v93_read]
  rfl

/-- The sum of a query's weights. -/
def total (b : Fin 4) (h : Fin 8) (c : Fin 16) (q : Fin 256) : EReal :=
  ∑ k : Fin 1024, ew (scores x0 x1 x2 x4 b h c q k) (top x0 x1 x2 x4 b h c q)

theorem v98_read (b : Fin 4) (h : Fin 8) (c : Fin 16) (q : Fin 256) :
    val_main_v98 (F := Ideal) x0 x1 x2 x4 (ix4 b h c q) = total x0 x1 x2 x4 b h c q := by
  rw [val_main_v98_apply, val_main_cst_16_apply]
  have hz : (FloatOps.ofBits (F := Ideal) .f32 0x00000000#32 : EReal) = 0 := by
    show Ideal.ofBits .f32 0x00000000#32 = 0
    simp [Ideal.ofBits, Ideal.ieee]
  rw [hz, zero_add]
  unfold total
  refine Finset.sum_congr rfl fun k _ => ?_
  have e : idx_main_v98 (ix4 b h c q) k = ix5 b h c q k := by
    funext a
    match a with
    | ⟨0, _⟩ => rfl
    | ⟨1, _⟩ => rfl
    | ⟨2, _⟩ => rfl
    | ⟨3, _⟩ => rfl
    | ⟨4, _⟩ => rfl
  rw [e, v97_read]

/-- A query's weight of one column, divided by their sum. -/
def weight (b : Fin 4) (h : Fin 8) (c : Fin 16) (q : Fin 256) (k : Fin 1024) : EReal :=
  Ideal.div (ew (scores x0 x1 x2 x4 b h c q k) (top x0 x1 x2 x4 b h c q)) (total x0 x1 x2 x4 b h c q)

theorem v101_read (b : Fin 4) (h : Fin 8) (c : Fin 16) (q : Fin 256) (k : Fin 1024) :
    val_main_v101 (F := Ideal) x0 x1 x2 x4 (ix5 b h c q k) = weight x0 x1 x2 x4 b h c q k := by
  rw [val_main_v101_apply, val_main_v100_apply, val_main_v99_apply, v97_read]
  have e : idx_main_v99 (idx_main_v100 (ix5 b h c q k)) = ix4 b h c q := by
    funext a
    match a with
    | ⟨0, _⟩ => rfl
    | ⟨1, _⟩ => rfl
    | ⟨2, _⟩ => rfl
    | ⟨3, _⟩ => rfl
  rw [e, v98_read]
  rfl

theorem v103_read (b : Fin 4) (h : Fin 8) (c : Fin 16) (q : Fin 256) (n : Fin 3) (r : Fin 256) :
    val_main_v103 (F := Ideal) x0 x1 x2 x4 (ix6 b h c q n r) = weight x0 x1 x2 x4 b h c q (joined n r) := by
  have hlt : 256 * n.val + r.val < 768 := by omega
  rw [← v101_read]
  have e : val_main_v103 (F := Ideal) x0 x1 x2 x4 (ix6 b h c q n r)
      = val_main_v102 (F := Ideal) x0 x1 x2 x4 (ix5 b h c q ⟨256 * n.val + r.val, hlt⟩) := by
    unfold val_main_v103
    generalize val_main_v102 (F := Ideal) x0 x1 x2 x4 = y
    refine shapeCast_apply y shapeCasts_S4x8x16x256x768_S4x8x16x256x3x256 (ix6 b h c q n r) (ix5 b h c q ⟨256 * n.val + r.val, hlt⟩) ?_
    rw [Shape.rowMajor_val_six, Shape.rowMajor_val_five]
    show (((b.val * 8 + h.val) * 16 + c.val) * 256 + q.val) * 768 + (256 * n.val + r.val)
      = ((((b.val * 8 + h.val) * 16 + c.val) * 256 + q.val) * 3 + n.val) * 256 + r.val
    omega
  rw [e, val_main_v102_apply]
  refine congrArg _ (funext fun a => Fin.ext ?_)
  match a with
  | ⟨0, _⟩ => rfl
  | ⟨1, _⟩ => rfl
  | ⟨2, _⟩ => rfl
  | ⟨3, _⟩ => rfl
  | ⟨4, _⟩ => rfl

theorem v104_read (b : Fin 4) (h : Fin 8) (c : Fin 16) (q : Fin 256) (r : Fin 256) :
    val_main_v104 (F := Ideal) x0 x1 x2 x4 (ix5 b h c q r) = weight x0 x1 x2 x4 b h c q (tail r) := by
  rw [val_main_v104_apply, ← v101_read]
  refine congrArg _ (funext fun a => Fin.ext ?_)
  match a with
  | ⟨0, _⟩ => rfl
  | ⟨1, _⟩ => rfl
  | ⟨2, _⟩ => rfl
  | ⟨3, _⟩ => rfl
  | ⟨4, _⟩ => rfl

end Cert.AttnRefIdeal.Closed

end

end
-- ==== Proof.AttnRefResult.lean ====
/- The attention reference's result at one row and one feature. -/
module

public import proofs.«01_k».proof.Proof.AttnRefSoftmax
public import Idealize.ShloMosaic.Lib.TwoAxisContraction

@[expose] public section

set_option maxRecDepth 16384

noncomputable section

namespace Cert.AttnRefIdeal.Closed

open Cert.AttnRefIdeal Cert.AttnRefIdeal.Gen Cert.AttnRefIdeal.Read Cert.Attn Idealize.ShloMosaic Idealize.ShloMosaic.StableHlo
open Cert.AttnIdeal.Chunk (featCol)

variable (x0 x1 x2 x3 : S16384x512.Idx → EReal) (x4 : S64x512.Idx → EReal)

/-- A product contracting two axes: the sum over both coordinates. -/
theorem blocks_dot (y0 : S4x8x16x256x3x256.Idx → EReal) (y1 : S4x8x16x256x3x256x64.Idx → EReal)
    (b : Fin 4) (h : Fin 8) (c : Fin 16) (q : Fin 256) (d : Fin 64) :
    Host.dotGeneral (F := Ideal) (φ₁ := .f32) (φ₂ := .f32) dot_S4x8x16x256x3x256_S4x8x16x256x3x256x64_S4x8x16x256x64_54_54_n_6_0123_0123 none y0 y1 (ix5 b h c q d)
      = ∑ r : Fin 256, ∑ n : Fin 3, y0 (ix6 b h c q n r) * y1 (ix7 b h c q n r d) := by
  simp only [Host.dotGeneral]
  rw [Ideal.dotGeneral_apply, ← Equiv.sum_comp (ValueIdx.contrEquiv2
    dot_S4x8x16x256x3x256_S4x8x16x256x3x256x64_S4x8x16x256x64_54_54_n_6_0123_0123 256 3 rfl rfl rfl).symm, Fintype.sum_prod_type]
  refine Finset.sum_congr rfl fun r _ => Finset.sum_congr rfl fun n _ => ?_
  have k0 := ValueIdx.contrEquiv2_symm_val0 dot_S4x8x16x256x3x256_S4x8x16x256x3x256x64_S4x8x16x256x64_54_54_n_6_0123_0123 256 3 rfl rfl rfl (r, n)
  have k1 := ValueIdx.contrEquiv2_symm_val1 dot_S4x8x16x256x3x256_S4x8x16x256x3x256x64_S4x8x16x256x64_54_54_n_6_0123_0123 256 3 rfl rfl rfl (r, n)
  have el : dot_S4x8x16x256x3x256_S4x8x16x256x3x256x64_S4x8x16x256x64_54_54_n_6_0123_0123.lhsIdx (ix5 b h c q d)
      ((ValueIdx.contrEquiv2 dot_S4x8x16x256x3x256_S4x8x16x256x3x256x64_S4x8x16x256x64_54_54_n_6_0123_0123 256 3 rfl rfl rfl).symm (r, n))
      = ix6 b h c q n r := by
    funext a; apply Fin.ext
    match a with
    | ⟨0, _⟩ => rfl
    | ⟨1, _⟩ => rfl
    | ⟨2, _⟩ => rfl
    | ⟨3, _⟩ => rfl
    | ⟨4, _⟩ => exact k1
    | ⟨5, _⟩ => exact k0
  have er : dot_S4x8x16x256x3x256_S4x8x16x256x3x256x64_S4x8x16x256x64_54_54_n_6_0123_0123.rhsIdx (ix5 b h c q d)
      ((ValueIdx.contrEquiv2 dot_S4x8x16x256x3x256_S4x8x16x256x3x256x64_S4x8x16x256x64_54_54_n_6_0123_0123 256 3 rfl rfl rfl).symm (r, n))
      = ix7 b h c q n r d := by
    funext a; apply Fin.ext
    match a with
    | ⟨0, _⟩ => rfl
    | ⟨1, _⟩ => rfl
    | ⟨2, _⟩ => rfl
    | ⟨3, _⟩ => rfl
    | ⟨4, _⟩ => exact k1
    | ⟨5, _⟩ => exact k0
    | ⟨6, _⟩ => rfl
  rw [el, er]

/-- The chosen blocks' part of a query's result. -/
theorem v105_read (b : Fin 4) (h : Fin 8) (c : Fin 16) (q : Fin 256) (d : Fin 64) :
    val_main_v105 (F := Ideal) x0 x1 x2 x3 x4 (ix5 b h c q d)
      = ∑ n : Fin 3, ∑ r : Fin 256, weight x0 x1 x2 x4 b h c q (joined n r)
          * x3 (ix2 (rowIx b (chosen x0 x4 b h c q n) r) (featCol h d)) := by
  unfold val_main_v105
  rw [blocks_dot, Finset.sum_comm]
  exact Finset.sum_congr rfl fun n _ => Finset.sum_congr rfl fun r _ => by rw [v103_read, v77_read]

/-- The own block's part of a query's result. -/
theorem v106_read (b : Fin 4) (h : Fin 8) (c : Fin 16) (q : Fin 256) (d : Fin 64) :
    val_main_v106 (F := Ideal) x0 x1 x2 x3 x4 (ix5 b h c q d)
      = ∑ r : Fin 256, weight x0 x1 x2 x4 b h c q (tail r) * x3 (ix2 (rowIx b c r) (featCol h d)) := by
  rw [val_main_v106_apply]
  refine Finset.sum_congr rfl fun r _ => ?_
  have e1 : lidx_main_v106 (ix5 b h c q d) r = ix5 b h c q r := by
    funext a
    match a with
    | ⟨0, _⟩ => rfl
    | ⟨1, _⟩ => rfl
    | ⟨2, _⟩ => rfl
    | ⟨3, _⟩ => rfl
    | ⟨4, _⟩ => rfl
  have e2 : ridx_main_v106 (ix5 b h c q d) r = ix5 b h c r d := by
    funext a
    match a with
    | ⟨0, _⟩ => rfl
    | ⟨1, _⟩ => rfl
    | ⟨2, _⟩ => rfl
    | ⟨3, _⟩ => rfl
    | ⟨4, _⟩ => rfl
  rw [e1, e2, v104_read, v12_read]

/-- Where a row and a head's feature lie among the sequences, heads, blocks, queries and features. -/
theorem block_place (b : Fin 4) (h : Fin 8) (c : Fin 16) (q : Fin 256) (d : Fin 64) :
    idx_main_v108 (idx_main_v109 (ix2 (rowIx b c q) (featCol h d))) = ix5 b h c q d := by
  funext a
  apply Fin.ext
  match a with
  | ⟨0, _⟩ => show ((256 * (16 * b.val + c.val) + q.val) * 512 + (64 * h.val + d.val)) / 2097152 = b.val; omega
  | ⟨1, _⟩ => show ((256 * (16 * b.val + c.val) + q.val) * 512 + (64 * h.val + d.val)) / 64 % 8 = h.val; omega
  | ⟨2, _⟩ => show ((256 * (16 * b.val + c.val) + q.val) * 512 + (64 * h.val + d.val)) / 131072 % 16 = c.val; omega
  | ⟨3, _⟩ => show ((256 * (16 * b.val + c.val) + q.val) * 512 + (64 * h.val + d.val)) / 512 % 256 = q.val; omega
  | ⟨4, _⟩ => show ((256 * (16 * b.val + c.val) + q.val) * 512 + (64 * h.val + d.val)) % 64 = d.val; omega

/-- The reference's result at a query's row and a head's feature. -/
theorem v109_read (b : Fin 4) (h : Fin 8) (c : Fin 16) (q : Fin 256) (d : Fin 64) :
    val_main_v109 (F := Ideal) x0 x1 x2 x3 x4 (ix2 (rowIx b c q) (featCol h d))
      = (∑ n : Fin 3, ∑ r : Fin 256, weight x0 x1 x2 x4 b h c q (joined n r)
          * x3 (ix2 (rowIx b (chosen x0 x4 b h c q n) r) (featCol h d)))
        + ∑ r : Fin 256, weight x0 x1 x2 x4 b h c q (tail r) * x3 (ix2 (rowIx b c r) (featCol h d)) := by
  rw [← v105_read, ← v106_read, val_main_v109_apply, val_main_v108_apply, block_place, val_main_v107_apply]
  generalize val_main_v105 (F := Ideal) x0 x1 x2 x3 x4 (ix5 b h c q d) = A
  generalize val_main_v106 (F := Ideal) x0 x1 x2 x3 x4 (ix5 b h c q d) = B
  rfl

end Cert.AttnRefIdeal.Closed

end

end
-- ==== Proof.AttnEqual.lean ====
/- The kernel's result and the reference's are the same: the softmax taken block by block is the softmax taken at once. -/
module

public import proofs.«01_k».proof.Proof.AttnArray
public import proofs.«01_k».proof.Proof.AttnRefResult

@[expose] public section

set_option maxRecDepth 16384

noncomputable section

namespace Cert.Attn

open Idealize.ShloMosaic

section blocks

variable (c : Fin 16) (g : Fin 16 → EReal) (S V : Fin 16 → Fin 256 → EReal) (s0 v0 : Fin 256 → EReal) (s v : Nat → Fin 256 → EReal)

/-- The scores of the block of place `n` in the order of the gates, when that many past blocks exist. -/
def placeScore (n : Fin 3) (r : Fin 256) : EReal := if n.val < c.val then S (ranked c.val g (n.castLE (by decide))) r else ⊥

/-- A picked block is a past block. -/
theorem picked_lt {p : Fin 16} (hp : Picked c.val g p) : p.val < c.val := by
  obtain ⟨n, hn, rfl⟩ := (picked_iff c.val g c.isLt.le p).mp hp
  exact ranked_live c.val g _ c.isLt.le hn

open Classical in
/-- The sum over the past blocks, with the scores of the blocks not picked at minus infinity, is the sum over the three places. -/
theorem past_sum (hs : ∀ (p : Fin 16) (r : Fin 256), s p.val r = if Picked c.val g p then S p r else ⊥)
    (hv : ∀ (p : Fin 16) (r : Fin 256), v p.val r = V p r) (M : EReal) :
    (∑ j ∈ Finset.range c.val, ∑ r, v j r * ew (s j r) M)
      = ∑ n : Fin 3, ∑ r, V (ranked c.val g (n.castLE (by decide))) r * ew (placeScore c g S n r) M := by
  have e1 : (∑ j ∈ Finset.range c.val, ∑ r, v j r * ew (s j r) M)
      = ∑ p : Fin 16, if Picked c.val g p then ∑ r, V p r * ew (S p r) M else 0 := by
    have hsub : Finset.range c.val ⊆ Finset.range 16 := Finset.range_subset_range.mpr c.isLt.le
    have e0 : (∑ j ∈ Finset.range c.val, ∑ r, v j r * ew (s j r) M)
        = ∑ j ∈ Finset.range 16, if j < c.val then ∑ r, v j r * ew (s j r) M else 0 :=
      (Finset.sum_congr rfl fun j hj => (if_pos (Finset.mem_range.mp hj)).symm).trans
        (Finset.sum_subset hsub fun j _ hj => if_neg fun h => hj (Finset.mem_range.mpr h))
    rw [e0, Finset.sum_range]
    refine Finset.sum_congr rfl fun p _ => ?_
    by_cases hp : Picked c.val g p
    · rw [if_pos hp, if_pos (picked_lt c g hp)]
      exact Finset.sum_congr rfl fun r _ => by rw [hs, hv, if_pos hp]
    · rw [if_neg hp]
      split_ifs with h
      · exact Finset.sum_eq_zero fun r _ => by rw [hs, if_neg hp, ew_bot, mul_zero]
      · rfl
  rw [e1, sum_picked c.val g c.isLt.le]
  refine Finset.sum_congr rfl fun n _ => ?_
  unfold placeScore
  by_cases hn : n.val < c.val
  · rw [if_pos hn]
    exact Finset.sum_congr rfl fun r _ => by rw [if_pos hn]
  · rw [if_neg hn]
    exact (Finset.sum_eq_zero fun r _ => by rw [if_neg hn, ew_bot, mul_zero]).symm

open Classical in
/-- The largest score met block by block bounds the three places' scores. -/
theorem placeScore_le (hs : ∀ (p : Fin 16) (r : Fin 256), s p.val r = if Picked c.val g p then S p r else ⊥) (n : Fin 3) (r : Fin 256) :
    placeScore c g S n r ≤ runMax s0 s c.val := by
  unfold placeScore
  split_ifs with hn
  · have hp : Picked c.val g (ranked c.val g (n.castLE (by decide))) := (picked_iff c.val g c.isLt.le _).mpr ⟨n, hn, rfl⟩
    have h := past_le_runMax s0 s (picked_lt c g hp) r
    rw [hs, if_pos hp] at h
    exact h
  · exact bot_le

open Classical in
/-- A bound of the own scores and the three places' bounds the largest score met block by block. -/
theorem runMax_le_of_places (hs : ∀ (p : Fin 16) (r : Fin 256), s p.val r = if Picked c.val g p then S p r else ⊥) (B : EReal)
    (h0 : ∀ r, s0 r ≤ B) (hB : ∀ n r, placeScore c g S n r ≤ B) : runMax s0 s c.val ≤ B := by
  refine runMax_le s0 s h0 fun j hj r => ?_
  have h := hs ⟨j, hj.trans c.isLt⟩ r
  have h' : s j r = if Picked c.val g ⟨j, hj.trans c.isLt⟩ then S ⟨j, hj.trans c.isLt⟩ r else ⊥ := h
  rw [h']
  split_ifs with hp
  · obtain ⟨n, hn, e⟩ := (picked_iff c.val g c.isLt.le _).mp hp
    have := hB n r
    unfold placeScore at this
    rw [if_pos hn, e] at this
    exact this
  · exact bot_le

end blocks

end Cert.Attn

namespace Cert.AttnRefIdeal.Closed

open Cert.Attn Idealize.ShloMosaic Cert.AttnRefIdeal
open Cert.AttnIdeal.Chunk (featCol keyDot gateAt ownAt pastAt valueAt rowAt)
open Cert.AttnIdeal.Result (queryBlock sequenceRows sequenceMeans own past val entry resultOf resultOf_apply)

variable (x0 x1 x2 x3 : S16384x512.Idx → EReal) (x4 : S64x512.Idx → EReal)

/-- The grid point of block `c` of sequence `b`. -/
def pointOf (b : Fin 4) (c : Fin 16) : Fin 64 := ⟨16 * b.val + c.val, by omega⟩

theorem pointOf_div (b : Fin 4) (c : Fin 16) : (pointOf b c).val / 16 = b.val := by show (16 * b.val + c.val) / 16 = b.val; omega

theorem pointOf_mod (b : Fin 4) (c : Fin 16) : (pointOf b c).val % 16 = c.val := by show (16 * b.val + c.val) % 16 = c.val; omega

theorem query_place (x : S16384x512.Idx → EReal) (b : Fin 4) (c : Fin 16) (q : Fin 256) (f : Fin 512) :
    queryBlock x (pointOf b c) (ix2 q f) = x (ix2 (rowIx b c q) f) := rfl

theorem row_place (x : S16384x512.Idx → EReal) (b : Fin 4) (c p : Fin 16) (r : Fin 256) (f : Fin 512) :
    sequenceRows x (pointOf b c) (ix2 (rowAt p.val r) f) = x (ix2 (rowIx b p r) f) := by
  unfold sequenceRows
  refine congrArg x (funext fun a => Fin.ext ?_)
  match a with
  | ⟨0, _⟩ =>
    show 4096 * ((pointOf b c).val / 16) + (256 * p.val + r.val) % 4096 = 256 * (16 * b.val + p.val) + r.val
    rw [pointOf_div]; omega
  | ⟨1, _⟩ => rfl

theorem mean_place (x : S64x512.Idx → EReal) (b : Fin 4) (c p : Fin 16) (f : Fin 512) :
    sequenceMeans x (pointOf b c) (ix2 p f) = x (ix2 (meanIx b p) f) := by
  unfold sequenceMeans
  refine congrArg x (funext fun a => Fin.ext ?_)
  match a with
  | ⟨0, _⟩ => show 16 * ((pointOf b c).val / 16) + p.val = 16 * b.val + p.val; rw [pointOf_div]
  | ⟨1, _⟩ => rfl

theorem gate_place (b : Fin 4) (h : Fin 8) (c : Fin 16) (q : Fin 256) :
    gateAt (queryBlock x0 (pointOf b c)) (sequenceMeans x4 (pointOf b c)) h q = gate x0 x4 b h c q := by
  funext p
  unfold gateAt gate
  exact Finset.sum_congr rfl fun d _ => by rw [mean_place, query_place]

theorem score_place (b : Fin 4) (h : Fin 8) (c : Fin 16) (q : Fin 256) (p : Fin 16) (r : Fin 256) :
    keyDot (queryBlock x1 (pointOf b c)) (sequenceRows x2 (pointOf b c)) h q (rowAt p.val r) = score x1 x2 b h c q p r := by
  unfold keyDot score
  exact Finset.sum_congr rfl fun d _ => by rw [row_place, query_place]

theorem own_place (b : Fin 4) (h : Fin 8) (c : Fin 16) (q : Fin 256) :
    own x1 x2 (pointOf b c) h q = ownScore x1 x2 b h c q := by
  funext r
  unfold own ownAt ownScore
  rw [pointOf_mod, score_place]

open Classical in
theorem past_place (b : Fin 4) (h : Fin 8) (c : Fin 16) (q : Fin 256) (p : Fin 16) (r : Fin 256) :
    past x0 x1 x2 x4 (pointOf b c) h q p.val r
      = if Picked c.val (gate x0 x4 b h c q) p then score x1 x2 b h c q p r else ⊥ := by
  unfold past pastAt
  have e : (⟨p.val % 16, Nat.mod_lt _ (by decide)⟩ : Fin 16) = p := Fin.ext (Nat.mod_eq_of_lt p.isLt)
  rw [pointOf_mod, gate_place, score_place, e]

theorem val_place (b : Fin 4) (h : Fin 8) (c : Fin 16) (d : Fin 64) (p : Fin 16) (r : Fin 256) :
    val x3 (pointOf b c) h d p.val r = x3 (ix2 (rowIx b p r) (featCol h d)) := by
  unfold val valueAt
  rw [row_place]

/-- The value each of the 1024 columns weighs. -/
def columnValue (b : Fin 4) (h : Fin 8) (c : Fin 16) (q : Fin 256) (d : Fin 64) (k : Fin 1024) : EReal :=
  if hk : k.val < 768 then
    x3 (ix2 (rowIx b (chosen x0 x4 b h c q ⟨k.val / 256, by omega⟩) ⟨k.val % 256, by omega⟩) (featCol h d))
  else x3 (ix2 (rowIx b c ⟨k.val - 768, by omega⟩) (featCol h d))

theorem columnValue_joined (b : Fin 4) (h : Fin 8) (c : Fin 16) (q : Fin 256) (d : Fin 64) (n : Fin 3) (r : Fin 256) :
    columnValue x0 x3 x4 b h c q d (joined n r) = x3 (ix2 (rowIx b (chosen x0 x4 b h c q n) r) (featCol h d)) := by
  have e1 : ∀ hh, (⟨(joined n r).val / 256, hh⟩ : Fin 3) = n := fun hh => Fin.ext (by
    show (256 * n.val + r.val) / 256 = n.val
    omega)
  have e2 : ∀ hh, (⟨(joined n r).val % 256, hh⟩ : Fin 256) = r := fun hh => Fin.ext (by
    show (256 * n.val + r.val) % 256 = r.val
    omega)
  unfold columnValue
  rw [dif_pos (show (joined n r).val < 768 by show 256 * n.val + r.val < 768; omega), e1, e2]

theorem columnValue_tail (b : Fin 4) (h : Fin 8) (c : Fin 16) (q : Fin 256) (d : Fin 64) (r : Fin 256) :
    columnValue x0 x3 x4 b h c q d (tail r) = x3 (ix2 (rowIx b c r) (featCol h d)) := by
  have e1 : ∀ hh, (⟨(tail r).val - 768, hh⟩ : Fin 256) = r := fun hh => Fin.ext (by
    show 768 + r.val - 768 = r.val
    omega)
  unfold columnValue
  rw [dif_neg (show ¬ (tail r).val < 768 by show ¬ 768 + r.val < 768; omega), e1]

/-- A column's score among the three places. -/
theorem chosenScore_eq (b : Fin 4) (h : Fin 8) (c : Fin 16) (q : Fin 256) (n : Fin 3) (r : Fin 256) :
    chosenScore x0 x1 x2 x4 b h c q n r = placeScore c (gate x0 x4 b h c q) (score x1 x2 b h c q) n r := rfl

/-- The largest score met block by block is the largest of the 1024. -/
theorem top_eq (b : Fin 4) (h : Fin 8) (c : Fin 16) (q : Fin 256) :
    runMax (own x1 x2 (pointOf b c) h q) (past x0 x1 x2 x4 (pointOf b c) h q) c.val = top x0 x1 x2 x4 b h c q := by
  classical
  unfold top
  refine le_antisymm ?_ (Finset.sup_le fun k _ => ?_)
  · refine runMax_le_of_places c (gate x0 x4 b h c q) (score x1 x2 b h c q) _ _ (past_place x0 x1 x2 x4 b h c q) _ (fun r => ?_) (fun n r => ?_)
    · rw [own_place, ← scores_tail x0 x1 x2 x4]
      exact Finset.le_sup (f := scores x0 x1 x2 x4 b h c q) (Finset.mem_univ _)
    · rw [← chosenScore_eq, ← scores_joined]
      exact Finset.le_sup (f := scores x0 x1 x2 x4 b h c q) (Finset.mem_univ _)
  · rcases column_cases k with ⟨n, r, rfl⟩ | ⟨r, rfl⟩
    · rw [scores_joined, chosenScore_eq]
      exact placeScore_le c _ _ _ _ (past_place x0 x1 x2 x4 b h c q) n r
    · rw [scores_tail, ← own_place]
      exact own_le_runMax _ _ _ r

/-- The values weighed block by block are the 1024 columns' values weighed at once. -/
theorem weighed_eq (b : Fin 4) (h : Fin 8) (c : Fin 16) (q : Fin 256) (d : Fin 64) :
    runSum (own x1 x2 (pointOf b c) h q) (val x3 (pointOf b c) h d c.val) (past x0 x1 x2 x4 (pointOf b c) h q) (val x3 (pointOf b c) h d) c.val
      = ∑ k, columnValue x0 x3 x4 b h c q d k * ew (scores x0 x1 x2 x4 b h c q k) (top x0 x1 x2 x4 b h c q) := by
  classical
  rw [runSum_eq, top_eq, sum_columns,
    past_sum c (gate x0 x4 b h c q) (score x1 x2 b h c q) (fun p r => x3 (ix2 (rowIx b p r) (featCol h d))) _ _
      (past_place x0 x1 x2 x4 b h c q) (val_place x3 b h c d), add_comm]
  congr 1
  · refine Finset.sum_congr rfl fun n _ => Finset.sum_congr rfl fun r _ => ?_
    rw [columnValue_joined, scores_joined, chosenScore_eq]
    rfl
  · refine Finset.sum_congr rfl fun r _ => ?_
    rw [columnValue_tail, scores_tail, own_place, val_place]

/-- The weights summed block by block are the 1024 columns' weights summed at once. -/
theorem total_eq (b : Fin 4) (h : Fin 8) (c : Fin 16) (q : Fin 256) :
    runSum (own x1 x2 (pointOf b c) h q) (fun _ => 1) (past x0 x1 x2 x4 (pointOf b c) h q) (fun _ _ => 1) c.val
      = total x0 x1 x2 x4 b h c q := by
  classical
  unfold total
  rw [runSum_eq, top_eq, sum_columns,
    past_sum c (gate x0 x4 b h c q) (score x1 x2 b h c q) (fun _ _ => 1) _ _
      (past_place x0 x1 x2 x4 b h c q) (fun _ _ => rfl), add_comm]
  congr 1
  · refine Finset.sum_congr rfl fun n _ => Finset.sum_congr rfl fun r _ => ?_
    rw [one_mul, scores_joined, chosenScore_eq]
  · refine Finset.sum_congr rfl fun r _ => ?_
    rw [one_mul, scores_tail, own_place]

section finite

variable (h1 : ∀ i, ∃ r : ℝ, x1 i = (r : EReal)) (h2 : ∀ i, ∃ r : ℝ, x2 i = (r : EReal))
include h1 h2

/-- The product of finite queries with finite keys is finite. -/
theorem score_finite (b : Fin 4) (h : Fin 8) (c : Fin 16) (q : Fin 256) (p : Fin 16) (r : Fin 256) :
    ∃ z : ℝ, score x1 x2 b h c q p r = (z : EReal) := by
  unfold score
  refine Finset.sum_induction _ (fun x : EReal => ∃ z : ℝ, x = (z : EReal)) ?_ ⟨0, rfl⟩ fun d _ => ?_
  · rintro x y ⟨u, rfl⟩ ⟨w, rfl⟩
    exact ⟨u + w, (EReal.coe_add u w).symm⟩
  · obtain ⟨u, hu⟩ := h2 (ix2 (rowIx b p r) (featCol h d))
    obtain ⟨w, hw⟩ := h1 (ix2 (rowIx b c q) (featCol h d))
    exact ⟨u * w, by rw [hu, hw, EReal.coe_mul]⟩

/-- The weights sum to one at least: the largest score's own weight is one. -/
theorem one_le_total (b : Fin 4) (h : Fin 8) (c : Fin 16) (q : Fin 256) : 1 ≤ total x0 x1 x2 x4 b h c q := by
  obtain ⟨k, -, hk⟩ := Finset.exists_mem_eq_sup (Finset.univ : Finset (Fin 1024)) ⟨0, Finset.mem_univ _⟩ (scores x0 x1 x2 x4 b h c q)
  have hbot : scores x0 x1 x2 x4 b h c q k ≠ ⊥ := by
    intro hb
    have hle := Finset.le_sup (f := scores x0 x1 x2 x4 b h c q) (Finset.mem_univ (tail q))
    rw [hk, hb, scores_tail] at hle
    unfold ownScore at hle
    rw [if_pos (le_refl _)] at hle
    obtain ⟨z, hz⟩ := score_finite x1 x2 h1 h2 b h c q c q
    rw [hz] at hle
    exact absurd hle (by simp)
  have hreal : ∃ z : ℝ, scores x0 x1 x2 x4 b h c q k = (z : EReal) := by
    rcases column_cases k with ⟨n, r, rfl⟩ | ⟨r, rfl⟩
    · rw [scores_joined] at hbot ⊢
      unfold chosenScore at hbot ⊢
      split_ifs at hbot ⊢ with hn
      · exact score_finite x1 x2 h1 h2 b h c q _ r
      · exact absurd rfl hbot
    · rw [scores_tail] at hbot ⊢
      unfold ownScore at hbot ⊢
      split_ifs at hbot ⊢ with hn
      · exact score_finite x1 x2 h1 h2 b h c q _ r
      · exact absurd rfl hbot
  obtain ⟨z, hz⟩ := hreal
  have e : ew (scores x0 x1 x2 x4 b h c q k) (top x0 x1 x2 x4 b h c q) = 1 := by
    unfold top
    rw [hk, hz, ew_self]
  unfold total
  rw [← e]
  exact Finset.single_le_sum (f := fun k => ew (scores x0 x1 x2 x4 b h c q k) (top x0 x1 x2 x4 b h c q)) (fun i _ => ew_nonneg _ _)
    (Finset.mem_univ k)

/-- The kernel's result at a row and a feature is the reference's. -/
theorem entry_eq (b : Fin 4) (h : Fin 8) (c : Fin 16) (q : Fin 256) (d : Fin 64) :
    entry x0 x1 x2 x3 x4 (pointOf b c) q h d
      = Read.val_main_v109 (F := Ideal) x0 x1 x2 x3 x4 (ix2 (rowIx b c q) (featCol h d)) := by
  have hL := one_le_total x0 x1 x2 x4 h1 h2 b h c q
  unfold entry
  rw [pointOf_mod, weighed_eq, total_eq, div_eq_mul_inv_of_one_le hL, div_sum _ _ hL, v109_read, sum_columns]
  unfold weight
  congr 1
  · refine Finset.sum_congr rfl fun n _ => Finset.sum_congr rfl fun r _ => ?_
    rw [columnValue_joined, div_eq_mul_inv_of_one_le hL]
  · refine Finset.sum_congr rfl fun r _ => ?_
    rw [columnValue_tail, div_eq_mul_inv_of_one_le hL]

/-- The kernel's whole result is the reference's. -/
theorem result_eq : resultOf x0 x1 x2 x3 x4 = Read.val_main_v109 (F := Ideal) x0 x1 x2 x3 x4 := by
  funext i
  have hr : (i 0).val < 16384 := (i 0).isLt
  have hc : (i 1).val < 512 := (i 1).isLt
  have e : i = ix2 (rowIx ⟨(i 0).val / 4096, by omega⟩ ⟨(i 0).val / 256 % 16, by omega⟩ ⟨(i 0).val % 256, by omega⟩)
      (featCol ⟨(i 1).val / 64, by omega⟩ ⟨(i 1).val % 64, by omega⟩) := by
    funext a
    apply Fin.ext
    match a with
    | ⟨0, _⟩ => show (i 0).val = 256 * (16 * ((i 0).val / 4096) + (i 0).val / 256 % 16) + (i 0).val % 256; omega
    | ⟨1, _⟩ => show (i 1).val = 64 * ((i 1).val / 64) + (i 1).val % 64; omega
  rw [e, ← entry_eq x0 x1 x2 x3 x4 h1 h2]
  exact resultOf_apply x0 x1 x2 x3 x4 (pointOf _ _) _ _ _

end finite

end Cert.AttnRefIdeal.Closed

end

end
-- ==== Proof.Attention.lean ====
/- The claim about the prompt attention: on queries, keys and block means that are all real, the kernel's result is the
   reference's. The condition is read off the printed predicate: each array's entries lie below plus infinity in absolute
   value. -/
module

public import proofs.«01_k».proof.Defs
public import proofs.«01_k».proof.Proof.AttnEqual
public import proofs.«01_k».proof.Proof.AttnArray
public import Idealize.ShloMosaic.Lib.ReduceAll

@[expose] public section

set_option maxRecDepth 16384

noncomputable section

namespace Cert.Pre_finite_attn.Decode

open Idealize.ShloMosaic Idealize.SL.Sem

/-- The relations of shapes that the predicate states. -/
instance facts : Cert.Pre_finite_attn.Facts where
  bitsLt_bf16_f32 := by decide
  bcast_S_S16384x512 := by decide
  reducesTo_S16384x512_S_d0_1 := by decide
  h_S_ := by decide
  bcast_S_S64x512 := by decide
  reducesTo_S64x512_S_d0_1 := by decide

/-- The word of plus infinity is the top value. -/
theorem word_top : Ideal.ofBits .f32 0x7F800000#32 = ⊤ := by simp [Ideal.ofBits, Ideal.ieee]

/-- A value whose absolute value is below plus infinity is real. -/
theorem real_of_below (x : EReal) (h : Ideal.cmp .olt (max x (-x)) (Ideal.ofBits .f32 0x7F800000#32) = 1#1) :
    ∃ r : ℝ, x = (r : EReal) := by
  rw [word_top] at h
  unfold Ideal.cmp at h
  have hlt : max x (-x) < ⊤ := by
    by_contra hn
    simp [hn] at h
  rw [max_lt_iff] at hlt
  induction x using EReal.rec with
  | bot => simp at hlt
  | top => simp at hlt
  | coe r => exact ⟨r, rfl⟩

/-- If both of two truth values joined are true, each is. -/
theorem both (a b : BitVec 1) (h : IntOp.andi a b = 1#1) : a = 1#1 ∧ b = 1#1 := by
  revert a b
  decide

instance : Subsingleton S_.Idx := ⟨fun a b => funext fun k => k.elim0⟩

/-- The predicate's test of one array: where all entries pass it, each entry is real. -/
theorem all_real {s : Shape} (x : s.Idx → EReal) (hb : S_.BroadcastsInDim s (![] : Fin 0 → Fin s.rank))
    {axes : List (Fin s.rank)} (hr : s.ReducesTo axes S_) (hu : 0 < S_.numel) (j : S_.Idx)
    (h : Host.reduce IntOp.andi (cmpf (F := Ideal) (φ := .f32) .olt (Host.absf (F := Ideal) (φ := .f32) x)
        (broadcastInDim s ![] hb (constant (F := Ideal) S_ .f32 0x7F800000#32))) (constantI S_ 1 1#1) hr hu j = 1#1)
    (i : s.Idx) : ∃ r : ℝ, x i = (r : EReal) :=
  real_of_below (x i) (Host.reduce_andi_all _ _ hr hu j h i)

/-- Where the predicate holds, the queries of the gate, the keys and the block means are real. -/
theorem finite_of (x0 : FVec Ideal S16384x512 .f32) (x1 x2 x3 : FVec Ideal S16384x512 .bf16) (x4 : FVec Ideal S64x512 .f32)
    (h : fn (F := Ideal) x0 x1 x2 x3 x4 = fun _ => 1#1) :
    (∀ i, ∃ r : ℝ, (x1 : S16384x512.Idx → EReal) i = (r : EReal))
      ∧ (∀ i, ∃ r : ℝ, (x2 : S16384x512.Idx → EReal) i = (r : EReal))
      ∧ ∀ i, ∃ r : ℝ, (x4 : S64x512.Idx → EReal) i = (r : EReal) := by
  have h0 := congrFun h (Shape.Idx.first Facts.h_S_)
  dsimp only [fn] at h0
  obtain ⟨h12, h4⟩ := both _ _ h0
  obtain ⟨h1, h2⟩ := both _ _ h12
  exact ⟨all_real _ _ _ _ _ h1, all_real _ _ _ _ _ h2, all_real _ _ _ _ _ h4⟩

end Cert.Pre_finite_attn.Decode

namespace Cert.Proof.AttnClaims

open Idealize.ShloMosaic Idealize.SL.Sem

/-- The attention kernel terminates with its arguments unchanged where its queries, keys and block means are finite. -/
theorem frame_ideal_finite : Cert.quiescent_AttnIdeal_pre_finite_attn := fun m ρ _ => Cert.AttnIdeal.Gen.frame m ρ

/-- The attention reference terminates with its arguments unchanged: it is host operations only. -/
theorem frame_reference : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The same where the reference's arguments are finite. -/
theorem frame_reference_finite : Cert.quiescent_AttnRefIdeal_pre_finite_attn := fun m ρ _ => frame_reference m ρ trivial

/-- From equal arguments, with the queries of the gate, the keys and the block means finite, the attention kernel and
    the reference end with equal results. -/
theorem algebraic : Cert.algebraic_AttnIdeal_AttnRefIdeal_pre_finite_attn := by
  intro m g m' g' hpre hagree
  refine ⟨fun c => Cert.AttnIdeal.Result.result m c, ?_, ?_⟩
  · refine (θ_run Cert.AttnIdeal.defs _ _).mono (fun _ h c => ⟨(h c).1.trans (Cert.AttnIdeal.Result.final m c ?_), (h c).2⟩)
      (Cert.AttnIdeal.Value.run_blocks (F := Ideal) m g)
    have hf := Cert.Pre_finite_attn.Decode.finite_of _ _ _ _ _ (hpre c)
    exact ⟨hf.1, hf.2.2⟩
  refine (θ_run Cert.AttnRefIdeal.defs _ _).mono (fun _ h c => ⟨(h c).1.trans ?_, (h c).2⟩)
    (Cert.AttnRefIdeal.Value.run (F := Ideal) m' g')
  have hf := Cert.Pre_finite_attn.Decode.finite_of _ _ _ _ _ (hpre c)
  rw [Cert.AttnRefIdeal.Read.val_main_v109_eq, (hagree c).1, (hagree c).2.1, (hagree c).2.2.1, (hagree c).2.2.2.1,
    (hagree c).2.2.2.2]
  exact (Cert.AttnRefIdeal.Closed.result_eq _ _ _ _ _ hf.1 hf.2.1).symm

end Cert.Proof.AttnClaims

end
-- ==== Proof.ExpertsClaims.lean ====
/- The claims about the experts call. -/
module

public import proofs.«01_k».proof.Defs
public import proofs.«01_k».proof.Proof.ExpertsTiles
public import proofs.«01_k».proof.Proof.ExpertsValue
public import proofs.«01_k».proof.Proof.Gen.ExpertsRefIdeal.Run
public import proofs.«01_k».proof.Proof.Attention
public import Idealize.ShloMosaic.Lib.ReduceAll
public import Idealize.ShloMosaic.Lib.Claim
public import Idealize.ShloMosaic.Lib.Quiescent

@[expose] public section

set_option maxRecDepth 16384

noncomputable section

namespace Cert.Pre_experts_in_range.Decode

open Idealize.ShloMosaic Idealize.SL.Sem

/-- The relations of shapes that the predicate states. -/
instance facts : Cert.Pre_experts_in_range.Facts where
  bcast_S_S349 := by decide
  reducesTo_S349_S_d0 := by decide
  h_S_ := by decide

instance : Subsingleton S_.Idx := ⟨fun a b => funext fun k => k.elim0⟩

/-- A word from zero to thirty-one, compared as a signed one, is below 32. -/
theorem word_small (v : BitVec 32) (h0 : IntOp.cmpi .sge v 0#32 = 1#1) (h1 : IntOp.cmpi .slt v 32#32 = 1#1) : v.toNat < 32 := by
  have hl := (Cert.TileWords.slt_set v 32#32).mp h1
  have hg : 0 ≤ v.toInt := by
    have h : BitVec.ofBool ((0#32).sle v) = 1#1 := h0
    unfold BitVec.sle at h
    by_contra hn
    simp [hn] at h
  rw [show (32#32 : BitVec 32).toInt = 32 from rfl] at hl
  rw [BitVec.toInt_eq_toNat_cond] at hl hg
  have := v.isLt
  split at hl <;> omega

/-- Where the predicate holds, every tile's expert is below 32. -/
theorem small_of {F : FTy → Type} [FloatOps F] (x0 : IVec S349 32) (x1 : IVec S1 32) (x2 : FVec F S89344x1024 .f32) (x3 : FVec F S32x1024x1024 .f32)
    (x4 : FVec F S32x1x1024 .f32) (x5 : FVec F S32x1024x1024 .f32) (x6 : FVec F S32x1x1024 .f32) (x7 : FVec F S32x1024x1024 .f32) (x8 : FVec F S32x1x1024 .f32)
    (h : fn (F := F) x0 x1 x2 x3 x4 x5 x6 x7 x8 = fun _ => 1#1) (n : Fin 349) : (x0 (ix1 n)).toNat < 32 := by
  have h0 := congrFun h (Shape.Idx.first Facts.h_S_)
  dsimp only [fn] at h0
  have hi := Host.reduce_andi_all _ _ _ _ _ h0 (ix1 n)
  obtain ⟨hg, hl⟩ := Cert.Pre_finite_attn.Decode.both _ _ hi
  exact word_small _ hg hl

end Cert.Pre_experts_in_range.Decode

namespace Cert.Proof.ExpertsClaims

open Idealize.ShloMosaic Idealize.SL.Sem

/-- The one device. -/
abbrev first : Dev Cert.Experts.nD := (0 : Fin 1)

theorem only_first (c : Dev Cert.Experts.nD) : c = first := Subsingleton.elim (α := Fin 1) c first

/-- The tiles' experts and the count of used tiles, as the call is given them. -/
abbrev experts (m : (ℓ : Loc Cert.Experts.nD Cert.Experts.τ Cert.Experts.sig) → Buf (Elt Bits) ℓ) : Cert.Experts.S349.Idx → BitVec 32 :=
  m ((first.tc : Thread Cert.Experts.nD Cert.Experts.τ).loc Cert.Experts.main_arg0)

abbrev used (m : (ℓ : Loc Cert.Experts.nD Cert.Experts.τ Cert.Experts.sig) → Buf (Elt Bits) ℓ) : Cert.Experts.S1.Idx → BitVec 32 :=
  m ((first.tc : Thread Cert.Experts.nD Cert.Experts.τ).loc Cert.Experts.main_arg1)

theorem small (m : (ℓ : Loc Cert.Experts.nD Cert.Experts.τ Cert.Experts.sig) → Buf (Elt Bits) ℓ) (hpre : Cert.Pre_Experts m) (n : Fin 349) :
    (Cert.Experts.Tiles.entry (experts m) n).toNat < 32 :=
  Cert.Pre_experts_in_range.Decode.small_of _ _ _ _ _ _ _ _ _ (hpre first) n

theorem pinned (m : (ℓ : Loc Cert.Experts.nD Cert.Experts.τ Cert.Experts.sig) → Buf (Elt Bits) ℓ) :
    Cert.Experts.Tiles.Pinned (experts m) (used m) m := fun c => by
  rw [only_first c]
  exact ⟨rfl, rfl⟩

/-- The one device, of the idealization. -/
abbrev firstI : Dev Cert.ExpertsIdeal.nD := (0 : Fin 1)

theorem only_firstI (c : Dev Cert.ExpertsIdeal.nD) : c = firstI := Subsingleton.elim (α := Fin 1) c firstI

/-- The tiles' experts and the count of used tiles, as the call is given them. -/
abbrev expertsI (m : (ℓ : Loc Cert.ExpertsIdeal.nD Cert.ExpertsIdeal.τ Cert.ExpertsIdeal.sig) → Buf (Elt Ideal) ℓ) : Cert.ExpertsIdeal.S349.Idx → BitVec 32 :=
  m ((firstI.tc : Thread Cert.ExpertsIdeal.nD Cert.ExpertsIdeal.τ).loc Cert.ExpertsIdeal.main_arg0)

abbrev usedI (m : (ℓ : Loc Cert.ExpertsIdeal.nD Cert.ExpertsIdeal.τ Cert.ExpertsIdeal.sig) → Buf (Elt Ideal) ℓ) : Cert.ExpertsIdeal.S1.Idx → BitVec 32 :=
  m ((firstI.tc : Thread Cert.ExpertsIdeal.nD Cert.ExpertsIdeal.τ).loc Cert.ExpertsIdeal.main_arg1)

theorem smallI (m : (ℓ : Loc Cert.ExpertsIdeal.nD Cert.ExpertsIdeal.τ Cert.ExpertsIdeal.sig) → Buf (Elt Ideal) ℓ) (hpre : Cert.Pre_ExpertsIdeal m) (n : Fin 349) :
    (Cert.ExpertsIdeal.Tiles.entry (expertsI m) n).toNat < 32 :=
  Cert.Pre_experts_in_range.Decode.small_of _ _ _ _ _ _ _ _ _ (hpre firstI) n

theorem pinnedI (m : (ℓ : Loc Cert.ExpertsIdeal.nD Cert.ExpertsIdeal.τ Cert.ExpertsIdeal.sig) → Buf (Elt Ideal) ℓ) :
    Cert.ExpertsIdeal.Tiles.Pinned (expertsI m) (usedI m) m := fun c => by
  rw [only_firstI c]
  exact ⟨rfl, rfl⟩

theorem frame_kernel : Cert.quiescent_Experts := fun m ρ hpre =>
  (θ_run Cert.Experts.defs _ _).mono (fun _ h => ⟨h.1.2, h.2⟩)
    (Cert.Experts.Tiles.run_result (experts m) (used m) (Cert.Experts.Tiles.tables_ok _ _ (small m hpre)) m ρ (small m hpre) (pinned m))

theorem frame_ideal : Cert.quiescent_ExpertsIdeal := fun m ρ hpre =>
  (θ_run Cert.ExpertsIdeal.defs _ _).mono (fun _ h => ⟨h.1.2, h.2⟩)
    (Cert.ExpertsIdeal.Tiles.run_result (expertsI m) (usedI m) (Cert.ExpertsIdeal.Tiles.tables_ok _ _ (smallI m hpre)) m ρ (smallI m hpre) (pinnedI m))

theorem frame_reference : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

theorem frame_reference_range : Cert.quiescent_ExpertsRefIdeal_pre_experts_in_range := fun m ρ _ => frame_reference m ρ trivial

theorem preserves : Cert.preserves_Experts_ExpertsIdeal := trivial

/-- On equal arguments the reference's result is the kernel's. -/
theorem reference_result (m : (ℓ : Loc Cert.ExpertsIdeal.nD Cert.ExpertsIdeal.τ Cert.ExpertsIdeal.sig) → Buf (Elt Ideal) ℓ)
    (m' : (ℓ : Loc Cert.ExpertsRefIdeal.nD Cert.ExpertsRefIdeal.τ Cert.ExpertsRefIdeal.sig) → Buf (Elt Ideal) ℓ)
    (hT : ∀ n, (Cert.ExpertsIdeal.Tiles.entry (expertsI m) n).toNat < 32)
    (hagree : ∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8))
    (c : Dev Cert.ExpertsRefIdeal.nD) :
    Cert.ExpertsRefIdeal.Value.res_main_v73 (F := Ideal) m' c = Cert.ExpertsIdeal.Tiles.outcome (expertsI m) (usedI m) m hT c := by
  obtain rfl : c = firstI := only_firstI c
  obtain ⟨h0, h1, h2, h3, h4, h5, h6, h7, h8⟩ := hagree firstI
  refine (Cert.ExpertsRefIdeal.Read.val_main_v73_eq m' firstI).trans ?_
  rw [h0, h1, h2, h3, h4, h5, h6, h7, h8]
  funext i
  exact Cert.ExpertsRefIdeal.Rows.result_read (expertsI m) hT (usedI m) _ _ _ _ _ _ _ i

/-- With every tile's expert below 32, the tiled kernel and the reference end with equal results. -/
theorem algebraic : Cert.algebraic_ExpertsIdeal_ExpertsRefIdeal := by
  intro m g m' g' hpre hagree
  have hT := smallI m hpre
  have hok := Cert.ExpertsIdeal.Tiles.tables_ok (expertsI m) (usedI m) hT
  refine ⟨fun c => Cert.ExpertsIdeal.Tiles.outcome (expertsI m) (usedI m) m hT c, ?_, ?_⟩
  · exact (θ_run Cert.ExpertsIdeal.defs _ _).mono
      (fun _ h c => ⟨(h.1.1 c).trans (Cert.ExpertsIdeal.Tiles.final (expertsI m) (usedI m) hok m g hT c), h.1.2 c⟩)
      (Cert.ExpertsIdeal.Tiles.run_result (expertsI m) (usedI m) hok m g hT (pinnedI m))
  · exact (θ_run Cert.ExpertsRefIdeal.defs _ _).mono (fun _ h c => ⟨(h c).1.trans (reference_result m m' hT hagree c), (h c).2⟩)
      (Cert.ExpertsRefIdeal.Value.run (F := Ideal) m' g')

end Cert.Proof.ExpertsClaims

end
-- ==== Proof.Route.lean ====
/- The output projection and its row normalization, as the routing call computes them: 65 tiles of 256 rows, each adding
   the scaled residual and two half-width products, make up the reference's one product over the joined columns. -/
module

public import proofs.«01_k».proof.Defs
public import proofs.«01_k».proof.Proof.Gen.Route.Frame
public import proofs.«01_k».proof.Proof.Gen.RouteIdeal.Value
public import proofs.«01_k».proof.Proof.Gen.RouteRefIdeal.Run
public import proofs.«01_k».proof.Proof.Gen.RouteRefIdeal.Read
public import Idealize.ShloMosaic.Lib.Claim
public import Idealize.ShloMosaic.Lib.Pointwise
public import Idealize.ShloMosaic.Lib.ValueIdx
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## A normalized row -/

namespace Cert.Proof.Rows

/-- The mean of a row of 1024 numbers. -/
def mean (h : Fin 1024 → EReal) : EReal := Ideal.div (∑ k : Fin 1024, h k) (Ideal.ofBits .f32 0x44800000#32)

/-- Entry n of a row after its mean is taken off, its spread is divided out, and it is scaled by g and shifted by b. -/
def normed (h : Fin 1024 → EReal) (g b : EReal) (n : Fin 1024) : EReal :=
  (h n - mean h) * Ideal.rsqrt (mean (fun k => (h k - mean h) * (h k - mean h)) + Ideal.ofBits .f32 0x3727C5AC#32) * g + b

end Cert.Proof.Rows

namespace Cert.RouteIdeal.Rows

open Cert.RouteIdeal Cert.RouteIdeal.Gen Cert.Proof.Rows

/-- A row of the joined array: the long part's rows first, then the short part's. -/
def joined (p : FVec Ideal S16384x512 .f32) (s : FVec Ideal S256x512 .f32) (r : Fin 16640) (k : Fin 512) : EReal :=
  if h : r.val < 16384 then p (ix2 ⟨r.val, h⟩ k) else s (ix2 ⟨r.val - 16384, by omega⟩ k)

/-- Entry (r, n) before normalization: the scaled residual, plus the two half-width products. -/
def before (x : FVec Ideal S16640x1024 .f32) (ap : FVec Ideal S16384x512 .f32) (az : FVec Ideal S256x512 .f32)
    (bp : FVec Ideal S16384x512 .f32) (bz : FVec Ideal S256x512 .f32) (w : FVec Ideal S1024x1024 .f32)
    (r : Fin 16640) (n : Fin 1024) : EReal :=
  Ideal.ofBits .f32 0x3FD744FD#32 * x (ix2 r n)
    + (∑ k : Fin 512, joined ap az r k * w (ix2 ⟨k.val, by omega⟩ n))
    + ∑ k : Fin 512, joined bp bz r k * w (ix2 ⟨512 + k.val, by omega⟩ n)

/-- The normalized rows. -/
def rowsOf (x : FVec Ideal S16640x1024 .f32) (ap : FVec Ideal S16384x512 .f32) (az : FVec Ideal S256x512 .f32)
    (bp : FVec Ideal S16384x512 .f32) (bz : FVec Ideal S256x512 .f32) (w : FVec Ideal S1024x1024 .f32)
    (g b : FVec Ideal S1024 .f32) : FVec Ideal S16640x1024 .f32 :=
  fun i => normed (before x ap az bp bz w (i 0)) (g (ix1 (i 1))) (b (ix1 (i 1))) (i 1)

theorem hz : (![0, 0] : Fin 2 → Nat) = fun _ => 0 := funext fun a => by fin_cases a <;> rfl

/-- What one tile has before normalization, with the mean taken off. -/
theorem centred_apply (i : grid0.Coords) (v1 v2 v4 v5 : Vec Ideal S256x512 .f32) (v7 : Vec Ideal S256x1024 .f32)
    (v11 v16 : Vec Ideal S512x1024 .bf16) (r : Fin 256) (n : Fin 1024) (h : Fin 1024 → EReal)
    (hh : ∀ n, h n = Ideal.ofBits .f32 0x3FD744FD#32 * v7 (ix2 r n)
      + (∑ k : Fin 512, (if (i 0).val ≥ 64 then v1 else v2) (ix2 r k) * v11 (ix2 k n))
      + ∑ k : Fin 512, (if (i 0).val ≥ 64 then v4 else v5) (ix2 r k) * v16 (ix2 k n)) :
    k0_pay6 i v1 v2 v4 v5 v7 v11 v16 (ix2 r n) = h n - mean h := by
  have hsel : ∀ a b : Vec Ideal S256x512 .f32,
      Scalar.select (Scalar.cmpi .sge (BitVec.ofNat 32 (i 0).val) 64#32) a b = if (i 0).val ≥ 64 then a else b := by
    intro a b
    have hi : (i 0).val < 65 := (i 0).isLt
    have : (Scalar.cmpi .sge (BitVec.ofNat 32 (i 0).val) 64#32 = 1) ↔ (i 0).val ≥ 64 := by
      generalize (i 0).val = q at hi
      revert q; decide +kernel
    unfold Scalar.select
    simp only [this]
  unfold k0_pay6 mean
  simp only [hsel]
  generalize (if (i 0).val ≥ 64 then v1 else v2) = A at *
  generalize (if (i 0).val ≥ 64 then v4 else v5) = B at *
  simp only [pointwise, shapeCast_self, zero_add, hh]
  rfl

theorem spread_apply (i : grid0.Coords) (v1 v2 v4 v5 : Vec Ideal S256x512 .f32) (v7 : Vec Ideal S256x1024 .f32)
    (v11 v16 : Vec Ideal S512x1024 .bf16) (r : Fin 256) :
    k0_pay7 i v1 v2 v4 v5 v7 v11 v16 (ix2 r 0)
      = ∑ k : Fin 1024, k0_pay6 i v1 v2 v4 v5 v7 v11 v16 (ix2 r k) * k0_pay6 i v1 v2 v4 v5 v7 v11 v16 (ix2 r k) := by
  unfold k0_pay7
  generalize k0_pay6 i v1 v2 v4 v5 v7 v11 v16 = C
  simp only [pointwise, zero_add]

theorem scaled_apply (v21 v23 : FVec Ideal S1x1024 .f32) (v29 : FVec Ideal S256x1024 .f32) (v32 : FVec Ideal S256x1 .f32)
    (z : EReal) (r : Fin 256) (n : Fin 1024) :
    k0_pay8 (F := Ideal) v21 v23 v29 v32 z (ix2 r n)
      = v29 (ix2 r n) * Ideal.rsqrt (Ideal.div (v32 (ix2 r 0)) z + Ideal.ofBits .f32 0x3727C5AC#32) * v21 (ix2 0 n)
        + v23 (ix2 0 n) := by
  unfold k0_pay8
  simp only [pointwise]
  rfl

/-- What one tile leaves: the normalized row. -/
theorem normed_apply (v21 v23 : FVec Ideal S1x1024 .f32) (C : FVec Ideal S256x1024 .f32) (S : FVec Ideal S256x1 .f32)
    (r : Fin 256) (n : Fin 1024) (h : Fin 1024 → EReal) (g b : EReal) (hC : ∀ n, C (ix2 r n) = h n - mean h)
    (hS : S (ix2 r 0) = ∑ k : Fin 1024, C (ix2 r k) * C (ix2 r k)) (hg : v21 (ix2 0 n) = g) (hb : v23 (ix2 0 n) = b) :
    k0_pay8 (F := Ideal) v21 v23 C S (Ideal.ofBits .f32 0x44800000#32) (ix2 r n) = normed h g b n := by
  rw [scaled_apply, hS, hg, hb]
  simp only [hC]
  rfl

/-! ### The blocks a tile reads -/

variable (m : (ℓ : Loc nD τ sig) → Buf (Elt Ideal) ℓ)

/-- The arguments, as arrays of numbers. -/
abbrev xArg (c : Dev nD) : FVec Ideal S16640x1024 .f32 := m ((c : Thread nD τ).loc main_arg0)
abbrev apArg (c : Dev nD) : FVec Ideal S16384x512 .f32 := m ((c : Thread nD τ).loc main_arg1)
abbrev asArg (c : Dev nD) : FVec Ideal S256x512 .f32 := m ((c : Thread nD τ).loc main_arg2)
abbrev bpArg (c : Dev nD) : FVec Ideal S16384x512 .f32 := m ((c : Thread nD τ).loc main_arg3)
abbrev bsArg (c : Dev nD) : FVec Ideal S256x512 .f32 := m ((c : Thread nD τ).loc main_arg4)
abbrev wArg (c : Dev nD) : FVec Ideal S1024x1024 .f32 := m ((c : Thread nD τ).loc main_arg5)
abbrev gArg (c : Dev nD) : FVec Ideal S1024 .f32 := m ((c : Thread nD τ).loc main_arg6)
abbrev bArg (c : Dev nD) : FVec Ideal S1024 .f32 := m ((c : Thread nD τ).loc main_arg7)

/-- The normalized rows of the arguments. -/
abbrev rows (c : Dev nD) : Buf (Elt Ideal) ((c : Thread nD τ).loc main_v9_0) :=
  rowsOf (xArg m c) (apArg m c) (asArg m c) (bpArg m c) (bsArg m c) (wArg m c) (gArg m c) (bArg m c)

theorem V_weights (c : Dev nD) : (V m c main_v0 : FVec Ideal S1024x1024 .bf16) = wArg m c := by
  entry_read
  rfl

theorem V_scale (c : Dev nD) (n : Fin 1024) : (V m c main_v1 : FVec Ideal S1x1024 .f32) (ix2 0 n) = gArg m c (ix1 n) := by
  have e : (V m c main_v1 : FVec Ideal S1x1024 .f32) = shapeCast S1x1024 (gArg m c) shapeCasts_S1024_S1x1024 := by
    entry_read
    rfl
  rw [e]
  simp only [pointwise]

theorem V_shift (c : Dev nD) (n : Fin 1024) : (V m c main_v2 : FVec Ideal S1x1024 .f32) (ix2 0 n) = bArg m c (ix1 n) := by
  have e : (V m c main_v2 : FVec Ideal S1x1024 .f32) = shapeCast S1x1024 (bArg m c) shapeCasts_S1024_S1x1024 := by
    entry_read
    rfl
  rw [e]
  simp only [pointwise]

/-- Each window's block number at a tile. -/
theorem block_numbers : ∀ t : Fin cfg0.N, ((win0_0.index t 0 = t.val ∧ win0_0.index t 1 = 0)
    ∧ (win0_1.index t 0 = min t.val 63 ∧ win0_1.index t 1 = 0) ∧ (win0_2.index t 0 = 0 ∧ win0_2.index t 1 = 0)
    ∧ (win0_3.index t 0 = min t.val 63 ∧ win0_3.index t 1 = 0) ∧ (win0_4.index t 0 = 0 ∧ win0_4.index t 1 = 0))
    ∧ (win0_5.index t 0 = 0 ∧ win0_5.index t 1 = 0) ∧ (win0_6.index t 0 = 0 ∧ win0_6.index t 1 = 0)
    ∧ (win0_7.index t 0 = 0 ∧ win0_7.index t 1 = 0) ∧ (win0_11.index t 0 = t.val ∧ win0_11.index t 1 = 0)
    ∧ (grid0.coords t 0).val = t.val :=
  (by decide +kernel : ∀ t : Fin grid0.N, ((win0_0.index t 0 = t.val ∧ win0_0.index t 1 = 0)
    ∧ (win0_1.index t 0 = min t.val 63 ∧ win0_1.index t 1 = 0) ∧ (win0_2.index t 0 = 0 ∧ win0_2.index t 1 = 0)
    ∧ (win0_3.index t 0 = min t.val 63 ∧ win0_3.index t 1 = 0) ∧ (win0_4.index t 0 = 0 ∧ win0_4.index t 1 = 0))
    ∧ (win0_5.index t 0 = 0 ∧ win0_5.index t 1 = 0) ∧ (win0_6.index t 0 = 0 ∧ win0_6.index t 1 = 0)
    ∧ (win0_7.index t 0 = 0 ∧ win0_7.index t 1 = 0) ∧ (win0_11.index t 0 = t.val ∧ win0_11.index t 1 = 0)
    ∧ (grid0.coords t 0).val = t.val)

/-- The row of the whole array that is row r of tile t. -/
abbrev rowAt (t : Fin cfg0.N) (r : Fin 256) : Fin 16640 :=
  ⟨t.val * 256 + r.val, by have := t.isLt; have hN : cfg0.N = 65 := N_0; omega⟩

theorem residual_apply (c : Dev nD) (t : Fin cfg0.N) (r : Fin 256) (n : Fin 1024) :
    (iblk m c 0 t : Vec Ideal S256x1024 .f32) (ix2 r n) = xArg m c (ix2 (rowAt t r) n) := by
  unfold iblk
  rw [View.read_apply]
  show V m c main_arg0 _ = _
  rw [V_main_arg0]
  show xArg m c _ = _
  congr 1
  funext a
  apply Fin.ext
  match a with
  | ⟨0, _⟩ => show win0_0.index t 0 * 256 + 1 * r.val = t.val * 256 + r.val; rw [(block_numbers t).1.1.1]; omega
  | ⟨1, _⟩ => show win0_0.index t 1 * 1024 + 1 * n.val = n.val; rw [(block_numbers t).1.1.2]; omega

theorem long1_apply (c : Dev nD) (t : Fin cfg0.N) (ht : t.val < 64) (r : Fin 256) (k : Fin 512) :
    (iblk m c 1 t : Vec Ideal S256x512 .f32) (ix2 r k) = apArg m c (ix2 ⟨t.val * 256 + r.val, by omega⟩ k) := by
  unfold iblk
  rw [View.read_apply]
  show V m c main_arg1 _ = _
  rw [V_main_arg1]
  show apArg m c _ = _
  congr 1
  funext a
  apply Fin.ext
  match a with
  | ⟨0, _⟩ => show win0_1.index t 0 * 256 + 1 * r.val = t.val * 256 + r.val; rw [(block_numbers t).1.2.1.1]; omega
  | ⟨1, _⟩ => show win0_1.index t 1 * 512 + 1 * k.val = k.val; rw [(block_numbers t).1.2.1.2]; omega

theorem short1_apply (c : Dev nD) (t : Fin cfg0.N) (r : Fin 256) (k : Fin 512) :
    (iblk m c 2 t : Vec Ideal S256x512 .f32) (ix2 r k) = asArg m c (ix2 r k) := by
  unfold iblk
  rw [View.read_apply]
  show V m c main_arg2 _ = _
  rw [V_main_arg2]
  show asArg m c _ = _
  congr 1
  funext a
  apply Fin.ext
  match a with
  | ⟨0, _⟩ => show win0_2.index t 0 * 256 + 1 * r.val = r.val; rw [(block_numbers t).1.2.2.1.1]; omega
  | ⟨1, _⟩ => show win0_2.index t 1 * 512 + 1 * k.val = k.val; rw [(block_numbers t).1.2.2.1.2]; omega

theorem long2_apply (c : Dev nD) (t : Fin cfg0.N) (ht : t.val < 64) (r : Fin 256) (k : Fin 512) :
    (iblk m c 3 t : Vec Ideal S256x512 .f32) (ix2 r k) = bpArg m c (ix2 ⟨t.val * 256 + r.val, by omega⟩ k) := by
  unfold iblk
  rw [View.read_apply]
  show V m c main_arg3 _ = _
  rw [V_main_arg3]
  show bpArg m c _ = _
  congr 1
  funext a
  apply Fin.ext
  match a with
  | ⟨0, _⟩ => show win0_3.index t 0 * 256 + 1 * r.val = t.val * 256 + r.val; rw [(block_numbers t).1.2.2.2.1.1]; omega
  | ⟨1, _⟩ => show win0_3.index t 1 * 512 + 1 * k.val = k.val; rw [(block_numbers t).1.2.2.2.1.2]; omega

theorem short2_apply (c : Dev nD) (t : Fin cfg0.N) (r : Fin 256) (k : Fin 512) :
    (iblk m c 4 t : Vec Ideal S256x512 .f32) (ix2 r k) = bsArg m c (ix2 r k) := by
  unfold iblk
  rw [View.read_apply]
  show V m c main_arg4 _ = _
  rw [V_main_arg4]
  show bsArg m c _ = _
  congr 1
  funext a
  apply Fin.ext
  match a with
  | ⟨0, _⟩ => show win0_4.index t 0 * 256 + 1 * r.val = r.val; rw [(block_numbers t).1.2.2.2.2.1]; omega
  | ⟨1, _⟩ => show win0_4.index t 1 * 512 + 1 * k.val = k.val; rw [(block_numbers t).1.2.2.2.2.2]; omega

theorem weights_apply (c : Dev nD) (t : Fin cfg0.N) (k n : Fin 1024) :
    (iblk m c 5 t : Vec Ideal S1024x1024 .bf16) (ix2 k n) = wArg m c (ix2 k n) := by
  unfold iblk
  rw [View.read_apply]
  show (V m c main_v0 : FVec Ideal S1024x1024 .bf16) _ = _
  rw [V_weights]
  congr 1
  funext a
  apply Fin.ext
  match a with
  | ⟨0, _⟩ => show win0_5.index t 0 * 1024 + 1 * k.val = k.val; rw [(block_numbers t).2.1.1]; omega
  | ⟨1, _⟩ => show win0_5.index t 1 * 1024 + 1 * n.val = n.val; rw [(block_numbers t).2.1.2]; omega

theorem scale_apply (c : Dev nD) (t : Fin cfg0.N) (n : Fin 1024) :
    (iblk m c 6 t : Vec Ideal S1x1024 .f32) (ix2 0 n) = gArg m c (ix1 n) := by
  rw [← V_scale m c n]
  unfold iblk
  rw [View.read_apply]
  show (V m c main_v1 : FVec Ideal S1x1024 .f32) _ = _
  congr 1
  funext a
  apply Fin.ext
  match a with
  | ⟨0, _⟩ => show win0_6.index t 0 * 1 + 1 * 0 = 0; rw [(block_numbers t).2.2.1.1]
  | ⟨1, _⟩ => show win0_6.index t 1 * 1024 + 1 * n.val = n.val; rw [(block_numbers t).2.2.1.2]; omega

theorem shift_apply (c : Dev nD) (t : Fin cfg0.N) (n : Fin 1024) :
    (iblk m c 7 t : Vec Ideal S1x1024 .f32) (ix2 0 n) = bArg m c (ix1 n) := by
  rw [← V_shift m c n]
  unfold iblk
  rw [View.read_apply]
  show (V m c main_v2 : FVec Ideal S1x1024 .f32) _ = _
  congr 1
  funext a
  apply Fin.ext
  match a with
  | ⟨0, _⟩ => show win0_7.index t 0 * 1 + 1 * 0 = 0; rw [(block_numbers t).2.2.2.1.1]
  | ⟨1, _⟩ => show win0_7.index t 1 * 1024 + 1 * n.val = n.val; rw [(block_numbers t).2.2.2.1.2]; omega

theorem result_apply (t : Fin cfg0.N) (G : FVec Ideal S16640x1024 .f32) (r : Fin 256) (n : Fin 1024) :
    ((win0_11.blk t).view.read (Elt Ideal) G : Vec Ideal S256x1024 .f32) (ix2 r n) = G (ix2 (rowAt t r) n) := by
  rw [View.read_apply]
  show G _ = _
  congr 1
  funext a
  apply Fin.ext
  match a with
  | ⟨0, _⟩ => show win0_11.index t 0 * 256 + 1 * r.val = t.val * 256 + r.val; rw [(block_numbers t).2.2.2.2.1.1]; omega
  | ⟨1, _⟩ => show win0_11.index t 1 * 1024 + 1 * n.val = n.val; rw [(block_numbers t).2.2.2.2.1.2]; omega

/-- The upper and the lower half of the weights' rows, as the body loads them. -/
theorem upper_apply (x : Vec Ideal S1024x1024 .bf16) (k : Fin 512) (n : Fin 1024) :
    (View.ld x r0_2 : Vec Ideal S512x1024 .bf16) (ix2 k n) = x (ix2 ⟨k.val, by omega⟩ n) := by
  show x _ = x _
  congr 1
  funext a
  apply Fin.ext
  match a with
  | ⟨0, _⟩ => show 0 + 1 * k.val = k.val; omega
  | ⟨1, _⟩ => show 0 + 1 * n.val = n.val; omega

theorem lower_apply (x : Vec Ideal S1024x1024 .bf16) (k : Fin 512) (n : Fin 1024) :
    (View.ld x r0_3 : Vec Ideal S512x1024 .bf16) (ix2 k n) = x (ix2 ⟨512 + k.val, by omega⟩ n) := by
  show x _ = x _
  congr 1
  funext a
  apply Fin.ext
  match a with
  | ⟨0, _⟩ => show 512 + 1 * k.val = 512 + k.val; omega
  | ⟨1, _⟩ => show 0 + 1 * n.val = n.val; omega

/-- The two halves of the joined columns at a tile's rows: the short part on the last tile, the long part before it. -/
theorem half1_apply (c : Dev nD) (t : Fin cfg0.N) (r : Fin 256) (k : Fin 512) :
    (if (grid0.coords t 0).val ≥ 64 then (iblk m c 2 t : Vec Ideal S256x512 .f32) else (iblk m c 1 t : Vec Ideal S256x512 .f32)) (ix2 r k)
      = joined (apArg m c) (asArg m c) (rowAt t r) k := by
  have hN : t.val < 65 := lt_of_lt_of_eq t.isLt N_0
  rw [(block_numbers t).2.2.2.2.2]
  unfold joined
  by_cases h : t.val ≥ 64
  · have hr : r.val = t.val * 256 + r.val - 16384 := by have := r.isLt; omega
    rw [if_pos h, short1_apply, dif_neg (show ¬ t.val * 256 + r.val < 16384 by omega)]
    exact congrArg (fun q : Fin 256 => asArg m c (ix2 q k)) (Fin.ext hr)
  · rw [if_neg h, long1_apply m c t (by omega), dif_pos (show t.val * 256 + r.val < 16384 by omega)]

theorem half2_apply (c : Dev nD) (t : Fin cfg0.N) (r : Fin 256) (k : Fin 512) :
    (if (grid0.coords t 0).val ≥ 64 then (iblk m c 4 t : Vec Ideal S256x512 .f32) else (iblk m c 3 t : Vec Ideal S256x512 .f32)) (ix2 r k)
      = joined (bpArg m c) (bsArg m c) (rowAt t r) k := by
  have hN : t.val < 65 := lt_of_lt_of_eq t.isLt N_0
  rw [(block_numbers t).2.2.2.2.2]
  unfold joined
  by_cases h : t.val ≥ 64
  · have hr : r.val = t.val * 256 + r.val - 16384 := by have := r.isLt; omega
    rw [if_pos h, short2_apply, dif_neg (show ¬ t.val * 256 + r.val < 16384 by omega)]
    exact congrArg (fun q : Fin 256 => bsArg m c (ix2 q k)) (Fin.ext hr)
  · rw [if_neg h, long2_apply m c t (by omega), dif_pos (show t.val * 256 + r.val < 16384 by omega)]

/-- A tile's rows with their mean taken off. -/
theorem tile_centred (c : Dev nD) (t : Fin cfg0.N) (r : Fin 256) (n : Fin 1024) :
    k0_pay6 (grid0.coords t) (iblk m c 2 t : Vec Ideal S256x512 .f32) (iblk m c 1 t : Vec Ideal S256x512 .f32)
        (iblk m c 4 t : Vec Ideal S256x512 .f32) (iblk m c 3 t : Vec Ideal S256x512 .f32) (iblk m c 0 t : Vec Ideal S256x1024 .f32)
        (View.ld (iblk m c 5 t : Vec Ideal S1024x1024 .bf16) r0_2) (View.ld (iblk m c 5 t : Vec Ideal S1024x1024 .bf16) r0_3) (ix2 r n)
      = before (xArg m c) (apArg m c) (asArg m c) (bpArg m c) (bsArg m c) (wArg m c) (rowAt t r) n
        - mean (before (xArg m c) (apArg m c) (asArg m c) (bpArg m c) (bsArg m c) (wArg m c) (rowAt t r)) := by
  refine centred_apply _ _ _ _ _ _ _ _ r n _ fun n => ?_
  unfold before
  refine congrArg₂ (· + ·) (congrArg₂ (· + ·) ?_ (Finset.sum_congr rfl fun k _ => ?_)) (Finset.sum_congr rfl fun k _ => ?_)
  · exact congrArg (Ideal.ofBits .f32 0x3FD744FD#32 * ·) (residual_apply m c t r n).symm
  · exact congrArg₂ (· * ·) (half1_apply m c t r k).symm ((upper_apply _ k n).trans (weights_apply m c t _ n)).symm
  · exact congrArg₂ (· * ·) (half2_apply m c t r k).symm ((lower_apply _ k n).trans (weights_apply m c t _ n)).symm

/-- What a tile leaves in its result block is its rows normalized. -/
theorem flushed_eq (c : Dev nD) (t : Fin cfg0.N) :
    (dats m 0 c).flushed 11 t = (win0_11.blk t).view.read (Elt Ideal) (rows m c) := by
  rw [Value.flushed11]
  unfold out0_11 k0_pay43 k0_pay42 k0_pay41 k0_pay40
  rw [View.canon_unit_zero hz]
  simp only [View.ld_unit_zero (S := S256x512) hz, View.ld_unit_zero (S := S256x1024) hz, View.ld_unit_zero (S := S1x1024) hz]
  funext j
  obtain ⟨r, n, rfl⟩ : ∃ (r : Fin 256) (n : Fin 1024), j = ix2 r n := ⟨j 0, j 1, by funext a; match a with | ⟨0, _⟩ => rfl | ⟨1, _⟩ => rfl⟩
  refine Eq.trans ?_ (result_apply t (rows m c) r n).symm
  unfold k0_pay4 k0_pay5
  rw [shapeCast_self, shapeCast_self]
  exact normed_apply _ _ _ _ r n _ _ _ (tile_centred m c t r) (spread_apply _ _ _ _ _ _ _ _ r) (scale_apply m c t n) (shift_apply m c t n)

/-- The blocks written fill the result. -/
theorem cover (i : S16640x1024.Idx) :
    ∃ t : Fin cfg0.N, (cfg0.win 11).flush t = true ∧ i ∈ ((cfg0.win 11).blk t).view.set := by
  have h0 : (i 0 : Nat) < 16640 := (i 0).isLt
  have h1 : (i 1 : Nat) < 1024 := (i 1).isLt
  have hN : cfg0.N = 65 := N_0
  refine ⟨⟨(i 0 : Nat) / 256, by omega⟩, flush0_11 _, ?_⟩
  generalize ht : (⟨(i 0 : Nat) / 256, by omega⟩ : Fin cfg0.N) = t
  have htv : t.val = (i 0 : Nat) / 256 := by rw [← ht]
  show i ∈ ((View.whole main_v9_0).slice (win0_11.rect t)).set
  rw [View.set_slice_whole, Rect.mem_set_unit]
  intro a
  match a with
  | ⟨0, _⟩ =>
    show win0_11.index t 0 * 256 ≤ (i 0 : Nat) ∧ (i 0 : Nat) < win0_11.index t 0 * 256 + 256
    rw [(block_numbers t).2.2.2.2.1.1]; omega
  | ⟨1, _⟩ =>
    show win0_11.index t 1 * 1024 ≤ (i 1 : Nat) ∧ (i 1 : Nat) < win0_11.index t 1 * 1024 + 1024
    rw [(block_numbers t).2.2.2.2.1.2]; omega

/-- So the result ends holding the normalized rows. -/
theorem final (c : Dev nD) : (dats m 0 c).arrAt 11 cfg0.N = rows m c :=
  (dats m 0 c).arrAt_eq_of_cover 11 (rows m c) (fun t _ => flushed_eq m c t) cover

end Cert.RouteIdeal.Rows

/-! ## The reference's rows -/

namespace Cert.RouteRefIdeal.Rows

open Cert.RouteRefIdeal Cert.RouteRefIdeal.Gen Cert.RouteRefIdeal.Read Cert.Proof.Rows
open Cert.RouteIdeal.Rows (joined before rowsOf)

variable (x : FVec Ideal S16640x1024 .f32) (ap : FVec Ideal S16384x512 .f32) (az : FVec Ideal S256x512 .f32)
  (bp : FVec Ideal S16384x512 .f32) (bz : FVec Ideal S256x512 .f32) (w : FVec Ideal S1024x1024 .f32)
  (g b : FVec Ideal S1024 .f32)

/-- The long part's rows followed by the short part's. -/
theorem stacked_apply (p : FVec Ideal S16384x512 .f32) (s : FVec Ideal S256x512 .f32) (r : Fin 16640) (k : Fin 512) :
    val_main_v0 (F := Ideal) p s (ix2 r k) = joined p s r k := by
  unfold val_main_v0 joined
  simp only [pointwise]
  rfl

theorem stacked_apply' (p : FVec Ideal S16384x512 .f32) (s : FVec Ideal S256x512 .f32) (r : Fin 16640) (k : Fin 512) :
    val_main_v1 (F := Ideal) p s (ix2 r k) = joined p s r k := stacked_apply p s r k

theorem left_apply (r : Fin 16640) (k : Fin 512) :
    val_main_v2 (F := Ideal) ap az bp bz (ix2 r ⟨k.val, by omega⟩) = joined ap az r k := by
  rw [← stacked_apply]
  unfold val_main_v2
  generalize val_main_v0 (F := Ideal) ap az = y0
  generalize val_main_v1 (F := Ideal) bp bz = y1
  simp only [pointwise]
  exact dif_pos trivial

theorem right_apply (r : Fin 16640) (k : Fin 512) :
    val_main_v2 (F := Ideal) ap az bp bz (ix2 r ⟨512 + k.val, by omega⟩) = joined bp bz r k := by
  rw [← stacked_apply']
  unfold val_main_v2
  generalize val_main_v0 (F := Ideal) ap az = y0
  generalize val_main_v1 (F := Ideal) bp bz = y1
  simp only [pointwise]
  refine (dif_neg not_false).trans ?_
  congr 1
  funext a
  apply Fin.ext
  match a with
  | ⟨0, _⟩ => rfl
  | ⟨1, _⟩ => show 512 + k.val - 512 = k.val; omega

/-- A sum over 1024 positions is the sum over the first 512 and the sum over the last 512. -/
theorem sum_halves (f : Fin 1024 → EReal) :
    ∑ k : Fin 1024, f k = ∑ k : Fin 512, f ⟨k.val, by omega⟩ + ∑ k : Fin 512, f ⟨512 + k.val, by omega⟩ :=
  Fin.sum_univ_add (a := 512) (b := 512) f

/-- The reference's row before normalization. -/
theorem before_read (r : Fin 16640) (n : Fin 1024) :
    val_main_v6 (F := Ideal) x ap az bp bz w (ix2 r n) = before x ap az bp bz w r n := by
  rw [val_main_v6_apply, val_main_v4_apply, val_main_v3_apply, val_main_cst_apply, val_main_v5_apply, sum_halves]
  have hl : ∀ k : Fin 1024, lidx_main_v5 (ix2 r n) k = ix2 r k := fun k => funext fun a => match a with | ⟨0, _⟩ => rfl | ⟨1, _⟩ => rfl
  have hr : ∀ k : Fin 1024, ridx_main_v5 (ix2 r n) k = ix2 k n := fun k => funext fun a => match a with | ⟨0, _⟩ => rfl | ⟨1, _⟩ => rfl
  simp only [hl, hr, left_apply, right_apply]
  unfold before
  rw [add_assoc]
  rfl

/-- The mean of the reference's row. -/
theorem mean_read (r : Fin 16640) :
    val_main_v10 (F := Ideal) x ap az bp bz w (ix2 r 0) = mean (before x ap az bp bz w r) := by
  rw [val_main_v10_apply, val_main_v8_apply, val_main_v7_apply, val_main_v9_apply, val_main_cst_1_apply, val_main_cst_0_apply]
  have hi : ∀ k : Fin 1024, idx_main_v7 (idx_main_v8 (ix2 r 0)) k = ix2 r k := fun k => funext fun a => match a with | ⟨0, _⟩ => rfl | ⟨1, _⟩ => rfl
  simp only [hi, before_read]
  unfold mean
  simp only [pointwise, zero_add]

theorem centred_read (r : Fin 16640) (n : Fin 1024) :
    val_main_v12 (F := Ideal) x ap az bp bz w (ix2 r n)
      = before x ap az bp bz w r n - mean (before x ap az bp bz w r) := by
  have hi : idx_main_v11 (ix2 r n) = ix2 r 0 := funext fun a => match a with | ⟨0, _⟩ => rfl | ⟨1, _⟩ => rfl
  rw [val_main_v12_apply, val_main_v11_apply, hi, mean_read, before_read]
  rfl

theorem spread_read (r : Fin 16640) :
    val_main_v17 (F := Ideal) x ap az bp bz w (ix2 r 0)
      = mean (fun k => (before x ap az bp bz w r k - mean (before x ap az bp bz w r)) * (before x ap az bp bz w r k - mean (before x ap az bp bz w r))) := by
  rw [val_main_v17_apply, val_main_v15_apply, val_main_v14_apply, val_main_v16_apply, val_main_cst_3_apply, val_main_cst_2_apply]
  have hi : ∀ k : Fin 1024, idx_main_v14 (idx_main_v15 (ix2 r 0)) k = ix2 r k := fun k => funext fun a => match a with | ⟨0, _⟩ => rfl | ⟨1, _⟩ => rfl
  simp only [hi, val_main_v13_apply, centred_read]
  generalize mean (before x ap az bp bz w r) = μ
  unfold mean
  simp only [pointwise, zero_add]

/-- The reference's result is the normalized rows. -/
theorem rows_read (i : S16640x1024.Idx) :
    val_main_v30 (F := Ideal) x ap az bp bz w g b i = rowsOf x ap az bp bz w g b i := by
  obtain ⟨r, n, rfl⟩ : ∃ (r : Fin 16640) (n : Fin 1024), i = ix2 r n := ⟨i 0, i 1, by funext a; match a with | ⟨0, _⟩ => rfl | ⟨1, _⟩ => rfl⟩
  have h18 : idx_main_v18 (ix2 r n) = ix2 r 0 := funext fun a => match a with | ⟨0, _⟩ => rfl | ⟨1, _⟩ => rfl
  have h23 : idx_main_v23 (ix2 r n) = ix2 r 0 := funext fun a => match a with | ⟨0, _⟩ => rfl | ⟨1, _⟩ => rfl
  have h25 : idx_main_v25 (idx_main_v26 (ix2 r n)) = ix1 n := funext fun a => match a with | ⟨0, _⟩ => rfl
  have h28 : idx_main_v28 (idx_main_v29 (ix2 r n)) = ix1 n := funext fun a => match a with | ⟨0, _⟩ => rfl
  rw [val_main_v30_apply, val_main_v27_apply, val_main_v29_apply, val_main_v28_apply, val_main_v26_apply, val_main_v25_apply,
    val_main_v24_apply, val_main_v23_apply, val_main_v19_apply, val_main_v18_apply, h18, h23, h25, h28,
    val_main_v22_apply, val_main_v21_apply, val_main_v20_apply, val_main_cst_4_apply, spread_read, mean_read, before_read]
  rfl

end Cert.RouteRefIdeal.Rows

namespace Cert.Proof.RouteClaims

theorem frame_kernel : Cert.quiescent_Route := fun m ρ _ => Cert.Route.Gen.frame m ρ
theorem frame_ideal : Cert.quiescent_RouteIdeal := fun m ρ _ => Cert.RouteIdeal.Gen.frame m ρ
theorem frame_reference : Cert.quiescent_RouteRefIdeal := fun m ρ _ =>
  (θ_run Cert.RouteRefIdeal.defs _ _).mono (fun r h => ⟨fun c => (h c).2,
      Idealize.ShloMosaic.sem_eq_zero_of_no_sems (by decide) r.2⟩)
    (Cert.RouteRefIdeal.Value.run (F := Ideal) m ρ)
theorem preserves : Cert.preserves_Route_RouteIdeal := trivial

/-- At real values the tiled rows and the reference's rows are the same. -/
theorem algebraic : Cert.algebraic_RouteIdeal_RouteRefIdeal := by
  intro m g m' g' _ hagree
  refine ⟨fun c => Cert.RouteIdeal.Rows.rows m c, ?_, ?_⟩
  · exact (θ_run Cert.RouteIdeal.defs _ _).mono
      (fun _ h c => ⟨(h c).1.trans (Cert.RouteIdeal.Rows.final m c), (h c).2.2.2.2⟩)
      (Cert.RouteIdeal.Value.run_blocks (F := Ideal) m g)
  refine (θ_run Cert.RouteRefIdeal.defs _ _).mono (fun _ h c => ⟨(h c).1.trans ?_, (h c).2⟩)
    (Cert.RouteRefIdeal.Value.run (F := Ideal) m' g')
  obtain ⟨h0, h1, h2, h3, h4, h5, h6, h7, -⟩ := hagree c
  refine (Cert.RouteRefIdeal.Read.val_main_v30_eq m' c).trans ?_
  rw [h0, h1, h2, h3, h4, h5, h6, h7]
  funext i
  exact Cert.RouteRefIdeal.Rows.rows_read _ _ _ _ _ _ _ _ i

end Cert.Proof.RouteClaims
-- ==== Proof.Projections.lean ====
/- The two wide input projections: the kernel's tiles of 640 rows, each multiplied by the whole weight matrix, make up
   the reference's one matrix product. -/
module

public import proofs.«01_k».proof.Defs
public import proofs.«01_k».proof.Proof.Gen.ProjAB.Frame
public import proofs.«01_k».proof.Proof.Gen.ProjABIdeal.Value
public import proofs.«01_k».proof.Proof.Gen.ProjABRefIdeal.Run
public import proofs.«01_k».proof.Proof.Gen.ProjABRefIdeal.Read
public import proofs.«01_k».proof.Proof.Gen.ProjCD.Frame
public import proofs.«01_k».proof.Proof.Gen.ProjCDIdeal.Value
public import proofs.«01_k».proof.Proof.Gen.ProjCDRefIdeal.Run
public import proofs.«01_k».proof.Proof.Gen.ProjCDRefIdeal.Read
public import Idealize.ShloMosaic.Lib.Claim
public import Idealize.ShloMosaic.Lib.Pointwise
public import Idealize.ShloMosaic.Lib.ValueIdx
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## The first projection, sixteen thousand rows by 1536 columns -/

namespace Cert.ProjABIdeal.Product

open Cert.ProjABIdeal Cert.ProjABIdeal.Gen

variable (m : (ℓ : Loc nD τ sig) → Buf (Elt Ideal) ℓ)

/-- The product of rows by weights: entry (r, n) is the sum over k of row entry (r, k) times weight (k, n). -/
def prodOf (x : FVec Ideal S16640x1024 .f32) (w : FVec Ideal S1024x1536 .f32) : FVec Ideal S16640x1536 .f32 :=
  fun i => ∑ k : Fin 1024, x (ix2 (i 0) k) * w (ix2 k (i 1))

/-- That product of the two arguments. -/
abbrev prod (c : Dev nD) : Buf (Elt Ideal) ((c : Thread nD τ).loc main_v1) :=
  prodOf (m ((c : Thread nD τ).loc main_arg0)) (m ((c : Thread nD τ).loc main_arg1))

/-- The weights as the call receives them: the argument, its narrowing the identity at real values. -/
theorem V_weights (c : Dev nD) : (V m c main_v0 : FVec Ideal S1024x1536 .bf16)
    = (m ((c : Thread nD τ).loc main_arg1) : FVec Ideal S1024x1536 .f32) := by
  entry_read
  rfl

theorem hz : (![0, 0] : Fin 2 → Nat) = fun _ => 0 := funext fun a => by fin_cases a <;> rfl

/-- Each window's block number at a grid point: the rows move with the point, the weights stay. -/
theorem block_numbers : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0))

/-- What the body leaves in its result block: each row of its block of rows by the weights. -/
theorem payload_apply (x : Vec Ideal S640x1024 .f32) (w : Vec Ideal S1024x1536 .bf16) (r : Fin 640) (n : Fin 1536) :
    k0_pay1 x w (ix2 r n) = ∑ k : Fin 1024, x (ix2 r k) * w (ix2 k n) := by
  unfold k0_pay1
  simp only [pointwise, shapeCast_self, zero_add]

/-- Block t of the rows, at row r, is row 640 t + r of the argument. -/
theorem rows_apply (c : Dev nD) (t : Fin cfg0.N) (r : Fin 640) (k : Fin 1024) :
    (iblk m c 0 t : Vec Ideal S640x1024 .f32) (ix2 r k)
      = (m ((c : Thread nD τ).loc main_arg0) : FVec Ideal S16640x1024 .f32)
          (ix2 ⟨t.val * 640 + r.val, by have := t.isLt; have hN : cfg0.N = 26 := N_0; omega⟩ k) := by
  unfold iblk
  rw [View.read_apply]
  show V m c main_arg0 _ = _
  rw [V_main_arg0]
  congr 1
  funext a
  apply Fin.ext
  match a with
  | ⟨0, _⟩ => show win0_0.index t 0 * 640 + 1 * r.val = t.val * 640 + r.val; rw [(block_numbers t).1.1]; omega
  | ⟨1, _⟩ => show win0_0.index t 1 * 1024 + 1 * k.val = k.val; rw [(block_numbers t).1.2]; omega

/-- The one block of the weights is the argument. -/
theorem weights_apply (c : Dev nD) (t : Fin cfg0.N) (k : Fin 1024) (n : Fin 1536) :
    (iblk m c 1 t : Vec Ideal S1024x1536 .bf16) (ix2 k n)
      = (m ((c : Thread nD τ).loc main_arg1) : FVec Ideal S1024x1536 .f32) (ix2 k n) := by
  unfold iblk
  rw [View.read_apply]
  show (V m c main_v0 : FVec Ideal S1024x1536 .bf16) _ = _
  rw [V_weights]
  congr 1
  funext a
  apply Fin.ext
  match a with
  | ⟨0, _⟩ => show win0_1.index t 0 * 1024 + 1 * k.val = k.val; rw [(block_numbers t).2.1.1]; omega
  | ⟨1, _⟩ => show win0_1.index t 1 * 1536 + 1 * n.val = n.val; rw [(block_numbers t).2.1.2]; omega

/-- Result block t, at row r, is row 640 t + r of the result. -/
theorem result_apply (t : Fin cfg0.N) (G : FVec Ideal S16640x1536 .f32) (r : Fin 640) (n : Fin 1536) :
    ((win0_2.blk t).view.read (Elt Ideal) G : Vec Ideal S640x1536 .f32) (ix2 r n)
      = G (ix2 ⟨t.val * 640 + r.val, by have := t.isLt; have hN : cfg0.N = 26 := N_0; omega⟩ n) := by
  rw [View.read_apply]
  show G _ = _
  congr 1
  funext a
  apply Fin.ext
  match a with
  | ⟨0, _⟩ => show win0_2.index t 0 * 640 + 1 * r.val = t.val * 640 + r.val; rw [(block_numbers t).2.2.1]; omega
  | ⟨1, _⟩ => show win0_2.index t 1 * 1536 + 1 * n.val = n.val; rw [(block_numbers t).2.2.2]; omega

/-- What a grid point leaves in its result block, entry by entry, is the product's block. -/
theorem body_apply (c : Dev nD) (t : Fin cfg0.N) (r : Fin 640) (n : Fin 1536) :
    k0_pay1 (iblk m c 0 t : Vec Ideal S640x1024 .f32) (iblk m c 1 t : Vec Ideal S1024x1536 .bf16) (ix2 r n)
      = prod m c (ix2 ⟨t.val * 640 + r.val, by have := t.isLt; have hN : cfg0.N = 26 := N_0; omega⟩ n) := by
  rw [payload_apply]
  show _ = prodOf _ _ (ix2 _ n)
  unfold prodOf
  refine Finset.sum_congr rfl fun k _ => ?_
  rw [rows_apply, weights_apply]
  rfl

/-- What a grid point writes back is its block of the product. -/
theorem flushed_eq (c : Dev nD) (t : Fin cfg0.N) :
    (dats m 0 c).flushed 2 t = (win0_2.blk t).view.read (Elt Ideal) (prod m c) := by
  rw [Value.flushed2]
  unfold out0_2
  rw [View.canon_unit_zero hz, View.ld_unit_zero hz, View.ld_unit_zero hz]
  funext j
  obtain ⟨r, n, rfl⟩ : ∃ (r : Fin 640) (n : Fin 1536), j = ix2 r n := ⟨j 0, j 1, by funext a; match a with | ⟨0, _⟩ => rfl | ⟨1, _⟩ => rfl⟩
  exact (body_apply m c t r n).trans (result_apply t (prod m c) r n).symm

/-- The blocks written fill the result. -/
theorem cover (i : S16640x1536.Idx) :
    ∃ t : Fin cfg0.N, (cfg0.win 2).flush t = true ∧ i ∈ ((cfg0.win 2).blk t).view.set := by
  have h0 : (i 0 : Nat) < 16640 := (i 0).isLt
  have h1 : (i 1 : Nat) < 1536 := (i 1).isLt
  have hN : cfg0.N = 26 := N_0
  refine ⟨⟨(i 0 : Nat) / 640, by omega⟩, flush0_2 _, ?_⟩
  generalize ht : (⟨(i 0 : Nat) / 640, by omega⟩ : Fin cfg0.N) = t
  have htv : t.val = (i 0 : Nat) / 640 := by rw [← ht]
  show i ∈ ((View.whole main_v1).slice (win0_2.rect t)).set
  rw [View.set_slice_whole, Rect.mem_set_unit]
  intro a
  match a with
  | ⟨0, _⟩ =>
    show win0_2.index t 0 * 640 ≤ (i 0 : Nat) ∧ (i 0 : Nat) < win0_2.index t 0 * 640 + 640
    rw [(block_numbers t).2.2.1]; omega
  | ⟨1, _⟩ =>
    show win0_2.index t 1 * 1536 ≤ (i 1 : Nat) ∧ (i 1 : Nat) < win0_2.index t 1 * 1536 + 1536
    rw [(block_numbers t).2.2.2]; omega

/-- So the result ends holding the product. -/
theorem final (c : Dev nD) : (dats m 0 c).arrAt 2 cfg0.N = prod m c :=
  (dats m 0 c).arrAt_eq_of_cover 2 (prod m c) (fun t _ => flushed_eq m c t) cover

end Cert.ProjABIdeal.Product

namespace Cert.Proof.ProjABClaims

theorem frame_kernel : Cert.quiescent_ProjAB := fun m ρ _ => Cert.ProjAB.Gen.frame m ρ
theorem frame_ideal : Cert.quiescent_ProjABIdeal := fun m ρ _ => Cert.ProjABIdeal.Gen.frame m ρ
theorem frame_reference : Cert.quiescent_ProjABRefIdeal := fun m ρ _ =>
  (θ_run Cert.ProjABRefIdeal.defs _ _).mono (fun r h => ⟨fun c => ⟨(h c).2.1, (h c).2.2⟩,
      Idealize.ShloMosaic.sem_eq_zero_of_no_sems (by decide) r.2⟩)
    (Cert.ProjABRefIdeal.Value.run (F := Ideal) m ρ)
theorem preserves : Cert.preserves_ProjAB_ProjABIdeal := trivial

/-- At real values the tiled product and the reference's one product are the same sums. -/
theorem algebraic : Cert.algebraic_ProjABIdeal_ProjABRefIdeal := by
  intro m g m' g' _ hagree
  refine ⟨fun c => Cert.ProjABIdeal.Product.prod m c, ?_, ?_⟩
  · exact (θ_run Cert.ProjABIdeal.defs _ _).mono
      (fun _ h c => ⟨(h c).1.trans (Cert.ProjABIdeal.Product.final m c), (h c).2⟩)
      (Cert.ProjABIdeal.Value.run_blocks (F := Ideal) m g)
  refine (θ_run Cert.ProjABRefIdeal.defs _ _).mono (fun _ h c => ⟨(h c).1.trans ?_, (h c).2⟩)
    (Cert.ProjABRefIdeal.Value.run (F := Ideal) m' g')
  rw [(hagree c).1, (hagree c).2]
  funext i
  refine (Cert.ProjABRefIdeal.Read.val_main_v0_apply _ _ i).trans ?_
  show _ = Cert.ProjABIdeal.Product.prodOf _ _ i
  unfold Cert.ProjABIdeal.Product.prodOf
  refine Finset.sum_congr rfl fun k _ => ?_
  congr 2
  · congr 1
    funext a
    match a with | ⟨0, _⟩ => rfl | ⟨1, _⟩ => rfl
  · congr 1
    funext a
    match a with | ⟨0, _⟩ => rfl | ⟨1, _⟩ => rfl

end Cert.Proof.ProjABClaims

/-! ## The second projection, sixteen thousand rows by 2048 columns -/

namespace Cert.ProjCDIdeal.Product

open Cert.ProjCDIdeal Cert.ProjCDIdeal.Gen

variable (m : (ℓ : Loc nD τ sig) → Buf (Elt Ideal) ℓ)

/-- The product of rows by weights: entry (r, n) is the sum over k of row entry (r, k) times weight (k, n). -/
def prodOf (x : FVec Ideal S16640x1024 .f32) (w : FVec Ideal S1024x2048 .f32) : FVec Ideal S16640x2048 .f32 :=
  fun i => ∑ k : Fin 1024, x (ix2 (i 0) k) * w (ix2 k (i 1))

/-- That product of the two arguments. -/
abbrev prod (c : Dev nD) : Buf (Elt Ideal) ((c : Thread nD τ).loc main_v1) :=
  prodOf (m ((c : Thread nD τ).loc main_arg0)) (m ((c : Thread nD τ).loc main_arg1))

/-- The weights as the call receives them: the argument, its narrowing the identity at real values. -/
theorem V_weights (c : Dev nD) : (V m c main_v0 : FVec Ideal S1024x2048 .bf16)
    = (m ((c : Thread nD τ).loc main_arg1) : FVec Ideal S1024x2048 .f32) := by
  entry_read
  rfl

theorem hz : (![0, 0] : Fin 2 → Nat) = fun _ => 0 := funext fun a => by fin_cases a <;> rfl

/-- Each window's block number at a grid point: the rows move with the point, the weights stay. -/
theorem block_numbers : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0))

/-- What the body leaves in its result block: each row of its block of rows by the weights. -/
theorem payload_apply (x : Vec Ideal S640x1024 .f32) (w : Vec Ideal S1024x2048 .bf16) (r : Fin 640) (n : Fin 2048) :
    k0_pay1 x w (ix2 r n) = ∑ k : Fin 1024, x (ix2 r k) * w (ix2 k n) := by
  unfold k0_pay1
  simp only [pointwise, shapeCast_self, zero_add]

/-- Block t of the rows, at row r, is row 640 t + r of the argument. -/
theorem rows_apply (c : Dev nD) (t : Fin cfg0.N) (r : Fin 640) (k : Fin 1024) :
    (iblk m c 0 t : Vec Ideal S640x1024 .f32) (ix2 r k)
      = (m ((c : Thread nD τ).loc main_arg0) : FVec Ideal S16640x1024 .f32)
          (ix2 ⟨t.val * 640 + r.val, by have := t.isLt; have hN : cfg0.N = 26 := N_0; omega⟩ k) := by
  unfold iblk
  rw [View.read_apply]
  show V m c main_arg0 _ = _
  rw [V_main_arg0]
  congr 1
  funext a
  apply Fin.ext
  match a with
  | ⟨0, _⟩ => show win0_0.index t 0 * 640 + 1 * r.val = t.val * 640 + r.val; rw [(block_numbers t).1.1]; omega
  | ⟨1, _⟩ => show win0_0.index t 1 * 1024 + 1 * k.val = k.val; rw [(block_numbers t).1.2]; omega

/-- The one block of the weights is the argument. -/
theorem weights_apply (c : Dev nD) (t : Fin cfg0.N) (k : Fin 1024) (n : Fin 2048) :
    (iblk m c 1 t : Vec Ideal S1024x2048 .bf16) (ix2 k n)
      = (m ((c : Thread nD τ).loc main_arg1) : FVec Ideal S1024x2048 .f32) (ix2 k n) := by
  unfold iblk
  rw [View.read_apply]
  show (V m c main_v0 : FVec Ideal S1024x2048 .bf16) _ = _
  rw [V_weights]
  congr 1
  funext a
  apply Fin.ext
  match a with
  | ⟨0, _⟩ => show win0_1.index t 0 * 1024 + 1 * k.val = k.val; rw [(block_numbers t).2.1.1]; omega
  | ⟨1, _⟩ => show win0_1.index t 1 * 2048 + 1 * n.val = n.val; rw [(block_numbers t).2.1.2]; omega

/-- Result block t, at row r, is row 640 t + r of the result. -/
theorem result_apply (t : Fin cfg0.N) (G : FVec Ideal S16640x2048 .f32) (r : Fin 640) (n : Fin 2048) :
    ((win0_2.blk t).view.read (Elt Ideal) G : Vec Ideal S640x2048 .f32) (ix2 r n)
      = G (ix2 ⟨t.val * 640 + r.val, by have := t.isLt; have hN : cfg0.N = 26 := N_0; omega⟩ n) := by
  rw [View.read_apply]
  show G _ = _
  congr 1
  funext a
  apply Fin.ext
  match a with
  | ⟨0, _⟩ => show win0_2.index t 0 * 640 + 1 * r.val = t.val * 640 + r.val; rw [(block_numbers t).2.2.1]; omega
  | ⟨1, _⟩ => show win0_2.index t 1 * 2048 + 1 * n.val = n.val; rw [(block_numbers t).2.2.2]; omega

/-- What a grid point leaves in its result block, entry by entry, is the product's block. -/
theorem body_apply (c : Dev nD) (t : Fin cfg0.N) (r : Fin 640) (n : Fin 2048) :
    k0_pay1 (iblk m c 0 t : Vec Ideal S640x1024 .f32) (iblk m c 1 t : Vec Ideal S1024x2048 .bf16) (ix2 r n)
      = prod m c (ix2 ⟨t.val * 640 + r.val, by have := t.isLt; have hN : cfg0.N = 26 := N_0; omega⟩ n) := by
  rw [payload_apply]
  show _ = prodOf _ _ (ix2 _ n)
  unfold prodOf
  refine Finset.sum_congr rfl fun k _ => ?_
  rw [rows_apply, weights_apply]
  rfl

/-- What a grid point writes back is its block of the product. -/
theorem flushed_eq (c : Dev nD) (t : Fin cfg0.N) :
    (dats m 0 c).flushed 2 t = (win0_2.blk t).view.read (Elt Ideal) (prod m c) := by
  rw [Value.flushed2]
  unfold out0_2
  rw [View.canon_unit_zero hz, View.ld_unit_zero hz, View.ld_unit_zero hz]
  funext j
  obtain ⟨r, n, rfl⟩ : ∃ (r : Fin 640) (n : Fin 2048), j = ix2 r n := ⟨j 0, j 1, by funext a; match a with | ⟨0, _⟩ => rfl | ⟨1, _⟩ => rfl⟩
  exact (body_apply m c t r n).trans (result_apply t (prod m c) r n).symm

/-- The blocks written fill the result. -/
theorem cover (i : S16640x2048.Idx) :
    ∃ t : Fin cfg0.N, (cfg0.win 2).flush t = true ∧ i ∈ ((cfg0.win 2).blk t).view.set := by
  have h0 : (i 0 : Nat) < 16640 := (i 0).isLt
  have h1 : (i 1 : Nat) < 2048 := (i 1).isLt
  have hN : cfg0.N = 26 := N_0
  refine ⟨⟨(i 0 : Nat) / 640, by omega⟩, flush0_2 _, ?_⟩
  generalize ht : (⟨(i 0 : Nat) / 640, by omega⟩ : Fin cfg0.N) = t
  have htv : t.val = (i 0 : Nat) / 640 := by rw [← ht]
  show i ∈ ((View.whole main_v1).slice (win0_2.rect t)).set
  rw [View.set_slice_whole, Rect.mem_set_unit]
  intro a
  match a with
  | ⟨0, _⟩ =>
    show win0_2.index t 0 * 640 ≤ (i 0 : Nat) ∧ (i 0 : Nat) < win0_2.index t 0 * 640 + 640
    rw [(block_numbers t).2.2.1]; omega
  | ⟨1, _⟩ =>
    show win0_2.index t 1 * 2048 ≤ (i 1 : Nat) ∧ (i 1 : Nat) < win0_2.index t 1 * 2048 + 2048
    rw [(block_numbers t).2.2.2]; omega

/-- So the result ends holding the product. -/
theorem final (c : Dev nD) : (dats m 0 c).arrAt 2 cfg0.N = prod m c :=
  (dats m 0 c).arrAt_eq_of_cover 2 (prod m c) (fun t _ => flushed_eq m c t) cover

end Cert.ProjCDIdeal.Product

namespace Cert.Proof.ProjCDClaims

theorem frame_kernel : Cert.quiescent_ProjCD := fun m ρ _ => Cert.ProjCD.Gen.frame m ρ
theorem frame_ideal : Cert.quiescent_ProjCDIdeal := fun m ρ _ => Cert.ProjCDIdeal.Gen.frame m ρ
theorem frame_reference : Cert.quiescent_ProjCDRefIdeal := fun m ρ _ =>
  (θ_run Cert.ProjCDRefIdeal.defs _ _).mono (fun r h => ⟨fun c => ⟨(h c).2.1, (h c).2.2⟩,
      Idealize.ShloMosaic.sem_eq_zero_of_no_sems (by decide) r.2⟩)
    (Cert.ProjCDRefIdeal.Value.run (F := Ideal) m ρ)
theorem preserves : Cert.preserves_ProjCD_ProjCDIdeal := trivial

/-- At real values the tiled product and the reference's one product are the same sums. -/
theorem algebraic : Cert.algebraic_ProjCDIdeal_ProjCDRefIdeal := by
  intro m g m' g' _ hagree
  refine ⟨fun c => Cert.ProjCDIdeal.Product.prod m c, ?_, ?_⟩
  · exact (θ_run Cert.ProjCDIdeal.defs _ _).mono
      (fun _ h c => ⟨(h c).1.trans (Cert.ProjCDIdeal.Product.final m c), (h c).2⟩)
      (Cert.ProjCDIdeal.Value.run_blocks (F := Ideal) m g)
  refine (θ_run Cert.ProjCDRefIdeal.defs _ _).mono (fun _ h c => ⟨(h c).1.trans ?_, (h c).2⟩)
    (Cert.ProjCDRefIdeal.Value.run (F := Ideal) m' g')
  rw [(hagree c).1, (hagree c).2]
  funext i
  refine (Cert.ProjCDRefIdeal.Read.val_main_v0_apply _ _ i).trans ?_
  show _ = Cert.ProjCDIdeal.Product.prodOf _ _ i
  unfold Cert.ProjCDIdeal.Product.prodOf
  refine Finset.sum_congr rfl fun k _ => ?_
  congr 2
  · congr 1
    funext a
    match a with | ⟨0, _⟩ => rfl | ⟨1, _⟩ => rfl
  · congr 1
    funext a
    match a with | ⟨0, _⟩ => rfl | ⟨1, _⟩ => rfl

end Cert.Proof.ProjCDClaims

end
-- ==== Proof.lean ====
module

public import proofs.«01_k».proof.Proof.Gen.RouteIdeal.Value
public import proofs.«01_k».proof.Proof.Gen.RouteRefIdeal.Read
public import proofs.«01_k».proof.Proof.Gen.RouteRefIdeal.Run
public import proofs.«01_k».proof.Proof.Gen.ProjABIdeal.Value
public import proofs.«01_k».proof.Proof.Gen.ProjABRefIdeal.Run
public import proofs.«01_k».proof.Proof.Gen.ProjABRefIdeal.Read
public import proofs.«01_k».proof.Proof.Gen.ProjCDIdeal.Value
public import proofs.«01_k».proof.Proof.Gen.ProjCDRefIdeal.Run
public import proofs.«01_k».proof.Proof.Gen.ProjCDRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.ProjAB
public import proofs.«01_k».proof.Proof.Gen.ProjAB.Skeleton
public import proofs.«01_k».proof.Proof.Gen.ProjAB.Launch
public import proofs.«01_k».proof.Proof.Gen.ProjAB.Points
public import proofs.«01_k».proof.Proof.Gen.ProjAB.Frame
public import proofs.«01_k».proof.Proof.Gen.ProjABIdeal
public import proofs.«01_k».proof.Proof.Gen.ProjABIdeal.Skeleton
public import proofs.«01_k».proof.Proof.Gen.ProjABIdeal.Launch
public import proofs.«01_k».proof.Proof.Gen.ProjABIdeal.Points
public import proofs.«01_k».proof.Proof.Gen.ProjABIdeal.Frame
public import proofs.«01_k».proof.Proof.Gen.ProjABRefIdeal
public import proofs.«01_k».proof.Proof.Gen.ProjCD
public import proofs.«01_k».proof.Proof.Gen.ProjCD.Skeleton
public import proofs.«01_k».proof.Proof.Gen.ProjCD.Launch
public import proofs.«01_k».proof.Proof.Gen.ProjCD.Points
public import proofs.«01_k».proof.Proof.Gen.ProjCD.Frame
public import proofs.«01_k».proof.Proof.Gen.ProjCDIdeal
public import proofs.«01_k».proof.Proof.Gen.ProjCDIdeal.Skeleton
public import proofs.«01_k».proof.Proof.Gen.ProjCDIdeal.Launch
public import proofs.«01_k».proof.Proof.Gen.ProjCDIdeal.Points
public import proofs.«01_k».proof.Proof.Gen.ProjCDIdeal.Frame
public import proofs.«01_k».proof.Proof.Gen.ProjCDRefIdeal
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteRefIdeal
public import proofs.«01_k».proof.Proof.Gen.Experts
public import proofs.«01_k».proof.Proof.Gen.Experts.Skeleton
public import proofs.«01_k».proof.Proof.Gen.Experts.Launch
public import proofs.«01_k».proof.Proof.Gen.Experts.Flash.Runs
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash.Runs
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.ExpertsClaims
public import proofs.«01_k».proof.Proof.Route
public import proofs.«01_k».proof.Proof.Projections
public import proofs.«01_k».proof.Proof.Attention
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.ProjAB.Gen.facts, Cert.ProjABIdeal.Gen.facts, Cert.ProjABRefIdeal.Gen.facts, Cert.ProjCD.Gen.facts, Cert.ProjCDIdeal.Gen.facts, Cert.ProjCDRefIdeal.Gen.facts,
  Cert.Route.Gen.facts, Cert.RouteIdeal.Gen.facts, Cert.RouteRefIdeal.Gen.facts,
  Cert.Experts.Gen.facts, Cert.ExpertsIdeal.Gen.facts, Cert.ExpertsRefIdeal.Gen.facts, Cert.Pre_finite_attn.Decode.facts, Cert.Pre_experts_in_range.Decode.facts,
  fun m ρ _ => Cert.Attn.Gen.frame m ρ, fun m ρ _ => Cert.AttnIdeal.Gen.frame m ρ, AttnClaims.frame_ideal_finite,
  AttnClaims.frame_reference, AttnClaims.frame_reference_finite,
  ProjABClaims.frame_kernel, ProjABClaims.frame_ideal, ProjABClaims.frame_reference,
  ProjCDClaims.frame_kernel, ProjCDClaims.frame_ideal, ProjCDClaims.frame_reference,
  RouteClaims.frame_kernel, RouteClaims.frame_ideal, RouteClaims.frame_reference,
  ExpertsClaims.frame_kernel, ExpertsClaims.frame_ideal, ExpertsClaims.frame_reference, ExpertsClaims.frame_reference_range,
  trivial, AttnClaims.algebraic, ProjABClaims.preserves, ProjABClaims.algebraic, ProjCDClaims.preserves, ProjCDClaims.algebraic,
  RouteClaims.preserves, RouteClaims.algebraic, ExpertsClaims.preserves, ExpertsClaims.algebraic⟩

end Cert.Proof

end
